-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ffn [hPre_finite_ffn : Cert.Pre_finite_ffn.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ffn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ffn [hPre_finite_ffn : Cert.Pre_finite_ffn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ffn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_merge [hPre_finite_merge : Cert.Pre_finite_merge.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_merge.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_merge [hPre_finite_merge : Cert.Pre_finite_merge.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_merge.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_in_proj [hPre_finite_in_proj : Cert.Pre_finite_in_proj.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_in_proj.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_in_proj [hPre_finite_in_proj : Cert.Pre_finite_in_proj.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_in_proj.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_sb [hPre_finite_sb : Cert.Pre_finite_sb.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_sb.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_sb [hPre_finite_sb : Cert.Pre_finite_sb.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_sb.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_ffn [hKernelIdeal : Cert.KernelIdeal.Facts] [hPre_finite_ffn : Cert.Pre_finite_ffn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ffn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_ffn [hReferenceIdeal : Cert.ReferenceIdeal.Facts] [hPre_finite_ffn : Cert.Pre_finite_ffn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ffn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite_merge [hKernel2Ideal : Cert.Kernel2Ideal.Facts] [hPre_finite_merge : Cert.Pre_finite_merge.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_merge m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite_merge [hReference2Ideal : Cert.Reference2Ideal.Facts] [hPre_finite_merge : Cert.Pre_finite_merge.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_merge m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_in_proj [hKernel3Ideal : Cert.Kernel3Ideal.Facts] [hPre_finite_in_proj : Cert.Pre_finite_in_proj.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_in_proj m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_in_proj [hReference3Ideal : Cert.Reference3Ideal.Facts] [hPre_finite_in_proj : Cert.Pre_finite_in_proj.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_in_proj m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_finite_sb [hKernel4Ideal : Cert.Kernel4Ideal.Facts] [hPre_finite_sb : Cert.Pre_finite_sb.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_sb m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_finite_sb [hReference4Ideal : Cert.Reference4Ideal.Facts] [hPre_finite_sb : Cert.Pre_finite_sb.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_sb m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def preserves_Kernel_KernelIdeal : Prop :=
  True

def algebraic_KernelIdeal_ReferenceIdeal_pre_finite_ffn [hKernelIdeal : Cert.KernelIdeal.Facts] [hReferenceIdeal : Cert.ReferenceIdeal.Facts] [hPre_finite_ffn : Cert.Pre_finite_ffn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ffn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)) (v7 : (c : Dev Cert.KernelIdeal.nD) → Buf (Elt Ideal) ((c.tc : Thread Cert.KernelIdeal.nD Cert.KernelIdeal.τ).loc Cert.KernelIdeal.main_v5_7)) (v8 : (c : Dev Cert.KernelIdeal.nD) → Buf (Elt Ideal) ((c.tc : Thread Cert.KernelIdeal.nD Cert.KernelIdeal.τ).loc Cert.KernelIdeal.main_v5_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_v5_7) = v7 c
          ∧ r.2.mem ((c.tc : Thread Cert.KernelIdeal.nD Cert.KernelIdeal.τ).loc Cert.KernelIdeal.main_v5_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_v109) = v3 c
          ∧ r.2.mem ((c.tc : Thread Cert.ReferenceIdeal.nD Cert.ReferenceIdeal.τ).loc Cert.ReferenceIdeal.main_v110) = v4 c
          ∧ r.2.mem ((c.tc : Thread Cert.ReferenceIdeal.nD Cert.ReferenceIdeal.τ).loc Cert.ReferenceIdeal.main_v111) = v5 c
          ∧ r.2.mem ((c.tc : Thread Cert.ReferenceIdeal.nD Cert.ReferenceIdeal.τ).loc Cert.ReferenceIdeal.main_v112) = v6 c
          ∧ r.2.mem ((c.tc : Thread Cert.ReferenceIdeal.nD Cert.ReferenceIdeal.τ).loc Cert.ReferenceIdeal.main_v87) = v7 c
          ∧ r.2.mem ((c.tc : Thread Cert.ReferenceIdeal.nD Cert.ReferenceIdeal.τ).loc Cert.ReferenceIdeal.main_v61) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_merge [hKernel2Ideal : Cert.Kernel2Ideal.Facts] [hReference2Ideal : Cert.Reference2Ideal.Facts] [hPre_finite_merge : Cert.Pre_finite_merge.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_merge m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)) (v4 : (c : Dev Cert.Kernel2Ideal.nD) → Buf (Elt Ideal) ((c.tc : Thread Cert.Kernel2Ideal.nD Cert.Kernel2Ideal.τ).loc Cert.Kernel2Ideal.main_v12_4)) (v5 : (c : Dev Cert.Kernel2Ideal.nD) → Buf (Elt Ideal) ((c.tc : Thread Cert.Kernel2Ideal.nD Cert.Kernel2Ideal.τ).loc Cert.Kernel2Ideal.main_v12_5)) (v6 : (c : Dev Cert.Kernel2Ideal.nD) → Buf (Elt Ideal) ((c.tc : Thread Cert.Kernel2Ideal.nD Cert.Kernel2Ideal.τ).loc Cert.Kernel2Ideal.main_v12_6)) (v7 : (c : Dev Cert.Kernel2Ideal.nD) → Buf (Elt Ideal) ((c.tc : Thread Cert.Kernel2Ideal.nD Cert.Kernel2Ideal.τ).loc Cert.Kernel2Ideal.main_v12_7)) (v8 : (c : Dev Cert.Kernel2Ideal.nD) → Buf (Elt Ideal) ((c.tc : Thread Cert.Kernel2Ideal.nD Cert.Kernel2Ideal.τ).loc Cert.Kernel2Ideal.main_v12_8)) (v9 : (c : Dev Cert.Kernel2Ideal.nD) → Buf (Elt Ideal) ((c.tc : Thread Cert.Kernel2Ideal.nD Cert.Kernel2Ideal.τ).loc Cert.Kernel2Ideal.main_v12_9)) (v10 : (c : Dev Cert.Kernel2Ideal.nD) → Buf (Elt Ideal) ((c.tc : Thread Cert.Kernel2Ideal.nD Cert.Kernel2Ideal.τ).loc Cert.Kernel2Ideal.main_v12_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_v12_4) = v4 c
          ∧ r.2.mem ((c.tc : Thread Cert.Kernel2Ideal.nD Cert.Kernel2Ideal.τ).loc Cert.Kernel2Ideal.main_v12_5) = v5 c
          ∧ r.2.mem ((c.tc : Thread Cert.Kernel2Ideal.nD Cert.Kernel2Ideal.τ).loc Cert.Kernel2Ideal.main_v12_6) = v6 c
          ∧ r.2.mem ((c.tc : Thread Cert.Kernel2Ideal.nD Cert.Kernel2Ideal.τ).loc Cert.Kernel2Ideal.main_v12_7) = v7 c
          ∧ r.2.mem ((c.tc : Thread Cert.Kernel2Ideal.nD Cert.Kernel2Ideal.τ).loc Cert.Kernel2Ideal.main_v12_8) = v8 c
          ∧ r.2.mem ((c.tc : Thread Cert.Kernel2Ideal.nD Cert.Kernel2Ideal.τ).loc Cert.Kernel2Ideal.main_v12_9) = v9 c
          ∧ r.2.mem ((c.tc : Thread Cert.Kernel2Ideal.nD Cert.Kernel2Ideal.τ).loc Cert.Kernel2Ideal.main_v12_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_v79) = v2 c
          ∧ r.2.mem ((c.tc : Thread Cert.Reference2Ideal.nD Cert.Reference2Ideal.τ).loc Cert.Reference2Ideal.main_v80) = v3 c
          ∧ r.2.mem ((c.tc : Thread Cert.Reference2Ideal.nD Cert.Reference2Ideal.τ).loc Cert.Reference2Ideal.main_v81) = v4 c
          ∧ r.2.mem ((c.tc : Thread Cert.Reference2Ideal.nD Cert.Reference2Ideal.τ).loc Cert.Reference2Ideal.main_v82) = v5 c
          ∧ r.2.mem ((c.tc : Thread Cert.Reference2Ideal.nD Cert.Reference2Ideal.τ).loc Cert.Reference2Ideal.main_v83) = v6 c
          ∧ r.2.mem ((c.tc : Thread Cert.Reference2Ideal.nD Cert.Reference2Ideal.τ).loc Cert.Reference2Ideal.main_v73) = v7 c
          ∧ r.2.mem ((c.tc : Thread Cert.Reference2Ideal.nD Cert.Reference2Ideal.τ).loc Cert.Reference2Ideal.main_v70) = v8 c
          ∧ r.2.mem ((c.tc : Thread Cert.Reference2Ideal.nD Cert.Reference2Ideal.τ).loc Cert.Reference2Ideal.main_v43) = v9 c
          ∧ r.2.mem ((c.tc : Thread Cert.Reference2Ideal.nD Cert.Reference2Ideal.τ).loc Cert.Reference2Ideal.main_v76) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite_in_proj [hKernel3Ideal : Cert.Kernel3Ideal.Facts] [hReference3Ideal : Cert.Reference3Ideal.Facts] [hPre_finite_in_proj : Cert.Pre_finite_in_proj.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_in_proj m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite_sb [hKernel4Ideal : Cert.Kernel4Ideal.Facts] [hReference4Ideal : Cert.Reference4Ideal.Facts] [hPre_finite_sb : Cert.Pre_finite_sb.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_sb m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v22_0)) (v1 : (c : Dev Cert.Kernel4Ideal.nD) → Buf (Elt Ideal) ((c.tc : Thread Cert.Kernel4Ideal.nD Cert.Kernel4Ideal.τ).loc Cert.Kernel4Ideal.main_v22_1)) (v2 : (c : Dev Cert.Kernel4Ideal.nD) → Buf (Elt Ideal) ((c.tc : Thread Cert.Kernel4Ideal.nD Cert.Kernel4Ideal.τ).loc Cert.Kernel4Ideal.main_v22_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22_0) = v0 c
          ∧ r.2.mem ((c.tc : Thread Cert.Kernel4Ideal.nD Cert.Kernel4Ideal.τ).loc Cert.Kernel4Ideal.main_v22_1) = v1 c
          ∧ r.2.mem ((c.tc : Thread Cert.Kernel4Ideal.nD Cert.Kernel4Ideal.τ).loc Cert.Kernel4Ideal.main_v22_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_v57) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_ffn : Cert.Pre_finite_ffn.Facts) (hPre_finite_merge : Cert.Pre_finite_merge.Facts) (hPre_finite_in_proj : Cert.Pre_finite_in_proj.Facts) (hPre_finite_sb : Cert.Pre_finite_sb.Facts),
    quiescent_Kernel (hKernel := hKernel)
    ∧ quiescent_KernelIdeal (hKernelIdeal := hKernelIdeal)
    ∧ quiescent_KernelIdeal_pre_finite_ffn (hKernelIdeal := hKernelIdeal) (hPre_finite_ffn := hPre_finite_ffn)
    ∧ quiescent_ReferenceIdeal (hReferenceIdeal := hReferenceIdeal)
    ∧ quiescent_ReferenceIdeal_pre_finite_ffn (hReferenceIdeal := hReferenceIdeal) (hPre_finite_ffn := hPre_finite_ffn)
    ∧ quiescent_Kernel2 (hKernel2 := hKernel2)
    ∧ quiescent_Kernel2Ideal (hKernel2Ideal := hKernel2Ideal)
    ∧ quiescent_Kernel2Ideal_pre_finite_merge (hKernel2Ideal := hKernel2Ideal) (hPre_finite_merge := hPre_finite_merge)
    ∧ quiescent_Reference2Ideal (hReference2Ideal := hReference2Ideal)
    ∧ quiescent_Reference2Ideal_pre_finite_merge (hReference2Ideal := hReference2Ideal) (hPre_finite_merge := hPre_finite_merge)
    ∧ quiescent_Kernel3 (hKernel3 := hKernel3)
    ∧ quiescent_Kernel3Ideal (hKernel3Ideal := hKernel3Ideal)
    ∧ quiescent_Kernel3Ideal_pre_finite_in_proj (hKernel3Ideal := hKernel3Ideal) (hPre_finite_in_proj := hPre_finite_in_proj)
    ∧ quiescent_Reference3Ideal (hReference3Ideal := hReference3Ideal)
    ∧ quiescent_Reference3Ideal_pre_finite_in_proj (hReference3Ideal := hReference3Ideal) (hPre_finite_in_proj := hPre_finite_in_proj)
    ∧ quiescent_Kernel4 (hKernel4 := hKernel4)
    ∧ quiescent_Kernel4Ideal (hKernel4Ideal := hKernel4Ideal)
    ∧ quiescent_Kernel4Ideal_pre_finite_sb (hKernel4Ideal := hKernel4Ideal) (hPre_finite_sb := hPre_finite_sb)
    ∧ quiescent_Reference4Ideal (hReference4Ideal := hReference4Ideal)
    ∧ quiescent_Reference4Ideal_pre_finite_sb (hReference4Ideal := hReference4Ideal) (hPre_finite_sb := hPre_finite_sb)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_ffn (hKernelIdeal := hKernelIdeal) (hReferenceIdeal := hReferenceIdeal) (hPre_finite_ffn := hPre_finite_ffn)
    ∧ preserves_Kernel2_Kernel2Ideal
    ∧ algebraic_Kernel2Ideal_Reference2Ideal_pre_finite_merge (hKernel2Ideal := hKernel2Ideal) (hReference2Ideal := hReference2Ideal) (hPre_finite_merge := hPre_finite_merge)
    ∧ preserves_Kernel3_Kernel3Ideal
    ∧ algebraic_Kernel3Ideal_Reference3Ideal_pre_finite_in_proj (hKernel3Ideal := hKernel3Ideal) (hReference3Ideal := hReference3Ideal) (hPre_finite_in_proj := hPre_finite_in_proj)
    ∧ preserves_Kernel4_Kernel4Ideal
    ∧ algebraic_Kernel4Ideal_Reference4Ideal_pre_finite_sb (hKernel4Ideal := hKernel4Ideal) (hReference4Ideal := hReference4Ideal) (hPre_finite_sb := hPre_finite_sb)
    ∧ preserves_Kernel5_Kernel5Ideal
-- ==== Pre_finite_ffn.lean ====
abbrev S4x2048x1024 : Shape := ⟨3, ![4, 2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S1024x2816 .f32) (main_arg6 : FVec F S2816x1024 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S1024x2816 .f32 := Host.absf main_arg5
  let main_cst_8 : FVec F S_ .f32 := constant S_ .f32 0x7F800000#32
  let main_v21 : FVec F S1024x2816 .f32 := broadcastInDim S1024x2816 ![] bcast_S_S1024x2816 main_cst_8
  let main_v22 : IVec S1024x2816 1 := cmpf .olt main_v20 main_v21
  let main_c_9 : IVec S_ 1 := constantI S_ 1 1#1
  let main_v23 : IVec S_ 1 := (fun x v => Host.reduce IntOp.andi x v reducesTo_S1024x2816_S_d0_1 h_S_) main_v22 main_c_9
  let main_v24 : FVec F S2816x1024 .f32 := Host.absf main_arg6
  let main_cst_10 : FVec F S_ .f32 := constant S_ .f32 0x7F800000#32
  let main_v25 : FVec F S2816x1024 .f32 := broadcastInDim S2816x1024 ![] bcast_S_S2816x1024 main_cst_10
  let main_v26 : IVec S2816x1024 1 := cmpf .olt main_v24 main_v25
  let main_c_11 : IVec S_ 1 := constantI S_ 1 1#1
  let main_v27 : IVec S_ 1 := (fun x v => Host.reduce IntOp.andi x v reducesTo_S2816x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S4x2048x1024 .f32) (main_arg1 : FVec F S4x2048x1024 .f32) (main_arg2 : FVec F S1x1024 .f32) (main_arg3 : FVec F S1x1024 .f32) (main_arg4 : FVec F S1024x2816 .f32) (main_arg5 : FVec F S1024x2816 .f32) (main_arg6 : FVec F S2816x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_v3 main_v7 main_v11 main_v15
-- ==== Pre_finite_in_proj.lean ====
abbrev S4x2048x1024 : Shape := ⟨3, ![4, 2048, 1024]⟩
abbrev S1x1024 : Shape := ⟨2, ![1, 1024]⟩
abbrev S8192x1024 : Shape := ⟨2, ![8192, 1024]⟩
abbrev S8192x1536 : Shape := ⟨2, ![8192, 1536]⟩
abbrev S8192x1792 : Shape := ⟨2, ![8192, 1792]⟩
abbrev S8192x2048 : Shape := ⟨2, ![8192, 2048]⟩
abbrev S1024x5376 : Shape := ⟨2, ![1024, 5376]⟩
abbrev S_ : Shape := ⟨0, ![]⟩

class Facts : Prop where
  bitsLt_bf16_f32 : FTy.bits .bf16 < FTy.bits .f32
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S8192x1536 : S_.BroadcastsInDim S8192x1536 (![] : Fin 0 → Fin S8192x1536.rank)
  reducesTo_S8192x1536_S_d0_1 : S8192x1536.ReducesTo [0, 1] S_
  bcast_S_S8192x1792 : S_.BroadcastsInDim S8192x1792 (![] : Fin 0 → Fin S8192x1792.rank)
  reducesTo_S8192x1792_S_d0_1 : S8192x1792.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S1024x5376 : S_.BroadcastsInDim S1024x5376 (![] : Fin 0 → Fin S1024x5376.rank)
  reducesTo_S1024x5376_S_d0_1 : S1024x5376.ReducesTo [0, 1] S_

variable [Facts]

def fn_part1 {F : FTy → Type} [FloatOps F] (main_arg6 : FVec F S1024x5376 .f32) (main_v2 : FVec F S8192x2048 .f32) (main_v6 : IVec S_ 1) (main_v10 : IVec S_ 1) (main_v14 : IVec S_ 1) (main_v15 : FVec F S8192x1792 .f32) (main_v16 : FVec F S8192x1792 .f32) : IVec S_ 1 :=
  let main_v17 : IVec S8192x1792 1 := cmpf .olt main_v15 main_v16
  let main_c_5 : IVec S_ 1 := constantI S_ 1 1#1
  let main_v18 : IVec S_ 1 := (fun x v => Host.reduce IntOp.andi x v reducesTo_S8192x1792_S_d0_1 h_S_) main_v17 main_c_5
  let main_v19 : FVec F S8192x2048 .f32 := Host.absf main_v2
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : FVec F S1024x5376 .f32 := Host.absf main_arg6
  let main_cst_8 : FVec F S_ .f32 := constant S_ .f32 0x7F800000#32
  let main_v24 : FVec F S1024x5376 .f32 := broadcastInDim S1024x5376 ![] bcast_S_S1024x5376 main_cst_8
  let main_v25 : IVec S1024x5376 1 := cmpf .olt main_v23 main_v24
  let main_c_9 : IVec S_ 1 := constantI S_ 1 1#1
  let main_v26 : IVec S_ 1 := (fun x v => Host.reduce IntOp.andi x v reducesTo_S1024x5376_S_d0_1 h_S_) main_v25 main_c_9
  let main_v27 : IVec S_ 1 := andi main_v6 main_v10
  let main_v28 : IVec S_ 1 := andi main_v27 main_v14
  let main_v29 : IVec S_ 1 := andi main_v28 main_v18
  let main_v30 : IVec S_ 1 := andi main_v29 main_v22
  let main_v31 : IVec S_ 1 := andi main_v30 main_v26
  main_v31

def fn {F : FTy → Type} [FloatOps F] (main_arg0 : FVec F S4x2048x1024 .f32) (main_arg1 : FVec F S1x1024 .f32) (main_arg2 : FVec F S8192x1024 .f32) (main_arg3 : FVec F S8192x1536 .bf16) (main_arg4 : FVec F S8192x1792 .bf16) (main_arg5 : FVec F S8192x2048 .bf16) (main_arg6 : FVec F S1024x5376 .f32) : IVec S_ 1 :=
  let main_v0 : FVec F S8192x1536 .f32 := (extf .f32 · bitsLt_bf16_f32) main_arg3
  let main_v1 : FVec F S8192x1792 .f32 := (extf .f32 · bitsLt_bf16_f32) main_arg4
  let main_v2 : FVec F S8192x2048 .f32 := (extf .f32 · bitsLt_bf16_f32) main_arg5
  let main_v3 : FVec F S4x2048x1024 .f32 := Host.absf main_arg0
  let main_cst : FVec F S_ .f32 := constant S_ .f32 0x7F800000#32
  let main_v4 : FVec F S4x2048x1024 .f32 := broadcastInDim S4x2048x1024 ![] bcast_S_S4x2048x1024 main_cst
  let main_v5 : IVec S4x2048x1024 1 := cmpf .olt main_v3 main_v4
  let main_c : IVec S_ 1 := constantI S_ 1 1#1
  let main_v6 : IVec S_ 1 := (fun x v => Host.reduce IntOp.andi x v reducesTo_S4x2048x1024_S_d0_1_2 h_S_) main_v5 main_c
  let main_v7 : FVec F S1x1024 .f32 := Host.absf main_arg1
  let main_cst_0 : FVec F S_ .f32 := constant S_ .f32 0x7F800000#32
  let main_v8 : FVec F S1x1024 .f32 := broadcastInDim S1x1024 ![] bcast_S_S1x1024 main_cst_0
  let main_v9 : IVec S1x1024 1 := cmpf .olt main_v7 main_v8
  let main_c_1 : IVec S_ 1 := constantI S_ 1 1#1
  let main_v10 : IVec S_ 1 := (fun x v => Host.reduce IntOp.andi x v reducesTo_S1x1024_S_d0_1 h_S_) main_v9 main_c_1
  let main_v11 : FVec F S8192x1536 .f32 := Host.absf main_v0
  let main_cst_2 : FVec F S_ .f32 := constant S_ .f32 0x7F800000#32
  let main_v12 : FVec F S8192x1536 .f32 := broadcastInDim S8192x1536 ![] bcast_S_S8192x1536 main_cst_2
  let main_v13 : IVec S8192x1536 1 := cmpf .olt main_v11 main_v12
  let main_c_3 : IVec S_ 1 := constantI S_ 1 1#1
  let main_v14 : IVec S_ 1 := (fun x v => Host.reduce IntOp.andi x v reducesTo_S8192x1536_S_d0_1 h_S_) main_v13 main_c_3
  let main_v15 : FVec F S8192x1792 .f32 := Host.absf main_v1
  let main_cst_4 : FVec F S_ .f32 := constant S_ .f32 0x7F800000#32
  let main_v16 : FVec F S8192x1792 .f32 := broadcastInDim S8192x1792 ![] bcast_S_S8192x1792 main_cst_4
  fn_part1 (F := F) main_arg6 main_v2 main_v6 main_v10 main_v14 main_v15 main_v16
-- ==== Pre_finite_merge.lean ====
abbrev S8192x1024 : Shape := ⟨2, ![8192, 1024]⟩
abbrev S8192x512 : Shape := ⟨2, ![8192, 512]⟩
abbrev S4x8x2048x64 : Shape := ⟨4, ![4, 8, 2048, 64]⟩
abbrev S8192x2048 : Shape := ⟨2, ![8192, 2048]⟩
abbrev S1x2048 : Shape := ⟨2, ![1, 2048]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  bcast_S_S8192x2048 : S_.BroadcastsInDim S8192x2048 (![] : Fin 0 → Fin S8192x2048.rank)
  reducesTo_S8192x2048_S_d0_1 : S8192x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S1024x1024 .f32) (main_arg9 : FVec F S1x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024x1024 .f32 := Host.absf main_arg8
  let main_cst_14 : FVec F S_ .f32 := constant S_ .f32 0x7F800000#32
  let main_v33 : FVec F S1024x1024 .f32 := broadcastInDim S1024x1024 ![] bcast_S_S1024x1024 main_cst_14
  let main_v34 : IVec S1024x1024 1 := cmpf .olt main_v32 main_v33
  let main_c_15 : IVec S_ 1 := constantI S_ 1 1#1
  let main_v35 : IVec S_ 1 := (fun x v => Host.reduce IntOp.andi x v reducesTo_S1024x1024_S_d0_1 h_S_) main_v34 main_c_15
  let main_v36 : FVec F S1x1024 .f32 := Host.absf main_arg9
  let main_cst_16 : FVec F S_ .f32 := constant S_ .f32 0x7F800000#32
  let main_v37 : FVec F S1x1024 .f32 := broadcastInDim S1x1024 ![] bcast_S_S1x1024 main_cst_16
  let main_v38 : IVec S1x1024 1 := cmpf .olt main_v36 main_v37
  let main_c_17 : IVec S_ 1 := constantI S_ 1 1#1
  let main_v39 : IVec S_ 1 := (fun x v => Host.reduce IntOp.andi x v reducesTo_S1x1024_S_d0_1 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S8192x2048 .f32) (main_arg5 : FVec F S1x2048 .f32) (main_arg6 : FVec F S512x1024 .f32) (main_arg7 : FVec F S512x1024 .f32) (main_arg8 : FVec F S1024x1024 .f32) (main_arg9 : FVec F S1x1024 .f32) (main_v3 : IVec S_ 1) (main_v7 : IVec S_ 1) (main_v11 : IVec S_ 1) (main_v15 : IVec S_ 1) : IVec S_ 1 :=
  let main_v16 : FVec F S8192x2048 .f32 := Host.absf main_arg4
  let main_cst_6 : FVec F S_ .f32 := constant S_ .f32 0x7F800000#32
  let main_v17 : FVec F S8192x2048 .f32 := broadcastInDim S8192x2048 ![] bcast_S_S8192x2048 main_cst_6
  let main_v18 : IVec S8192x2048 1 := cmpf .olt main_v16 main_v17
  let main_c_7 : IVec S_ 1 := constantI S_ 1 1#1
  let main_v19 : IVec S_ 1 := (fun x v => Host.reduce IntOp.andi x v reducesTo_S8192x2048_S_d0_1 h_S_) main_v18 main_c_7
  let main_v20 : FVec F S1x2048 .f32 := Host.absf main_arg5
  let main_cst_8 : FVec F S_ .f32 := constant S_ .f32 0x7F800000#32
  let main_v21 : FVec F S1x2048 .f32 := broadcastInDim S1x2048 ![] bcast_S_S1x2048 main_cst_8
  let main_v22 : IVec S1x2048 1 := cmpf .olt main_v20 main_v21
  let main_c_9 : IVec S_ 1 := constantI S_ 1 1#1
  let main_v23 : IVec S_ 1 := (fun x v => Host.reduce IntOp.andi x v reducesTo_S1x2048_S_d0_1 h_S_) main_v22 main_c_9
  let main_v24 : FVec F S512x1024 .f32 := Host.absf main_arg6
  let main_cst_10 : FVec F S_ .f32 := constant S_ .f32 0x7F800000#32
  let main_v25 : FVec F S512x1024 .f32 := broadcastInDim S512x1024 ![] bcast_S_S512x1024 main_cst_10
  let main_v26 : IVec S512x1024 1 := cmpf .olt main_v24 main_v25
  let main_c_11 : IVec S_ 1 := constantI S_ 1 1#1
  let main_v27 : IVec S_ 1 := (fun x v => Host.reduce IntOp.andi x v reducesTo_S512x1024_S_d0_1 h_S_) main_v26 main_c_11
  let main_v28 : FVec F S512x1024 .f32 := Host.absf main_arg7
  let main_cst_12 : FVec F S_ .f32 := constant S_ .f32 0x7F800000#32
  let main_v29 : FVec F S512x1024 .f32 := broadcastInDim S512x1024 ![] bcast_S_S512x1024 main_cst_12
  let main_v30 : IVec S512x1024 1 := cmpf .olt main_v28 main_v29
  let main_c_13 : IVec S_ 1 := constantI S_ 1 1#1
  let main_v31 : IVec S_ 1 := (fun x v => Host.reduce IntOp.andi x v reducesTo_S512x1024_S_d0_1 h_S_) main_v30 main_c_13
  fn_part2 (F := F) main_arg8 main_arg9 main_v3 main_v7 main_v11 main_v15 main_v19 main_v23 main_v27 main_v31

def fn {F : FTy → Type} [FloatOps F] (main_arg0 : FVec F S8192x1024 .f32) (main_arg1 : FVec F S8192x512 .f32) (main_arg2 : FVec F S4x8x2048x64 .f32) (main_arg3 : FVec F S8192x512 .f32) (main_arg4 : FVec F S8192x2048 .f32) (main_arg5 : FVec F S1x2048 .f32) (main_arg6 : FVec F S512x1024 .f32) (main_arg7 : FVec F S512x1024 .f32) (main_arg8 : FVec F S1024x1024 .f32) (main_arg9 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S4x8x2048x64 .f32 := Host.absf main_arg2
  let main_cst_2 : FVec F S_ .f32 := constant S_ .f32 0x7F800000#32
  let main_v9 : FVec F S4x8x2048x64 .f32 := broadcastInDim S4x8x2048x64 ![] bcast_S_S4x8x2048x64 main_cst_2
  let main_v10 : IVec S4x8x2048x64 1 := cmpf .olt main_v8 main_v9
  let main_c_3 : IVec S_ 1 := constantI S_ 1 1#1
  let main_v11 : IVec S_ 1 := (fun x v => Host.reduce IntOp.andi x v reducesTo_S4x8x2048x64_S_d0_1_2_3 h_S_) main_v10 main_c_3
  let main_v12 : FVec F S8192x512 .f32 := Host.absf main_arg3
  let main_cst_4 : FVec F S_ .f32 := constant S_ .f32 0x7F800000#32
  let main_v13 : FVec F S8192x512 .f32 := broadcastInDim S8192x512 ![] bcast_S_S8192x512 main_cst_4
  let main_v14 : IVec S8192x512 1 := cmpf .olt main_v12 main_v13
  let main_c_5 : IVec S_ 1 := constantI S_ 1 1#1
  let main_v15 : IVec S_ 1 := (fun x v => Host.reduce IntOp.andi x v reducesTo_S8192x512_S_d0_1 h_S_) main_v14 main_c_5
  fn_part1 (F := F) main_arg4 main_arg5 main_arg6 main_arg7 main_arg8 main_arg9 main_v3 main_v7 main_v11 main_v15
-- ==== Pre_finite_sb.lean ====
abbrev S8192x1536 : Shape := ⟨2, ![8192, 1536]⟩
abbrev S8192x512 : Shape := ⟨2, ![8192, 512]⟩
abbrev S_ : Shape := ⟨0, ![]⟩

class Facts : Prop where
  bcast_S_S8192x1536 : S_.BroadcastsInDim S8192x1536 (![] : Fin 0 → Fin S8192x1536.rank)
  reducesTo_S8192x1536_S_d0_1 : S8192x1536.ReducesTo [0, 1] S_
  h_S_ : 0 < S_.numel
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x1536 .f32) (main_arg1 : FVec F S8192x512 .bf16) : IVec S_ 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_c : IVec S_ 1 := constantI S_ 1 1#1
  let main_v3 : IVec S_ 1 := (fun x v => Host.reduce IntOp.andi x v reducesTo_S8192x1536_S_d0_1 h_S_) main_v2 main_c
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_c_1 : IVec S_ 1 := constantI S_ 1 1#1
  let main_v8 : IVec S_ 1 := (fun x v => Host.reduce IntOp.andi x v reducesTo_S8192x512_S_d0_1 h_S_) main_v7 main_c_1
  let main_v9 : IVec S_ 1 := andi main_v3 main_v8
  main_v9
-- ==== Kernel.lean ====
abbrev S4x2048x1024 : Shape := ⟨3, ![4, 2048, 1024]⟩
abbrev S1x1024 : Shape := ⟨2, ![1, 1024]⟩
abbrev S1024x2816 : Shape := ⟨2, ![1024, 2816]⟩
abbrev S2816x1024 : Shape := ⟨2, ![2816, 1024]⟩
abbrev S8192x1024 : Shape := ⟨2, ![8192, 1024]⟩
abbrev S8x128 : Shape := ⟨2, ![8, 128]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 21
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S8x128, .f32⟩
  | .hbm, ⟨13, _⟩ => ⟨S8192x1024, .f32⟩
  | .hbm, ⟨14, _⟩ => ⟨S8192x1024, .bf16⟩
  | .hbm, ⟨15, _⟩ => ⟨S8192x2816, .bf16⟩
  | .hbm, ⟨16, _⟩ => ⟨S8192x2816, .bf16⟩
  | .hbm, ⟨17, _⟩ => ⟨S8192x2816, .bf16⟩
  | .hbm, ⟨18, _⟩ => ⟨S8192x1024, .bf16⟩
  | .hbm, ⟨19, _⟩ => ⟨S1x1024, .f32⟩
  | .hbm, ⟨20, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S8x128, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev main_v5_7 : Ref sig .tc := ⟨.hbm, 19, rfl⟩
abbrev main_v5_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v102 : BitVec 1 := Scalar.cmpi .eq arg0 c0_i32
  let v112 : BitVec 32 := Scalar.extui v102
  let c0_i32_48 : BitVec 32 := 0#32
  let v113 : BitVec 1 := Scalar.cmpi .ne v112 c0_i32_48
  v113

def k0_cond2 (i : grid0.Coords) : BitVec 1 :=
  let arg0 : BitVec 32 := BitVec.ofNat 32 (i 0).val
  let c0_i32 : BitVec 32 := 0#32
  let v102 : BitVec 1 := Scalar.cmpi .eq arg0 c0_i32
  let v_true : BitVec 1 := 1#1
  let v114 : BitVec 1 := Scalar.xori v102 v_true
  let v115 : BitVec 32 := Scalar.extui v114
  let c0_i32_49 : BitVec 32 := 0#32
  let v116 : BitVec 1 := Scalar.cmpi .ne v115 c0_i32_49
  v116

def k0_cond3 (i : grid0.Coords) : BitVec 1 :=
  let arg0 : BitVec 32 := BitVec.ofNat 32 (i 0).val
  let c0_i32 : BitVec 32 := 0#32
  let v102 : BitVec 1 := Scalar.cmpi .eq arg0 c0_i32
  let v117 : BitVec 32 := Scalar.extui v102
  let c0_i32_50 : BitVec 32 := 0#32
  let v118 : BitVec 1 := Scalar.cmpi .ne v117 c0_i32_50
  v118

def k0_cond4 (i : grid0.Coords) : BitVec 1 :=
  let arg0 : BitVec 32 := BitVec.ofNat 32 (i 0).val
  let c0_i32 : BitVec 32 := 0#32
  let v102 : BitVec 1 := Scalar.cmpi .eq arg0 c0_i32
  let true_51 : BitVec 1 := 1#1
  let v119 : BitVec 1 := Scalar.xori v102 true_51
  let v120 : BitVec 32 := Scalar.extui v119
  let c0_i32_52 : BitVec 32 := 0#32
  let v121 : BitVec 1 := Scalar.cmpi .ne v120 c0_i32_52
  v121

def k0_cond5 (i : grid0.Coords) : BitVec 1 :=
  let arg0 : BitVec 32 := BitVec.ofNat 32 (i 0).val
  let c0_i32 : BitVec 32 := 0#32
  let v102 : BitVec 1 := Scalar.cmpi .eq arg0 c0_i32
  let v122 : BitVec 32 := Scalar.extui v102
  let c0_i32_53 : BitVec 32 := 0#32
  let v123 : BitVec 1 := Scalar.cmpi .ne v122 c0_i32_53
  v123

def k0_cond6 (i : grid0.Coords) : BitVec 1 :=
  let arg0 : BitVec 32 := BitVec.ofNat 32 (i 0).val
  let c0_i32 : BitVec 32 := 0#32
  let v102 : BitVec 1 := Scalar.cmpi .eq arg0 c0_i32
  let true_54 : BitVec 1 := 1#1
  let v124 : BitVec 1 := Scalar.xori v102 true_54
  let v125 : BitVec 32 := Scalar.extui v124
  let c0_i32_55 : BitVec 32 := 0#32
  let v126 : BitVec 1 := Scalar.cmpi .ne v125 c0_i32_55
  v126

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S4x2048x1024 : Shape := ⟨3, ![4, 2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S8192x1024 : Shape := ⟨2, ![8192, 1024]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 162
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S1x1024, .f32⟩
  | 3 => ⟨S1x1024, .f32⟩
  | 4 => ⟨S1024x2816, .f32⟩
  | 5 => ⟨S1024x2816, .f32⟩
  | 6 => ⟨S2816x1024, .f32⟩
  | 7 => ⟨S_, .f32⟩
  | 8 => ⟨S8192x2816, .f32⟩
  | 9 => ⟨S_, .f32⟩
  | 10 => ⟨S8192x2816, .f32⟩
  | 11 => ⟨S_, .f32⟩
  | 12 => ⟨S8192x1024, .f32⟩
  | 13 => ⟨S8192x1024, .f32⟩
  | 14 => ⟨S8192x1024, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S8192x1024, .f32⟩
  | 33 => ⟨S8192x1024, .f32⟩
  | 34 => ⟨S8192x2816, .f32⟩
  | 35 => ⟨S8192x2816, .f32⟩
  | 36 => ⟨S8192x2816, .f32⟩
  | 37 => ⟨S8192x2816, .f32⟩
  | 38 => ⟨S_, .f32⟩
  | 39 => ⟨S8192x2816, .f32⟩
  | 40 => ⟨S8192x2816, .f32⟩
  | 41 => ⟨S_, .f32⟩
  | 42 => ⟨S8192x2816, .f32⟩
  | 43 => ⟨S8192x2816, .f32⟩
  | 44 => ⟨S_, .f32⟩
  | 45 => ⟨S8192x2816, .f32⟩
  | 46 => ⟨S8192x2816, .f32⟩
  | 47 => ⟨S8192x2816, .f32⟩
  | 48 => ⟨S8192x2816, .f32⟩
  | 49 => ⟨S8192x2816, .f32⟩
  | 50 => ⟨S8192x2816, .f32⟩
  | 51 => ⟨S8192x2816, .f32⟩
  | 52 => ⟨S8192x1024, .f32⟩
  | 53 => ⟨S8192x1024, .f32⟩
  | 54 => ⟨S8192x1024, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S_, .f32⟩
  | 80 => ⟨S8192, .f32⟩
  | 81 => ⟨S_, .f32⟩
  | 82 => ⟨S8192, .f32⟩
  | 83 => ⟨S8192, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S8192, .f32⟩
  | 92 => ⟨S_, .f32⟩
  | 93 => ⟨S8192, .f32⟩
  | 94 => ⟨S8192, .f32⟩
  | 95 => ⟨S8192x1024, .f32⟩
  | 96 => ⟨S8192x1024, .f32⟩
  | 97 => ⟨S8192x1024, .f32⟩
  | 98 => ⟨S_, .f32⟩
  | 99 => ⟨S1024, .f32⟩
  | 100 => ⟨S1x1024, .f32⟩
  | 101 => ⟨S8192x1024, .f32⟩
  | 102 => ⟨S8192x1024, .f32⟩
  | 103 => ⟨S8192x1024, .f32⟩
  | 104 => ⟨S_, .f32⟩
  | 105 => ⟨S8192, .f32⟩
  | 106 => ⟨S8192x1, .f32⟩
  | 107 => ⟨S8192x1024, .f32⟩
  | 108 => ⟨S8192x1024, .f32⟩
  | 109 => ⟨S8192x1, .f32⟩
  | 110 => ⟨S_, .f32⟩
  | 111 => ⟨S8192x1, .f32⟩
  | 112 => ⟨S8192x1, .f32⟩
  | 113 => ⟨S_, .f32⟩
  | 114 => ⟨S8192, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x2816, .f32⟩
  | 121 => ⟨S8192x2816, .f32⟩
  | 122 => ⟨S8192x2816, .f32⟩
  | 123 => ⟨S8192x1024, .f32⟩
  | 124 => ⟨S8192x2816, .f32⟩
  | 125 => ⟨S8192x2816, .f32⟩
  | 126 => ⟨S8192x2816, .f32⟩
  | 127 => ⟨S8192x2816, .f32⟩
  | _ => ⟨S4x2048x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S1024, .f32⟩
  | 5 => ⟨S1x1024, .f32⟩
  | 6 => ⟨S8192x1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S8192x1024, .f32⟩
  | 13 => ⟨S8192x1024, .f32⟩
  | 14 => ⟨S8192x1024, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S4x2048x1024, .f32⟩
  | 27 => ⟨S8x128, .f32⟩
  | 28 => ⟨S8192x1024, .f32⟩
  | 29 => ⟨S8192x1024, .bf16⟩
  | 30 => ⟨S8192x2816, .bf16⟩
  | 31 => ⟨S8192x2816, .bf16⟩
  | 32 => ⟨S8192x2816, .bf16⟩
  | 33 => ⟨S8192x1024, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v22_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v22_1 : Ref sig .tc := ⟨.hbm, 47, rfl⟩
abbrev main_v22_0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_cst_8 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_cst_12 : Ref sig .tc := ⟨.hbm, 81, rfl⟩
abbrev main_v49 : Ref sig .tc := ⟨.hbm, 82, rfl⟩
abbrev main_v50 : Ref sig .tc := ⟨.hbm, 83, rfl⟩
abbrev main_cst_13 : Ref sig .tc := ⟨.hbm, 84, rfl⟩
abbrev main_v51 : Ref sig .tc := ⟨.hbm, 85, rfl⟩
abbrev main_cst_14 : Ref sig .tc := ⟨.hbm, 86, rfl⟩
abbrev main_v52 : Ref sig .tc := ⟨.hbm, 87, rfl⟩
abbrev main_cst_15 : Ref sig .tc := ⟨.hbm, 88, rfl⟩
abbrev main_cst_16 : Ref sig .tc := ⟨.hbm, 89, rfl⟩
abbrev main_v53 : Ref sig .tc := ⟨.hbm, 90, rfl⟩
abbrev main_v54 : Ref sig .tc := ⟨.hbm, 91, rfl⟩
abbrev main_cst_17 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_18 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_19 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_20 : Ref sig .tc := ⟨.hbm, 110, rfl⟩
abbrev main_v70 : Ref sig .tc := ⟨.hbm, 111, rfl⟩
abbrev main_v71 : Ref sig .tc := ⟨.hbm, 112, rfl⟩
abbrev main_cst_21 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_22 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_23 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_24 : Ref sig .tc := ⟨.hbm, 144, rfl⟩
abbrev main_v97 : Ref sig .tc := ⟨.hbm, 145, rfl⟩
abbrev main_v98 : Ref sig .tc := ⟨.hbm, 146, rfl⟩
abbrev main_cst_25 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩

abbrev nD : Nat := 1
abbrev τ : Topo := Topo.v7x

variable {F : FTy → Type} [FloatOps F]
-- ==== Kernel2.lean ====
abbrev S8192x1024 : Shape := ⟨2, ![8192, 1024]⟩
abbrev S8192x512 : Shape := ⟨2, ![8192, 512]⟩
abbrev S4x8x2048x64 : Shape := ⟨4, ![4, 8, 2048, 64]⟩
abbrev S8192x2048 : Shape := ⟨2, ![8192, 2048]⟩
abbrev S1x2048 : Shape := ⟨2, ![1, 2048]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S512x512 : Shape := ⟨2, ![512, 512]⟩
abbrev S1x8x512x64 : Shape := ⟨4, ![1, 8, 512, 64]⟩
abbrev S512x2048 : Shape := ⟨2, ![512, 2048]⟩
abbrev S1x1x512x64 : Shape := ⟨4, ![1, 1, 512, 64]⟩
abbrev S512x64 : Shape := ⟨2, ![512, 64]⟩
abbrev S512 : Shape := ⟨1, ![512]⟩
abbrev S512x1 : Shape := ⟨2, ![512, 1]⟩
abbrev S1024 : Shape := ⟨1, ![1024]⟩
abbrev S2048 : Shape := ⟨1, ![2048]⟩

abbrev nBuf : Space → Nat
  | .hbm => 35
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S4x8x2048x64, .f32⟩
  | .hbm, ⟨3, _⟩ => ⟨S8192x512, .f32⟩
  | .hbm, ⟨4, _⟩ => ⟨S8192x2048, .f32⟩
  | .hbm, ⟨5, _⟩ => ⟨S1x2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x512, .bf16⟩
  | .hbm, ⟨21, _⟩ => ⟨S512x1024, .bf16⟩
  | .hbm, ⟨22, _⟩ => ⟨S512x1024, .bf16⟩
  | .hbm, ⟨23, _⟩ => ⟨S1024x1024, .bf16⟩
  | .hbm, ⟨24, _⟩ => ⟨S8192x512, .bf16⟩
  | .hbm, ⟨25, _⟩ => ⟨S8192x1024, .bf16⟩
  | .hbm, ⟨26, _⟩ => ⟨S8192x1024, .bf16⟩
  | .hbm, ⟨27, _⟩ => ⟨S8192x1024, .bf16⟩
  | .hbm, ⟨28, _⟩ => ⟨S8192x1024, .bf16⟩
  | .hbm, ⟨29, _⟩ => ⟨S8192x2048, .bf16⟩
  | .hbm, ⟨30, _⟩ => ⟨S8192x512, .bf16⟩
  | .hbm, ⟨31, _⟩ => ⟨S4x8x2048x64, .f32⟩
  | .hbm, ⟨32, _⟩ => ⟨S8192x512, .f32⟩
  | .hbm, ⟨33, _⟩ => ⟨S1x1024, .f32⟩
  | .hbm, ⟨34, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S1x8x512x64, .f32⟩
  | .local _ .vmem, ⟨5, _⟩ => ⟨S1x8x512x64, .f32⟩
  | .local _ .vmem, ⟨6, _⟩ => ⟨S512x512, .f32⟩
  | .local _ .vmem, ⟨7, _⟩ => ⟨S512x512, .f32⟩
  | .local _ .vmem, ⟨8, _⟩ => ⟨S512x2048, .f32⟩
  | .local _ .vmem, ⟨9, _⟩ => ⟨S512x2048, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S512x512, .bf16⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x2048, .bf16⟩
  | .local _ .vmem, ⟨25, _⟩ => ⟨S512x2048, .bf16⟩
  | .local _ .vmem, ⟨26, _⟩ => ⟨S512x512, .bf16⟩
  | .local _ .vmem, ⟨27, _⟩ => ⟨S512x512, .bf16⟩
  | .local _ .vmem, ⟨28, _⟩ => ⟨S1x8x512x64, .f32⟩
  | .local _ .vmem, ⟨29, _⟩ => ⟨S1x8x512x64, .f32⟩
  | .local _ .vmem, ⟨30, _⟩ => ⟨S512x512, .f32⟩
  | .local _ .vmem, ⟨31, _⟩ => ⟨S512x512, .f32⟩
  | .local _ .vmem, ⟨32, _⟩ => ⟨S1x1024, .f32⟩
  | .local _ .vmem, ⟨33, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev main_v12_9 : Ref sig .tc := ⟨.hbm, 33, rfl⟩
abbrev main_v12_10 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg19_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem19_0 : DmaSem sig := 33

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v129 : BitVec 1 := Scalar.cmpi .eq arg0 c0_i32
  let v130 : BitVec 32 := Scalar.extui v129
  let c0_i32_101 : BitVec 32 := 0#32
  let v131 : BitVec 1 := Scalar.cmpi .ne v130 c0_i32_101
  v131

def k0_cond2 (i : grid0.Coords) : BitVec 1 :=
  let arg0 : BitVec 32 := BitVec.ofNat 32 (i 0).val
  let c0_i32 : BitVec 32 := 0#32
  let v129 : BitVec 1 := Scalar.cmpi .eq arg0 c0_i32
  let v_true : BitVec 1 := 1#1
  let v132 : BitVec 1 := Scalar.xori v129 v_true
  let v133 : BitVec 32 := Scalar.extui v132
  let c0_i32_102 : BitVec 32 := 0#32
  let v134 : BitVec 1 := Scalar.cmpi .ne v133 c0_i32_102
  v134

def k0_cond3 (i : grid0.Coords) : BitVec 1 :=
  let arg0 : BitVec 32 := BitVec.ofNat 32 (i 0).val
  let c0_i32 : BitVec 32 := 0#32
  let v129 : BitVec 1 := Scalar.cmpi .eq arg0 c0_i32
  let v137 : BitVec 32 := Scalar.extui v129
  let c0_i32_104 : BitVec 32 := 0#32
  let v138 : BitVec 1 := Scalar.cmpi .ne v137 c0_i32_104
  v138

def k0_cond4 (i : grid0.Coords) : BitVec 1 :=
  let arg0 : BitVec 32 := BitVec.ofNat 32 (i 0).val
  let c0_i32 : BitVec 32 := 0#32
  let v129 : BitVec 1 := Scalar.cmpi .eq arg0 c0_i32
  let true_105 : BitVec 1 := 1#1
  let v139 : BitVec 1 := Scalar.xori v129 true_105
  let v140 : BitVec 32 := Scalar.extui v139
  let c0_i32_106 : BitVec 32 := 0#32
  let v141 : BitVec 1 := Scalar.cmpi .ne v140 c0_i32_106
  v141

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x512x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference2Ideal.lean ====
abbrev S8192x1024 : Shape := ⟨2, ![8192, 1024]⟩
abbrev S8192x512 : Shape := ⟨2, ![8192, 512]⟩
abbrev S4x8x2048x64 : Shape := ⟨4, ![4, 8, 2048, 64]⟩
abbrev S8192x2048 : Shape := ⟨2, ![8192, 2048]⟩
abbrev S1x2048 : Shape := ⟨2, ![1, 2048]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S4x2048x8x64 : Shape := ⟨4, ![4, 2048, 8, 64]⟩
abbrev S8192 : Shape := ⟨1, ![8192]⟩
abbrev S8192x1 : Shape := ⟨2, ![8192, 1]⟩
abbrev S1024 : Shape := ⟨1, ![1024]⟩
abbrev S2048 : Shape := ⟨1, ![2048]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S4x8x2048x64, .f32⟩
  | .hbm, ⟨3, _⟩ => ⟨S8192x512, .f32⟩
  | .hbm, ⟨4, _⟩ => ⟨S8192x2048, .f32⟩
  | .hbm, ⟨5, _⟩ => ⟨S1x2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S_, .f32⟩
  | .hbm, ⟨11, _⟩ => ⟨S8192x1024, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S4x2048x8x64, .f32⟩
  | .hbm, ⟨27, _⟩ => ⟨S8192x512, .f32⟩
  | .hbm, ⟨28, _⟩ => ⟨S8192x512, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x512, .f32⟩
  | .hbm, ⟨86, _⟩ => ⟨S_, .f32⟩
  | .hbm, ⟨87, _⟩ => ⟨S8192x2048, .f32⟩
  | .hbm, ⟨88, _⟩ => ⟨S8192x1024, .f32⟩
  | .hbm, ⟨89, _⟩ => ⟨S8192x1024, .f32⟩
  | .hbm, ⟨90, _⟩ => ⟨S8192x512, .f32⟩
  | .hbm, ⟨91, _⟩ => ⟨S_, .f32⟩
  | .hbm, ⟨92, _⟩ => ⟨S8192x2048, .f32⟩
  | .hbm, ⟨93, _⟩ => ⟨S8192x2048, .f32⟩
  | .hbm, ⟨94, _⟩ => ⟨S8192x512, .f32⟩
  | .hbm, ⟨95, _⟩ => ⟨S8192x512, .f32⟩
  | .hbm, ⟨96, _⟩ => ⟨S4x2048x8x64, .f32⟩
  | .hbm, ⟨97, _⟩ => ⟨S4x8x2048x64, .f32⟩
  | .hbm, ⟨98, _⟩ => ⟨S8192x2048, .f32⟩
  | .hbm, ⟨99, _⟩ => ⟨S_, .f32⟩
  | .hbm, ⟨100, _⟩ => ⟨S2048, .f32⟩
  | .hbm, ⟨101, _⟩ => ⟨S1x2048, .f32⟩
  | .hbm, ⟨102, _⟩ => ⟨S8192x512, .bf16⟩
  | .hbm, ⟨103, _⟩ => ⟨S8192x1024, .bf16⟩
  | .hbm, ⟨104, _⟩ => ⟨S8192x1024, .bf16⟩
  | .hbm, ⟨105, _⟩ => ⟨S8192x1024, .bf16⟩
  | .hbm, ⟨106, _⟩ => ⟨S8192x1024, .bf16⟩
  | .hbm, ⟨107, _⟩ => ⟨S8192x2048, .bf16⟩
  | .hbm, ⟨108, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== Kernel3.lean ====
abbrev S4x2048x1024 : Shape := ⟨3, ![4, 2048, 1024]⟩
abbrev S1x1024 : Shape := ⟨2, ![1, 1024]⟩
abbrev S8192x1024 : Shape := ⟨2, ![8192, 1024]⟩
abbrev S8192x1536 : Shape := ⟨2, ![8192, 1536]⟩
abbrev S8192x1792 : Shape := ⟨2, ![8192, 1792]⟩
abbrev S8192x2048 : Shape := ⟨2, ![8192, 2048]⟩
abbrev S1024x5376 : Shape := ⟨2, ![1024, 5376]⟩
abbrev S512x1024 : Shape := ⟨2, ![512, 1024]⟩
abbrev S512x1536 : Shape := ⟨2, ![512, 1536]⟩
abbrev S512x1792 : Shape := ⟨2, ![512, 1792]⟩
abbrev S512x2048 : Shape := ⟨2, ![512, 2048]⟩
abbrev S1024x1536 : Shape := ⟨2, ![1024, 1536]⟩
abbrev S1024x1792 : Shape := ⟨2, ![1024, 1792]⟩
abbrev S1024x2048 : Shape := ⟨2, ![1024, 2048]⟩
abbrev S512 : Shape := ⟨1, ![512]⟩
abbrev S512x1 : Shape := ⟨2, ![512, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S8192x1024, .f32⟩
  | .hbm, ⟨3, _⟩ => ⟨S8192x1536, .bf16⟩
  | .hbm, ⟨4, _⟩ => ⟨S8192x1792, .bf16⟩
  | .hbm, ⟨5, _⟩ => ⟨S8192x2048, .bf16⟩
  | .hbm, ⟨6, _⟩ => ⟨S1024x5376, .f32⟩
  | .hbm, ⟨7, _⟩ => ⟨S8192x1024, .f32⟩
  | .hbm, ⟨8, _⟩ => ⟨S1024x5376, .bf16⟩
  | .hbm, ⟨9, _⟩ => ⟨S8192x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1536, .bf16⟩
  | .local _ .vmem, ⟨6, _⟩ => ⟨S512x1536, .bf16⟩
  | .local _ .vmem, ⟨7, _⟩ => ⟨S512x1792, .bf16⟩
  | .local _ .vmem, ⟨8, _⟩ => ⟨S512x1792, .bf16⟩
  | .local _ .vmem, ⟨9, _⟩ => ⟨S512x2048, .bf16⟩
  | .local _ .vmem, ⟨10, _⟩ => ⟨S512x2048, .bf16⟩
  | .local _ .vmem, ⟨11, _⟩ => ⟨S1024x5376, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_25 : BitVec 32 := 0#32
  let v47 : BitVec 1 := Scalar.cmpi .ne v46 c0_i32_25
  v47

def k0_cond2 (i : grid0.Coords) : BitVec 1 :=
  let arg0 : BitVec 32 := BitVec.ofNat 32 (i 0).val
  let c0_i32 : BitVec 32 := 0#32
  let v45 : BitVec 1 := Scalar.cmpi .eq arg0 c0_i32
  let v_true : BitVec 1 := 1#1
  let v48 : BitVec 1 := Scalar.xori v45 v_true
  let v49 : BitVec 32 := Scalar.extui v48
  let c0_i32_26 : BitVec 32 := 0#32
  let v50 : BitVec 1 := Scalar.cmpi .ne v49 c0_i32_26
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x5376 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4x2048x1024 : Shape := ⟨3, ![4, 2048, 1024]⟩
abbrev S1x1024 : Shape := ⟨2, ![1, 1024]⟩
abbrev S8192x1024 : Shape := ⟨2, ![8192, 1024]⟩
abbrev S8192x1536 : Shape := ⟨2, ![8192, 1536]⟩
abbrev S8192x1792 : Shape := ⟨2, ![8192, 1792]⟩
abbrev S8192x2048 : Shape := ⟨2, ![8192, 2048]⟩
abbrev S1024x5376 : Shape := ⟨2, ![1024, 5376]⟩
abbrev S_ : Shape := ⟨0, ![]⟩
abbrev S8192 : Shape := ⟨1, ![8192]⟩
abbrev S8192x1 : Shape := ⟨2, ![8192, 1]⟩
abbrev S8192x5376 : Shape := ⟨2, ![8192, 5376]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S8192x1024, .f32⟩
  | .hbm, ⟨3, _⟩ => ⟨S8192x1536, .bf16⟩
  | .hbm, ⟨4, _⟩ => ⟨S8192x1792, .bf16⟩
  | .hbm, ⟨5, _⟩ => ⟨S8192x2048, .bf16⟩
  | .hbm, ⟨6, _⟩ => ⟨S1024x5376, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x5376, .f32⟩
  | .hbm, ⟨28, _⟩ => ⟨S8192x1536, .f32⟩
  | .hbm, ⟨29, _⟩ => ⟨S8192x1792, .f32⟩
  | .hbm, ⟨30, _⟩ => ⟨S8192x2048, .f32⟩
  | .hbm, ⟨31, _⟩ => ⟨S8192x5376, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S4x2048x1024, .f32⟩
  | .hbm, ⟨58, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel4.lean ====
abbrev S8192x1536 : Shape := ⟨2, ![8192, 1536]⟩
abbrev S8192x512 : Shape := ⟨2, ![8192, 512]⟩
abbrev S4x2048x8x64 : Shape := ⟨4, ![4, 2048, 8, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S8x8 : Shape := ⟨2, ![8, 8]⟩
abbrev S2048x256 : Shape := ⟨2, ![2048, 256]⟩
abbrev S1x4x2048x1 : Shape := ⟨4, ![1, 4, 2048, 1]⟩
abbrev S1x128 : Shape := ⟨2, ![1, 128]⟩
abbrev S256x256 : Shape := ⟨2, ![256, 256]⟩
abbrev S256x128 : Shape := ⟨2, ![256, 128]⟩
abbrev S1x1x256x1 : Shape := ⟨4, ![1, 1, 256, 1]⟩
abbrev S256x1 : Shape := ⟨2, ![256, 1]⟩
abbrev S1x1 : Shape := ⟨2, ![1, 1]⟩
abbrev S512x256 : Shape := ⟨2, ![512, 256]⟩
abbrev S256x512 : Shape := ⟨2, ![256, 512]⟩
abbrev S1x512 : Shape := ⟨2, ![1, 512]⟩
abbrev S512x128 : Shape := ⟨2, ![512, 128]⟩
abbrev S256 : Shape := ⟨1, ![256]⟩

abbrev nBuf : Space → Nat
  | .hbm => 48
  | .vmem => 18
  | .smem => 1
  | _ => 0

abbrev bufTy : (tb : Table) → Fin (tcTables nBuf tb) → BufTy
  | .hbm, ⟨0, _⟩ => ⟨S8192x1536, .f32⟩
  | .hbm, ⟨1, _⟩ => ⟨S8192x512, .bf16⟩
  | .hbm, ⟨2, _⟩ => ⟨S8192x512, .f32⟩
  | .hbm, ⟨3, _⟩ => ⟨S4x2048x8x64, .f32⟩
  | .hbm, ⟨4, _⟩ => ⟨S8192x512, .f32⟩
  | .hbm, ⟨5, _⟩ => ⟨S4x2048x8x64, .f32⟩
  | .hbm, ⟨6, _⟩ => ⟨S8192x1536, .bf16⟩
  | .hbm, ⟨7, _⟩ => ⟨S4x8x2048x2048, .f32⟩
  | .hbm, ⟨8, _⟩ => ⟨S_, .f32⟩
  | .hbm, ⟨9, _⟩ => ⟨S4x8x2048x2048, .f32⟩
  | .hbm, ⟨10, _⟩ => ⟨S4x8x2048x2048, .f32⟩
  | .hbm, ⟨11, _⟩ => ⟨S2048, .i32⟩
  | .hbm, ⟨12, _⟩ => ⟨S1x2048, .i32⟩
  | .hbm, ⟨13, _⟩ => ⟨S2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S4x8x2048x2048, .f32⟩
  | .hbm, ⟨19, _⟩ => ⟨S4x8x2048x2048, .f32⟩
  | .hbm, ⟨20, _⟩ => ⟨S_, .f32⟩
  | .hbm, ⟨21, _⟩ => ⟨S4x8x2048x2048, .f32⟩
  | .hbm, ⟨22, _⟩ => ⟨S4x8x2048x2048, .f32⟩
  | .hbm, ⟨23, _⟩ => ⟨S4x8x2048x2048, .f32⟩
  | .hbm, ⟨24, _⟩ => ⟨S4x8x2048x2048, .f32⟩
  | .hbm, ⟨25, _⟩ => ⟨S4x8x2048x2048, .i1⟩
  | .hbm, ⟨26, _⟩ => ⟨S4x8x2048x2048, .f32⟩
  | .hbm, ⟨27, _⟩ => ⟨S4x8x2048x2048, .f32⟩
  | .hbm, ⟨28, _⟩ => ⟨S4x8x2048x2048, .f32⟩
  | .hbm, ⟨29, _⟩ => ⟨S4x8x2048x2048, .f32⟩
  | .hbm, ⟨30, _⟩ => ⟨S4x8x2048x2048, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S_, .f32⟩
  | .hbm, ⟨36, _⟩ => ⟨S_, .f32⟩
  | .hbm, ⟨37, _⟩ => ⟨S4x8x2048x2048, .i1⟩
  | .hbm, ⟨38, _⟩ => ⟨S4x8x2048x2048, .f32⟩
  | .hbm, ⟨39, _⟩ => ⟨S4x8x2048x2048, .f32⟩
  | .hbm, ⟨40, _⟩ => ⟨S_, .f32⟩
  | .hbm, ⟨41, _⟩ => ⟨S4x8x2048, .f32⟩
  | .hbm, ⟨42, _⟩ => ⟨S4x8x2048x1, .f32⟩
  | .hbm, ⟨43, _⟩ => ⟨S4x8x2048x1, .f32⟩
  | .hbm, ⟨44, _⟩ => ⟨S_, .i32⟩
  | .hbm, ⟨45, _⟩ => ⟨S8192x512, .bf16⟩
  | .hbm, ⟨46, _⟩ => ⟨S8192x512, .bf16⟩
  | .hbm, ⟨47, _⟩ => ⟨S8192x512, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S1x4x2048x1, .f32⟩
  | .local _ .vmem, ⟨9, _⟩ => ⟨S1x4x2048x1, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .f32⟩
  | .local _ .vmem, ⟨17, _⟩ => ⟨S2048x256, .f32⟩
  | .local _ .smem, ⟨0, _⟩ => ⟨S8x8, .i32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev main_v21 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v21.idx], fun | 0 => main_v21.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32 : BitVec 32 := 8#32
  let v25 : BitVec 32 := Scalar.addi c0_i32 c8_i32
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v32 : BitVec 32 := Scalar.muli arg13 c256_i32
  v32
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v32 : BitVec 32 := Scalar.muli arg13 c256_i32
  let v33 : BitVec 32 := v32
  let v34 : Index := Scalar.indexCast v33
  let c0_13 : Index := 0#32
  ![v34.toNat, 0]
def k0_off2 (k0_t1 : Fin k0_t1_loop.trips) : Fin 4 → Nat :=
  let c0_24 : Index := 0#32
  let c0_25 : Index := 0#32
  let c0_i32 : BitVec 32 := 0#32
  let c1_i32 : BitVec 32 := 1#32
  let arg13 : BitVec 32 := Scf.iv c0_i32 c1_i32 k0_t1
  let c256_i32 : BitVec 32 := 256#32
  let v32 : BitVec 32 := Scalar.muli arg13 c256_i32
  let v33 : BitVec 32 := v32
  let v81 : Index := Scalar.indexCast v33
  let c0_26 : Index := 0#32
  ![0, 0, v81.toNat, 0]
def k0_off3 (k0_t1 : Fin k0_t1_loop.trips) : Fin 4 → Nat :=
  let c0_27 : Index := 0#32
  let c1 : Index := 1#32
  let c0_i32 : BitVec 32 := 0#32
  let c1_i32 : BitVec 32 := 1#32
  let arg13 : BitVec 32 := Scf.iv c0_i32 c1_i32 k0_t1
  let c256_i32 : BitVec 32 := 256#32
  let v32 : BitVec 32 := Scalar.muli arg13 c256_i32
  let v33 : BitVec 32 := v32
  let v84 : Index := Scalar.indexCast v33
  let c0_28 : Index := 0#32
  ![0, 1, v84.toNat, 0]
def k0_off4 (k0_t1 : Fin k0_t1_loop.trips) : Fin 4 → Nat :=
  let c0_29 : Index := 0#32
  let c2 : Index := 2#32
  let c0_i32 : BitVec 32 := 0#32
  let c1_i32 : BitVec 32 := 1#32
  let arg13 : BitVec 32 := Scf.iv c0_i32 c1_i32 k0_t1
  let c256_i32 : BitVec 32 := 256#32
  let v32 : BitVec 32 := Scalar.muli arg13 c256_i32
  let v33 : BitVec 32 := v32
  let v87 : Index := Scalar.indexCast v33
  let c0_30 : Index := 0#32
  ![0, 2, v87.toNat, 0]
def k0_off5 (k0_t1 : Fin k0_t1_loop.trips) : Fin 4 → Nat :=
  let c0_31 : Index := 0#32
  let c3 : Index := 3#32
  let c0_i32 : BitVec 32 := 0#32
  let c1_i32 : BitVec 32 := 1#32
  let arg13 : BitVec 32 := Scf.iv c0_i32 c1_i32 k0_t1
  let c256_i32 : BitVec 32 := 256#32
  let v32 : BitVec 32 := Scalar.muli arg13 c256_i32
  let v33 : BitVec 32 := v32
  let v90 : Index := Scalar.indexCast v33
  let c0_32 : Index := 0#32
  ![0, 3, v90.toNat, 0]
def k0_off6 (i : grid0.Coords) (k0_t1 : Fin k0_t1_loop.trips) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let v93 : Index := Scalar.indexCast v1
  let c0_i32 : BitVec 32 := 0#32
  let c1_i32 : BitVec 32 := 1#32
  let arg13 : BitVec 32 := Scf.iv c0_i32 c1_i32 k0_t1
  let v94 : Index := Scalar.indexCast arg13
  ![v93.toNat, v94.toNat]
@[reducible] def k0_t2_loop (k0_t1 : Fin k0_t1_loop.trips) (v95 : BitVec 32) : Scf.Loop 32 :=
  let c0_i32_54 : BitVec 32 := 0#32
  let c0_i32 : BitVec 32 := 0#32
  let c1_i32 : BitVec 32 := 1#32
  let arg13 : BitVec 32 := Scf.iv c0_i32 c1_i32 k0_t1
  let c1_i32_44 : BitVec 32 := 1#32
  let v119 : BitVec 32 := Scalar.addi arg13 c1_i32_44
  let c256_i32_45 : BitVec 32 := 256#32
  let v120 : BitVec 32 := Scalar.muli v119 c256_i32_45
  let c256_i32_33 : BitVec 32 := 256#32
  let v96 : BitVec 32 := Scalar.muli arg13 c256_i32_33
  let c0_i32_34 : BitVec 32 := 0#32
  let v97 : BitVec 32 := Scalar.maxsi c0_i32_34 v95
  let v98 : BitVec 32 := Scalar.minsi v96 v97
  let c0_i32_35 : BitVec 32 := 0#32
  let v100 : BitVec 1 := Scalar.cmpi .sgt v98 c0_i32_35
  let v101 : BitVec 32 := Scalar.extui v100
  let c0_i32_36 : BitVec 32 := 0#32
  let v102 : BitVec 1 := Scalar.cmpi .slt v98 c0_i32_36
  let v103 : BitVec 32 := Scalar.extui v102
  let v104 : BitVec 32 := Scalar.subi v101 v103
  let c128_i32 : BitVec 32 := 128#32
  let c0_i32_37 : BitVec 32 := 0#32
  let v105 : BitVec 1 := Scalar.cmpi .sgt c128_i32 c0_i32_37
  let v106 : BitVec 32 := Scalar.extui v105
  let c0_i32_38 : BitVec 32 := 0#32
  let v107 : BitVec 1 := Scalar.cmpi .slt c128_i32 c0_i32_38
  let v108 : BitVec 32 := Scalar.extui v107
  let v109 : BitVec 32 := Scalar.subi v106 v108
  let v110 : BitVec 1 := Scalar.cmpi .ne v104 v109
  let v111 : BitVec 32 := Scalar.remsi v98 c128_i32
  let c0_i32_39 : BitVec 32 := 0#32
  let v112 : BitVec 1 := Scalar.cmpi .ne v111 c0_i32_39
  let v113 : BitVec 1 := Scalar.andi v110 v112
  let v99 : BitVec 32 := Scalar.divsi v98 c128_i32
  let c1_i32_40 : BitVec 32 := 1#32
  let v114 : BitVec 32 := Scalar.subi v99 c1_i32_40
  let v115 : BitVec 32 := Scalar.select v113 v114 v99
  let c128_i32_41 : BitVec 32 := 128#32
  let v116 : BitVec 32 := Scalar.muli v115 c128_i32_41
  let v121 : BitVec 32 := Scalar.subi v120 v116
  let c512_i32 : BitVec 32 := 512#32
  let v122 : BitVec 32 := Scalar.addi v121 c512_i32
  let c1_i32_46 : BitVec 32 := 1#32
  let v123 : BitVec 32 := Scalar.subi v122 c1_i32_46
  let c0_i32_48 : BitVec 32 := 0#32
  let v125 : BitVec 1 := Scalar.cmpi .sgt v123 c0_i32_48
  let v126 : BitVec 32 := Scalar.extui v125
  let c0_i32_49 : BitVec 32 := 0#32
  let v127 : BitVec 1 := Scalar.cmpi .slt v123 c0_i32_49
  let v128 : BitVec 32 := Scalar.extui v127
  let v129 : BitVec 32 := Scalar.subi v126 v128
  let c512_i32_47 : BitVec 32 := 512#32
  let c0_i32_50 : BitVec 32 := 0#32
  let v130 : BitVec 1 := Scalar.cmpi .sgt c512_i32_47 c0_i32_50
  let v131 : BitVec 32 := Scalar.extui v130
  let c0_i32_51 : BitVec 32 := 0#32
  let v132 : BitVec 1 := Scalar.cmpi .slt c512_i32_47 c0_i32_51
  let v133 : BitVec 32 := Scalar.extui v132
  let v134 : BitVec 32 := Scalar.subi v131 v133
  let v135 : BitVec 1 := Scalar.cmpi .ne v129 v134
  let v136 : BitVec 32 := Scalar.remsi v123 c512_i32_47
  let c0_i32_52 : BitVec 32 := 0#32
  let v137 : BitVec 1 := Scalar.cmpi .ne v136 c0_i32_52
  let v138 : BitVec 1 := Scalar.andi v135 v137
  let v124 : BitVec 32 := Scalar.divsi v123 c512_i32_47
  let c1_i32_53 : BitVec 32 := 1#32
  let v139 : BitVec 32 := Scalar.subi v124 c1_i32_53
  let v140 : BitVec 32 := Scalar.select v138 v139 v124
  let v141 : BitVec 32 := Scalar.subi v140 c0_i32_54
  let c1_i32_55 : BitVec 32 := 1#32
  let v143 : BitVec 32 := Scalar.divsi v141 c1_i32_55
  let v144 : BitVec 32 := Scalar.muli v143 c1_i32_55
  let v145 : BitVec 32 := Scalar.addi c0_i32_54 v144
  let c1_i32_56 : BitVec 32 := 1#32
  ⟨c0_i32_54, v145, c1_i32_56⟩

def k0_mult2 (k0_t1 : Fin k0_t1_loop.trips) (v95 : BitVec 32) (k0_t2 : Fin (k0_t2_loop k0_t1 v95).trips) : BitVec 32 :=
  let c0_i32 : BitVec 32 := 0#32
  let c1_i32 : BitVec 32 := 1#32
  let arg13 : BitVec 32 := Scf.iv c0_i32 c1_i32 k0_t1
  let c256_i32_33 : BitVec 32 := 256#32
  let v96 : BitVec 32 := Scalar.muli arg13 c256_i32_33
  let c0_i32_34 : BitVec 32 := 0#32
  let v97 : BitVec 32 := Scalar.maxsi c0_i32_34 v95
  let v98 : BitVec 32 := Scalar.minsi v96 v97
  let c0_i32_35 : BitVec 32 := 0#32
  let v100 : BitVec 1 := Scalar.cmpi .sgt v98 c0_i32_35
  let v101 : BitVec 32 := Scalar.extui v100
  let c0_i32_36 : BitVec 32 := 0#32
  let v102 : BitVec 1 := Scalar.cmpi .slt v98 c0_i32_36
  let v103 : BitVec 32 := Scalar.extui v102
  let v104 : BitVec 32 := Scalar.subi v101 v103
  let c128_i32 : BitVec 32 := 128#32
  let c0_i32_37 : BitVec 32 := 0#32
  let v105 : BitVec 1 := Scalar.cmpi .sgt c128_i32 c0_i32_37
  let v106 : BitVec 32 := Scalar.extui v105
  let c0_i32_38 : BitVec 32 := 0#32
  let v107 : BitVec 1 := Scalar.cmpi .slt c128_i32 c0_i32_38
  let v108 : BitVec 32 := Scalar.extui v107
  let v109 : BitVec 32 := Scalar.subi v106 v108
  let v110 : BitVec 1 := Scalar.cmpi .ne v104 v109
  let v111 : BitVec 32 := Scalar.remsi v98 c128_i32
  let c0_i32_39 : BitVec 32 := 0#32
  let v112 : BitVec 1 := Scalar.cmpi .ne v111 c0_i32_39
  let v113 : BitVec 1 := Scalar.andi v110 v112
  let v99 : BitVec 32 := Scalar.divsi v98 c128_i32
  let c1_i32_40 : BitVec 32 := 1#32
  let v114 : BitVec 32 := Scalar.subi v99 c1_i32_40
  let v115 : BitVec 32 := Scalar.select v113 v114 v99
  let c128_i32_41 : BitVec 32 := 128#32
  let v116 : BitVec 32 := Scalar.muli v115 c128_i32_41
  let c0_i32_54 : BitVec 32 := 0#32
  let c1_i32_56 : BitVec 32 := 1#32
  let arg14 : BitVec 32 := Scf.iv c0_i32_54 c1_i32_56 k0_t2
  let c512_i32_59 : BitVec 32 := 512#32
  let v160 : BitVec 32 := Scalar.muli arg14 c512_i32_59
  let v161 : BitVec 32 := Scalar.addi v116 v160
  let c1536_i32 : BitVec 32 := 1536#32
  let v162 : BitVec 32 := Scalar.minsi v161 c1536_i32
  v162
def k0_off7 (k0_t1 : Fin k0_t1_loop.trips) (v95 : BitVec 32) (k0_t2 : Fin (k0_t2_loop k0_t1 v95).trips) : Fin 2 → Nat :=
  let c0_i32 : BitVec 32 := 0#32
  let c1_i32 : BitVec 32 := 1#32
  let arg13 : BitVec 32 := Scf.iv c0_i32 c1_i32 k0_t1
  let c256_i32_33 : BitVec 32 := 256#32
  let v96 : BitVec 32 := Scalar.muli arg13 c256_i32_33
  let c0_i32_34 : BitVec 32 := 0#32
  let v97 : BitVec 32 := Scalar.maxsi c0_i32_34 v95
  let v98 : BitVec 32 := Scalar.minsi v96 v97
  let c0_i32_35 : BitVec 32 := 0#32
  let v100 : BitVec 1 := Scalar.cmpi .sgt v98 c0_i32_35
  let v101 : BitVec 32 := Scalar.extui v100
  let c0_i32_36 : BitVec 32 := 0#32
  let v102 : BitVec 1 := Scalar.cmpi .slt v98 c0_i32_36
  let v103 : BitVec 32 := Scalar.extui v102
  let v104 : BitVec 32 := Scalar.subi v101 v103
  let c128_i32 : BitVec 32 := 128#32
  let c0_i32_37 : BitVec 32 := 0#32
  let v105 : BitVec 1 := Scalar.cmpi .sgt c128_i32 c0_i32_37
  let v106 : BitVec 32 := Scalar.extui v105
  let c0_i32_38 : BitVec 32 := 0#32
  let v107 : BitVec 1 := Scalar.cmpi .slt c128_i32 c0_i32_38
  let v108 : BitVec 32 := Scalar.extui v107
  let v109 : BitVec 32 := Scalar.subi v106 v108
  let v110 : BitVec 1 := Scalar.cmpi .ne v104 v109
  let v111 : BitVec 32 := Scalar.remsi v98 c128_i32
  let c0_i32_39 : BitVec 32 := 0#32
  let v112 : BitVec 1 := Scalar.cmpi .ne v111 c0_i32_39
  let v113 : BitVec 1 := Scalar.andi v110 v112
  let v99 : BitVec 32 := Scalar.divsi v98 c128_i32
  let c1_i32_40 : BitVec 32 := 1#32
  let v114 : BitVec 32 := Scalar.subi v99 c1_i32_40
  let v115 : BitVec 32 := Scalar.select v113 v114 v99
  let c128_i32_41 : BitVec 32 := 128#32
  let v116 : BitVec 32 := Scalar.muli v115 c128_i32_41
  let c0_i32_54 : BitVec 32 := 0#32
  let c1_i32_56 : BitVec 32 := 1#32
  let arg14 : BitVec 32 := Scf.iv c0_i32_54 c1_i32_56 k0_t2
  let c512_i32_59 : BitVec 32 := 512#32
  let v160 : BitVec 32 := Scalar.muli arg14 c512_i32_59
  let v161 : BitVec 32 := Scalar.addi v116 v160
  let c1536_i32 : BitVec 32 := 1536#32
  let v162 : BitVec 32 := Scalar.minsi v161 c1536_i32
  let v163 : BitVec 32 := v162
  let v164 : Index := Scalar.indexCast v163
  let c0_60 : Index := 0#32
  ![v164.toNat, 0]
def k0_off8 (k0_t1 : Fin k0_t1_loop.trips) (v95 : BitVec 32) (k0_t2 : Fin (k0_t2_loop k0_t1 v95).trips) : Fin 2 → Nat :=
  let c0_i32 : BitVec 32 := 0#32
  let c1_i32 : BitVec 32 := 1#32
  let arg13 : BitVec 32 := Scf.iv c0_i32 c1_i32 k0_t1
  let c256_i32_33 : BitVec 32 := 256#32
  let v96 : BitVec 32 := Scalar.muli arg13 c256_i32_33
  let c0_i32_34 : BitVec 32 := 0#32
  let v97 : BitVec 32 := Scalar.maxsi c0_i32_34 v95
  let v98 : BitVec 32 := Scalar.minsi v96 v97
  let c0_i32_35 : BitVec 32 := 0#32
  let v100 : BitVec 1 := Scalar.cmpi .sgt v98 c0_i32_35
  let v101 : BitVec 32 := Scalar.extui v100
  let c0_i32_36 : BitVec 32 := 0#32
  let v102 : BitVec 1 := Scalar.cmpi .slt v98 c0_i32_36
  let v103 : BitVec 32 := Scalar.extui v102
  let v104 : BitVec 32 := Scalar.subi v101 v103
  let c128_i32 : BitVec 32 := 128#32
  let c0_i32_37 : BitVec 32 := 0#32
  let v105 : BitVec 1 := Scalar.cmpi .sgt c128_i32 c0_i32_37
  let v106 : BitVec 32 := Scalar.extui v105
  let c0_i32_38 : BitVec 32 := 0#32
  let v107 : BitVec 1 := Scalar.cmpi .slt c128_i32 c0_i32_38
  let v108 : BitVec 32 := Scalar.extui v107
  let v109 : BitVec 32 := Scalar.subi v106 v108
  let v110 : BitVec 1 := Scalar.cmpi .ne v104 v109
  let v111 : BitVec 32 := Scalar.remsi v98 c128_i32
  let c0_i32_39 : BitVec 32 := 0#32
  let v112 : BitVec 1 := Scalar.cmpi .ne v111 c0_i32_39
  let v113 : BitVec 1 := Scalar.andi v110 v112
  let v99 : BitVec 32 := Scalar.divsi v98 c128_i32
  let c1_i32_40 : BitVec 32 := 1#32
  let v114 : BitVec 32 := Scalar.subi v99 c1_i32_40
  let v115 : BitVec 32 := Scalar.select v113 v114 v99
  let c128_i32_41 : BitVec 32 := 128#32
  let v116 : BitVec 32 := Scalar.muli v115 c128_i32_41
  let c0_i32_54 : BitVec 32 := 0#32
  let c1_i32_56 : BitVec 32 := 1#32
  let arg14 : BitVec 32 := Scf.iv c0_i32_54 c1_i32_56 k0_t2
  let c512_i32_59 : BitVec 32 := 512#32
  let v160 : BitVec 32 := Scalar.muli arg14 c512_i32_59
  let v161 : BitVec 32 := Scalar.addi v116 v160
  let c1536_i32 : BitVec 32 := 1536#32
  let v162 : BitVec 32 := Scalar.minsi v161 c1536_i32
  let v163 : BitVec 32 := v162
  let v495 : Index := Scalar.indexCast v163
  let c0_147 : Index := 0#32
  ![v495.toNat, 0]
def k0_off9 (k0_t1 : Fin k0_t1_loop.trips) (v95 : BitVec 32) (k0_t2 : Fin (k0_t2_loop k0_t1 v95).trips) : Fin 2 → Nat :=
  let c0_i32 : BitVec 32 := 0#32
  let c1_i32 : BitVec 32 := 1#32
  let arg13 : BitVec 32 := Scf.iv c0_i32 c1_i32 k0_t1
  let c256_i32_33 : BitVec 32 := 256#32
  let v96 : BitVec 32 := Scalar.muli arg13 c256_i32_33
  let c0_i32_34 : BitVec 32 := 0#32
  let v97 : BitVec 32 := Scalar.maxsi c0_i32_34 v95
  let v98 : BitVec 32 := Scalar.minsi v96 v97
  let c0_i32_35 : BitVec 32 := 0#32
  let v100 : BitVec 1 := Scalar.cmpi .sgt v98 c0_i32_35
  let v101 : BitVec 32 := Scalar.extui v100
  let c0_i32_36 : BitVec 32 := 0#32
  let v102 : BitVec 1 := Scalar.cmpi .slt v98 c0_i32_36
  let v103 : BitVec 32 := Scalar.extui v102
  let v104 : BitVec 32 := Scalar.subi v101 v103
  let c128_i32 : BitVec 32 := 128#32
  let c0_i32_37 : BitVec 32 := 0#32
  let v105 : BitVec 1 := Scalar.cmpi .sgt c128_i32 c0_i32_37
  let v106 : BitVec 32 := Scalar.extui v105
  let c0_i32_38 : BitVec 32 := 0#32
  let v107 : BitVec 1 := Scalar.cmpi .slt c128_i32 c0_i32_38
  let v108 : BitVec 32 := Scalar.extui v107
  let v109 : BitVec 32 := Scalar.subi v106 v108
  let v110 : BitVec 1 := Scalar.cmpi .ne v104 v109
  let v111 : BitVec 32 := Scalar.remsi v98 c128_i32
  let c0_i32_39 : BitVec 32 := 0#32
  let v112 : BitVec 1 := Scalar.cmpi .ne v111 c0_i32_39
  let v113 : BitVec 1 := Scalar.andi v110 v112
  let v99 : BitVec 32 := Scalar.divsi v98 c128_i32
  let c1_i32_40 : BitVec 32 := 1#32
  let v114 : BitVec 32 := Scalar.subi v99 c1_i32_40
  let v115 : BitVec 32 := Scalar.select v113 v114 v99
  let c128_i32_41 : BitVec 32 := 128#32
  let v116 : BitVec 32 := Scalar.muli v115 c128_i32_41
  let c0_i32_54 : BitVec 32 := 0#32
  let c1_i32_56 : BitVec 32 := 1#32
  let arg14 : BitVec 32 := Scf.iv c0_i32_54 c1_i32_56 k0_t2
  let c512_i32_59 : BitVec 32 := 512#32
  let v160 : BitVec 32 := Scalar.muli arg14 c512_i32_59
  let v161 : BitVec 32 := Scalar.addi v116 v160
  let c1536_i32 : BitVec 32 := 1536#32
  let v162 : BitVec 32 := Scalar.minsi v161 c1536_i32
  let v163 : BitVec 32 := v162
  let v515 : Index := Scalar.indexCast v163
  let c128_151 : Index := 128#32
  ![v515.toNat, 128]
@[reducible] def k0_t3_loop (k0_t1 : Fin k0_t1_loop.trips) (v95 : BitVec 32) : Scf.Loop 32 :=
  let c0_i32_54 : BitVec 32 := 0#32
  let c0_i32 : BitVec 32 := 0#32
  let c1_i32 : BitVec 32 := 1#32
  let arg13 : BitVec 32 := Scf.iv c0_i32 c1_i32 k0_t1
  let c1_i32_44 : BitVec 32 := 1#32
  let v119 : BitVec 32 := Scalar.addi arg13 c1_i32_44
  let c256_i32_45 : BitVec 32 := 256#32
  let v120 : BitVec 32 := Scalar.muli v119 c256_i32_45
  let c256_i32_33 : BitVec 32 := 256#32
  let v96 : BitVec 32 := Scalar.muli arg13 c256_i32_33
  let c0_i32_34 : BitVec 32 := 0#32
  let v97 : BitVec 32 := Scalar.maxsi c0_i32_34 v95
  let v98 : BitVec 32 := Scalar.minsi v96 v97
  let c0_i32_35 : BitVec 32 := 0#32
  let v100 : BitVec 1 := Scalar.cmpi .sgt v98 c0_i32_35
  let v101 : BitVec 32 := Scalar.extui v100
  let c0_i32_36 : BitVec 32 := 0#32
  let v102 : BitVec 1 := Scalar.cmpi .slt v98 c0_i32_36
  let v103 : BitVec 32 := Scalar.extui v102
  let v104 : BitVec 32 := Scalar.subi v101 v103
  let c128_i32 : BitVec 32 := 128#32
  let c0_i32_37 : BitVec 32 := 0#32
  let v105 : BitVec 1 := Scalar.cmpi .sgt c128_i32 c0_i32_37
  let v106 : BitVec 32 := Scalar.extui v105
  let c0_i32_38 : BitVec 32 := 0#32
  let v107 : BitVec 1 := Scalar.cmpi .slt c128_i32 c0_i32_38
  let v108 : BitVec 32 := Scalar.extui v107
  let v109 : BitVec 32 := Scalar.subi v106 v108
  let v110 : BitVec 1 := Scalar.cmpi .ne v104 v109
  let v111 : BitVec 32 := Scalar.remsi v98 c128_i32
  let c0_i32_39 : BitVec 32 := 0#32
  let v112 : BitVec 1 := Scalar.cmpi .ne v111 c0_i32_39
  let v113 : BitVec 1 := Scalar.andi v110 v112
  let v99 : BitVec 32 := Scalar.divsi v98 c128_i32
  let c1_i32_40 : BitVec 32 := 1#32
  let v114 : BitVec 32 := Scalar.subi v99 c1_i32_40
  let v115 : BitVec 32 := Scalar.select v113 v114 v99
  let c128_i32_41 : BitVec 32 := 128#32
  let v116 : BitVec 32 := Scalar.muli v115 c128_i32_41
  let v121 : BitVec 32 := Scalar.subi v120 v116
  let c512_i32 : BitVec 32 := 512#32
  let v122 : BitVec 32 := Scalar.addi v121 c512_i32
  let c1_i32_46 : BitVec 32 := 1#32
  let v123 : BitVec 32 := Scalar.subi v122 c1_i32_46
  let c0_i32_48 : BitVec 32 := 0#32
  let v125 : BitVec 1 := Scalar.cmpi .sgt v123 c0_i32_48
  let v126 : BitVec 32 := Scalar.extui v125
  let c0_i32_49 : BitVec 32 := 0#32
  let v127 : BitVec 1 := Scalar.cmpi .slt v123 c0_i32_49
  let v128 : BitVec 32 := Scalar.extui v127
  let v129 : BitVec 32 := Scalar.subi v126 v128
  let c512_i32_47 : BitVec 32 := 512#32
  let c0_i32_50 : BitVec 32 := 0#32
  let v130 : BitVec 1 := Scalar.cmpi .sgt c512_i32_47 c0_i32_50
  let v131 : BitVec 32 := Scalar.extui v130
  let c0_i32_51 : BitVec 32 := 0#32
  let v132 : BitVec 1 := Scalar.cmpi .slt c512_i32_47 c0_i32_51
  let v133 : BitVec 32 := Scalar.extui v132
  let v134 : BitVec 32 := Scalar.subi v131 v133
  let v135 : BitVec 1 := Scalar.cmpi .ne v129 v134
  let v136 : BitVec 32 := Scalar.remsi v123 c512_i32_47
  let c0_i32_52 : BitVec 32 := 0#32
  let v137 : BitVec 1 := Scalar.cmpi .ne v136 c0_i32_52
  let v138 : BitVec 1 := Scalar.andi v135 v137
  let v124 : BitVec 32 := Scalar.divsi v123 c512_i32_47
  let c1_i32_53 : BitVec 32 := 1#32
  let v139 : BitVec 32 := Scalar.subi v124 c1_i32_53
  let v140 : BitVec 32 := Scalar.select v138 v139 v124
  let v141 : BitVec 32 := Scalar.subi v140 c0_i32_54
  let c1_i32_55 : BitVec 32 := 1#32
  let v143 : BitVec 32 := Scalar.divsi v141 c1_i32_55
  let v144 : BitVec 32 := Scalar.muli v143 c1_i32_55
  let v145 : BitVec 32 := Scalar.addi c0_i32_54 v144
  let v142 : BitVec 32 := Scalar.addi c0_i32_54 v141
  let c1_i32_57 : BitVec 32 := 1#32
  ⟨v145, v142, c1_i32_57⟩
def k0_mult3 (k0_t1 : Fin k0_t1_loop.trips) (v95 : BitVec 32) (k0_t3 : Fin (k0_t3_loop k0_t1 v95).trips) : BitVec 32 :=
  let c0_i32 : BitVec 32 := 0#32
  let c1_i32 : BitVec 32 := 1#32
  let arg13 : BitVec 32 := Scf.iv c0_i32 c1_i32 k0_t1
  let c256_i32_33 : BitVec 32 := 256#32
  let v96 : BitVec 32 := Scalar.muli arg13 c256_i32_33
  let c0_i32_34 : BitVec 32 := 0#32
  let v97 : BitVec 32 := Scalar.maxsi c0_i32_34 v95
  let v98 : BitVec 32 := Scalar.minsi v96 v97
  let c0_i32_35 : BitVec 32 := 0#32
  let v100 : BitVec 1 := Scalar.cmpi .sgt v98 c0_i32_35
  let v101 : BitVec 32 := Scalar.extui v100
  let c0_i32_36 : BitVec 32 := 0#32
  let v102 : BitVec 1 := Scalar.cmpi .slt v98 c0_i32_36
  let v103 : BitVec 32 := Scalar.extui v102
  let v104 : BitVec 32 := Scalar.subi v101 v103
  let c128_i32 : BitVec 32 := 128#32
  let c0_i32_37 : BitVec 32 := 0#32
  let v105 : BitVec 1 := Scalar.cmpi .sgt c128_i32 c0_i32_37
  let v106 : BitVec 32 := Scalar.extui v105
  let c0_i32_38 : BitVec 32 := 0#32
  let v107 : BitVec 1 := Scalar.cmpi .slt c128_i32 c0_i32_38
  let v108 : BitVec 32 := Scalar.extui v107
  let v109 : BitVec 32 := Scalar.subi v106 v108
  let v110 : BitVec 1 := Scalar.cmpi .ne v104 v109
  let v111 : BitVec 32 := Scalar.remsi v98 c128_i32
  let c0_i32_39 : BitVec 32 := 0#32
  let v112 : BitVec 1 := Scalar.cmpi .ne v111 c0_i32_39
  let v113 : BitVec 1 := Scalar.andi v110 v112
  let v99 : BitVec 32 := Scalar.divsi v98 c128_i32
  let c1_i32_40 : BitVec 32 := 1#32
  let v114 : BitVec 32 := Scalar.subi v99 c1_i32_40
  let v115 : BitVec 32 := Scalar.select v113 v114 v99
  let c128_i32_41 : BitVec 32 := 128#32
  let v116 : BitVec 32 := Scalar.muli v115 c128_i32_41
  let c0_i32_54 : BitVec 32 := 0#32
  let c1_i32_44 : BitVec 32 := 1#32
  let v119 : BitVec 32 := Scalar.addi arg13 c1_i32_44
  let c256_i32_45 : BitVec 32 := 256#32
  let v120 : BitVec 32 := Scalar.muli v119 c256_i32_45
  let v121 : BitVec 32 := Scalar.subi v120 v116
  let c512_i32 : BitVec 32 := 512#32
  let v122 : BitVec 32 := Scalar.addi v121 c512_i32
  let c1_i32_46 : BitVec 32 := 1#32
  let v123 : BitVec 32 := Scalar.subi v122 c1_i32_46
  let c0_i32_48 : BitVec 32 := 0#32
  let v125 : BitVec 1 := Scalar.cmpi .sgt v123 c0_i32_48
  let v126 : BitVec 32 := Scalar.extui v125
  let c0_i32_49 : BitVec 32 := 0#32
  let v127 : BitVec 1 := Scalar.cmpi .slt v123 c0_i32_49
  let v128 : BitVec 32 := Scalar.extui v127
  let v129 : BitVec 32 := Scalar.subi v126 v128
  let c512_i32_47 : BitVec 32 := 512#32
  let c0_i32_50 : BitVec 32 := 0#32
  let v130 : BitVec 1 := Scalar.cmpi .sgt c512_i32_47 c0_i32_50
  let v131 : BitVec 32 := Scalar.extui v130
  let c0_i32_51 : BitVec 32 := 0#32
  let v132 : BitVec 1 := Scalar.cmpi .slt c512_i32_47 c0_i32_51
  let v133 : BitVec 32 := Scalar.extui v132
  let v134 : BitVec 32 := Scalar.subi v131 v133
  let v135 : BitVec 1 := Scalar.cmpi .ne v129 v134
  let v136 : BitVec 32 := Scalar.remsi v123 c512_i32_47
  let c0_i32_52 : BitVec 32 := 0#32
  let v137 : BitVec 1 := Scalar.cmpi .ne v136 c0_i32_52
  let v138 : BitVec 1 := Scalar.andi v135 v137
  let v124 : BitVec 32 := Scalar.divsi v123 c512_i32_47
  let c1_i32_53 : BitVec 32 := 1#32
  let v139 : BitVec 32 := Scalar.subi v124 c1_i32_53
  let v140 : BitVec 32 := Scalar.select v138 v139 v124
  let v141 : BitVec 32 := Scalar.subi v140 c0_i32_54
  let c1_i32_55 : BitVec 32 := 1#32
  let v143 : BitVec 32 := Scalar.divsi v141 c1_i32_55
  let v144 : BitVec 32 := Scalar.muli v143 c1_i32_55
  let v145 : BitVec 32 := Scalar.addi c0_i32_54 v144
  let c1_i32_57 : BitVec 32 := 1#32
  let arg14 : BitVec 32 := Scf.iv v145 c1_i32_57 k0_t3
  let c512_i32_59 : BitVec 32 := 512#32
  let v160 : BitVec 32 := Scalar.muli arg14 c512_i32_59
  let v161 : BitVec 32 := Scalar.addi v116 v160
  let c1536_i32 : BitVec 32 := 1536#32
  let v162 : BitVec 32 := Scalar.minsi v161 c1536_i32
  v162
def k0_off10 (k0_t1 : Fin k0_t1_loop.trips) (v95 : BitVec 32) (k0_t3 : Fin (k0_t3_loop k0_t1 v95).trips) : Fin 2 → Nat :=
  let c0_i32 : BitVec 32 := 0#32
  let c1_i32 : BitVec 32 := 1#32
  let arg13 : BitVec 32 := Scf.iv c0_i32 c1_i32 k0_t1
  let c256_i32_33 : BitVec 32 := 256#32
  let v96 : BitVec 32 := Scalar.muli arg13 c256_i32_33
  let c0_i32_34 : BitVec 32 := 0#32
  let v97 : BitVec 32 := Scalar.maxsi c0_i32_34 v95
  let v98 : BitVec 32 := Scalar.minsi v96 v97
  let c0_i32_35 : BitVec 32 := 0#32
  let v100 : BitVec 1 := Scalar.cmpi .sgt v98 c0_i32_35
  let v101 : BitVec 32 := Scalar.extui v100
  let c0_i32_36 : BitVec 32 := 0#32
  let v102 : BitVec 1 := Scalar.cmpi .slt v98 c0_i32_36
  let v103 : BitVec 32 := Scalar.extui v102
  let v104 : BitVec 32 := Scalar.subi v101 v103
  let c128_i32 : BitVec 32 := 128#32
  let c0_i32_37 : BitVec 32 := 0#32
  let v105 : BitVec 1 := Scalar.cmpi .sgt c128_i32 c0_i32_37
  let v106 : BitVec 32 := Scalar.extui v105
  let c0_i32_38 : BitVec 32 := 0#32
  let v107 : BitVec 1 := Scalar.cmpi .slt c128_i32 c0_i32_38
  let v108 : BitVec 32 := Scalar.extui v107
  let v109 : BitVec 32 := Scalar.subi v106 v108
  let v110 : BitVec 1 := Scalar.cmpi .ne v104 v109
  let v111 : BitVec 32 := Scalar.remsi v98 c128_i32
  let c0_i32_39 : BitVec 32 := 0#32
  let v112 : BitVec 1 := Scalar.cmpi .ne v111 c0_i32_39
  let v113 : BitVec 1 := Scalar.andi v110 v112
  let v99 : BitVec 32 := Scalar.divsi v98 c128_i32
  let c1_i32_40 : BitVec 32 := 1#32
  let v114 : BitVec 32 := Scalar.subi v99 c1_i32_40
  let v115 : BitVec 32 := Scalar.select v113 v114 v99
  let c128_i32_41 : BitVec 32 := 128#32
  let v116 : BitVec 32 := Scalar.muli v115 c128_i32_41
  let c0_i32_54 : BitVec 32 := 0#32
  let c1_i32_44 : BitVec 32 := 1#32
  let v119 : BitVec 32 := Scalar.addi arg13 c1_i32_44
  let c256_i32_45 : BitVec 32 := 256#32
  let v120 : BitVec 32 := Scalar.muli v119 c256_i32_45
  let v121 : BitVec 32 := Scalar.subi v120 v116
  let c512_i32 : BitVec 32 := 512#32
  let v122 : BitVec 32 := Scalar.addi v121 c512_i32
  let c1_i32_46 : BitVec 32 := 1#32
  let v123 : BitVec 32 := Scalar.subi v122 c1_i32_46
  let c0_i32_48 : BitVec 32 := 0#32
  let v125 : BitVec 1 := Scalar.cmpi .sgt v123 c0_i32_48
  let v126 : BitVec 32 := Scalar.extui v125
  let c0_i32_49 : BitVec 32 := 0#32
  let v127 : BitVec 1 := Scalar.cmpi .slt v123 c0_i32_49
  let v128 : BitVec 32 := Scalar.extui v127
  let v129 : BitVec 32 := Scalar.subi v126 v128
  let c512_i32_47 : BitVec 32 := 512#32
  let c0_i32_50 : BitVec 32 := 0#32
  let v130 : BitVec 1 := Scalar.cmpi .sgt c512_i32_47 c0_i32_50
  let v131 : BitVec 32 := Scalar.extui v130
  let c0_i32_51 : BitVec 32 := 0#32
  let v132 : BitVec 1 := Scalar.cmpi .slt c512_i32_47 c0_i32_51
  let v133 : BitVec 32 := Scalar.extui v132
  let v134 : BitVec 32 := Scalar.subi v131 v133
  let v135 : BitVec 1 := Scalar.cmpi .ne v129 v134
  let v136 : BitVec 32 := Scalar.remsi v123 c512_i32_47
  let c0_i32_52 : BitVec 32 := 0#32
  let v137 : BitVec 1 := Scalar.cmpi .ne v136 c0_i32_52
  let v138 : BitVec 1 := Scalar.andi v135 v137
  let v124 : BitVec 32 := Scalar.divsi v123 c512_i32_47
  let c1_i32_53 : BitVec 32 := 1#32
  let v139 : BitVec 32 := Scalar.subi v124 c1_i32_53
  let v140 : BitVec 32 := Scalar.select v138 v139 v124
  let v141 : BitVec 32 := Scalar.subi v140 c0_i32_54
  let c1_i32_55 : BitVec 32 := 1#32
  let v143 : BitVec 32 := Scalar.divsi v141 c1_i32_55
  let v144 : BitVec 32 := Scalar.muli v143 c1_i32_55
  let v145 : BitVec 32 := Scalar.addi c0_i32_54 v144
  let c1_i32_57 : BitVec 32 := 1#32
  let arg14 : BitVec 32 := Scf.iv v145 c1_i32_57 k0_t3
  let c512_i32_59 : BitVec 32 := 512#32
  let v160 : BitVec 32 := Scalar.muli arg14 c512_i32_59
  let v161 : BitVec 32 := Scalar.addi v116 v160
  let c1536_i32 : BitVec 32 := 1536#32
  let v162 : BitVec 32 := Scalar.minsi v161 c1536_i32
  let v163 : BitVec 32 := v162
  let v164 : Index := Scalar.indexCast v163
  let c0_60 : Index := 0#32
  ![v164.toNat, 0]
def k0_off11 (k0_t1 : Fin k0_t1_loop.trips) (v95 : BitVec 32) (k0_t3 : Fin (k0_t3_loop k0_t1 v95).trips) : Fin 2 → Nat :=
  let c0_i32 : BitVec 32 := 0#32
  let c1_i32 : BitVec 32 := 1#32
  let arg13 : BitVec 32 := Scf.iv c0_i32 c1_i32 k0_t1
  let c256_i32_33 : BitVec 32 := 256#32
  let v96 : BitVec 32 := Scalar.muli arg13 c256_i32_33
  let c0_i32_34 : BitVec 32 := 0#32
  let v97 : BitVec 32 := Scalar.maxsi c0_i32_34 v95
  let v98 : BitVec 32 := Scalar.minsi v96 v97
  let c0_i32_35 : BitVec 32 := 0#32
  let v100 : BitVec 1 := Scalar.cmpi .sgt v98 c0_i32_35
  let v101 : BitVec 32 := Scalar.extui v100
  let c0_i32_36 : BitVec 32 := 0#32
  let v102 : BitVec 1 := Scalar.cmpi .slt v98 c0_i32_36
  let v103 : BitVec 32 := Scalar.extui v102
  let v104 : BitVec 32 := Scalar.subi v101 v103
  let c128_i32 : BitVec 32 := 128#32
  let c0_i32_37 : BitVec 32 := 0#32
  let v105 : BitVec 1 := Scalar.cmpi .sgt c128_i32 c0_i32_37
  let v106 : BitVec 32 := Scalar.extui v105
  let c0_i32_38 : BitVec 32 := 0#32
  let v107 : BitVec 1 := Scalar.cmpi .slt c128_i32 c0_i32_38
  let v108 : BitVec 32 := Scalar.extui v107
  let v109 : BitVec 32 := Scalar.subi v106 v108
  let v110 : BitVec 1 := Scalar.cmpi .ne v104 v109
  let v111 : BitVec 32 := Scalar.remsi v98 c128_i32
  let c0_i32_39 : BitVec 32 := 0#32
  let v112 : BitVec 1 := Scalar.cmpi .ne v111 c0_i32_39
  let v113 : BitVec 1 := Scalar.andi v110 v112
  let v99 : BitVec 32 := Scalar.divsi v98 c128_i32
  let c1_i32_40 : BitVec 32 := 1#32
  let v114 : BitVec 32 := Scalar.subi v99 c1_i32_40
  let v115 : BitVec 32 := Scalar.select v113 v114 v99
  let c128_i32_41 : BitVec 32 := 128#32
  let v116 : BitVec 32 := Scalar.muli v115 c128_i32_41
  let c0_i32_54 : BitVec 32 := 0#32
  let c1_i32_44 : BitVec 32 := 1#32
  let v119 : BitVec 32 := Scalar.addi arg13 c1_i32_44
  let c256_i32_45 : BitVec 32 := 256#32
  let v120 : BitVec 32 := Scalar.muli v119 c256_i32_45
  let v121 : BitVec 32 := Scalar.subi v120 v116
  let c512_i32 : BitVec 32 := 512#32
  let v122 : BitVec 32 := Scalar.addi v121 c512_i32
  let c1_i32_46 : BitVec 32 := 1#32
  let v123 : BitVec 32 := Scalar.subi v122 c1_i32_46
  let c0_i32_48 : BitVec 32 := 0#32
  let v125 : BitVec 1 := Scalar.cmpi .sgt v123 c0_i32_48
  let v126 : BitVec 32 := Scalar.extui v125
  let c0_i32_49 : BitVec 32 := 0#32
  let v127 : BitVec 1 := Scalar.cmpi .slt v123 c0_i32_49
  let v128 : BitVec 32 := Scalar.extui v127
  let v129 : BitVec 32 := Scalar.subi v126 v128
  let c512_i32_47 : BitVec 32 := 512#32
  let c0_i32_50 : BitVec 32 := 0#32
  let v130 : BitVec 1 := Scalar.cmpi .sgt c512_i32_47 c0_i32_50
  let v131 : BitVec 32 := Scalar.extui v130
  let c0_i32_51 : BitVec 32 := 0#32
  let v132 : BitVec 1 := Scalar.cmpi .slt c512_i32_47 c0_i32_51
  let v133 : BitVec 32 := Scalar.extui v132
  let v134 : BitVec 32 := Scalar.subi v131 v133
  let v135 : BitVec 1 := Scalar.cmpi .ne v129 v134
  let v136 : BitVec 32 := Scalar.remsi v123 c512_i32_47
  let c0_i32_52 : BitVec 32 := 0#32
  let v137 : BitVec 1 := Scalar.cmpi .ne v136 c0_i32_52
  let v138 : BitVec 1 := Scalar.andi v135 v137
  let v124 : BitVec 32 := Scalar.divsi v123 c512_i32_47
  let c1_i32_53 : BitVec 32 := 1#32
  let v139 : BitVec 32 := Scalar.subi v124 c1_i32_53
  let v140 : BitVec 32 := Scalar.select v138 v139 v124
  let v141 : BitVec 32 := Scalar.subi v140 c0_i32_54
  let c1_i32_55 : BitVec 32 := 1#32
  let v143 : BitVec 32 := Scalar.divsi v141 c1_i32_55
  let v144 : BitVec 32 := Scalar.muli v143 c1_i32_55
  let v145 : BitVec 32 := Scalar.addi c0_i32_54 v144
  let c1_i32_57 : BitVec 32 := 1#32
  let arg14 : BitVec 32 := Scf.iv v145 c1_i32_57 k0_t3
  let c512_i32_59 : BitVec 32 := 512#32
  let v160 : BitVec 32 := Scalar.muli arg14 c512_i32_59
  let v161 : BitVec 32 := Scalar.addi v116 v160
  let c1536_i32 : BitVec 32 := 1536#32
  let v162 : BitVec 32 := Scalar.minsi v161 c1536_i32
  let v163 : BitVec 32 := v162
  let v495 : Index := Scalar.indexCast v163
  let c0_147 : Index := 0#32
  ![v495.toNat, 0]
def k0_off12 (k0_t1 : Fin k0_t1_loop.trips) (v95 : BitVec 32) (k0_t3 : Fin (k0_t3_loop k0_t1 v95).trips) : Fin 2 → Nat :=
  let c0_i32 : BitVec 32 := 0#32
  let c1_i32 : BitVec 32 := 1#32
  let arg13 : BitVec 32 := Scf.iv c0_i32 c1_i32 k0_t1
  let c256_i32_33 : BitVec 32 := 256#32
  let v96 : BitVec 32 := Scalar.muli arg13 c256_i32_33
  let c0_i32_34 : BitVec 32 := 0#32
  let v97 : BitVec 32 := Scalar.maxsi c0_i32_34 v95
  let v98 : BitVec 32 := Scalar.minsi v96 v97
  let c0_i32_35 : BitVec 32 := 0#32
  let v100 : BitVec 1 := Scalar.cmpi .sgt v98 c0_i32_35
  let v101 : BitVec 32 := Scalar.extui v100
  let c0_i32_36 : BitVec 32 := 0#32
  let v102 : BitVec 1 := Scalar.cmpi .slt v98 c0_i32_36
  let v103 : BitVec 32 := Scalar.extui v102
  let v104 : BitVec 32 := Scalar.subi v101 v103
  let c128_i32 : BitVec 32 := 128#32
  let c0_i32_37 : BitVec 32 := 0#32
  let v105 : BitVec 1 := Scalar.cmpi .sgt c128_i32 c0_i32_37
  let v106 : BitVec 32 := Scalar.extui v105
  let c0_i32_38 : BitVec 32 := 0#32
  let v107 : BitVec 1 := Scalar.cmpi .slt c128_i32 c0_i32_38
  let v108 : BitVec 32 := Scalar.extui v107
  let v109 : BitVec 32 := Scalar.subi v106 v108
  let v110 : BitVec 1 := Scalar.cmpi .ne v104 v109
  let v111 : BitVec 32 := Scalar.remsi v98 c128_i32
  let c0_i32_39 : BitVec 32 := 0#32
  let v112 : BitVec 1 := Scalar.cmpi .ne v111 c0_i32_39
  let v113 : BitVec 1 := Scalar.andi v110 v112
  let v99 : BitVec 32 := Scalar.divsi v98 c128_i32
  let c1_i32_40 : BitVec 32 := 1#32
  let v114 : BitVec 32 := Scalar.subi v99 c1_i32_40
  let v115 : BitVec 32 := Scalar.select v113 v114 v99
  let c128_i32_41 : BitVec 32 := 128#32
  let v116 : BitVec 32 := Scalar.muli v115 c128_i32_41
  let c0_i32_54 : BitVec 32 := 0#32
  let c1_i32_44 : BitVec 32 := 1#32
  let v119 : BitVec 32 := Scalar.addi arg13 c1_i32_44
  let c256_i32_45 : BitVec 32 := 256#32
  let v120 : BitVec 32 := Scalar.muli v119 c256_i32_45
  let v121 : BitVec 32 := Scalar.subi v120 v116
  let c512_i32 : BitVec 32 := 512#32
  let v122 : BitVec 32 := Scalar.addi v121 c512_i32
  let c1_i32_46 : BitVec 32 := 1#32
  let v123 : BitVec 32 := Scalar.subi v122 c1_i32_46
  let c0_i32_48 : BitVec 32 := 0#32
  let v125 : BitVec 1 := Scalar.cmpi .sgt v123 c0_i32_48
  let v126 : BitVec 32 := Scalar.extui v125
  let c0_i32_49 : BitVec 32 := 0#32
  let v127 : BitVec 1 := Scalar.cmpi .slt v123 c0_i32_49
  let v128 : BitVec 32 := Scalar.extui v127
  let v129 : BitVec 32 := Scalar.subi v126 v128
  let c512_i32_47 : BitVec 32 := 512#32
  let c0_i32_50 : BitVec 32 := 0#32
  let v130 : BitVec 1 := Scalar.cmpi .sgt c512_i32_47 c0_i32_50
  let v131 : BitVec 32 := Scalar.extui v130
  let c0_i32_51 : BitVec 32 := 0#32
  let v132 : BitVec 1 := Scalar.cmpi .slt c512_i32_47 c0_i32_51
  let v133 : BitVec 32 := Scalar.extui v132
  let v134 : BitVec 32 := Scalar.subi v131 v133
  let v135 : BitVec 1 := Scalar.cmpi .ne v129 v134
  let v136 : BitVec 32 := Scalar.remsi v123 c512_i32_47
  let c0_i32_52 : BitVec 32 := 0#32
  let v137 : BitVec 1 := Scalar.cmpi .ne v136 c0_i32_52
  let v138 : BitVec 1 := Scalar.andi v135 v137
  let v124 : BitVec 32 := Scalar.divsi v123 c512_i32_47
  let c1_i32_53 : BitVec 32 := 1#32
  let v139 : BitVec 32 := Scalar.subi v124 c1_i32_53
  let v140 : BitVec 32 := Scalar.select v138 v139 v124
  let v141 : BitVec 32 := Scalar.subi v140 c0_i32_54
  let c1_i32_55 : BitVec 32 := 1#32
  let v143 : BitVec 32 := Scalar.divsi v141 c1_i32_55
  let v144 : BitVec 32 := Scalar.muli v143 c1_i32_55
  let v145 : BitVec 32 := Scalar.addi c0_i32_54 v144
  let c1_i32_57 : BitVec 32 := 1#32
  let arg14 : BitVec 32 := Scf.iv v145 c1_i32_57 k0_t3
  let c512_i32_59 : BitVec 32 := 512#32
  let v160 : BitVec 32 := Scalar.muli arg14 c512_i32_59
  let v161 : BitVec 32 := Scalar.addi v116 v160
  let c1536_i32 : BitVec 32 := 1536#32
  let v162 : BitVec 32 := Scalar.minsi v161 c1536_i32
  let v163 : BitVec 32 := v162
  let v515 : Index := Scalar.indexCast v163
  let c128_151 : Index := 128#32
  ![v515.toNat, 128]

def k0_chk1 (k0_t1 : Fin k0_t1_loop.trips) (v95 : BitVec 32) : Prop :=
  ((k0_t2_loop k0_t1 v95).OK) ∧
  (∀ k0_t2 : Fin (k0_t2_loop k0_t1 v95).trips, 128 ∣ (k0_mult2 k0_t1 v95 k0_t2).toNat) ∧
  (∀ k0_t2 : Fin (k0_t2_loop k0_t1 v95).trips, ∀ a, (k0_off7 k0_t1 v95 k0_t2) a + S512x256.size a ≤ S2048x256.size a) ∧
  (∀ k0_t2 : Fin (k0_t2_loop k0_t1 v95).trips, ∀ a, (k0_off8 k0_t1 v95 k0_t2) a + S512x128.size a ≤ S2048x256.size a) ∧
  (∀ k0_t2 : Fin (k0_t2_loop k0_t1 v95).trips, ∀ a, (k0_off9 k0_t1 v95 k0_t2) a + S512x128.size a ≤ S2048x256.size a) ∧
  ((k0_t3_loop k0_t1 v95).OK) ∧
  (∀ k0_t3 : Fin (k0_t3_loop k0_t1 v95).trips, 128 ∣ (k0_mult3 k0_t1 v95 k0_t3).toNat) ∧
  (∀ k0_t3 : Fin (k0_t3_loop k0_t1 v95).trips, ∀ a, (k0_off10 k0_t1 v95 k0_t3) a + S512x256.size a ≤ S2048x256.size a) ∧
  (∀ k0_t3 : Fin (k0_t3_loop k0_t1 v95).trips, ∀ a, (k0_off11 k0_t1 v95 k0_t3) a + S512x128.size a ≤ S2048x256.size a) ∧
  (∀ k0_t3 : Fin (k0_t3_loop k0_t1 v95).trips, ∀ a, (k0_off12 k0_t1 v95 k0_t3) a + S512x128.size a ≤ S2048x256.size a)
theorem k0_t2_ok : ∀ (k0_t1 : Fin k0_t1_loop.trips) (v95 : BitVec 32) (k0_hw1 : k0_chk1 k0_t1 v95), (k0_t2_loop k0_t1 v95).OK := fun k0_t1 v95 k0_hw1 => k0_hw1.1
theorem k0_mult2_dvd : ∀ (k0_t1 : Fin k0_t1_loop.trips) (v95 : BitVec 32) (k0_hw1 : k0_chk1 k0_t1 v95) (k0_t2 : Fin (k0_t2_loop k0_t1 v95).trips), 128 ∣ (k0_mult2 k0_t1 v95 k0_t2).toNat := fun k0_t1 v95 k0_hw1 k0_t2 => k0_hw1.2.1 k0_t2
theorem k0_off7_inb : ∀ (k0_t1 : Fin k0_t1_loop.trips) (v95 : BitVec 32) (k0_hw1 : k0_chk1 k0_t1 v95) (k0_t2 : Fin (k0_t2_loop k0_t1 v95).trips), ∀ a, (k0_off7 k0_t1 v95 k0_t2) a + S512x256.size a ≤ S2048x256.size a := fun k0_t1 v95 k0_hw1 k0_t2 => k0_hw1.2.2.1 k0_t2
theorem k0_off8_inb : ∀ (k0_t1 : Fin k0_t1_loop.trips) (v95 : BitVec 32) (k0_hw1 : k0_chk1 k0_t1 v95) (k0_t2 : Fin (k0_t2_loop k0_t1 v95).trips), ∀ a, (k0_off8 k0_t1 v95 k0_t2) a + S512x128.size a ≤ S2048x256.size a := fun k0_t1 v95 k0_hw1 k0_t2 => k0_hw1.2.2.2.1 k0_t2
theorem k0_off9_inb : ∀ (k0_t1 : Fin k0_t1_loop.trips) (v95 : BitVec 32) (k0_hw1 : k0_chk1 k0_t1 v95) (k0_t2 : Fin (k0_t2_loop k0_t1 v95).trips), ∀ a, (k0_off9 k0_t1 v95 k0_t2) a + S512x128.size a ≤ S2048x256.size a := fun k0_t1 v95 k0_hw1 k0_t2 => k0_hw1.2.2.2.2.1 k0_t2
theorem k0_t3_ok : ∀ (k0_t1 : Fin k0_t1_loop.trips) (v95 : BitVec 32) (k0_hw1 : k0_chk1 k0_t1 v95), (k0_t3_loop k0_t1 v95).OK := fun k0_t1 v95 k0_hw1 => k0_hw1.2.2.2.2.2.1
theorem k0_mult3_dvd : ∀ (k0_t1 : Fin k0_t1_loop.trips) (v95 : BitVec 32) (k0_hw1 : k0_chk1 k0_t1 v95) (k0_t3 : Fin (k0_t3_loop k0_t1 v95).trips), 128 ∣ (k0_mult3 k0_t1 v95 k0_t3).toNat := fun k0_t1 v95 k0_hw1 k0_t3 => k0_hw1.2.2.2.2.2.2.1 k0_t3
theorem k0_off10_inb : ∀ (k0_t1 : Fin k0_t1_loop.trips) (v95 : BitVec 32) (k0_hw1 : k0_chk1 k0_t1 v95) (k0_t3 : Fin (k0_t3_loop k0_t1 v95).trips), ∀ a, (k0_off10 k0_t1 v95 k0_t3) a + S512x256.size a ≤ S2048x256.size a := fun k0_t1 v95 k0_hw1 k0_t3 => k0_hw1.2.2.2.2.2.2.2.1 k0_t3
theorem k0_off11_inb : ∀ (k0_t1 : Fin k0_t1_loop.trips) (v95 : BitVec 32) (k0_hw1 : k0_chk1 k0_t1 v95) (k0_t3 : Fin (k0_t3_loop k0_t1 v95).trips), ∀ a, (k0_off11 k0_t1 v95 k0_t3) a + S512x128.size a ≤ S2048x256.size a := fun k0_t1 v95 k0_hw1 k0_t3 => k0_hw1.2.2.2.2.2.2.2.2.1 k0_t3
theorem k0_off12_inb : ∀ (k0_t1 : Fin k0_t1_loop.trips) (v95 : BitVec 32) (k0_hw1 : k0_chk1 k0_t1 v95) (k0_t3 : Fin (k0_t3_loop k0_t1 v95).trips), ∀ a, (k0_off12 k0_t1 v95 k0_t3) a + S512x128.size a ≤ S2048x256.size a := fun k0_t1 v95 k0_hw1 k0_t3 => k0_hw1.2.2.2.2.2.2.2.2.2 k0_t3

def k0_off13 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v32 : BitVec 32 := Scalar.muli arg13 c256_i32
  let v33 : BitVec 32 := v32
  let v152 : Index := Scalar.indexCast v33
  let c0_58 : Index := 0#32
  ![v152.toNat, 0]
def k0_off14 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v32 : BitVec 32 := Scalar.muli arg13 c256_i32
  let v33 : BitVec 32 := v32
  let v158 : Index := Scalar.indexCast v33
  let c128 : Index := 128#32
  ![v158.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8192x1536 : Shape := ⟨2, ![8192, 1536]⟩
abbrev S8192x512 : Shape := ⟨2, ![8192, 512]⟩
abbrev S4x2048x8x64 : Shape := ⟨4, ![4, 2048, 8, 64]⟩
abbrev S4x8x2048x2048 : Shape := ⟨4, ![4, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x64x2048 : Shape := ⟨4, ![4, 8, 64, 2048]⟩
abbrev S4x8x2048x64 : Shape := ⟨4, ![4, 8, 2048, 64]⟩

abbrev nBuf : Space → Nat
  | .hbm => 181
  | .vmem => 0
  | .smem => 0
  | _ => 0

abbrev hbmTy0_0 (i : Nat) : BufTy := match i % 128 with
  | 0 => ⟨S8192x1536, .f32⟩
  | 1 => ⟨S8192x512, .bf16⟩
  | 2 => ⟨S8192x512, .f32⟩
  | 3 => ⟨S8192x512, .f32⟩
  | 4 => ⟨S8192x512, .f32⟩
  | 5 => ⟨S4x2048x8x64, .f32⟩
  | 6 => ⟨S4x2048x8x64, .f32⟩
  | 7 => ⟨S4x2048x8x64, .f32⟩
  | 8 => ⟨S4x8x2048x2048, .f32⟩
  | 9 => ⟨S_, .f32⟩
  | 10 => ⟨S4x8x2048x2048, .f32⟩
  | 11 => ⟨S4x8x2048x2048, .f32⟩
  | 12 => ⟨S2048, .i32⟩
  | 13 => ⟨S2048x1, .i32⟩
  | 14 => ⟨S_, .i32⟩
  | 15 => ⟨S2048x1, .i32⟩
  | 16 => ⟨S2048x1, .i32⟩
  | 17 => ⟨S2048, .i32⟩
  | 18 => ⟨S1x2048, .i32⟩
  | 19 => ⟨S2048x2048, .i32⟩
  | 20 => ⟨S2048x2048, .i32⟩
  | 21 => ⟨S2048x2048, .i1⟩
  | 22 => ⟨S4x8x2048x2048, .f32⟩
  | 23 => ⟨S4x8x2048x2048, .f32⟩
  | 24 => ⟨S_, .f32⟩
  | 25 => ⟨S4x8x2048x2048, .f32⟩
  | 26 => ⟨S4x8x2048x2048, .f32⟩
  | 27 => ⟨S4x8x2048x2048, .f32⟩
  | 28 => ⟨S4x8x2048x2048, .f32⟩
  | 29 => ⟨S4x8x2048x2048, .i1⟩
  | 30 => ⟨S4x8x2048x2048, .f32⟩
  | 31 => ⟨S4x8x2048x2048, .f32⟩
  | 32 => ⟨S4x8x2048x2048, .f32⟩
  | 33 => ⟨S4x8x2048x2048, .f32⟩
  | 34 => ⟨S4x8x2048x2048, .f32⟩
  | 35 => ⟨S4x8x2048x2048, .f32⟩
  | 36 => ⟨S4x8x2048x2048, .f32⟩
  | 37 => ⟨S4x8x2048x2048, .f32⟩
  | 38 => ⟨S_, .f32⟩
  | 39 => ⟨S4x8x2048x2048, .f32⟩
  | 40 => ⟨S4x8x2048x2048, .i1⟩
  | 41 => ⟨S_, .f32⟩
  | 42 => ⟨S4x8x2048x2048, .f32⟩
  | 43 => ⟨S4x8x2048x2048, .f32⟩
  | 44 => ⟨S_, .f32⟩
  | 45 => ⟨S4x8x2048x2048, .f32⟩
  | 46 => ⟨S4x8x2048x2048, .i1⟩
  | 47 => ⟨S_, .f32⟩
  | 48 => ⟨S4x8x2048x2048, .f32⟩
  | 49 => ⟨S4x8x2048x2048, .f32⟩
  | 50 => ⟨S4x8x2048x2048, .f32⟩
  | 51 => ⟨S4x8x2048x2048, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S4x8x2048x2048, .f32⟩
  | 60 => ⟨S4x8x2048x2048, .i1⟩
  | 61 => ⟨S_, .f32⟩
  | 62 => ⟨S4x8x2048x2048, .f32⟩
  | 63 => ⟨S4x8x2048x2048, .f32⟩
  | 64 => ⟨S4x8x2048x2048, .f32⟩
  | 65 => ⟨S4x8x2048x2048, .f32⟩
  | 66 => ⟨S4x8x2048x2048, .f32⟩
  | 67 => ⟨S_, .f32⟩
  | 68 => ⟨S4x8x2048x2048, .f32⟩
  | 69 => ⟨S4x8x2048x2048, .f32⟩
  | 70 => ⟨S4x8x2048x2048, .f32⟩
  | 71 => ⟨S_, .f32⟩
  | 72 => ⟨S_, .f32⟩
  | 73 => ⟨S4x8x2048x2048, .i1⟩
  | 74 => ⟨S4x8x2048x2048, .f32⟩
  | 75 => ⟨S4x8x2048x2048, .f32⟩
  | 76 => ⟨S_, .f32⟩
  | 77 => ⟨S4x8x2048x2048, .f32⟩
  | 78 => ⟨S_, .f32⟩
  | 79 => ⟨S_, .f32⟩
  | 80 => ⟨S4x8x2048x2048, .f32⟩
  | 81 => ⟨S4x8x2048x2048, .f32⟩
  | 82 => ⟨S4x8x2048x2048, .f32⟩
  | 83 => ⟨S_, .f32⟩
  | 84 => ⟨S4x8x2048x2048, .f32⟩
  | 85 => ⟨S4x8x2048x2048, .f32⟩
  | 86 => ⟨S4x8x2048x2048, .f32⟩
  | 87 => ⟨S4x8x2048x2048, .f32⟩
  | 88 => ⟨S4x8x2048x2048, .i1⟩
  | 89 => ⟨S4x8x2048x2048, .f32⟩
  | 90 => ⟨S4x8x2048x2048, .f32⟩
  | 91 => ⟨S4x8x2048x2048, .f32⟩
  | 92 => ⟨S4x8x2048x2048, .f32⟩
  | 93 => ⟨S4x8x2048x2048, .f32⟩
  | 94 => ⟨S4x8x2048x2048, .f32⟩
  | 95 => ⟨S4x8x2048x2048, .f32⟩
  | 96 => ⟨S4x8x2048x2048, .f32⟩
  | 97 => ⟨S_, .f32⟩
  | 98 => ⟨S4x8x2048x2048, .f32⟩
  | 99 => ⟨S4x8x2048x2048, .i1⟩
  | 100 => ⟨S_, .f32⟩
  | 101 => ⟨S4x8x2048x2048, .f32⟩
  | 102 => ⟨S4x8x2048x2048, .f32⟩
  | 103 => ⟨S_, .f32⟩
  | 104 => ⟨S4x8x2048x2048, .f32⟩
  | 105 => ⟨S4x8x2048x2048, .i1⟩
  | 106 => ⟨S_, .f32⟩
  | 107 => ⟨S4x8x2048x2048, .f32⟩
  | 108 => ⟨S4x8x2048x2048, .f32⟩
  | 109 => ⟨S4x8x2048x2048, .f32⟩
  | 110 => ⟨S4x8x2048x2048, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S4x8x2048x2048, .f32⟩
  | 119 => ⟨S4x8x2048x2048, .i1⟩
  | 120 => ⟨S_, .f32⟩
  | 121 => ⟨S4x8x2048x2048, .f32⟩
  | 122 => ⟨S4x8x2048x2048, .f32⟩
  | 123 => ⟨S4x8x2048x2048, .f32⟩
  | 124 => ⟨S4x8x2048x2048, .f32⟩
  | 125 => ⟨S4x8x2048x2048, .f32⟩
  | 126 => ⟨S_, .f32⟩
  | 127 => ⟨S4x8x2048x2048, .f32⟩
  | _ => ⟨S8192x1536, .f32⟩

abbrev hbmTy0_1 (i : Nat) : BufTy := match i % 128 with
  | 0 => ⟨S4x8x2048x2048, .f32⟩
  | 1 => ⟨S4x8x2048x2048, .f32⟩
  | 2 => ⟨S4x8x2048x2048, .f32⟩
  | 3 => ⟨S4x8x2048x2048, .f32⟩
  | 4 => ⟨S_, .f32⟩
  | 5 => ⟨S_, .f32⟩
  | 6 => ⟨S4x8x2048x2048, .i1⟩
  | 7 => ⟨S4x8x2048x2048, .f32⟩
  | 8 => ⟨S4x8x2048x2048, .f32⟩
  | 9 => ⟨S_, .f32⟩
  | 10 => ⟨S4x8x2048x2048, .f32⟩
  | 11 => ⟨S4x8x64x2048, .f32⟩
  | 12 => ⟨S4x2048x8x64, .f32⟩
  | 13 => ⟨S8192x512, .f32⟩
  | 14 => ⟨S8192x512, .f32⟩
  | 15 => ⟨S4x2048x8x64, .f32⟩
  | 16 => ⟨S4x8x64x2048, .f32⟩
  | 17 => ⟨S4x8x2048x2048, .f32⟩
  | 18 => ⟨S4x8x64x2048, .f32⟩
  | 19 => ⟨S4x2048x8x64, .f32⟩
  | 20 => ⟨S_, .f32⟩
  | 21 => ⟨S4x8x2048x2048, .f32⟩
  | 22 => ⟨S4x8x2048x2048, .f32⟩
  | 23 => ⟨S4x8x2048x2048, .f32⟩
  | 24 => ⟨S4x8x2048x2048, .f32⟩
  | 25 => ⟨S4x8x2048x2048, .f32⟩
  | 26 => ⟨S4x8x2048x2048, .f32⟩
  | 27 => ⟨S4x8x2048x2048, .f32⟩
  | 28 => ⟨S_, .f32⟩
  | 29 => ⟨S_, .f32⟩
  | 30 => ⟨S4x8x2048x2048, .f32⟩
  | 31 => ⟨S4x8x2048x2048, .f32⟩
  | 32 => ⟨S_, .f32⟩
  | 33 => ⟨S4x8x2048x2048, .f32⟩
  | 34 => ⟨S4x8x2048x2048, .f32⟩
  | 35 => ⟨S4x8x2048x2048, .f32⟩
  | 36 => ⟨S4x8x2048x2048, .f32⟩
  | 37 => ⟨S4x8x2048x2048, .f32⟩
  | 38 => ⟨S4x8x2048x2048, .f32⟩
  | 39 => ⟨S4x8x2048x2048, .f32⟩
  | 40 => ⟨S_, .f32⟩
  | 41 => ⟨S4x8x2048x2048, .f32⟩
  | 42 => ⟨S4x8x2048x2048, .f32⟩
  | 43 => ⟨S4x8x2048x64, .f32⟩
  | 44 => ⟨S4x2048x8x64, .f32⟩
  | 45 => ⟨S4x8x2048x64, .f32⟩
  | 46 => ⟨S4x2048x8x64, .f32⟩
  | 47 => ⟨S8192x512, .f32⟩
  | 48 => ⟨S8192x512, .f32⟩
  | 49 => ⟨S8192x512, .f32⟩
  | 50 => ⟨S8192x512, .bf16⟩
  | 51 => ⟨S8192x512, .bf16⟩
  | 52 => ⟨S8192x512, .bf16⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v19_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v19_2 : Ref sig .tc := ⟨.hbm, 69, rfl⟩
abbrev main_v19_0 : Ref sig .tc := ⟨.hbm, 70, rfl⟩
abbrev main_cst_0 : Ref sig .tc := ⟨.hbm, 71, rfl⟩
abbrev main_call1_v0 : Ref sig .tc := ⟨.hbm, 72, rfl⟩
abbrev main_v20_1 : Ref sig .tc := ⟨.hbm, 73, rfl⟩
abbrev main_call1_v2 : Ref sig .tc := ⟨.hbm, 74, rfl⟩
abbrev main_v20_0 : Ref sig .tc := ⟨.hbm, 75, rfl⟩
abbrev main_call1_cst : Ref sig .tc := ⟨.hbm, 76, rfl⟩
abbrev main_v20_2 : Ref sig .tc := ⟨.hbm, 77, rfl⟩
abbrev main_call2_cst : Ref sig .tc := ⟨.hbm, 78, rfl⟩
abbrev main_call2_v0 : Ref sig .tc := ⟨.hbm, 79, rfl⟩
abbrev main_v21 : Ref sig .tc := ⟨.hbm, 80, rfl⟩
abbrev main_v22 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v23_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v23_2 : Ref sig .tc := ⟨.hbm, 128, rfl⟩
abbrev main_v23_0 : Ref sig .tc := ⟨.hbm, 129, rfl⟩
abbrev main_v24 : Ref sig .tc := ⟨.hbm, 130, rfl⟩
abbrev main_v25 : Ref sig .tc := ⟨.hbm, 131, rfl⟩
abbrev main_cst_1 : Ref sig .tc := ⟨.hbm, 132, rfl⟩
abbrev main_call4_v0 : Ref sig .tc := ⟨.hbm, 133, rfl⟩
abbrev main_v26_1 : Ref sig .tc := ⟨.hbm, 134, rfl⟩
abbrev main_call4_v2 : Ref sig .tc := ⟨.hbm, 135, rfl⟩
abbrev main_v26_0 : Ref sig .tc := ⟨.hbm, 136, rfl⟩
abbrev main_call4_cst : Ref sig .tc := ⟨.hbm, 137, rfl⟩
abbrev main_v26_2 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_call5_cst : Ref sig .tc := ⟨.hbm, 148, rfl⟩
abbrev main_call5_v0 : Ref sig .tc := ⟨.hbm, 149, rfl⟩
abbrev main_v36 : Ref sig .tc := ⟨.hbm, 150, rfl⟩
abbrev main_v37 : Ref sig .tc := ⟨.hbm, 151, rfl⟩
abbrev main_call6_v0 : Ref sig .tc := ⟨.hbm, 152, rfl⟩
abbrev main_call6_v1 : Ref sig .tc := ⟨.hbm, 153, rfl⟩
abbrev main_v38 : Ref sig .tc := ⟨.hbm, 154, rfl⟩
abbrev main_v39 : Ref sig .tc := ⟨.hbm, 155, rfl⟩
abbrev main_call7_cst : Ref sig .tc := ⟨.hbm, 156, rfl⟩
abbrev main_call7_v0 : Ref sig .tc := ⟨.hbm, 157, rfl⟩
abbrev main_v40 : Ref sig .tc := ⟨.hbm, 158, rfl⟩
abbrev main_v41 : Ref sig .tc := ⟨.hbm, 159, rfl⟩
abbrev main_call8_cst : Ref sig .tc := ⟨.hbm, 160, rfl⟩
abbrev main_call8_v0 : Ref sig .tc := ⟨.hbm, 161, rfl⟩
abbrev main_v42 : Ref sig .tc := ⟨.hbm, 162, rfl⟩
abbrev main_call9_v0 : Ref sig .tc := ⟨.hbm, 163, rfl⟩
abbrev main_call9_v1 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_cst_2 : Ref sig .tc := ⟨.hbm, 168, rfl⟩
abbrev main_v46 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩

abbrev nD : Nat := 1
abbrev τ : Topo := Topo.v7x

variable {F : FTy → Type} [FloatOps F]
-- ==== Kernel5.lean ====
abbrev S4x2048x1792 : Shape := ⟨3, ![4, 2048, 1792]⟩
abbrev S1x1792 : Shape := ⟨2, ![1, 1792]⟩
abbrev S1x512 : Shape := ⟨2, ![1, 512]⟩
abbrev S64x512 : Shape := ⟨2, ![64, 512]⟩
abbrev S128x512 : Shape := ⟨2, ![128, 512]⟩
abbrev S4x8x2048x64 : Shape := ⟨4, ![4, 8, 2048, 64]⟩
abbrev S8192x512 : Shape := ⟨2, ![8192, 512]⟩
abbrev S8192x1792 : Shape := ⟨2, ![8192, 1792]⟩
abbrev S512x1792 : Shape := ⟨2, ![512, 1792]⟩
abbrev S8x1792 : Shape := ⟨2, ![8, 1792]⟩
abbrev S1x8x512x64 : Shape := ⟨4, ![1, 8, 512, 64]⟩
abbrev S512x512 : Shape := ⟨2, ![512, 512]⟩
abbrev S1x1x512x64 : Shape := ⟨4, ![1, 1, 512, 64]⟩
abbrev S512x64 : Shape := ⟨2, ![512, 64]⟩
abbrev S512x128 : Shape := ⟨2, ![512, 128]⟩
abbrev S512 : Shape := ⟨1, ![512]⟩
abbrev S512x1664 : Shape := ⟨2, ![512, 1664]⟩
abbrev S512x1600 : Shape := ⟨2, ![512, 1600]⟩
abbrev S512x1536 : Shape := ⟨2, ![512, 1536]⟩
abbrev S512x192 : Shape := ⟨2, ![512, 192]⟩
abbrev S512x1024 : Shape := ⟨2, ![512, 1024]⟩
abbrev S512x256 : Shape := ⟨2, ![512, 256]⟩
abbrev S512x768 : Shape := ⟨2, ![512, 768]⟩
abbrev S512x1280 : Shape := ⟨2, ![512, 1280]⟩
abbrev S1792 : Shape := ⟨1, ![1792]⟩

abbrev nBuf : Space → Nat
  | .hbm => 32
  | .vmem => 37
  | .smem => 0
  | _ => 0

abbrev bufTy : (tb : Table) → Fin (tcTables nBuf tb) → BufTy
  | .hbm, ⟨0, _⟩ => ⟨S4x2048x1792, .f32⟩
  | .hbm, ⟨1, _⟩ => ⟨S1x1792, .f32⟩
  | .hbm, ⟨2, _⟩ => ⟨S1x512, .f32⟩
  | .hbm, ⟨3, _⟩ => ⟨S64x512, .f32⟩
  | .hbm, ⟨4, _⟩ => ⟨S1x512, .f32⟩
  | .hbm, ⟨5, _⟩ => ⟨S64x512, .f32⟩
  | .hbm, ⟨6, _⟩ => ⟨S128x512, .f32⟩
  | .hbm, ⟨7, _⟩ => ⟨S1x512, .f32⟩
  | .hbm, ⟨8, _⟩ => ⟨S1x512, .f32⟩
  | .hbm, ⟨9, _⟩ => ⟨S4x8x2048x64, .f32⟩
  | .hbm, ⟨10, _⟩ => ⟨S4x8x2048x64, .f32⟩
  | .hbm, ⟨11, _⟩ => ⟨S4x8x2048x64, .f32⟩
  | .hbm, ⟨12, _⟩ => ⟨S4x8x2048x64, .f32⟩
  | .hbm, ⟨13, _⟩ => ⟨S4x8x2048x64, .f32⟩
  | .hbm, ⟨14, _⟩ => ⟨S4x8x2048x64, .f32⟩
  | .hbm, ⟨15, _⟩ => ⟨S8192x512, .f32⟩
  | .hbm, ⟨16, _⟩ => ⟨S8192x1792, .f32⟩
  | .hbm, ⟨17, _⟩ => ⟨S64x512, .bf16⟩
  | .hbm, ⟨18, _⟩ => ⟨S64x512, .f32⟩
  | .hbm, ⟨19, _⟩ => ⟨S64x512, .bf16⟩
  | .hbm, ⟨20, _⟩ => ⟨S64x512, .f32⟩
  | .hbm, ⟨21, _⟩ => ⟨S128x512, .bf16⟩
  | .hbm, ⟨22, _⟩ => ⟨S128x512, .f32⟩
  | .hbm, ⟨23, _⟩ => ⟨S8192x1792, .bf16⟩
  | .hbm, ⟨24, _⟩ => ⟨S1x1792, .f32⟩
  | .hbm, ⟨25, _⟩ => ⟨S1x512, .f32⟩
  | .hbm, ⟨26, _⟩ => ⟨S64x512, .f32⟩
  | .hbm, ⟨27, _⟩ => ⟨S1x512, .f32⟩
  | .hbm, ⟨28, _⟩ => ⟨S64x512, .f32⟩
  | .hbm, ⟨29, _⟩ => ⟨S128x512, .f32⟩
  | .hbm, ⟨30, _⟩ => ⟨S1x512, .f32⟩
  | .hbm, ⟨31, _⟩ => ⟨S1x512, .f32⟩
  | .local _ .vmem, ⟨0, _⟩ => ⟨S512x1792, .f32⟩
  | .local _ .vmem, ⟨1, _⟩ => ⟨S512x1792, .f32⟩
  | .local _ .vmem, ⟨2, _⟩ => ⟨S8x1792, .f32⟩
  | .local _ .vmem, ⟨3, _⟩ => ⟨S8x1792, .f32⟩
  | .local _ .vmem, ⟨4, _⟩ => ⟨S1x1792, .f32⟩
  | .local _ .vmem, ⟨5, _⟩ => ⟨S1x512, .f32⟩
  | .local _ .vmem, ⟨6, _⟩ => ⟨S64x512, .f32⟩
  | .local _ .vmem, ⟨7, _⟩ => ⟨S1x512, .f32⟩
  | .local _ .vmem, ⟨8, _⟩ => ⟨S64x512, .f32⟩
  | .local _ .vmem, ⟨9, _⟩ => ⟨S128x512, .f32⟩
  | .local _ .vmem, ⟨10, _⟩ => ⟨S1x512, .f32⟩
  | .local _ .vmem, ⟨11, _⟩ => ⟨S1x512, .f32⟩
  | .local _ .vmem, ⟨12, _⟩ => ⟨S1x8x512x64, .f32⟩
  | .local _ .vmem, ⟨13, _⟩ => ⟨S1x8x512x64, .f32⟩
  | .local _ .vmem, ⟨14, _⟩ => ⟨S1x8x512x64, .f32⟩
  | .local _ .vmem, ⟨15, _⟩ => ⟨S1x8x512x64, .f32⟩
  | .local _ .vmem, ⟨16, _⟩ => ⟨S1x8x512x64, .f32⟩
  | .local _ .vmem, ⟨17, _⟩ => ⟨S1x8x512x64, .f32⟩
  | .local _ .vmem, ⟨18, _⟩ => ⟨S1x8x512x64, .f32⟩
  | .local _ .vmem, ⟨19, _⟩ => ⟨S1x8x512x64, .f32⟩
  | .local _ .vmem, ⟨20, _⟩ => ⟨S1x8x512x64, .f32⟩
  | .local _ .vmem, ⟨21, _⟩ => ⟨S1x8x512x64, .f32⟩
  | .local _ .vmem, ⟨22, _⟩ => ⟨S1x8x512x64, .f32⟩
  | .local _ .vmem, ⟨23, _⟩ => ⟨S1x8x512x64, .f32⟩
  | .local _ .vmem, ⟨24, _⟩ => ⟨S512x512, .f32⟩
  | .local _ .vmem, ⟨25, _⟩ => ⟨S512x512, .f32⟩
  | .local _ .vmem, ⟨26, _⟩ => ⟨S512x1792, .bf16⟩
  | .local _ .vmem, ⟨27, _⟩ => ⟨S512x1792, .bf16⟩
  | .local _ .vmem, ⟨28, _⟩ => ⟨S1x1792, .f32⟩
  | .local _ .vmem, ⟨29, _⟩ => ⟨S1x512, .f32⟩
  | .local _ .vmem, ⟨30, _⟩ => ⟨S64x512, .f32⟩
  | .local _ .vmem, ⟨31, _⟩ => ⟨S1x512, .f32⟩
  | .local _ .vmem, ⟨32, _⟩ => ⟨S64x512, .f32⟩
  | .local _ .vmem, ⟨33, _⟩ => ⟨S128x512, .f32⟩
  | .local _ .vmem, ⟨34, _⟩ => ⟨S1x512, .f32⟩
  | .local _ .vmem, ⟨35, _⟩ => ⟨S1x512, .f32⟩
  | .local _ .vmem, ⟨36, _⟩ => ⟨S8x1792, .f32⟩
  | _, _ => ⟨S4x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev main_v7_4 : Ref sig .tc := ⟨.hbm, 27, rfl⟩
abbrev main_v7_5 : Ref sig .tc := ⟨.hbm, 28, rfl⟩
abbrev main_v7_6 : Ref sig .tc := ⟨.hbm, 29, rfl⟩
abbrev main_v7_7 : Ref sig .tc := ⟨.hbm, 30, rfl⟩
abbrev main_v7_8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg23_0 : Ref sig .tc := ⟨.vmem, 33, rfl⟩
abbrev cc0_stg24_0 : Ref sig .tc := ⟨.vmem, 34, rfl⟩
abbrev cc0_stg25_0 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem22_0 : DmaSem sig := 32
abbrev cc0_sem23_0 : DmaSem sig := 33
abbrev cc0_sem24_0 : DmaSem sig := 34
abbrev cc0_sem25_0 : DmaSem sig := 35

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_274 : BitVec 32 := 0#32
  let v329 : BitVec 1 := Scalar.cmpi .eq arg0 c0_i32_274
  let v330 : BitVec 32 := Scalar.extui v329
  let c0_i32_275 : BitVec 32 := 0#32
  let v331 : BitVec 1 := Scalar.cmpi .ne v330 c0_i32_275
  v331

def k0_cond2 (i : grid0.Coords) : BitVec 1 :=
  let arg0 : BitVec 32 := BitVec.ofNat 32 (i 0).val
  let c0_i32_274 : BitVec 32 := 0#32
  let v329 : BitVec 1 := Scalar.cmpi .eq arg0 c0_i32_274
  let v_true : BitVec 1 := 1#1
  let v332 : BitVec 1 := Scalar.xori v329 v_true
  let v333 : BitVec 32 := Scalar.extui v332
  let c0_i32_276 : BitVec 32 := 0#32
  let v334 : BitVec 1 := Scalar.cmpi .ne v333 c0_i32_276
  v334

def k0_cond3 (i : grid0.Coords) : BitVec 1 :=
  let arg0 : BitVec 32 := BitVec.ofNat 32 (i 0).val
  let c0_i32_277 : BitVec 32 := 0#32
  let v335 : BitVec 1 := Scalar.cmpi .eq arg0 c0_i32_277
  let v336 : BitVec 32 := Scalar.extui v335
  let c0_i32_278 : BitVec 32 := 0#32
  let v337 : BitVec 1 := Scalar.cmpi .ne v336 c0_i32_278
  v337

def k0_cond4 (i : grid0.Coords) : BitVec 1 :=
  let arg0 : BitVec 32 := BitVec.ofNat 32 (i 0).val
  let c0_i32_277 : BitVec 32 := 0#32
  let v335 : BitVec 1 := Scalar.cmpi .eq arg0 c0_i32_277
  let true_279 : BitVec 1 := 1#1
  let v338 : BitVec 1 := Scalar.xori v335 true_279
  let v339 : BitVec 32 := Scalar.extui v338
  let c0_i32_280 : BitVec 32 := 0#32
  let v340 : BitVec 1 := Scalar.cmpi .ne v339 c0_i32_280
  v340

def k0_cond5 (i : grid0.Coords) : BitVec 1 :=
  let arg0 : BitVec 32 := BitVec.ofNat 32 (i 0).val
  let c0_i32_281 : BitVec 32 := 0#32
  let v341 : BitVec 1 := Scalar.cmpi .eq arg0 c0_i32_281
  let v342 : BitVec 32 := Scalar.extui v341
  let c0_i32_282 : BitVec 32 := 0#32
  let v343 : BitVec 1 := Scalar.cmpi .ne v342 c0_i32_282
  v343

def k0_cond6 (i : grid0.Coords) : BitVec 1 :=
  let arg0 : BitVec 32 := BitVec.ofNat 32 (i 0).val
  let c0_i32_281 : BitVec 32 := 0#32
  let v341 : BitVec 1 := Scalar.cmpi .eq arg0 c0_i32_281
  let true_283 : BitVec 1 := 1#1
  let v344 : BitVec 1 := Scalar.xori v341 true_283
  let v345 : BitVec 32 := Scalar.extui v344
  let c0_i32_284 : BitVec 32 := 0#32
  let v346 : BitVec 1 := Scalar.cmpi .ne v345 c0_i32_284
  v346

def k0_cond7 (i : grid0.Coords) : BitVec 1 :=
  let arg0 : BitVec 32 := BitVec.ofNat 32 (i 0).val
  let c0_i32_285 : BitVec 32 := 0#32
  let v347 : BitVec 1 := Scalar.cmpi .eq arg0 c0_i32_285
  let v348 : BitVec 32 := Scalar.extui v347
  let c0_i32_286 : BitVec 32 := 0#32
  let v349 : BitVec 1 := Scalar.cmpi .ne v348 c0_i32_286
  v349

def k0_cond8 (i : grid0.Coords) : BitVec 1 :=
  let arg0 : BitVec 32 := BitVec.ofNat 32 (i 0).val
  let c0_i32_285 : BitVec 32 := 0#32
  let v347 : BitVec 1 := Scalar.cmpi .eq arg0 c0_i32_285
  let true_287 : BitVec 1 := 1#1
  let v350 : BitVec 1 := Scalar.xori v347 true_287
  let v351 : BitVec 32 := Scalar.extui v350
  let c0_i32_288 : BitVec 32 := 0#32
  let v352 : BitVec 1 := Scalar.cmpi .ne v351 c0_i32_288
  v352

def k0_cond9 (i : grid0.Coords) : BitVec 1 :=
  let arg0 : BitVec 32 := BitVec.ofNat 32 (i 0).val
  let c0_i32_289 : BitVec 32 := 0#32
  let v353 : BitVec 1 := Scalar.cmpi .eq arg0 c0_i32_289
  let v354 : BitVec 32 := Scalar.extui v353
  let c0_i32_290 : BitVec 32 := 0#32
  let v355 : BitVec 1 := Scalar.cmpi .ne v354 c0_i32_290
  v355

def k0_cond10 (i : grid0.Coords) : BitVec 1 :=
  let arg0 : BitVec 32 := BitVec.ofNat 32 (i 0).val
  let c0_i32_289 : BitVec 32 := 0#32
  let v353 : BitVec 1 := Scalar.cmpi .eq arg0 c0_i32_289
  let true_291 : BitVec 1 := 1#1
  let v356 : BitVec 1 := Scalar.xori v353 true_291
  let v357 : BitVec 32 := Scalar.extui v356
  let c0_i32_292 : BitVec 32 := 0#32
  let v358 : BitVec 1 := Scalar.cmpi .ne v357 c0_i32_292
  v358

def k0_cond11 (i : grid0.Coords) : BitVec 1 :=
  let arg0 : BitVec 32 := BitVec.ofNat 32 (i 0).val
  let c0_i32_293 : BitVec 32 := 0#32
  let v359 : BitVec 1 := Scalar.cmpi .eq arg0 c0_i32_293
  let v360 : BitVec 32 := Scalar.extui v359
  let c0_i32_294 : BitVec 32 := 0#32
  let v361 : BitVec 1 := Scalar.cmpi .ne v360 c0_i32_294
  v361

def k0_cond12 (i : grid0.Coords) : BitVec 1 :=
  let arg0 : BitVec 32 := BitVec.ofNat 32 (i 0).val
  let c0_i32_293 : BitVec 32 := 0#32
  let v359 : BitVec 1 := Scalar.cmpi .eq arg0 c0_i32_293
  let true_295 : BitVec 1 := 1#1
  let v362 : BitVec 1 := Scalar.xori v359 true_295
  let v363 : BitVec 32 := Scalar.extui v362
  let c0_i32_296 : BitVec 32 := 0#32
  let v364 : BitVec 1 := Scalar.cmpi .ne v363 c0_i32_296
  v364

def k0_cond13 (i : grid0.Coords) : BitVec 1 :=
  let arg0 : BitVec 32 := BitVec.ofNat 32 (i 0).val
  let c0_i32_297 : BitVec 32 := 0#32
  let v365 : BitVec 1 := Scalar.cmpi .eq arg0 c0_i32_297
  let v366 : BitVec 32 := Scalar.extui v365
  let c0_i32_298 : BitVec 32 := 0#32
  let v367 : BitVec 1 := Scalar.cmpi .ne v366 c0_i32_298
  v367

def k0_cond14 (i : grid0.Coords) : BitVec 1 :=
  let arg0 : BitVec 32 := BitVec.ofNat 32 (i 0).val
  let c0_i32_297 : BitVec 32 := 0#32
  let v365 : BitVec 1 := Scalar.cmpi .eq arg0 c0_i32_297
  let true_299 : BitVec 1 := 1#1
  let v368 : BitVec 1 := Scalar.xori v365 true_299
  let v369 : BitVec 32 := Scalar.extui v368
  let c0_i32_300 : BitVec 32 := 0#32
  let v370 : BitVec 1 := Scalar.cmpi .ne v369 c0_i32_300
  v370

def k0_cond15 (i : grid0.Coords) : BitVec 1 :=
  let arg0 : BitVec 32 := BitVec.ofNat 32 (i 0).val
  let c0_i32_301 : BitVec 32 := 0#32
  let v371 : BitVec 1 := Scalar.cmpi .eq arg0 c0_i32_301
  let v372 : BitVec 32 := Scalar.extui v371
  let c0_i32_302 : BitVec 32 := 0#32
  let v373 : BitVec 1 := Scalar.cmpi .ne v372 c0_i32_302
  v373

def k0_cond16 (i : grid0.Coords) : BitVec 1 :=
  let arg0 : BitVec 32 := BitVec.ofNat 32 (i 0).val
  let c0_i32_301 : BitVec 32 := 0#32
  let v371 : BitVec 1 := Scalar.cmpi .eq arg0 c0_i32_301
  let true_303 : BitVec 1 := 1#1
  let v374 : BitVec 1 := Scalar.xori v371 true_303
  let v375 : BitVec 32 := Scalar.extui v374
  let c0_i32_304 : BitVec 32 := 0#32
  let v376 : BitVec 1 := Scalar.cmpi .ne v375 c0_i32_304
  v376

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c15_i32 : BitVec 32 := 15#32
  let v0 : BitVec 32 := Scalar.subi c15_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.subi c15_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_11 (i : grid0.Coords) : Fin 4 → Nat :=
  let arg0 : BitVec 32 := BitVec.ofNat 32 (i 0).val
  let c15_i32 : BitVec 32 := 15#32
  let v0 : BitVec 32 := Scalar.subi c15_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.subi c15_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_12 (i : grid0.Coords) : Fin 4 → Nat :=
  let arg0 : BitVec 32 := BitVec.ofNat 32 (i 0).val
  let c15_i32 : BitVec 32 := 15#32
  let v0 : BitVec 32 := Scalar.subi c15_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.subi c15_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_13 (i : grid0.Coords) : Fin 4 → Nat :=
  let arg0 : BitVec 32 := BitVec.ofNat 32 (i 0).val
  let c15_i32 : BitVec 32 := 15#32
  let v0 : BitVec 32 := Scalar.subi c15_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.subi c15_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_14 (i : grid0.Coords) : Fin 4 → Nat :=
  let arg0 : BitVec 32 := BitVec.ofNat 32 (i 0).val
  let c15_i32 : BitVec 32 := 15#32
  let v0 : BitVec 32 := Scalar.subi c15_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.subi c15_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_15 (i : grid0.Coords) : Fin 4 → Nat :=
  let arg0 : BitVec 32 := BitVec.ofNat 32 (i 0).val
  let c15_i32 : BitVec 32 := 15#32
  let v0 : BitVec 32 := Scalar.subi c15_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.subi c15_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x8x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x512x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1792 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1792 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== Reference5Ideal.lean ====
abbrev S4x2048x1792 : Shape := ⟨3, ![4, 2048, 1792]⟩
abbrev S1x1792 : Shape := ⟨2, ![1, 1792]⟩
abbrev S1x512 : Shape := ⟨2, ![1, 512]⟩
abbrev S64x512 : Shape := ⟨2, ![64, 512]⟩
abbrev S128x512 : Shape := ⟨2, ![128, 512]⟩
abbrev S4x8x2048x64 : Shape := ⟨4, ![4, 8, 2048, 64]⟩
abbrev S8192x512 : Shape := ⟨2, ![8192, 512]⟩
abbrev S4x1x1792 : Shape := ⟨3, ![4, 1, 1792]⟩
abbrev S_ : Shape := ⟨0, ![]⟩
abbrev S4x2047x1792 : Shape := ⟨3, ![4, 2047, 1792]⟩
abbrev S1x1x1792 : Shape := ⟨3, ![1, 1, 1792]⟩
abbrev S4x2048x512 : Shape := ⟨3, ![4, 2048, 512]⟩
abbrev S4x2048x64 : Shape := ⟨3, ![4, 2048, 64]⟩
abbrev S4x2048x128 : Shape := ⟨3, ![4, 2048, 128]⟩
abbrev S1x1x512 : Shape := ⟨3, ![1, 1, 512]⟩
abbrev S4x2048x8x64 : Shape := ⟨4, ![4, 2048, 8, 64]⟩
abbrev S512 : Shape := ⟨1, ![512]⟩
abbrev S512x128 : Shape := ⟨2, ![512, 128]⟩
abbrev S512x64 : Shape := ⟨2, ![512, 64]⟩
abbrev S1792 : Shape := ⟨1, ![1792]⟩
abbrev S8192x1792 : Shape := ⟨2, ![8192, 1792]⟩

abbrev nBuf : Space → Nat
  | .hbm => 253
  | .vmem => 0
  | .smem => 0
  | _ => 0

abbrev hbmTy0_0 (i : Nat) : BufTy := match i % 128 with
  | 0 => ⟨S4x2048x1792, .f32⟩
  | 1 => ⟨S1x1792, .f32⟩
  | 2 => ⟨S1x512, .f32⟩
  | 3 => ⟨S64x512, .f32⟩
  | 4 => ⟨S1x512, .f32⟩
  | 5 => ⟨S64x512, .f32⟩
  | 6 => ⟨S128x512, .f32⟩
  | 7 => ⟨S1x512, .f32⟩
  | 8 => ⟨S1x512, .f32⟩
  | 9 => ⟨S4x8x2048x64, .f32⟩
  | 10 => ⟨S4x8x2048x64, .f32⟩
  | 11 => ⟨S4x8x2048x64, .f32⟩
  | 12 => ⟨S4x8x2048x64, .f32⟩
  | 13 => ⟨S4x8x2048x64, .f32⟩
  | 14 => ⟨S4x8x2048x64, .f32⟩
  | 15 => ⟨S8192x512, .f32⟩
  | 16 => ⟨S4x1x1792, .f32⟩
  | 17 => ⟨S_, .f32⟩
  | 18 => ⟨S4x1x1792, .f32⟩
  | 19 => ⟨S4x2047x1792, .f32⟩
  | 20 => ⟨S4x2048x1792, .f32⟩
  | 21 => ⟨S_, .f32⟩
  | 22 => ⟨S4x1x1792, .f32⟩
  | 23 => ⟨S4x2048x1792, .f32⟩
  | 24 => ⟨S1x1x1792, .f32⟩
  | 25 => ⟨S4x2048x1792, .f32⟩
  | 26 => ⟨S4x2048x1792, .f32⟩
  | 27 => ⟨S4x2048x1792, .f32⟩
  | 28 => ⟨S4x2048x512, .f32⟩
  | 29 => ⟨S4x2048x512, .f32⟩
  | 30 => ⟨S4x2048x512, .f32⟩
  | 31 => ⟨S4x2048x64, .f32⟩
  | 32 => ⟨S4x2048x64, .f32⟩
  | 33 => ⟨S4x2048x128, .f32⟩
  | 34 => ⟨S4x2048x64, .f32⟩
  | 35 => ⟨S_, .f32⟩
  | 36 => ⟨S4x2048x64, .f32⟩
  | 37 => ⟨S4x2048x64, .f32⟩
  | 38 => ⟨S_, .f32⟩
  | 39 => ⟨S4x2048x64, .f32⟩
  | 40 => ⟨S4x2048x64, .f32⟩
  | 41 => ⟨S4x2048x64, .f32⟩
  | 42 => ⟨S4x2048x512, .f32⟩
  | 43 => ⟨S1x1x512, .f32⟩
  | 44 => ⟨S4x2048x512, .f32⟩
  | 45 => ⟨S4x2048x512, .f32⟩
  | 46 => ⟨S4x2048x512, .f32⟩
  | 47 => ⟨S_, .f32⟩
  | 48 => ⟨S4x2048x512, .f32⟩
  | 49 => ⟨S4x2048x512, .f32⟩
  | 50 => ⟨S4x2048x512, .f32⟩
  | 51 => ⟨S4x2048x512, .f32⟩
  | 52 => ⟨S4x2048x512, .i1⟩
  | 53 => ⟨S4x2048x512, .f32⟩
  | 54 => ⟨S4x2048x512, .f32⟩
  | 55 => ⟨S4x2048x512, .f32⟩
  | 56 => ⟨S4x2048x512, .f32⟩
  | 57 => ⟨S4x2048x512, .f32⟩
  | 58 => ⟨S4x2048x512, .f32⟩
  | 59 => ⟨S4x2048x512, .f32⟩
  | 60 => ⟨S4x2048x512, .f32⟩
  | 61 => ⟨S_, .f32⟩
  | 62 => ⟨S4x2048x512, .f32⟩
  | 63 => ⟨S4x2048x512, .i1⟩
  | 64 => ⟨S_, .f32⟩
  | 65 => ⟨S4x2048x512, .f32⟩
  | 66 => ⟨S4x2048x512, .f32⟩
  | 67 => ⟨S_, .f32⟩
  | 68 => ⟨S4x2048x512, .f32⟩
  | 69 => ⟨S4x2048x512, .i1⟩
  | 70 => ⟨S_, .f32⟩
  | 71 => ⟨S4x2048x512, .f32⟩
  | 72 => ⟨S4x2048x512, .f32⟩
  | 73 => ⟨S4x2048x512, .f32⟩
  | 74 => ⟨S4x2048x512, .f32⟩
  | 75 => ⟨S_, .f32⟩
  | 76 => ⟨S_, .f32⟩
  | 77 => ⟨S_, .i1⟩
  | 78 => ⟨S_, .f32⟩
  | 79 => ⟨S_, .f32⟩
  | 80 => ⟨S_, .f32⟩
  | 81 => ⟨S_, .f32⟩
  | 82 => ⟨S4x2048x512, .f32⟩
  | 83 => ⟨S4x2048x512, .i1⟩
  | 84 => ⟨S_, .f32⟩
  | 85 => ⟨S4x2048x512, .f32⟩
  | 86 => ⟨S4x2048x512, .f32⟩
  | 87 => ⟨S4x2048x512, .f32⟩
  | 88 => ⟨S4x2048x512, .f32⟩
  | 89 => ⟨S4x2048x512, .f32⟩
  | 90 => ⟨S_, .f32⟩
  | 91 => ⟨S4x2048x512, .f32⟩
  | 92 => ⟨S4x2048x512, .f32⟩
  | 93 => ⟨S4x2048x512, .f32⟩
  | 94 => ⟨S_, .f32⟩
  | 95 => ⟨S4x2048x512, .f32⟩
  | 96 => ⟨S4x2048x512, .f32⟩
  | 97 => ⟨S4x2048x512, .f32⟩
  | 98 => ⟨S4x2048x512, .f32⟩
  | 99 => ⟨S4x2048x512, .f32⟩
  | 100 => ⟨S1x1x512, .f32⟩
  | 101 => ⟨S4x2048x512, .f32⟩
  | 102 => ⟨S4x2048x512, .f32⟩
  | 103 => ⟨S4x2048x512, .f32⟩
  | 104 => ⟨S4x2048x512, .f32⟩
  | 105 => ⟨S_, .f32⟩
  | 106 => ⟨S4x2048x512, .f32⟩
  | 107 => ⟨S4x2048x512, .f32⟩
  | 108 => ⟨S_, .f32⟩
  | 109 => ⟨S4x2048x512, .f32⟩
  | 110 => ⟨S4x2048x512, .f32⟩
  | 111 => ⟨S_, .f32⟩
  | 112 => ⟨S4x2048x512, .f32⟩
  | 113 => ⟨S4x2048x512, .f32⟩
  | 114 => ⟨S4x2048x512, .f32⟩
  | 115 => ⟨S4x2048x128, .f32⟩
  | 116 => ⟨S4x2048x128, .f32⟩
  | 117 => ⟨S_, .f32⟩
  | 118 => ⟨S4x2048x128, .f32⟩
  | 119 => ⟨S4x2048x128, .f32⟩
  | 120 => ⟨S_, .f32⟩
  | 121 => ⟨S4x2048x128, .f32⟩
  | 122 => ⟨S4x2048x128, .f32⟩
  | 123 => ⟨S_, .f32⟩
  | 124 => ⟨S4x2048x128, .f32⟩
  | 125 => ⟨S4x2048x128, .f32⟩
  | 126 => ⟨S4x2048x128, .f32⟩
  | 127 => ⟨S4x2048x512, .f32⟩
  | _ => ⟨S4x2048x1792, .f32⟩

abbrev hbmTy0_1 (i : Nat) : BufTy := match i % 128 with
  | 0 => ⟨S1x1x512, .f32⟩
  | 1 => ⟨S4x2048x512, .f32⟩
  | 2 => ⟨S4x2048x512, .f32⟩
  | 3 => ⟨S_, .f32⟩
  | 4 => ⟨S4x2048x512, .f32⟩
  | 5 => ⟨S4x2048x512, .f32⟩
  | 6 => ⟨S1x1x512, .f32⟩
  | 7 => ⟨S4x2048x512, .f32⟩
  | 8 => ⟨S4x2048x512, .f32⟩
  | 9 => ⟨S_, .f32⟩
  | 10 => ⟨S4x2048x512, .f32⟩
  | 11 => ⟨S4x2048x512, .f32⟩
  | 12 => ⟨S4x2048x512, .f32⟩
  | 13 => ⟨S4x2048x8x64, .f32⟩
  | 14 => ⟨S4x8x2048x64, .f32⟩
  | 15 => ⟨S4x2048x8x64, .f32⟩
  | 16 => ⟨S4x8x2048x64, .f32⟩
  | 17 => ⟨S4x2048x8x64, .f32⟩
  | 18 => ⟨S4x8x2048x64, .f32⟩
  | 19 => ⟨S4x2048x8x64, .f32⟩
  | 20 => ⟨S4x8x2048x64, .f32⟩
  | 21 => ⟨S4x2048x8x64, .f32⟩
  | 22 => ⟨S4x8x2048x64, .f32⟩
  | 23 => ⟨S4x2048x8x64, .f32⟩
  | 24 => ⟨S4x8x2048x64, .f32⟩
  | 25 => ⟨S8192x512, .f32⟩
  | 26 => ⟨S4x2048x512, .f32⟩
  | 27 => ⟨S4x2048x8x64, .f32⟩
  | 28 => ⟨S4x2048x512, .f32⟩
  | 29 => ⟨S4x2048x8x64, .f32⟩
  | 30 => ⟨S4x2048x512, .f32⟩
  | 31 => ⟨S4x2048x8x64, .f32⟩
  | 32 => ⟨S4x2048x512, .f32⟩
  | 33 => ⟨S4x2048x8x64, .f32⟩
  | 34 => ⟨S4x2048x512, .f32⟩
  | 35 => ⟨S4x2048x8x64, .f32⟩
  | 36 => ⟨S4x2048x512, .f32⟩
  | 37 => ⟨S4x2048x8x64, .f32⟩
  | 38 => ⟨S4x2048x512, .f32⟩
  | 39 => ⟨S4x2048x512, .f32⟩
  | 40 => ⟨S4x2048x512, .f32⟩
  | 41 => ⟨S4x2048x512, .f32⟩
  | 42 => ⟨S_, .f32⟩
  | 43 => ⟨S512, .f32⟩
  | 44 => ⟨S1x1x512, .f32⟩
  | 45 => ⟨S4x2048x512, .f32⟩
  | 46 => ⟨S4x2048x512, .f32⟩
  | 47 => ⟨S4x2048x512, .f32⟩
  | 48 => ⟨S_, .f32⟩
  | 49 => ⟨S512, .f32⟩
  | 50 => ⟨S1x512, .f32⟩
  | 51 => ⟨S4x2048x512, .f32⟩
  | 52 => ⟨S_, .f32⟩
  | 53 => ⟨S512, .f32⟩
  | 54 => ⟨S1x1x512, .f32⟩
  | 55 => ⟨S4x2048x512, .f32⟩
  | 56 => ⟨S4x2048x512, .f32⟩
  | 57 => ⟨S4x2048x512, .f32⟩
  | 58 => ⟨S_, .f32⟩
  | 59 => ⟨S512, .f32⟩
  | 60 => ⟨S1x512, .f32⟩
  | 61 => ⟨S512x128, .f32⟩
  | 62 => ⟨S128x512, .f32⟩
  | 63 => ⟨S4x2048x128, .f32⟩
  | 64 => ⟨S4x2048x128, .f32⟩
  | 65 => ⟨S4x2048x512, .f32⟩
  | 66 => ⟨S_, .f32⟩
  | 67 => ⟨S512, .f32⟩
  | 68 => ⟨S1x1x512, .f32⟩
  | 69 => ⟨S_, .f32⟩
  | 70 => ⟨S512, .f32⟩
  | 71 => ⟨S1x512, .f32⟩
  | 72 => ⟨S512x64, .f32⟩
  | 73 => ⟨S64x512, .f32⟩
  | 74 => ⟨S4x2048x64, .f32⟩
  | 75 => ⟨S4x2048x512, .f32⟩
  | 76 => ⟨S4x2048x512, .f32⟩
  | 77 => ⟨S4x2048x512, .f32⟩
  | 78 => ⟨S4x2048x512, .f32⟩
  | 79 => ⟨S4x2048x512, .f32⟩
  | 80 => ⟨S_, .f32⟩
  | 81 => ⟨S512, .f32⟩
  | 82 => ⟨S1x1x512, .f32⟩
  | 83 => ⟨S_, .f32⟩
  | 84 => ⟨S512, .f32⟩
  | 85 => ⟨S1x512, .f32⟩
  | 86 => ⟨S512x64, .f32⟩
  | 87 => ⟨S64x512, .f32⟩
  | 88 => ⟨S4x2048x64, .f32⟩
  | 89 => ⟨S4x2048x64, .f32⟩
  | 90 => ⟨S_, .f32⟩
  | 91 => ⟨S4x2048x1792, .f32⟩
  | 92 => ⟨S_, .f32⟩
  | 93 => ⟨S4x2048x1792, .f32⟩
  | 94 => ⟨S4x2048x1792, .f32⟩
  | 95 => ⟨S_, .f32⟩
  | 96 => ⟨S4x2048x1792, .f32⟩
  | 97 => ⟨S4x2048x1792, .f32⟩
  | 98 => ⟨S_, .f32⟩
  | 99 => ⟨S4x2048x1792, .f32⟩
  | 100 => ⟨S4x2048x1792, .f32⟩
  | 101 => ⟨S_, .f32⟩
  | 102 => ⟨S4x2048x1792, .f32⟩
  | 103 => ⟨S4x2048x1792, .f32⟩
  | 104 => ⟨S_, .f32⟩
  | 105 => ⟨S4x2048x1792, .f32⟩
  | 106 => ⟨S4x2048x1792, .f32⟩
  | 107 => ⟨S4x2048x1792, .f32⟩
  | 108 => ⟨S_, .f32⟩
  | 109 => ⟨S1792, .f32⟩
  | 110 => ⟨S1x1x1792, .f32⟩
  | 111 => ⟨S4x2048x1792, .f32⟩
  | 112 => ⟨S4x2048x1792, .f32⟩
  | 113 => ⟨S_, .f32⟩
  | 114 => ⟨S1792, .f32⟩
  | 115 => ⟨S1x1792, .f32⟩
  | 116 => ⟨S4x2048x1792, .f32⟩
  | 117 => ⟨S4x2048x1792, .f32⟩
  | 118 => ⟨S4x1x1792, .f32⟩
  | 119 => ⟨S4x2047x1792, .f32⟩
  | 120 => ⟨S_, .f32⟩
  | 121 => ⟨S4x2048x1792, .f32⟩
  | 122 => ⟨S4x2048x1792, .f32⟩
  | 123 => ⟨S8192x1792, .f32⟩
  | 124 => ⟨S8192x1792, .bf16⟩
  | _ => ⟨S4x2048x1792, .f32⟩

abbrev hbmTy (i : Nat) : BufTy := match i / 128 with
  | 0 => hbmTy0_0 i
  | 1 => hbmTy0_1 i
  | _ => ⟨S4x2048x1792, .f32⟩

abbrev bufTy : (tb : Table) → Fin (tcTables nBuf tb) → BufTy
  | .hbm, ⟨i, _⟩ => hbmTy i
  | _, _ => ⟨S4x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_v27_0 : Ref sig .tc := ⟨.hbm, 60, rfl⟩
abbrev main_call0_cst_0 : Ref sig .tc := ⟨.hbm, 61, rfl⟩
abbrev main_call0_v13 : Ref sig .tc := ⟨.hbm, 62, rfl⟩
abbrev main_call0_v14 : Ref sig .tc := ⟨.hbm, 63, rfl⟩
abbrev main_call0_cst_1 : Ref sig .tc := ⟨.hbm, 64, rfl⟩
abbrev main_call0_v15 : Ref sig .tc := ⟨.hbm, 65, rfl⟩
abbrev main_call0_v16 : Ref sig .tc := ⟨.hbm, 66, rfl⟩
abbrev main_call0_cst_2 : Ref sig .tc := ⟨.hbm, 67, rfl⟩
abbrev main_call0_v17 : Ref sig .tc := ⟨.hbm, 68, rfl⟩
abbrev main_call0_v18 : Ref sig .tc := ⟨.hbm, 69, rfl⟩
abbrev main_call0_cst_3 : Ref sig .tc := ⟨.hbm, 70, rfl⟩
abbrev main_call0_v19 : Ref sig .tc := ⟨.hbm, 71, rfl⟩
abbrev main_call0_v20 : Ref sig .tc := ⟨.hbm, 72, rfl⟩
abbrev main_call0_v21 : Ref sig .tc := ⟨.hbm, 73, rfl⟩
abbrev main_v27_1 : Ref sig .tc := ⟨.hbm, 74, rfl⟩
abbrev main_call0_cst_4 : Ref sig .tc := ⟨.hbm, 75, rfl⟩
abbrev main_call0_cst_5 : Ref sig .tc := ⟨.hbm, 76, rfl⟩
abbrev main_call0_v23 : Ref sig .tc := ⟨.hbm, 77, rfl⟩
abbrev main_call0_cst_6 : Ref sig .tc := ⟨.hbm, 78, rfl⟩
abbrev main_call0_cst_7 : Ref sig .tc := ⟨.hbm, 79, rfl⟩
abbrev main_call0_v24 : Ref sig .tc := ⟨.hbm, 80, rfl⟩
abbrev main_call0_cst_8 : Ref sig .tc := ⟨.hbm, 81, rfl⟩
abbrev main_call0_v25 : Ref sig .tc := ⟨.hbm, 82, rfl⟩
abbrev main_call0_v26 : Ref sig .tc := ⟨.hbm, 83, rfl⟩
abbrev main_call0_cst_9 : Ref sig .tc := ⟨.hbm, 84, rfl⟩
abbrev main_call0_v27 : Ref sig .tc := ⟨.hbm, 85, rfl⟩
abbrev main_call0_v28 : Ref sig .tc := ⟨.hbm, 86, rfl⟩
abbrev main_call0_v29 : Ref sig .tc := ⟨.hbm, 87, rfl⟩
abbrev main_call0_v30 : Ref sig .tc := ⟨.hbm, 88, rfl⟩
abbrev main_call0_v31 : Ref sig .tc := ⟨.hbm, 89, rfl⟩
abbrev main_call0_cst_10 : Ref sig .tc := ⟨.hbm, 90, rfl⟩
abbrev main_call0_v32 : Ref sig .tc := ⟨.hbm, 91, rfl⟩
abbrev main_v27_2 : Ref sig .tc := ⟨.hbm, 92, rfl⟩
abbrev main_v28 : Ref sig .tc := ⟨.hbm, 93, rfl⟩
abbrev main_cst_3 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_cst_4 : Ref sig .tc := ⟨.hbm, 105, rfl⟩
abbrev main_v39 : Ref sig .tc := ⟨.hbm, 106, rfl⟩
abbrev main_v40 : Ref sig .tc := ⟨.hbm, 107, rfl⟩
abbrev main_cst_5 : Ref sig .tc := ⟨.hbm, 108, rfl⟩
abbrev main_v41 : Ref sig .tc := ⟨.hbm, 109, rfl⟩
abbrev main_v42 : Ref sig .tc := ⟨.hbm, 110, rfl⟩
abbrev main_cst_6 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_cst_7 : Ref sig .tc := ⟨.hbm, 117, rfl⟩
abbrev main_v48 : Ref sig .tc := ⟨.hbm, 118, rfl⟩
abbrev main_v49 : Ref sig .tc := ⟨.hbm, 119, rfl⟩
abbrev main_cst_8 : Ref sig .tc := ⟨.hbm, 120, rfl⟩
abbrev main_v50 : Ref sig .tc := ⟨.hbm, 121, rfl⟩
abbrev main_v51 : Ref sig .tc := ⟨.hbm, 122, rfl⟩
abbrev main_cst_9 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_cst_10 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_cst_11 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_cst_12 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_cst_13 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_cst_14 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_cst_15 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_cst_16 : Ref sig .tc := ⟨.hbm, 194, rfl⟩
abbrev main_v116 : Ref sig .tc := ⟨.hbm, 195, rfl⟩
abbrev main_v117 : Ref sig .tc := ⟨.hbm, 196, rfl⟩
abbrev main_cst_17 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_18 : Ref sig .tc := ⟨.hbm, 208, rfl⟩
abbrev main_v128 : Ref sig .tc := ⟨.hbm, 209, rfl⟩
abbrev main_v129 : Ref sig .tc := ⟨.hbm, 210, rfl⟩
abbrev main_cst_19 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_cst_20 : Ref sig .tc := ⟨.hbm, 218, rfl⟩
abbrev main_v136 : Ref sig .tc := ⟨.hbm, 219, rfl⟩
abbrev main_cst_21 : Ref sig .tc := ⟨.hbm, 220, rfl⟩
abbrev main_v137 : Ref sig .tc := ⟨.hbm, 221, rfl⟩
abbrev main_v138 : Ref sig .tc := ⟨.hbm, 222, rfl⟩
abbrev main_cst_22 : Ref sig .tc := ⟨.hbm, 223, rfl⟩
abbrev main_v139 : Ref sig .tc := ⟨.hbm, 224, rfl⟩
abbrev main_v140 : Ref sig .tc := ⟨.hbm, 225, rfl⟩
abbrev main_cst_23 : Ref sig .tc := ⟨.hbm, 226, rfl⟩
abbrev main_v141 : Ref sig .tc := ⟨.hbm, 227, rfl⟩
abbrev main_v142 : Ref sig .tc := ⟨.hbm, 228, rfl⟩
abbrev main_cst_24 : Ref sig .tc := ⟨.hbm, 229, rfl⟩
abbrev main_v143 : Ref sig .tc := ⟨.hbm, 230, rfl⟩
abbrev main_v144 : Ref sig .tc := ⟨.hbm, 231, rfl⟩
abbrev main_cst_25 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_cst_26 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_27 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_cst_28 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩

abbrev nD : Nat := 1
abbrev τ : Topo := Topo.v7x

variable {F : FTy → Type} [FloatOps F]
-- ==== Proof.SbTrip.lean ====
module

public import proofs.«01_k».proof.Proof.Gen.Kernel4Ideal.Loops
public import proofs.«01_k».proof.Proof.Gen.Kernel4Ideal.Launch
public import Idealize.ShloMosaic.Lib.Exec
public import Idealize.ShloMosaic.Lib.Tactic

@[expose] public section

set_option maxRecDepth 8192
set_option maxHeartbeats 4000000

noncomputable section

/-! One block of query rows of the attention's backward body: the run of one trip of the outer loop. -/

namespace Cert.Kernel4Ideal.Sb

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The program calls no label. -/
abbrev 𝒱₀ : Variants := Variants.none

/-- The side condition of the loops' bounds, at the table's word zero. -/
theorem chk_zero : ∀ k : Fin k0_t1_loop.trips, k0_chk1 k 0#32 := by decide +kernel

/-- What a trip holds: the table and the five operands at their contents, the query gradient's window and the two
    accumulators at any. -/
abbrev Held (c : Dev nD) (arg2 : Memref sig .tc .smem S8x8 .i32) (arg3 : Memref sig .tc .vmem S2048x256 .bf16) (arg4 : Memref sig .tc .vmem S2048x256 .bf16) (arg5 : Memref sig .tc .vmem S2048x256 .bf16) (arg6 : Memref sig .tc .vmem S2048x256 .bf16) (arg7 : Memref sig .tc .vmem S1x4x2048x1 .f32) (arg8 : Memref sig .tc .vmem S2048x256 .bf16) (arg9 : Memref sig .tc .vmem S2048x256 .bf16) (arg10 : Memref sig .tc .vmem S2048x256 .bf16) (arg11 : Memref sig .tc .vmem S2048x256 .f32) (arg12 : Memref sig .tc .vmem S2048x256 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f11 : BufTy.Contents (Elt F) arg11.view.ty) (f12 : BufTy.Contents (Elt F) arg12.view.ty) : sProp 𝕄G :=
  iprop((arg2.view.loc (c : Thread nD τ) ↦{fullShare.right} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12))

/-- The table's word read at trip `k` is zero. -/
abbrev ZeroWords (i : grid0.Coords) (arg2 : Memref sig .tc .smem S8x8 .i32) (X2 : BufTy.Contents (Elt F) arg2.view.ty) : Prop :=
  ∀ (k : Fin k0_t1_loop.trips) (x), (arg2.access (Rect.unit (s := S8x8) (k0_off6 i k) S1x1.size (k0_off6_inb i k)) : View sig .tc _ _ _).read (Elt F) X2 x = (0#32 : BitVec 32)

@[irreducible] def trip (c : Dev nD) (i : grid0.Coords) (arg2 : Memref sig .tc .smem S8x8 .i32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x4x2048x1 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .f32) (harg11 : arg11.IsWhole) (arg12 : Memref sig .tc .vmem S2048x256 .f32) (harg12 : arg12.IsWhole) (v1 : BitVec 32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hz : ZeroWords (F := F) i arg2 X2) (k : Fin k0_t1_loop.trips) :
    Σ' (L8 : BufTy.Contents (Elt F) arg11.view.ty → BufTy.Contents (Elt F) arg12.view.ty → List (View.Piece (Elt F) S2048x256 .bf16)) (L11 : BufTy.Contents (Elt F) arg11.view.ty → BufTy.Contents (Elt F) arg12.view.ty → List (View.Piece (Elt F) S2048x256 .f32)), { L12 : BufTy.Contents (Elt F) arg11.view.ty → BufTy.Contents (Elt F) arg12.view.ty → List (View.Piece (Elt F) S2048x256 .f32) // ∀ (E : Set ℕ) (f8 : BufTy.Contents (Elt F) arg8.view.ty) (f11 : BufTy.Contents (Elt F) arg11.view.ty) (f12 : BufTy.Contents (Elt F) arg12.view.ty),
      Held (F := F) c arg2 arg3 arg4 arg5 arg6 arg7 arg8 arg9 arg10 arg11 arg12 X2 X3 X4 X5 X6 X7 f8 f11 f12
      ⊢ wp frame (wpE (defs₀ (F := F)) 𝒱₀ (c : Thread nD τ) none) E (k0_t1_body (F := F) i arg2 harg2 arg3 harg3 arg4 harg4 arg5 harg5 arg6 harg6 arg7 harg7 arg8 harg8 arg9 harg9 arg10 harg10 arg11 harg11 arg12 harg12 v1 k ())
          (fun _ => Held (F := F) c arg2 arg3 arg4 arg5 arg6 arg7 arg8 arg9 arg10 arg11 arg12 X2 X3 X4 X5 X6 X7 (arg8.view.writes (Elt F) f8 (L8 f11 f12)) (arg11.view.writes (Elt F) f11 (L11 f11 f12)) (arg12.view.writes (Elt F) f12 (L12 f11 f12))) } := by
  have hc := chk_zero k
  refine ⟨?_, ?_, ?_, fun E f8 f11 f12 => ?run⟩
  case run =>
    unfold k0_t1_body
    iintro ⟨H2, H3, H4, H5, H6, H7, H8, H11, H12⟩
    sl_exec
    have hw : trip.sl.r_10 i arg2 X2 k = 0#32 := hz k _
    rw [hw]
    sl_exec
    sl_step
    sl_close

end Cert.Kernel4Ideal.Sb
-- ==== Proof.SbRun.lean ====
module

public import proofs.«01_k».proof.Proof.SbTrip

@[expose] public section

set_option maxRecDepth 8192
set_option maxHeartbeats 4000000

noncomputable section

/-! The attention's backward body at one grid point: the outer loop by its invariant, then the whole body. -/

namespace Cert.Kernel4Ideal.Sb

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords) (arg2 : Memref sig .tc .smem S8x8 .i32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x4x2048x1 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .f32) (harg11 : arg11.IsWhole) (arg12 : Memref sig .tc .vmem S2048x256 .f32) (harg12 : arg12.IsWhole) (v1 : BitVec 32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)

/-- The pieces written before trip `k` into the query gradient's window and the two accumulators, last first, from the
    accumulators' contents `G11`, `G12`. -/
def pieces (hz : ZeroWords (F := F) i arg2 X2) (G11 : BufTy.Contents (Elt F) arg11.view.ty) (G12 : BufTy.Contents (Elt F) arg12.view.ty) : ℕ → List (View.Piece (Elt F) S2048x256 .bf16) × List (View.Piece (Elt F) S2048x256 .f32) × List (View.Piece (Elt F) S2048x256 .f32)
  | 0 => ([], [], [])
  | k + 1 =>
    let s := pieces hz G11 G12 k
    if h : k < k0_t1_loop.trips then
      ((trip (F := F) c i arg2 harg2 arg3 harg3 arg4 harg4 arg5 harg5 arg6 harg6 arg7 harg7 arg8 harg8 arg9 harg9 arg10 harg10 arg11 harg11 arg12 harg12 v1 X2 X3 X4 X5 X6 X7 hz ⟨k, h⟩).1 (arg11.view.writes (Elt F) G11 s.2.1) (arg12.view.writes (Elt F) G12 s.2.2) ++ s.1,
       (trip (F := F) c i arg2 harg2 arg3 harg3 arg4 harg4 arg5 harg5 arg6 harg6 arg7 harg7 arg8 harg8 arg9 harg9 arg10 harg10 arg11 harg11 arg12 harg12 v1 X2 X3 X4 X5 X6 X7 hz ⟨k, h⟩).2.1 (arg11.view.writes (Elt F) G11 s.2.1) (arg12.view.writes (Elt F) G12 s.2.2) ++ s.2.1,
       (trip (F := F) c i arg2 harg2 arg3 harg3 arg4 harg4 arg5 harg5 arg6 harg6 arg7 harg7 arg8 harg8 arg9 harg9 arg10 harg10 arg11 harg11 arg12 harg12 v1 X2 X3 X4 X5 X6 X7 hz ⟨k, h⟩).2.2.1 (arg11.view.writes (Elt F) G11 s.2.1) (arg12.view.writes (Elt F) G12 s.2.2) ++ s.2.2)
    else s

theorem pieces_succ (hz : ZeroWords (F := F) i arg2 X2) (G11 : BufTy.Contents (Elt F) arg11.view.ty) (G12 : BufTy.Contents (Elt F) arg12.view.ty) (k : Fin k0_t1_loop.trips) :
    pieces (F := F) c i arg2 harg2 arg3 harg3 arg4 harg4 arg5 harg5 arg6 harg6 arg7 harg7 arg8 harg8 arg9 harg9 arg10 harg10 arg11 harg11 arg12 harg12 v1 X2 X3 X4 X5 X6 X7 hz G11 G12 (k.val + 1) =
      ((trip (F := F) c i arg2 harg2 arg3 harg3 arg4 harg4 arg5 harg5 arg6 harg6 arg7 harg7 arg8 harg8 arg9 harg9 arg10 harg10 arg11 harg11 arg12 harg12 v1 X2 X3 X4 X5 X6 X7 hz k).1 (arg11.view.writes (Elt F) G11 (pieces (F := F) c i arg2 harg2 arg3 harg3 arg4 harg4 arg5 harg5 arg6 harg6 arg7 harg7 arg8 harg8 arg9 harg9 arg10 harg10 arg11 harg11 arg12 harg12 v1 X2 X3 X4 X5 X6 X7 hz G11 G12 k.val).2.1) (arg12.view.writes (Elt F) G12 (pieces (F := F) c i arg2 harg2 arg3 harg3 arg4 harg4 arg5 harg5 arg6 harg6 arg7 harg7 arg8 harg8 arg9 harg9 arg10 harg10 arg11 harg11 arg12 harg12 v1 X2 X3 X4 X5 X6 X7 hz G11 G12 k.val).2.2) ++ (pieces (F := F) c i arg2 harg2 arg3 harg3 arg4 harg4 arg5 harg5 arg6 harg6 arg7 harg7 arg8 harg8 arg9 harg9 arg10 harg10 arg11 harg11 arg12 harg12 v1 X2 X3 X4 X5 X6 X7 hz G11 G12 k.val).1,
       (trip (F := F) c i arg2 harg2 arg3 harg3 arg4 harg4 arg5 harg5 arg6 harg6 arg7 harg7 arg8 harg8 arg9 harg9 arg10 harg10 arg11 harg11 arg12 harg12 v1 X2 X3 X4 X5 X6 X7 hz k).2.1 (arg11.view.writes (Elt F) G11 (pieces (F := F) c i arg2 harg2 arg3 harg3 arg4 harg4 arg5 harg5 arg6 harg6 arg7 harg7 arg8 harg8 arg9 harg9 arg10 harg10 arg11 harg11 arg12 harg12 v1 X2 X3 X4 X5 X6 X7 hz G11 G12 k.val).2.1) (arg12.view.writes (Elt F) G12 (pieces (F := F) c i arg2 harg2 arg3 harg3 arg4 harg4 arg5 harg5 arg6 harg6 arg7 harg7 arg8 harg8 arg9 harg9 arg10 harg10 arg11 harg11 arg12 harg12 v1 X2 X3 X4 X5 X6 X7 hz G11 G12 k.val).2.2) ++ (pieces (F := F) c i arg2 harg2 arg3 harg3 arg4 harg4 arg5 harg5 arg6 harg6 arg7 harg7 arg8 harg8 arg9 harg9 arg10 harg10 arg11 harg11 arg12 harg12 v1 X2 X3 X4 X5 X6 X7 hz G11 G12 k.val).2.1,
       (trip (F := F) c i arg2 harg2 arg3 harg3 arg4 harg4 arg5 harg5 arg6 harg6 arg7 harg7 arg8 harg8 arg9 harg9 arg10 harg10 arg11 harg11 arg12 harg12 v1 X2 X3 X4 X5 X6 X7 hz k).2.2.1 (arg11.view.writes (Elt F) G11 (pieces (F := F) c i arg2 harg2 arg3 harg3 arg4 harg4 arg5 harg5 arg6 harg6 arg7 harg7 arg8 harg8 arg9 harg9 arg10 harg10 arg11 harg11 arg12 harg12 v1 X2 X3 X4 X5 X6 X7 hz G11 G12 k.val).2.1) (arg12.view.writes (Elt F) G12 (pieces (F := F) c i arg2 harg2 arg3 harg3 arg4 harg4 arg5 harg5 arg6 harg6 arg7 harg7 arg8 harg8 arg9 harg9 arg10 harg10 arg11 harg11 arg12 harg12 v1 X2 X3 X4 X5 X6 X7 hz G11 G12 k.val).2.2) ++ (pieces (F := F) c i arg2 harg2 arg3 harg3 arg4 harg4 arg5 harg5 arg6 harg6 arg7 harg7 arg8 harg8 arg9 harg9 arg10 harg10 arg11 harg11 arg12 harg12 v1 X2 X3 X4 X5 X6 X7 hz G11 G12 k.val).2.2) := by
  rw [pieces]; exact dif_pos k.isLt

/-- The outer loop's invariant: the table and operands as they are, each written memref at the pieces of the trips before. -/
abbrev inv (hz : ZeroWords (F := F) i arg2 X2) (G8 : BufTy.Contents (Elt F) arg8.view.ty) (G11 : BufTy.Contents (Elt F) arg11.view.ty) (G12 : BufTy.Contents (Elt F) arg12.view.ty) (k : ℕ) (_ : Unit) : sProp 𝕄G :=
  iprop((arg2.view.loc (c : Thread nD τ) ↦{fullShare.right} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (∃ f, (arg8.view.loc (c : Thread nD τ) ↦[arg8.view.set]{fullShare} f) ∗ ⌜f = arg8.view.writes (Elt F) G8 (pieces (F := F) c i arg2 harg2 arg3 harg3 arg4 harg4 arg5 harg5 arg6 harg6 arg7 harg7 arg8 harg8 arg9 harg9 arg10 harg10 arg11 harg11 arg12 harg12 v1 X2 X3 X4 X5 X6 X7 hz G11 G12 k).1⌝)
    ∗ (∃ f, (arg11.view.loc (c : Thread nD τ) ↦[arg11.view.set]{fullShare} f) ∗ ⌜f = arg11.view.writes (Elt F) G11 (pieces (F := F) c i arg2 harg2 arg3 harg3 arg4 harg4 arg5 harg5 arg6 harg6 arg7 harg7 arg8 harg8 arg9 harg9 arg10 harg10 arg11 harg11 arg12 harg12 v1 X2 X3 X4 X5 X6 X7 hz G11 G12 k).2.1⌝)
    ∗ (∃ f, (arg12.view.loc (c : Thread nD τ) ↦[arg12.view.set]{fullShare} f) ∗ ⌜f = arg12.view.writes (Elt F) G12 (pieces (F := F) c i arg2 harg2 arg3 harg3 arg4 harg4 arg5 harg5 arg6 harg6 arg7 harg7 arg8 harg8 arg9 harg9 arg10 harg10 arg11 harg11 arg12 harg12 v1 X2 X3 X4 X5 X6 X7 hz G11 G12 k).2.2⌝))

set_option warn.classDefReducibility false in
/-- The outer loop by its invariant. -/
@[sl_loop] def loopInv (hz : ZeroWords (F := F) i arg2 X2) (E : Set ℕ) (G8 : BufTy.Contents (Elt F) arg8.view.ty) (G11 : BufTy.Contents (Elt F) arg11.view.ty) (G12 : BufTy.Contents (Elt F) arg12.view.ty) :
    LoopInvTy_k0_t1 (F := F) Unit ℕ (UR sig nD τ) ℕ 𝒱₀ c none E i arg2 harg2 arg3 harg3 arg4 harg4 arg5 harg5 arg6 harg6 arg7 harg7 arg8 harg8 arg9 harg9 arg10 harg10 arg11 harg11 arg12 harg12 v1 where
  inv := inv (F := F) c i arg2 harg2 arg3 harg3 arg4 harg4 arg5 harg5 arg6 harg6 arg7 harg7 arg8 harg8 arg9 harg9 arg10 harg10 arg11 harg11 arg12 harg12 v1 X2 X3 X4 X5 X6 X7 hz G8 G11 G12
  step k acc := by
    iintro ⟨H2, H3, H4, H5, H6, H7, ⟨%f8, H8, %h8⟩, ⟨%f11, H11, %h11⟩, ⟨%f12, H12, %h12⟩⟩
    iapply (wp_wand_r Idealize.ShloMosaic.frame (wpE (defs₀ (F := F)) 𝒱₀ (c : Thread nD τ) none) E)
    isplitl [H2 H3 H4 H5 H6 H7 H8 H11 H12]
    · iapply ((trip (F := F) c i arg2 harg2 arg3 harg3 arg4 harg4 arg5 harg5 arg6 harg6 arg7 harg7 arg8 harg8 arg9 harg9 arg10 harg10 arg11 harg11 arg12 harg12 v1 X2 X3 X4 X5 X6 X7 hz k).2.2.2 E f8 f11 f12)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H11]; · iexact H11
      iexact H12
    · iintro %yld ⟨H2, H3, H4, H5, H6, H7, H8, H11, H12⟩
      isplitl [H2]; · iexact H2
      isplitl [H3]; · iexact H3
      isplitl [H4]; · iexact H4
      isplitl [H5]; · iexact H5
      isplitl [H6]; · iexact H6
      isplitl [H7]; · iexact H7
      simp only [pieces_succ]
      isplitl [H8]
      · iexists _; isplitl [H8]; · iexact H8
        ipureintro; rw [h8, h11, h12, ← View.writes_append]
      isplitl [H11]
      · iexists _; isplitl [H11]; · iexact H11
        ipureintro; rw [h11, h12, ← View.writes_append]
      iexists _; isplitl [H12]; · iexact H12
      ipureintro; rw [h11, h12, ← View.writes_append]

/-- The body's run at a grid point: what it leaves in the three windows, as pieces over what it finds. -/
@[irreducible] def run (hz : ZeroWords (F := F) i arg2 X2) :
    Σ' (L8 : BufTy.Contents (Elt F) arg11.view.ty → BufTy.Contents (Elt F) arg12.view.ty → List (View.Piece (Elt F) S2048x256 .bf16)) (L9 : BufTy.Contents (Elt F) arg11.view.ty → BufTy.Contents (Elt F) arg12.view.ty → List (View.Piece (Elt F) S2048x256 .bf16)), { L10 : BufTy.Contents (Elt F) arg11.view.ty → BufTy.Contents (Elt F) arg12.view.ty → List (View.Piece (Elt F) S2048x256 .bf16) // ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
      (iprop((arg2.view.loc (c : Thread nD τ) ↦{fullShare.right} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄G)
      ⊢ wp frame (wpE (defs₀ (F := F)) 𝒱₀ (c : Thread nD τ) none) E (cc0_sb_bwd_skel (F := F) i arg2 harg2 arg3 harg3 arg4 harg4 arg5 harg5 arg6 harg6 arg7 harg7 arg8 harg8 arg9 harg9 arg10 harg10 arg11 harg11 arg12 harg12)
          (fun _ => iprop((arg2.view.loc (c : Thread nD τ) ↦{fullShare.right} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} (arg8.view.writes (Elt F) f8 (L8 f11 f12))) ∗ (arg9.view.loc (c : Thread nD τ) ↦[arg9.view.set]{fullShare} (arg9.view.writes (Elt F) f9 (L9 f11 f12))) ∗ (arg10.view.loc (c : Thread nD τ) ↦[arg10.view.set]{fullShare} (arg10.view.writes (Elt F) f10 (L10 f11 f12))) ∗ (∃ f, (arg11.view.loc (c : Thread nD τ) ↦[arg11.view.set]{fullShare} f)) ∗ (∃ f, (arg12.view.loc (c : Thread nD τ) ↦[arg12.view.set]{fullShare} f)))) } := by
  refine ⟨?_, ?_, ?_, fun E f8 f9 f10 f11 f12 => ?run⟩
  case run =>
    unfold cc0_sb_bwd_skel
    iintro ⟨H2, H3, H4, H5, H6, H7, H8, H9, H10, H11, H12⟩
    sl_exec
    sl_step
    sl_close

theorem off13 : ∀ k, k0_off13 k 0 = 256 * k.val ∧ k0_off13 k 1 = 0 := by decide +kernel
theorem off14 : ∀ k, k0_off14 k 0 = 256 * k.val ∧ k0_off14 k 1 = 128 := by decide +kernel

/-- A trip writes its own 256 rows of the first window. -/
theorem trip_covers (hz : ZeroWords (F := F) i arg2 X2) (k : Fin k0_t1_loop.trips) (f11 : BufTy.Contents (Elt F) arg11.view.ty) (f12 : BufTy.Contents (Elt F) arg12.view.ty) (y : S2048x256.Idx) (h : 256 * k.val ≤ (y 0).val) (h' : (y 0).val < 256 * (k.val + 1)) :
    ∃ p ∈ (trip (F := F) c i arg2 harg2 arg3 harg3 arg4 harg4 arg5 harg5 arg6 harg6 arg7 harg7 arg8 harg8 arg9 harg9 arg10 harg10 arg11 harg11 arg12 harg12 v1 X2 X3 X4 X5 X6 X7 hz k).1 f11 f12, y ∈ p.1.set := by
  unfold trip; dsimp only
  have e13 := off13 k
  have e14 := off14 k
  have hy : (y 1).val < 256 := (y 1).isLt
  by_cases hc : (y 1).val < 128
  · refine ⟨_, List.mem_cons_of_mem _ (List.mem_cons_self ..), (Rect.mem_set_unit (inb := k0_off13_inb k)).mpr (Fin.forall_fin_two.mpr ?_)⟩
    refine ⟨⟨by omega, ?_⟩, ⟨by omega, ?_⟩⟩
    · show (y 0).val < k0_off13 k 0 + 256; omega
    · show (y 1).val < k0_off13 k 1 + 128; omega
  · refine ⟨_, List.mem_cons_self .., (Rect.mem_set_unit (inb := k0_off14_inb k)).mpr (Fin.forall_fin_two.mpr ?_)⟩
    refine ⟨⟨by omega, ?_⟩, ⟨by omega, ?_⟩⟩
    · show (y 0).val < k0_off14 k 0 + 256; omega
    · show (y 1).val < k0_off14 k 1 + 128; omega

/-- The first `n` trips write the first `256 n` rows of the first window. -/
theorem pieces_cover (hz : ZeroWords (F := F) i arg2 X2) (G11 : BufTy.Contents (Elt F) arg11.view.ty) (G12 : BufTy.Contents (Elt F) arg12.view.ty) : ∀ (n : ℕ), n ≤ 8 → ∀ y : S2048x256.Idx, (y 0).val < 256 * n →
    ∃ p ∈ (pieces (F := F) c i arg2 harg2 arg3 harg3 arg4 harg4 arg5 harg5 arg6 harg6 arg7 harg7 arg8 harg8 arg9 harg9 arg10 harg10 arg11 harg11 arg12 harg12 v1 X2 X3 X4 X5 X6 X7 hz G11 G12 n).1, y ∈ p.1.set
  | 0, _, y, h => absurd h (by omega)
  | n + 1, hn, y, h => by
    have e := pieces_succ (F := F) c i arg2 harg2 arg3 harg3 arg4 harg4 arg5 harg5 arg6 harg6 arg7 harg7 arg8 harg8 arg9 harg9 arg10 harg10 arg11 harg11 arg12 harg12 v1 X2 X3 X4 X5 X6 X7 hz G11 G12 ⟨n, hn⟩
    rw [e]
    by_cases hc : (y 0).val < 256 * n
    · obtain ⟨p, hp, hy⟩ := pieces_cover hz G11 G12 n (by omega) y hc
      exact ⟨p, List.mem_append_right _ hp, hy⟩
    · obtain ⟨p, hp, hy⟩ := trip_covers (F := F) c i arg2 harg2 arg3 harg3 arg4 harg4 arg5 harg5 arg6 harg6 arg7 harg7 arg8 harg8 arg9 harg9 arg10 harg10 arg11 harg11 arg12 harg12 v1 X2 X3 X4 X5 X6 X7 hz ⟨n, hn⟩ _ _ y (by simp only; omega) (by simp only; omega)
      exact ⟨p, List.mem_append_left _ hp, hy⟩

end Cert.Kernel4Ideal.Sb
-- ==== Proof.SbFrame.lean ====
module

public import proofs.«01_k».proof.Proof.SbRun
public import Idealize.ShloMosaic.Lib.Pipeline.Frame
public import Idealize.ShloMosaic.Lib.Ring
public import Idealize.ShloMosaic.Lib.Pipeline.FrameBody

@[expose] public section

set_option maxRecDepth 8192
set_option maxHeartbeats 4000000

noncomputable section

/-! The attention's backward call: its pipeline at the zero table, its blocks, the body's obligation, the launch. -/

namespace Cert.Kernel4Ideal.Sb

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The table of blocks to skip: none. -/
def tbl : pre0.Contents (Elt F) := fun | ⟨0, _⟩ => fun _ => (0#32 : BitVec 32) | ⟨_ + 1, h⟩ => absurd h (Nat.not_lt.2 (Nat.le_add_left _ _))

/-- The table admits the pipeline, and the pipeline at it. -/
abbrev adm : (pcfg0 (F := F)).Adm := ⟨tbl, trivial⟩
abbrev cfgM : Pipeline.Cfg sig Λ₀ := cfg0 (adm (F := F))

/-- The table as the body is handed it. -/
abbrev tbM : Memref sig .tc .smem S8x8 .i32 := Memref.whole main_v21

theorem PhiT_eq (c : Dev nD) : (Pipeline.ΦT pre0 (tbl (F := F)) c : sProp 𝕄) = iprop(tbM.view.loc (c : Thread nD τ) ↦{fullShare.right} (tbl (F := F) 0)) := by
  unfold Pipeline.ΦT Pipeline.prefHeld
  rw [show (Finset.univ : Finset (Fin 1)) = {(0 : Fin 1)} from by decide, bigSep_singleton]
  rfl

theorem zeroWords (i : grid0.Coords) : ZeroWords (F := F) i tbM (tbl (F := F) 0) := fun _ _ => rfl

/-- The host's operations before the region, stretch by stretch. -/
abbrev stretches : List (List (HloOp τ sig (Elt F))) := [hostOps0, hostOps0_1, hostOps0_2, hostOps0_3, hostOps0_4]

variable (m : (ℓ : Loc nD τ sig) → Buf (Elt F) ℓ) (ρ : Dev nD → PrngReg)

/-- Core `c`'s buffers when the region is entered. -/
abbrev V (c : Dev nD) (b : Ref sig .tc) : Buf (Elt F) ((c : Thread nD τ).loc b) := StableHlo.after (stretches (F := F)).flatten (fun b => m (c, b)) b

theorem stretches_fresh : (stretches : List (List (HloOp τ sig (Elt F)))).Forall fun ops => ops.Forall fun op => op.fresh = ∅ := by
  simp only [stretches, List.Forall]; repeat' constructor

theorem hmain : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches
    ⟨hostOps0_sub, hostOps0_1_sub, hostOps0_2_sub, hostOps0_3_sub, hostOps0_4_sub⟩ stretches_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- The host's zero table is the pinned one. -/
theorem V_table (c : Dev nD) : V m c main_v21 = (fun _ => (0#32 : BitVec 32)) := by
  simp only [V, stretches, hostOps0, hostOps0_1, hostOps0_2, hostOps0_3, hostOps0_4, List.flatten_cons, List.flatten_nil, List.append_nil, List.cons_append, List.nil_append]
  after_results
  rfl

/-- Window `w`'s block at point `t`, read off its array as the region finds it. -/
def iblk (c : Dev nD) (w : Fin (cfgM (F := F)).W) (t : Fin (cfgM (F := F)).N) : (((cfgM (F := F)).win w).xblock ((cfgM (F := F)).grid.coords t)).Idx → Elt F ((cfgM (F := F)).win w).elt :=
  (((cfgM (F := F)).win w).blk t).view.read (Elt F) (V m c (Pipeline.arrRef spec0 w))

abbrev ms0 (t : Fin (cfgM (F := F)).N) : Memref sig .tc .vmem S2048x256 .bf16 := spec0_0.stage ((cfgM (F := F)).slots t 0)
abbrev hs0 (t : Fin (cfgM (F := F)).N) : (ms0 t).IsWhole := hstage0_0 (((cfgM (F := F)).slots t 0).cast nbuf0_0)

abbrev ms1 (t : Fin (cfgM (F := F)).N) : Memref sig .tc .vmem S2048x256 .bf16 := spec0_1.stage ((cfgM (F := F)).slots t 1)
abbrev hs1 (t : Fin (cfgM (F := F)).N) : (ms1 t).IsWhole := hstage0_1 (((cfgM (F := F)).slots t 1).cast nbuf0_1)

abbrev ms2 (t : Fin (cfgM (F := F)).N) : Memref sig .tc .vmem S2048x256 .bf16 := spec0_2.stage ((cfgM (F := F)).slots t 2)
abbrev hs2 (t : Fin (cfgM (F := F)).N) : (ms2 t).IsWhole := hstage0_2 (((cfgM (F := F)).slots t 2).cast nbuf0_2)

abbrev ms3 (t : Fin (cfgM (F := F)).N) : Memref sig .tc .vmem S2048x256 .bf16 := spec0_3.stage ((cfgM (F := F)).slots t 3)
abbrev hs3 (t : Fin (cfgM (F := F)).N) : (ms3 t).IsWhole := hstage0_3 (((cfgM (F := F)).slots t 3).cast nbuf0_3)

abbrev ms4 (t : Fin (cfgM (F := F)).N) : Memref sig .tc .vmem S1x4x2048x1 .f32 := spec0_4.stage ((cfgM (F := F)).slots t 4)
abbrev hs4 (t : Fin (cfgM (F := F)).N) : (ms4 t).IsWhole := hstage0_4 (((cfgM (F := F)).slots t 4).cast nbuf0_4)

abbrev ms5 (t : Fin (cfgM (F := F)).N) : Memref sig .tc .vmem S2048x256 .bf16 := spec0_5.stage ((cfgM (F := F)).slots t 5)
abbrev hs5 (t : Fin (cfgM (F := F)).N) : (ms5 t).IsWhole := hstage0_5 (((cfgM (F := F)).slots t 5).cast nbuf0_5)

abbrev ms6 (t : Fin (cfgM (F := F)).N) : Memref sig .tc .vmem S2048x256 .bf16 := spec0_6.stage ((cfgM (F := F)).slots t 6)
abbrev hs6 (t : Fin (cfgM (F := F)).N) : (ms6 t).IsWhole := hstage0_6 (((cfgM (F := F)).slots t 6).cast nbuf0_6)

abbrev ms7 (t : Fin (cfgM (F := F)).N) : Memref sig .tc .vmem S2048x256 .bf16 := spec0_7.stage ((cfgM (F := F)).slots t 7)
abbrev hs7 (t : Fin (cfgM (F := F)).N) : (ms7 t).IsWhole := hstage0_7 (((cfgM (F := F)).slots t 7).cast nbuf0_7)

abbrev sc0 : Memref sig .tc .vmem S2048x256 .f32 := Memref.whole cc0_scratch0
abbrev sc1 : Memref sig .tc .vmem S2048x256 .f32 := Memref.whole cc0_scratch1

/-- The body's run at point `t`. -/
abbrev runAt (c : Dev nD) (t : Fin (cfgM (F := F)).N) :=
  run (F := F) c (grid0.coords t) tbM (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (tbl (F := F) 0) ((hs0 t).unread (iblk m c 0 t)) ((hs1 t).unread (iblk m c 1 t)) ((hs2 t).unread (iblk m c 2 t)) ((hs3 t).unread (iblk m c 3 t)) ((hs4 t).unread (iblk m c 4 t)) (zeroWords _)

/-- What the body leaves in window 5. -/
def out5 (c : Dev nD) (t : Fin (cfgM (F := F)).N) : Vec F S2048x256 .bf16 :=
  (ms5 t).view.read (Elt F) ((ms5 t).view.writes (Elt F) (ms5 t).view.junk ((runAt m c t).1 (k0_pay4 (F := F)) (k0_pay5 (F := F))))

/-- What the body leaves in window 6. -/
def out6 (c : Dev nD) (t : Fin (cfgM (F := F)).N) : Vec F S2048x256 .bf16 :=
  (ms6 t).view.read (Elt F) ((ms6 t).view.writes (Elt F) (ms6 t).view.junk ((runAt m c t).2.1 (k0_pay4 (F := F)) (k0_pay5 (F := F))))

/-- What the body leaves in window 7. -/
def out7 (c : Dev nD) (t : Fin (cfgM (F := F)).N) : Vec F S2048x256 .bf16 :=
  (ms7 t).view.read (Elt F) ((ms7 t).view.writes (Elt F) (ms7 t).view.junk ((runAt m c t).2.2.1 (k0_pay4 (F := F)) (k0_pay5 (F := F))))

def dats (_ : Fin 1) (c : Dev nD) : Dat τ (Elt F) Unit ℕ (UR sig nD τ) ℕ (cfgM (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
    | ⟨7, _⟩ => out7 m c t
  Φ _ := iprop(Pipeline.ΦA spec0 c ∗ Pipeline.ΦT pre0 (tbl (F := F)) c)
  q w := Pipeline.shareOf spec0 w
  owed _ := 0

theorem A_eq (c : Dev nD) (w : Fin (cfgM (F := F)).W) : (dats m 0 c).A w = V m c (Pipeline.arrRef spec0 w) := by
  dsimp only [dats]

theorem after_0 (c : Dev nD) (t : Fin (cfgM (F := F)).N) : (dats m 0 c).after 0 t = iblk m c 0 t := by dsimp only [dats]; try rfl

theorem after_1 (c : Dev nD) (t : Fin (cfgM (F := F)).N) : (dats m 0 c).after 1 t = iblk m c 1 t := by dsimp only [dats]; try rfl

theorem after_2 (c : Dev nD) (t : Fin (cfgM (F := F)).N) : (dats m 0 c).after 2 t = iblk m c 2 t := by dsimp only [dats]; try rfl

theorem after_3 (c : Dev nD) (t : Fin (cfgM (F := F)).N) : (dats m 0 c).after 3 t = iblk m c 3 t := by dsimp only [dats]; try rfl

theorem after_4 (c : Dev nD) (t : Fin (cfgM (F := F)).N) : (dats m 0 c).after 4 t = iblk m c 4 t := by dsimp only [dats]; try rfl

theorem after_5 (c : Dev nD) (t : Fin (cfgM (F := F)).N) : (dats m 0 c).after 5 t = out5 m c t := by dsimp only [dats]; try rfl

theorem after_6 (c : Dev nD) (t : Fin (cfgM (F := F)).N) : (dats m 0 c).after 6 t = out6 m c t := by dsimp only [dats]; try rfl

theorem after_7 (c : Dev nD) (t : Fin (cfgM (F := F)).N) : (dats m 0 c).after 7 t = out7 m c t := by dsimp only [dats]; try rfl

theorem before_0 (c : Dev nD) (t : Fin (cfgM (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

theorem before_1 (c : Dev nD) (t : Fin (cfgM (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

theorem before_2 (c : Dev nD) (t : Fin (cfgM (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem before_3 (c : Dev nD) (t : Fin (cfgM (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

theorem before_4 (c : Dev nD) (t : Fin (cfgM (F := F)).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem run_free_5 (c : Dev nD) (t : Fin (cfgM (F := F)).N) (f11 f12) : (runAt m c t).1 f11 f12 = (runAt m c t).1 (k0_pay4 (F := F)) (k0_pay5 (F := F)) := by
  unfold runAt run; dsimp only

theorem run_free_6 (c : Dev nD) (t : Fin (cfgM (F := F)).N) (f11 f12) : (runAt m c t).2.1 f11 f12 = (runAt m c t).2.1 (k0_pay4 (F := F)) (k0_pay5 (F := F)) := by
  unfold runAt run; dsimp only

theorem run_free_7 (c : Dev nD) (t : Fin (cfgM (F := F)).N) (f11 f12) : (runAt m c t).2.2.1 f11 f12 = (runAt m c t).2.2.1 (k0_pay4 (F := F)) (k0_pay5 (F := F)) := by
  unfold runAt run; dsimp only

theorem cover_5 (c : Dev nD) (t : Fin (cfgM (F := F)).N) (f11 f12) (y : S2048x256.Idx) : ∃ p ∈ (runAt m c t).1 f11 f12, y ∈ p.1.set := by
  unfold runAt run; dsimp only
  exact pieces_cover (F := F) _ _ _ _ _ _ _ _ _ _ _ _ _ _ _ _ _ _ _ _ _ _ _ _ _ _ _ _ _ _ _ _ _ _ 8 le_rfl y (y 0).isLt

theorem cover_6 (c : Dev nD) (t : Fin (cfgM (F := F)).N) (f11 f12) (y : S2048x256.Idx) : ∃ p ∈ (runAt m c t).2.1 f11 f12, y ∈ p.1.set := by
  unfold runAt run; dsimp only
  exact View.cover_of_tiledL _ S2048x256.size (by sl_kernel_rfl) y

theorem cover_7 (c : Dev nD) (t : Fin (cfgM (F := F)).N) (f11 f12) (y : S2048x256.Idx) : ∃ p ∈ (runAt m c t).2.2.1 f11 f12, y ∈ p.1.set := by
  unfold runAt run; dsimp only
  exact View.cover_of_tiledL _ S2048x256.size (by sl_kernel_rfl) y

/-- The body at point `t`, of the windows' staged memrefs. -/
def bodyM (t : Fin (cfgM (F := F)).N) :=
  cc0_sb_bwd (F := F) (grid0.coords t) tbM (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _)

theorem pt0 (c : Dev nD) (f) : (((c : Thread nD τ).loc cc0_scratch0) ↦{fullShare} f : sProp 𝕄) = (sc0.view.loc (c : Thread nD τ) ↦[sc0.view.set]{fullShare} f) := by
  rw [show sc0.view.set = Finset.univ from View.set_whole _]
theorem pt1 (c : Dev nD) (f) : (((c : Thread nD τ).loc cc0_scratch1) ↦{fullShare} f : sProp 𝕄) = (sc1.view.loc (c : Thread nD τ) ↦[sc1.view.set]{fullShare} f) := by
  rw [show sc1.view.set = Finset.univ from View.set_whole _]

/-- A run, and what is to be done with what it leaves. -/
theorem run_then {c : Dev nD} {α : Type} {E : Set ℕ} {p : Prog _ α} {P : sProp 𝕄} {Q Q' : α → sProp 𝕄} (h : P ⊢ wp frame (wpE (defs₀ (F := F)) 𝒱₀ (c : Thread nD τ) none) E p Q) :
    iprop(P ∗ (∀ a, Q a -∗ Q' a)) ⊢ wp frame (wpE (defs₀ (F := F)) 𝒱₀ (c : Thread nD τ) none) E p Q' :=
  (sep_mono h .rfl).trans (wp_wand_r _ _ _)

/-- The body at any point: it finds the inputs' blocks, the table of zeros and some scratch, and leaves the outputs' blocks. -/
theorem sound_body (c : Dev nD) (t : Fin (cfgM (F := F)).N) :
    (iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d))) : sProp 𝕄) ⊢
      wp frame (wpE (defs₀ (F := F)) 𝒱₀ c none) Set.univ (bodyM t) (fun _ => iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)) := by
  simp only [before_0, before_1, before_2, before_3, before_4]
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.ΦA spec0 c ∗ Pipeline.ΦT pre0 (tbl (F := F)) c) from rfl, PhiT_eq]
  rw [show (dats m 0 c).leavesExact 0 t = owns (c : Thread nD τ) (ms0 t) fullShare ((dats m 0 c).after 0 t) from by unfold Dat.leavesExact; rw [show (cfgM (F := F)).idle 0 (grid0.coords t) = false from rfl]; rfl, after_0]
  rw [show (dats m 0 c).leavesExact 1 t = owns (c : Thread nD τ) (ms1 t) fullShare ((dats m 0 c).after 1 t) from by unfold Dat.leavesExact; rw [show (cfgM (F := F)).idle 1 (grid0.coords t) = false from rfl]; rfl, after_1]
  rw [show (dats m 0 c).leavesExact 2 t = owns (c : Thread nD τ) (ms2 t) fullShare ((dats m 0 c).after 2 t) from by unfold Dat.leavesExact; rw [show (cfgM (F := F)).idle 2 (grid0.coords t) = false from rfl]; rfl, after_2]
  rw [show (dats m 0 c).leavesExact 3 t = owns (c : Thread nD τ) (ms3 t) fullShare ((dats m 0 c).after 3 t) from by unfold Dat.leavesExact; rw [show (cfgM (F := F)).idle 3 (grid0.coords t) = false from rfl]; rfl, after_3]
  rw [show (dats m 0 c).leavesExact 4 t = owns (c : Thread nD τ) (ms4 t) fullShare ((dats m 0 c).after 4 t) from by unfold Dat.leavesExact; rw [show (cfgM (F := F)).idle 4 (grid0.coords t) = false from rfl]; rfl, after_4]
  rw [show (dats m 0 c).leavesExact 5 t = owns (c : Thread nD τ) (ms5 t) fullShare ((dats m 0 c).after 5 t) from by unfold Dat.leavesExact; rw [show (cfgM (F := F)).idle 5 (grid0.coords t) = false from rfl]; rfl, after_5]
  rw [show (dats m 0 c).leavesExact 6 t = owns (c : Thread nD τ) (ms6 t) fullShare ((dats m 0 c).after 6 t) from by unfold Dat.leavesExact; rw [show (cfgM (F := F)).idle 6 (grid0.coords t) = false from rfl]; rfl, after_6]
  rw [show (dats m 0 c).leavesExact 7 t = owns (c : Thread nD τ) (ms7 t) fullShare ((dats m 0 c).after 7 t) from by unfold Dat.leavesExact; rw [show (cfgM (F := F)).idle 7 (grid0.coords t) = false from rfl]; rfl, after_7]
  unfold Pipeline.ΦA
  rw [scopedRest0_eq]
  unfold bodyM owns out5 out6 out7
  iintro ⟨⟨⟨⟨⟨%f11, H11⟩, ⟨%f12, H12⟩⟩, Hg⟩, HT⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  obtain rfl := (hs0 t).eq_unread h0
  obtain rfl := (hs1 t).eq_unread h1
  obtain rfl := (hs2 t).eq_unread h2
  obtain rfl := (hs3 t).eq_unread h3
  obtain rfl := (hs4 t).eq_unread h4
  have hrun := (runAt m c t).2.2.2 Set.univ f5 f6 f7 f11 f12
  iapply (run_then hrun)
  isplitl [HT H0 H1 H2 H3 H4 H5 H6 H7 H11 H12]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H11]; · rw [← pt0 c f11]; iexact H11
    rw [← pt1 c f12]; iexact H12
  iintro %a ⟨HT, H0, H1, H2, H3, H4, H5, H6, H7, ⟨%g11, H11⟩, ⟨%g12, H12⟩⟩
  isplitl [HT H11 H12 Hg]
  · isplitl [H11 H12 Hg]
    · isplitl [H11 H12]
      · isplitl [H11]
        · iexists g11; rw [pt0 c g11]; iexact H11
        iexists g12; rw [pt1 c g12]; iexact H12
      iexact Hg
    iexact HT
  isplitl [Ho]; · iexact Ho
  isplitl [H0]
  · iexists _; isplitr
    swap; · iexact H0
    ipureintro; exact h0
  isplitl [H1]
  · iexists _; isplitr
    swap; · iexact H1
    ipureintro; exact h1
  isplitl [H2]
  · iexists _; isplitr
    swap; · iexact H2
    ipureintro; exact h2
  isplitl [H3]
  · iexists _; isplitr
    swap; · iexact H3
    ipureintro; exact h3
  isplitl [H4]
  · iexists _; isplitr
    swap; · iexact H4
    ipureintro; exact h4
  isplitl [H5]
  · iexists _; isplitr
    swap; · iexact H5
    ipureintro; rw [run_free_5 m c t f11 f12]; exact View.read_writes_of_cover _ _ _ _ _ (cover_5 m c t _ _)
  isplitl [H6]
  · iexists _; isplitr
    swap; · iexact H6
    ipureintro; rw [run_free_6 m c t f11 f12]; exact View.read_writes_of_cover _ _ _ _ _ (cover_6 m c t _ _)
  iexists _; isplitr
  swap; · iexact H7
  ipureintro; rw [run_free_7 m c t f11 f12]; exact View.read_writes_of_cover _ _ _ _ _ (cover_7 m c t _ _)

theorem defs₀_row (t : Fin (cfgM (F := F)).N) : defs₀ (F := F) .tc (cfgM (F := F)).body ((cfgM (F := F)).bodyArgs t ((cfgM (F := F)).slots t)) = bodyM t := by
  unfold defs₀; rw [Defs.onTc_tc]; rfl

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The launch: every array of the pipeline at what the blocks make of it, every counter at zero. -/
theorem run_main : θ_run defs (onTc (τ := τ) (main (F := F))) (s₀ m ρ) (fun r => (Pipeline.FramePost (Pipeline.pin pcfgs (fun _ => adm)) (dats m) 0 (V m)) r ∧ r.2.sem = fun _ => 0) :=
  Pipeline.θ_run_frameP_shared (Q' := _) pcfgs (fun _ => adm) (dats m) (0 : Fin 1) launch₀0 defs₀ 𝒱₀ m ρ main
    (hbody := fun c => (body_obligation m c).loose) (hq := fun _ _ _ => rfl)
    (howed := fun _ _ => rfl) (V := V m) (hmain := hmain m) (hA := A_eq m) (hpf := fun c k => by fin_cases k; exact V_table m c) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).2 main_arg0 (Pipeline.mem_restRefs_of (win := spec0) main_arg0 (by decide) (by decide))).trans (V_main_arg0 m c),
     ((h.1 c).1 3).trans (((dats m 0 c).arrAt_in 3 rfl _).trans ((A_eq m c 3).trans (V_main_arg1 m c)))⟩, h.2⟩) (run_main m ρ)

end Cert.Kernel4Ideal.Sb
-- ==== Proof.SbFrames.lean ====
/-
  The frames of the attention's backward call and of its reference.
-/
module

public import proofs.«01_k».proof.Defs
public import Idealize.ShloMosaic.Lib.Pipeline.ValueKit
public import proofs.«01_k».proof.Proof.SbFrame
public import proofs.«01_k».proof.Proof.Gen.Kernel4.Skeleton
public import proofs.«01_k».proof.Proof.Gen.Reference4Ideal.Run

@[expose] public section

set_option maxRecDepth 16384

noncomputable section

open Idealize.ShloMosaic Idealize.ShloMosaic.TcCoe Idealize.ShloMosaic.Tactic Idealize.SL Idealize.SL.Sem Idealize.ShloMosaic.StableHlo

namespace Cert.Reference4Ideal.Value

open Cert.Reference4Ideal Cert.Reference4Ideal.Gen

/-- The reference's run, of its arguments alone. -/
theorem run_kept (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => (h c).2.2.2) (run (F := Ideal) m ρ)

end Cert.Reference4Ideal.Value

namespace Cert.SbFrames

/-- The frame of the kernel at the hardware's values, of the text `Kernel4Ideal` prints. -/
def Ran : Prop := ∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

theorem ran : Ran := fun m g _ => Cert.Kernel4Ideal.Sb.frame (F := Bits) m g

/-- The two programs' texts are one text. -/
theorem same : Cert.quiescent_Kernel4 (hKernel4 := Cert.Kernel4.Gen.facts) = Ran := by sl_kernel_rfl

theorem quiescent : Cert.quiescent_Kernel4 (hKernel4 := Cert.Kernel4.Gen.facts) := same.mpr ran

theorem frame : Cert.quiescent_Reference4Ideal (hReference4Ideal := Cert.Reference4Ideal.Gen.facts) := by
  intro m ρ _
  run_from Cert.Reference4Ideal.Value.run_kept m ρ
  exact sem_eq_zero_of_no_sems rfl _

end Cert.SbFrames

end
-- ==== Proof.PrepRun.lean ====
/-
  The recurrence's preparation, backward: its body's run at the first point.
-/
module

public import proofs.«01_k».proof.Proof.Gen.Kernel5Ideal.Frame
public import proofs.«01_k».proof.Proof.Gen.Kernel5Ideal.Skeleton
public import Idealize.ShloMosaic.Lib.Exec

@[expose] public section

set_option maxRecDepth 16384
set_option maxHeartbeats 8000000

noncomputable section

namespace Cert.Kernel5Ideal.Prep

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- What the body leaves at the first point: the stores into each result's memref, with the body's triple. -/
def runA (c : Dev nD) (i : grid0.Coords) (arg1 : Memref sig .tc .vmem S512x1792 .f32) (harg1 : arg1.IsWhole) (arg2 : Memref sig .tc .vmem S8x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x8x512x64 .f32) (harg11 : arg11.IsWhole) (arg12 : Memref sig .tc .vmem S1x8x512x64 .f32) (harg12 : arg12.IsWhole) (arg13 : Memref sig .tc .vmem S1x8x512x64 .f32) (harg13 : arg13.IsWhole) (arg14 : Memref sig .tc .vmem S1x8x512x64 .f32) (harg14 : arg14.IsWhole) (arg15 : Memref sig .tc .vmem S1x8x512x64 .f32) (harg15 : arg15.IsWhole) (arg16 : Memref sig .tc .vmem S1x8x512x64 .f32) (harg16 : arg16.IsWhole) (arg17 : Memref sig .tc .vmem S512x512 .f32) (harg17 : arg17.IsWhole) (arg18 : Memref sig .tc .vmem S512x1792 .bf16) (harg18 : arg18.IsWhole) (arg19 : Memref sig .tc .vmem S1x1792 .f32) (harg19 : arg19.IsWhole) (arg20 : Memref sig .tc .vmem S1x512 .f32) (harg20 : arg20.IsWhole) (arg21 : Memref sig .tc .vmem S64x512 .f32) (harg21 : arg21.IsWhole) (arg22 : Memref sig .tc .vmem S1x512 .f32) (harg22 : arg22.IsWhole) (arg23 : Memref sig .tc .vmem S64x512 .f32) (harg23 : arg23.IsWhole) (arg24 : Memref sig .tc .vmem S128x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S8x1792 .f32) (harg27 : arg27.IsWhole) (hc1 : k0_cond1 i = 1#1) (hc2 : ¬k0_cond2 i = 1#1)
    (x0 : Vec F S512x1792 .f32) (x1 : Vec F S8x1792 .f32) (x2 : Vec F S1x1792 .f32) (x3 : Vec F S1x512 .f32) (x4 : Vec F S64x512 .f32) (x5 : Vec F S1x512 .f32) (x6 : Vec F S64x512 .f32) (x7 : Vec F S128x512 .f32) (x8 : Vec F S1x512 .f32) (x9 : Vec F S1x512 .f32) (x10 : Vec F S1x8x512x64 .f32) (x11 : Vec F S1x8x512x64 .f32) (x12 : Vec F S1x8x512x64 .f32) (x13 : Vec F S1x8x512x64 .f32) (x14 : Vec F S1x8x512x64 .f32) (x15 : Vec F S1x8x512x64 .f32) (x16 : Vec F S512x512 .f32) (x26 : Vec F S8x1792 .f32) :
    Σ' (L17 : List (View.Piece (Elt F) S512x1792 .bf16)), Σ' (L18 : List (View.Piece (Elt F) S1x1792 .f32)), Σ' (L19 : List (View.Piece (Elt F) S1x512 .f32)), Σ' (L20 : List (View.Piece (Elt F) S64x512 .f32)), Σ' (L21 : List (View.Piece (Elt F) S1x512 .f32)), Σ' (L22 : List (View.Piece (Elt F) S64x512 .f32)), Σ' (L23 : List (View.Piece (Elt F) S128x512 .f32)), Σ' (L24 : List (View.Piece (Elt F) S1x512 .f32)), Σ' (L25 : List (View.Piece (Elt F) S1x512 .f32)), { L26 : List (View.Piece (Elt F) S8x1792 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare x26
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26)) -∗ K ⟨⟩))
          ⊢ wp frame (wpE (defs₀ (F := F)) Variants.none c none) E (cc0_rw_prep_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  have hc3 : k0_cond3 i = 1#1 := hc1; have hc4 : ¬k0_cond4 i = 1#1 := hc2; have hc5 : k0_cond5 i = 1#1 := hc1; have hc6 : ¬k0_cond6 i = 1#1 := hc2
  have hc7 : k0_cond7 i = 1#1 := hc1; have hc8 : ¬k0_cond8 i = 1#1 := hc2; have hc9 : k0_cond9 i = 1#1 := hc1; have hc10 : ¬k0_cond10 i = 1#1 := hc2
  have hc11 : k0_cond11 i = 1#1 := hc1; have hc12 : ¬k0_cond12 i = 1#1 := hc2; have hc13 : k0_cond13 i = 1#1 := hc1; have hc14 : ¬k0_cond14 i = 1#1 := hc2
  have hc15 : k0_cond15 i = 1#1 := hc1; have hc16 : ¬k0_cond16 i = 1#1 := hc2
  refine ⟨?_, ?_, ?_, ?_, ?_, ?_, ?_, ?_, ?_, ?_, fun E K => ?run⟩
  case run =>
    simp only [cc0_rw_prep_bwd_eq_skeleton]; unfold cc0_rw_prep_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%f26, %hf26, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg27.eq_unread hf26
    sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15 | sl_exact hc16)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact H26

end Cert.Kernel5Ideal.Prep

end
-- ==== Proof.PrepRunB.lean ====
/-
  The recurrence's preparation, backward: its body's run at a later point.
-/
module

public import proofs.«01_k».proof.Proof.Gen.Kernel5Ideal.Frame
public import proofs.«01_k».proof.Proof.Gen.Kernel5Ideal.Skeleton
public import Idealize.ShloMosaic.Lib.Exec

@[expose] public section

set_option maxRecDepth 16384
set_option maxHeartbeats 8000000

noncomputable section

namespace Cert.Kernel5Ideal.Prep

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- What the body leaves at a later point: the stores into each result's memref, with the body's triple. -/
def runB (c : Dev nD) (i : grid0.Coords) (arg1 : Memref sig .tc .vmem S512x1792 .f32) (harg1 : arg1.IsWhole) (arg2 : Memref sig .tc .vmem S8x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x8x512x64 .f32) (harg11 : arg11.IsWhole) (arg12 : Memref sig .tc .vmem S1x8x512x64 .f32) (harg12 : arg12.IsWhole) (arg13 : Memref sig .tc .vmem S1x8x512x64 .f32) (harg13 : arg13.IsWhole) (arg14 : Memref sig .tc .vmem S1x8x512x64 .f32) (harg14 : arg14.IsWhole) (arg15 : Memref sig .tc .vmem S1x8x512x64 .f32) (harg15 : arg15.IsWhole) (arg16 : Memref sig .tc .vmem S1x8x512x64 .f32) (harg16 : arg16.IsWhole) (arg17 : Memref sig .tc .vmem S512x512 .f32) (harg17 : arg17.IsWhole) (arg18 : Memref sig .tc .vmem S512x1792 .bf16) (harg18 : arg18.IsWhole) (arg19 : Memref sig .tc .vmem S1x1792 .f32) (harg19 : arg19.IsWhole) (arg20 : Memref sig .tc .vmem S1x512 .f32) (harg20 : arg20.IsWhole) (arg21 : Memref sig .tc .vmem S64x512 .f32) (harg21 : arg21.IsWhole) (arg22 : Memref sig .tc .vmem S1x512 .f32) (harg22 : arg22.IsWhole) (arg23 : Memref sig .tc .vmem S64x512 .f32) (harg23 : arg23.IsWhole) (arg24 : Memref sig .tc .vmem S128x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S8x1792 .f32) (harg27 : arg27.IsWhole) (hc1 : ¬k0_cond1 i = 1#1) (hc2 : k0_cond2 i = 1#1)
    (x0 : Vec F S512x1792 .f32) (x1 : Vec F S8x1792 .f32) (x2 : Vec F S1x1792 .f32) (x3 : Vec F S1x512 .f32) (x4 : Vec F S64x512 .f32) (x5 : Vec F S1x512 .f32) (x6 : Vec F S64x512 .f32) (x7 : Vec F S128x512 .f32) (x8 : Vec F S1x512 .f32) (x9 : Vec F S1x512 .f32) (x10 : Vec F S1x8x512x64 .f32) (x11 : Vec F S1x8x512x64 .f32) (x12 : Vec F S1x8x512x64 .f32) (x13 : Vec F S1x8x512x64 .f32) (x14 : Vec F S1x8x512x64 .f32) (x15 : Vec F S1x8x512x64 .f32) (x16 : Vec F S512x512 .f32) (x18 : Vec F S1x1792 .f32) (x19 : Vec F S1x512 .f32) (x20 : Vec F S64x512 .f32) (x21 : Vec F S1x512 .f32) (x22 : Vec F S64x512 .f32) (x23 : Vec F S128x512 .f32) (x24 : Vec F S1x512 .f32) (x25 : Vec F S1x512 .f32) (x26 : Vec F S8x1792 .f32) :
    Σ' (L17 : List (View.Piece (Elt F) S512x1792 .bf16)), Σ' (L18 : List (View.Piece (Elt F) S1x1792 .f32)), Σ' (L19 : List (View.Piece (Elt F) S1x512 .f32)), Σ' (L20 : List (View.Piece (Elt F) S64x512 .f32)), Σ' (L21 : List (View.Piece (Elt F) S1x512 .f32)), Σ' (L22 : List (View.Piece (Elt F) S64x512 .f32)), Σ' (L23 : List (View.Piece (Elt F) S128x512 .f32)), Σ' (L24 : List (View.Piece (Elt F) S1x512 .f32)), Σ' (L25 : List (View.Piece (Elt F) S1x512 .f32)), { L26 : List (View.Piece (Elt F) S8x1792 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26)) -∗ K ⟨⟩))
          ⊢ wp frame (wpE (defs₀ (F := F)) Variants.none c none) E (cc0_rw_prep_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  have hc3 : ¬k0_cond3 i = 1#1 := hc1; have hc4 : k0_cond4 i = 1#1 := hc2; have hc5 : ¬k0_cond5 i = 1#1 := hc1; have hc6 : k0_cond6 i = 1#1 := hc2
  have hc7 : ¬k0_cond7 i = 1#1 := hc1; have hc8 : k0_cond8 i = 1#1 := hc2; have hc9 : ¬k0_cond9 i = 1#1 := hc1; have hc10 : k0_cond10 i = 1#1 := hc2
  have hc11 : ¬k0_cond11 i = 1#1 := hc1; have hc12 : k0_cond12 i = 1#1 := hc2; have hc13 : ¬k0_cond13 i = 1#1 := hc1; have hc14 : k0_cond14 i = 1#1 := hc2
  have hc15 : ¬k0_cond15 i = 1#1 := hc1; have hc16 : k0_cond16 i = 1#1 := hc2
  refine ⟨?_, ?_, ?_, ?_, ?_, ?_, ?_, ?_, ?_, ?_, fun E K => ?run⟩
  case run =>
    simp only [cc0_rw_prep_bwd_eq_skeleton]; unfold cc0_rw_prep_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26
    sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15 | sl_exact hc16)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact H26

end Cert.Kernel5Ideal.Prep

end
-- ==== Proof.PrepSteps.lean ====
/-
  The recurrence's preparation, backward: its blocks, the body's obligation, the launch.
-/
module

public import proofs.«01_k».proof.Proof.PrepRun
public import proofs.«01_k».proof.Proof.PrepRunB
public import Idealize.ShloMosaic.Lib.Pipeline.Frame
public import Idealize.ShloMosaic.Lib.Pipeline.TableIdle
public import Idealize.ShloMosaic.Lib.Ring
public import Idealize.ShloMosaic.Lib.Pipeline.FrameBody

@[expose] public section

set_option maxRecDepth 16384
set_option maxHeartbeats 4000000

noncomputable section

namespace Cert.Kernel5Ideal.Prep

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row carried from a block to the block below it. -/
abbrev scM : Memref sig .tc .vmem S8x1792 .f32 := Memref.whole cc0_scratch0

/-- What the outputs' buffers and the carried row hold after a point. -/
structure State (F : FTy → Type) [FloatOps F] where
  o17 : Vec F S512x1792 .bf16
  o18 : Vec F S1x1792 .f32
  o19 : Vec F S1x512 .f32
  o20 : Vec F S64x512 .f32
  o21 : Vec F S1x512 .f32
  o22 : Vec F S64x512 .f32
  o23 : Vec F S128x512 .f32
  o24 : Vec F S1x512 .f32
  o25 : Vec F S1x512 .f32
  o26 : Vec F S8x1792 .f32

/-- The first point is the one whose accumulators are started. -/
theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val ≠ 0 :=
  (by decide +kernel : ∀ t : Fin grid0.N, k0_cond2 (grid0.coords t) = 1#1 ↔ t.val ≠ 0)

/-- At the first point nothing is taken from the rows below: the carried row is not read. -/
theorem first_eq {i : grid0.Coords} (h : k0_cond1 i = 1#1) (b : BitVec 32) (x y : Vec F S1x1792 .f32) :
    k0_pay69 (BitVec.ofNat 32 (i 0).val) b x = k0_pay69 (F := F) (BitVec.ofNat 32 (i 0).val) b y := by
  have h0 : Scalar.cmpi .eq (BitVec.ofNat 32 (i 0).val) 0#32 = 1#1 := by
    revert h; unfold k0_cond1; dsimp only
    generalize Scalar.cmpi .eq (BitVec.ofNat 32 (i 0).val) 0#32 = z
    revert z; decide
  have h1 : ∀ z : BitVec 1, Scalar.ori 1#1 z = 1#1 := by decide
  unfold k0_pay69; dsimp only; simp only [h0, h1]; rfl

/-- The body's run at the first point, over a carried row's contents. -/
abbrev rA (c : Dev nD) (t : Fin cfg0.N) (h : t.val = 0) (y : Vec F S8x1792 .f32) :=
  runA (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (st0_23 t) (hstage0_23 ((cfg0.slots t 23).cast nbuf0_23)) (st0_24 t) (hstage0_24 ((cfg0.slots t 24).cast nbuf0_24)) (st0_25 t) (hstage0_25 ((cfg0.slots t 25).cast nbuf0_25)) scM (Memref.isWhole_whole _) ((cond1_iff t).mpr h) (fun h' => (cond2_iff t).mp h' h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y

/-- The body's run at a later point, over what the point before left. -/
abbrev rB (c : Dev nD) (t : Fin cfg0.N) (h : t.val ≠ 0) (p : State F) :=
  runB (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (st0_23 t) (hstage0_23 ((cfg0.slots t 23).cast nbuf0_23)) (st0_24 t) (hstage0_24 ((cfg0.slots t 24).cast nbuf0_24)) (st0_25 t) (hstage0_25 ((cfg0.slots t 25).cast nbuf0_25)) scM (Memref.isWhole_whole _) (fun h' => h ((cond1_iff t).mp h')) ((cond2_iff t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p.o18 p.o19 p.o20 p.o21 p.o22 p.o23 p.o24 p.o25 p.o26

/-- Some contents of the carried row. -/
def row0 : Vec F S8x1792 .f32 := fun _ => FloatOps.ofBits .f32 0#32

def stA (c : Dev nD) (t : Fin cfg0.N) (h : t.val = 0) : State F where
  o17 := (st0_17 t).view.read (Elt F) ((st0_17 t).view.writes (Elt F) (st0_17 t).view.junk (rA m c t h (row0 (F := F))).1)
  o18 := (st0_18 t).view.read (Elt F) ((st0_18 t).view.writes (Elt F) (st0_18 t).view.junk (rA m c t h (row0 (F := F))).2.1)
  o19 := (st0_19 t).view.read (Elt F) ((st0_19 t).view.writes (Elt F) (st0_19 t).view.junk (rA m c t h (row0 (F := F))).2.2.1)
  o20 := (st0_20 t).view.read (Elt F) ((st0_20 t).view.writes (Elt F) (st0_20 t).view.junk (rA m c t h (row0 (F := F))).2.2.2.1)
  o21 := (st0_21 t).view.read (Elt F) ((st0_21 t).view.writes (Elt F) (st0_21 t).view.junk (rA m c t h (row0 (F := F))).2.2.2.2.1)
  o22 := (st0_22 t).view.read (Elt F) ((st0_22 t).view.writes (Elt F) (st0_22 t).view.junk (rA m c t h (row0 (F := F))).2.2.2.2.2.1)
  o23 := (st0_23 t).view.read (Elt F) ((st0_23 t).view.writes (Elt F) (st0_23 t).view.junk (rA m c t h (row0 (F := F))).2.2.2.2.2.2.1)
  o24 := (st0_24 t).view.read (Elt F) ((st0_24 t).view.writes (Elt F) (st0_24 t).view.junk (rA m c t h (row0 (F := F))).2.2.2.2.2.2.2.1)
  o25 := (st0_25 t).view.read (Elt F) ((st0_25 t).view.writes (Elt F) (st0_25 t).view.junk (rA m c t h (row0 (F := F))).2.2.2.2.2.2.2.2.1)
  o26 := scM.view.read (Elt F) (scM.view.writes (Elt F) scM.view.junk (rA m c t h (row0 (F := F))).2.2.2.2.2.2.2.2.2.1)

theorem coverA_17 (c : Dev nD) (t : Fin cfg0.N) (h : t.val = 0) (y : Vec F S8x1792 .f32) (j : S512x1792.Idx) : ∃ q ∈ (rA m c t h y).1, j ∈ q.1.set := by
  unfold rA runA; dsimp only
  exact View.cover_of_tiledL _ S512x1792.size (by sl_kernel_rfl) j
theorem coverA_18 (c : Dev nD) (t : Fin cfg0.N) (h : t.val = 0) (y : Vec F S8x1792 .f32) (j : S1x1792.Idx) : ∃ q ∈ (rA m c t h y).2.1, j ∈ q.1.set := by
  unfold rA runA; dsimp only
  exact View.cover_of_tiledL _ S1x1792.size (by sl_kernel_rfl) j
theorem coverA_19 (c : Dev nD) (t : Fin cfg0.N) (h : t.val = 0) (y : Vec F S8x1792 .f32) (j : S1x512.Idx) : ∃ q ∈ (rA m c t h y).2.2.1, j ∈ q.1.set := by
  unfold rA runA; dsimp only
  exact View.cover_of_tiledL _ S1x512.size (by sl_kernel_rfl) j
theorem coverA_20 (c : Dev nD) (t : Fin cfg0.N) (h : t.val = 0) (y : Vec F S8x1792 .f32) (j : S64x512.Idx) : ∃ q ∈ (rA m c t h y).2.2.2.1, j ∈ q.1.set := by
  unfold rA runA; dsimp only
  exact View.cover_of_tiledL _ S64x512.size (by sl_kernel_rfl) j
theorem coverA_21 (c : Dev nD) (t : Fin cfg0.N) (h : t.val = 0) (y : Vec F S8x1792 .f32) (j : S1x512.Idx) : ∃ q ∈ (rA m c t h y).2.2.2.2.1, j ∈ q.1.set := by
  unfold rA runA; dsimp only
  exact View.cover_of_tiledL _ S1x512.size (by sl_kernel_rfl) j
theorem coverA_22 (c : Dev nD) (t : Fin cfg0.N) (h : t.val = 0) (y : Vec F S8x1792 .f32) (j : S64x512.Idx) : ∃ q ∈ (rA m c t h y).2.2.2.2.2.1, j ∈ q.1.set := by
  unfold rA runA; dsimp only
  exact View.cover_of_tiledL _ S64x512.size (by sl_kernel_rfl) j
theorem coverA_23 (c : Dev nD) (t : Fin cfg0.N) (h : t.val = 0) (y : Vec F S8x1792 .f32) (j : S128x512.Idx) : ∃ q ∈ (rA m c t h y).2.2.2.2.2.2.1, j ∈ q.1.set := by
  unfold rA runA; dsimp only
  exact View.cover_of_tiledL _ S128x512.size (by sl_kernel_rfl) j
theorem coverA_24 (c : Dev nD) (t : Fin cfg0.N) (h : t.val = 0) (y : Vec F S8x1792 .f32) (j : S1x512.Idx) : ∃ q ∈ (rA m c t h y).2.2.2.2.2.2.2.1, j ∈ q.1.set := by
  unfold rA runA; dsimp only
  exact View.cover_of_tiledL _ S1x512.size (by sl_kernel_rfl) j
theorem coverA_25 (c : Dev nD) (t : Fin cfg0.N) (h : t.val = 0) (y : Vec F S8x1792 .f32) (j : S1x512.Idx) : ∃ q ∈ (rA m c t h y).2.2.2.2.2.2.2.2.1, j ∈ q.1.set := by
  unfold rA runA; dsimp only
  exact View.cover_of_tiledL _ S1x512.size (by sl_kernel_rfl) j
theorem coverA_26 (c : Dev nD) (t : Fin cfg0.N) (h : t.val = 0) (y : Vec F S8x1792 .f32) (j : S8x1792.Idx) : ∃ q ∈ (rA m c t h y).2.2.2.2.2.2.2.2.2.1, j ∈ q.1.set := by
  unfold rA runA; dsimp only
  exact View.cover_of_tiledL _ S8x1792.size (by sl_kernel_rfl) j
def stB (c : Dev nD) (t : Fin cfg0.N) (h : t.val ≠ 0) (p : State F) : State F where
  o17 := (st0_17 t).view.read (Elt F) ((st0_17 t).view.writes (Elt F) (st0_17 t).view.junk (rB m c t h p).1)
  o18 := (st0_18 t).view.read (Elt F) ((st0_18 t).view.writes (Elt F) (st0_18 t).view.junk (rB m c t h p).2.1)
  o19 := (st0_19 t).view.read (Elt F) ((st0_19 t).view.writes (Elt F) (st0_19 t).view.junk (rB m c t h p).2.2.1)
  o20 := (st0_20 t).view.read (Elt F) ((st0_20 t).view.writes (Elt F) (st0_20 t).view.junk (rB m c t h p).2.2.2.1)
  o21 := (st0_21 t).view.read (Elt F) ((st0_21 t).view.writes (Elt F) (st0_21 t).view.junk (rB m c t h p).2.2.2.2.1)
  o22 := (st0_22 t).view.read (Elt F) ((st0_22 t).view.writes (Elt F) (st0_22 t).view.junk (rB m c t h p).2.2.2.2.2.1)
  o23 := (st0_23 t).view.read (Elt F) ((st0_23 t).view.writes (Elt F) (st0_23 t).view.junk (rB m c t h p).2.2.2.2.2.2.1)
  o24 := (st0_24 t).view.read (Elt F) ((st0_24 t).view.writes (Elt F) (st0_24 t).view.junk (rB m c t h p).2.2.2.2.2.2.2.1)
  o25 := (st0_25 t).view.read (Elt F) ((st0_25 t).view.writes (Elt F) (st0_25 t).view.junk (rB m c t h p).2.2.2.2.2.2.2.2.1)
  o26 := scM.view.read (Elt F) (scM.view.writes (Elt F) scM.view.junk (rB m c t h p).2.2.2.2.2.2.2.2.2.1)

theorem coverB_17 (c : Dev nD) (t : Fin cfg0.N) (h : t.val ≠ 0) (p : State F) (j : S512x1792.Idx) : ∃ q ∈ (rB m c t h p).1, j ∈ q.1.set := by
  unfold rB runB; dsimp only
  exact View.cover_of_tiledL _ S512x1792.size (by sl_kernel_rfl) j
theorem coverB_18 (c : Dev nD) (t : Fin cfg0.N) (h : t.val ≠ 0) (p : State F) (j : S1x1792.Idx) : ∃ q ∈ (rB m c t h p).2.1, j ∈ q.1.set := by
  unfold rB runB; dsimp only
  exact View.cover_of_tiledL _ S1x1792.size (by sl_kernel_rfl) j
theorem coverB_19 (c : Dev nD) (t : Fin cfg0.N) (h : t.val ≠ 0) (p : State F) (j : S1x512.Idx) : ∃ q ∈ (rB m c t h p).2.2.1, j ∈ q.1.set := by
  unfold rB runB; dsimp only
  exact View.cover_of_tiledL _ S1x512.size (by sl_kernel_rfl) j
theorem coverB_20 (c : Dev nD) (t : Fin cfg0.N) (h : t.val ≠ 0) (p : State F) (j : S64x512.Idx) : ∃ q ∈ (rB m c t h p).2.2.2.1, j ∈ q.1.set := by
  unfold rB runB; dsimp only
  exact View.cover_of_tiledL _ S64x512.size (by sl_kernel_rfl) j
theorem coverB_21 (c : Dev nD) (t : Fin cfg0.N) (h : t.val ≠ 0) (p : State F) (j : S1x512.Idx) : ∃ q ∈ (rB m c t h p).2.2.2.2.1, j ∈ q.1.set := by
  unfold rB runB; dsimp only
  exact View.cover_of_tiledL _ S1x512.size (by sl_kernel_rfl) j
theorem coverB_22 (c : Dev nD) (t : Fin cfg0.N) (h : t.val ≠ 0) (p : State F) (j : S64x512.Idx) : ∃ q ∈ (rB m c t h p).2.2.2.2.2.1, j ∈ q.1.set := by
  unfold rB runB; dsimp only
  exact View.cover_of_tiledL _ S64x512.size (by sl_kernel_rfl) j
theorem coverB_23 (c : Dev nD) (t : Fin cfg0.N) (h : t.val ≠ 0) (p : State F) (j : S128x512.Idx) : ∃ q ∈ (rB m c t h p).2.2.2.2.2.2.1, j ∈ q.1.set := by
  unfold rB runB; dsimp only
  exact View.cover_of_tiledL _ S128x512.size (by sl_kernel_rfl) j
theorem coverB_24 (c : Dev nD) (t : Fin cfg0.N) (h : t.val ≠ 0) (p : State F) (j : S1x512.Idx) : ∃ q ∈ (rB m c t h p).2.2.2.2.2.2.2.1, j ∈ q.1.set := by
  unfold rB runB; dsimp only
  exact View.cover_of_tiledL _ S1x512.size (by sl_kernel_rfl) j
theorem coverB_25 (c : Dev nD) (t : Fin cfg0.N) (h : t.val ≠ 0) (p : State F) (j : S1x512.Idx) : ∃ q ∈ (rB m c t h p).2.2.2.2.2.2.2.2.1, j ∈ q.1.set := by
  unfold rB runB; dsimp only
  exact View.cover_of_tiledL _ S1x512.size (by sl_kernel_rfl) j
theorem coverB_26 (c : Dev nD) (t : Fin cfg0.N) (h : t.val ≠ 0) (p : State F) (j : S8x1792.Idx) : ∃ q ∈ (rB m c t h p).2.2.2.2.2.2.2.2.2.1, j ∈ q.1.set := by
  unfold rB runB; dsimp only
  exact View.cover_of_tiledL _ S8x1792.size (by sl_kernel_rfl) j

/-- The rows' gradient at the first point, whatever the carried row holds; so the other outputs. -/
theorem free_17 (c : Dev nD) (t : Fin cfg0.N) (h : t.val = 0) (y z : Vec F S8x1792 .f32) : (rA m c t h y).1 = (rA m c t h z).1 := by
  unfold rA runA
  dsimp only
  refine congrArg (fun v => [_]) ?_
  refine congrArg (fun v => k0_pay70 _ _ v _) ?_
  unfold runA.sl.r_38
  exact first_eq ((cond1_iff t).mpr h) _ _ _
theorem free_18 (c : Dev nD) (t : Fin cfg0.N) (h : t.val = 0) (y z : Vec F S8x1792 .f32) : (rA m c t h y).2.1 = (rA m c t h z).2.1 := by
  unfold rA runA; dsimp only
theorem free_19 (c : Dev nD) (t : Fin cfg0.N) (h : t.val = 0) (y z : Vec F S8x1792 .f32) : (rA m c t h y).2.2.1 = (rA m c t h z).2.2.1 := by
  unfold rA runA; dsimp only
theorem free_20 (c : Dev nD) (t : Fin cfg0.N) (h : t.val = 0) (y z : Vec F S8x1792 .f32) : (rA m c t h y).2.2.2.1 = (rA m c t h z).2.2.2.1 := by
  unfold rA runA; dsimp only
theorem free_21 (c : Dev nD) (t : Fin cfg0.N) (h : t.val = 0) (y z : Vec F S8x1792 .f32) : (rA m c t h y).2.2.2.2.1 = (rA m c t h z).2.2.2.2.1 := by
  unfold rA runA; dsimp only
theorem free_22 (c : Dev nD) (t : Fin cfg0.N) (h : t.val = 0) (y z : Vec F S8x1792 .f32) : (rA m c t h y).2.2.2.2.2.1 = (rA m c t h z).2.2.2.2.2.1 := by
  unfold rA runA; dsimp only
theorem free_23 (c : Dev nD) (t : Fin cfg0.N) (h : t.val = 0) (y z : Vec F S8x1792 .f32) : (rA m c t h y).2.2.2.2.2.2.1 = (rA m c t h z).2.2.2.2.2.2.1 := by
  unfold rA runA; dsimp only
theorem free_24 (c : Dev nD) (t : Fin cfg0.N) (h : t.val = 0) (y z : Vec F S8x1792 .f32) : (rA m c t h y).2.2.2.2.2.2.2.1 = (rA m c t h z).2.2.2.2.2.2.2.1 := by
  unfold rA runA; dsimp only
theorem free_25 (c : Dev nD) (t : Fin cfg0.N) (h : t.val = 0) (y z : Vec F S8x1792 .f32) : (rA m c t h y).2.2.2.2.2.2.2.2.1 = (rA m c t h z).2.2.2.2.2.2.2.2.1 := by
  unfold rA runA; dsimp only
theorem free_26 (c : Dev nD) (t : Fin cfg0.N) (h : t.val = 0) (y z : Vec F S8x1792 .f32) : (rA m c t h y).2.2.2.2.2.2.2.2.2.1 = (rA m c t h z).2.2.2.2.2.2.2.2.2.1 := by
  unfold rA runA; dsimp only

/-- A buffer written over, read back. -/
theorem left (c : Dev nD) {s : Shape} {e : EltTy} (M : Memref sig .tc .vmem s e) (L L' : List (View.Piece (Elt F) s e)) (hL : L = L') (h : ∀ y, ∃ p ∈ L', y ∈ p.1.set) :
    (iprop(∃ f, M.view.loc (c : Thread nD τ) ↦[M.view.set]{fullShare} M.view.writes (Elt F) f L) : sProp 𝕄)
      ⊢ owns (c : Thread nD τ) M fullShare (M.view.read (Elt F) (M.view.writes (Elt F) M.view.junk L')) := by
  subst hL
  unfold owns
  iintro ⟨%f, H⟩
  iexists _; isplitr
  swap; · iexact H
  ipureintro; exact View.read_writes_of_cover _ _ _ _ _ h

theorem leftA_17 (c : Dev nD) (t : Fin cfg0.N) (h : t.val = 0) (y : Vec F S8x1792 .f32) :
    (iprop(∃ f, (st0_17 t).view.loc (c : Thread nD τ) ↦[(st0_17 t).view.set]{fullShare} (st0_17 t).view.writes (Elt F) f (rA m c t h y).1) : sProp 𝕄)
      ⊢ owns (c : Thread nD τ) (st0_17 t) fullShare (stA m c t h).o17 := by
  unfold stA; dsimp only
  exact left c (st0_17 t) (rA m c t h y).1 (rA m c t h (row0 (F := F))).1 (free_17 m c t h y (row0 (F := F))) (coverA_17 m c t h (row0 (F := F)))
theorem leftA_18 (c : Dev nD) (t : Fin cfg0.N) (h : t.val = 0) (y : Vec F S8x1792 .f32) :
    (iprop(∃ f, (st0_18 t).view.loc (c : Thread nD τ) ↦[(st0_18 t).view.set]{fullShare} (st0_18 t).view.writes (Elt F) f (rA m c t h y).2.1) : sProp 𝕄)
      ⊢ owns (c : Thread nD τ) (st0_18 t) fullShare (stA m c t h).o18 := by
  unfold stA; dsimp only
  exact left c (st0_18 t) (rA m c t h y).2.1 (rA m c t h (row0 (F := F))).2.1 (free_18 m c t h y (row0 (F := F))) (coverA_18 m c t h (row0 (F := F)))
theorem leftA_19 (c : Dev nD) (t : Fin cfg0.N) (h : t.val = 0) (y : Vec F S8x1792 .f32) :
    (iprop(∃ f, (st0_19 t).view.loc (c : Thread nD τ) ↦[(st0_19 t).view.set]{fullShare} (st0_19 t).view.writes (Elt F) f (rA m c t h y).2.2.1) : sProp 𝕄)
      ⊢ owns (c : Thread nD τ) (st0_19 t) fullShare (stA m c t h).o19 := by
  unfold stA; dsimp only
  exact left c (st0_19 t) (rA m c t h y).2.2.1 (rA m c t h (row0 (F := F))).2.2.1 (free_19 m c t h y (row0 (F := F))) (coverA_19 m c t h (row0 (F := F)))
theorem leftA_20 (c : Dev nD) (t : Fin cfg0.N) (h : t.val = 0) (y : Vec F S8x1792 .f32) :
    (iprop(∃ f, (st0_20 t).view.loc (c : Thread nD τ) ↦[(st0_20 t).view.set]{fullShare} (st0_20 t).view.writes (Elt F) f (rA m c t h y).2.2.2.1) : sProp 𝕄)
      ⊢ owns (c : Thread nD τ) (st0_20 t) fullShare (stA m c t h).o20 := by
  unfold stA; dsimp only
  exact left c (st0_20 t) (rA m c t h y).2.2.2.1 (rA m c t h (row0 (F := F))).2.2.2.1 (free_20 m c t h y (row0 (F := F))) (coverA_20 m c t h (row0 (F := F)))
theorem leftA_21 (c : Dev nD) (t : Fin cfg0.N) (h : t.val = 0) (y : Vec F S8x1792 .f32) :
    (iprop(∃ f, (st0_21 t).view.loc (c : Thread nD τ) ↦[(st0_21 t).view.set]{fullShare} (st0_21 t).view.writes (Elt F) f (rA m c t h y).2.2.2.2.1) : sProp 𝕄)
      ⊢ owns (c : Thread nD τ) (st0_21 t) fullShare (stA m c t h).o21 := by
  unfold stA; dsimp only
  exact left c (st0_21 t) (rA m c t h y).2.2.2.2.1 (rA m c t h (row0 (F := F))).2.2.2.2.1 (free_21 m c t h y (row0 (F := F))) (coverA_21 m c t h (row0 (F := F)))
theorem leftA_22 (c : Dev nD) (t : Fin cfg0.N) (h : t.val = 0) (y : Vec F S8x1792 .f32) :
    (iprop(∃ f, (st0_22 t).view.loc (c : Thread nD τ) ↦[(st0_22 t).view.set]{fullShare} (st0_22 t).view.writes (Elt F) f (rA m c t h y).2.2.2.2.2.1) : sProp 𝕄)
      ⊢ owns (c : Thread nD τ) (st0_22 t) fullShare (stA m c t h).o22 := by
  unfold stA; dsimp only
  exact left c (st0_22 t) (rA m c t h y).2.2.2.2.2.1 (rA m c t h (row0 (F := F))).2.2.2.2.2.1 (free_22 m c t h y (row0 (F := F))) (coverA_22 m c t h (row0 (F := F)))
theorem leftA_23 (c : Dev nD) (t : Fin cfg0.N) (h : t.val = 0) (y : Vec F S8x1792 .f32) :
    (iprop(∃ f, (st0_23 t).view.loc (c : Thread nD τ) ↦[(st0_23 t).view.set]{fullShare} (st0_23 t).view.writes (Elt F) f (rA m c t h y).2.2.2.2.2.2.1) : sProp 𝕄)
      ⊢ owns (c : Thread nD τ) (st0_23 t) fullShare (stA m c t h).o23 := by
  unfold stA; dsimp only
  exact left c (st0_23 t) (rA m c t h y).2.2.2.2.2.2.1 (rA m c t h (row0 (F := F))).2.2.2.2.2.2.1 (free_23 m c t h y (row0 (F := F))) (coverA_23 m c t h (row0 (F := F)))
theorem leftA_24 (c : Dev nD) (t : Fin cfg0.N) (h : t.val = 0) (y : Vec F S8x1792 .f32) :
    (iprop(∃ f, (st0_24 t).view.loc (c : Thread nD τ) ↦[(st0_24 t).view.set]{fullShare} (st0_24 t).view.writes (Elt F) f (rA m c t h y).2.2.2.2.2.2.2.1) : sProp 𝕄)
      ⊢ owns (c : Thread nD τ) (st0_24 t) fullShare (stA m c t h).o24 := by
  unfold stA; dsimp only
  exact left c (st0_24 t) (rA m c t h y).2.2.2.2.2.2.2.1 (rA m c t h (row0 (F := F))).2.2.2.2.2.2.2.1 (free_24 m c t h y (row0 (F := F))) (coverA_24 m c t h (row0 (F := F)))
theorem leftA_25 (c : Dev nD) (t : Fin cfg0.N) (h : t.val = 0) (y : Vec F S8x1792 .f32) :
    (iprop(∃ f, (st0_25 t).view.loc (c : Thread nD τ) ↦[(st0_25 t).view.set]{fullShare} (st0_25 t).view.writes (Elt F) f (rA m c t h y).2.2.2.2.2.2.2.2.1) : sProp 𝕄)
      ⊢ owns (c : Thread nD τ) (st0_25 t) fullShare (stA m c t h).o25 := by
  unfold stA; dsimp only
  exact left c (st0_25 t) (rA m c t h y).2.2.2.2.2.2.2.2.1 (rA m c t h (row0 (F := F))).2.2.2.2.2.2.2.2.1 (free_25 m c t h y (row0 (F := F))) (coverA_25 m c t h (row0 (F := F)))
theorem leftA_26 (c : Dev nD) (t : Fin cfg0.N) (h : t.val = 0) (y : Vec F S8x1792 .f32) :
    (iprop(∃ f, scM.view.loc (c : Thread nD τ) ↦[scM.view.set]{fullShare} scM.view.writes (Elt F) f (rA m c t h y).2.2.2.2.2.2.2.2.2.1) : sProp 𝕄)
      ⊢ owns (c : Thread nD τ) scM fullShare (stA m c t h).o26 := by
  unfold stA; dsimp only
  exact left c scM (rA m c t h y).2.2.2.2.2.2.2.2.2.1 (rA m c t h (row0 (F := F))).2.2.2.2.2.2.2.2.2.1 (free_26 m c t h y (row0 (F := F))) (coverA_26 m c t h (row0 (F := F)))
theorem leftB_17 (c : Dev nD) (t : Fin cfg0.N) (h : t.val ≠ 0) (p : State F) :
    (iprop(∃ f, (st0_17 t).view.loc (c : Thread nD τ) ↦[(st0_17 t).view.set]{fullShare} (st0_17 t).view.writes (Elt F) f (rB m c t h p).1) : sProp 𝕄)
      ⊢ owns (c : Thread nD τ) (st0_17 t) fullShare (stB m c t h p).o17 := by
  unfold stB; dsimp only
  exact left c (st0_17 t) (rB m c t h p).1 (rB m c t h p).1 rfl (coverB_17 m c t h p)
theorem leftB_18 (c : Dev nD) (t : Fin cfg0.N) (h : t.val ≠ 0) (p : State F) :
    (iprop(∃ f, (st0_18 t).view.loc (c : Thread nD τ) ↦[(st0_18 t).view.set]{fullShare} (st0_18 t).view.writes (Elt F) f (rB m c t h p).2.1) : sProp 𝕄)
      ⊢ owns (c : Thread nD τ) (st0_18 t) fullShare (stB m c t h p).o18 := by
  unfold stB; dsimp only
  exact left c (st0_18 t) (rB m c t h p).2.1 (rB m c t h p).2.1 rfl (coverB_18 m c t h p)
theorem leftB_19 (c : Dev nD) (t : Fin cfg0.N) (h : t.val ≠ 0) (p : State F) :
    (iprop(∃ f, (st0_19 t).view.loc (c : Thread nD τ) ↦[(st0_19 t).view.set]{fullShare} (st0_19 t).view.writes (Elt F) f (rB m c t h p).2.2.1) : sProp 𝕄)
      ⊢ owns (c : Thread nD τ) (st0_19 t) fullShare (stB m c t h p).o19 := by
  unfold stB; dsimp only
  exact left c (st0_19 t) (rB m c t h p).2.2.1 (rB m c t h p).2.2.1 rfl (coverB_19 m c t h p)
theorem leftB_20 (c : Dev nD) (t : Fin cfg0.N) (h : t.val ≠ 0) (p : State F) :
    (iprop(∃ f, (st0_20 t).view.loc (c : Thread nD τ) ↦[(st0_20 t).view.set]{fullShare} (st0_20 t).view.writes (Elt F) f (rB m c t h p).2.2.2.1) : sProp 𝕄)
      ⊢ owns (c : Thread nD τ) (st0_20 t) fullShare (stB m c t h p).o20 := by
  unfold stB; dsimp only
  exact left c (st0_20 t) (rB m c t h p).2.2.2.1 (rB m c t h p).2.2.2.1 rfl (coverB_20 m c t h p)
theorem leftB_21 (c : Dev nD) (t : Fin cfg0.N) (h : t.val ≠ 0) (p : State F) :
    (iprop(∃ f, (st0_21 t).view.loc (c : Thread nD τ) ↦[(st0_21 t).view.set]{fullShare} (st0_21 t).view.writes (Elt F) f (rB m c t h p).2.2.2.2.1) : sProp 𝕄)
      ⊢ owns (c : Thread nD τ) (st0_21 t) fullShare (stB m c t h p).o21 := by
  unfold stB; dsimp only
  exact left c (st0_21 t) (rB m c t h p).2.2.2.2.1 (rB m c t h p).2.2.2.2.1 rfl (coverB_21 m c t h p)
theorem leftB_22 (c : Dev nD) (t : Fin cfg0.N) (h : t.val ≠ 0) (p : State F) :
    (iprop(∃ f, (st0_22 t).view.loc (c : Thread nD τ) ↦[(st0_22 t).view.set]{fullShare} (st0_22 t).view.writes (Elt F) f (rB m c t h p).2.2.2.2.2.1) : sProp 𝕄)
      ⊢ owns (c : Thread nD τ) (st0_22 t) fullShare (stB m c t h p).o22 := by
  unfold stB; dsimp only
  exact left c (st0_22 t) (rB m c t h p).2.2.2.2.2.1 (rB m c t h p).2.2.2.2.2.1 rfl (coverB_22 m c t h p)
theorem leftB_23 (c : Dev nD) (t : Fin cfg0.N) (h : t.val ≠ 0) (p : State F) :
    (iprop(∃ f, (st0_23 t).view.loc (c : Thread nD τ) ↦[(st0_23 t).view.set]{fullShare} (st0_23 t).view.writes (Elt F) f (rB m c t h p).2.2.2.2.2.2.1) : sProp 𝕄)
      ⊢ owns (c : Thread nD τ) (st0_23 t) fullShare (stB m c t h p).o23 := by
  unfold stB; dsimp only
  exact left c (st0_23 t) (rB m c t h p).2.2.2.2.2.2.1 (rB m c t h p).2.2.2.2.2.2.1 rfl (coverB_23 m c t h p)
theorem leftB_24 (c : Dev nD) (t : Fin cfg0.N) (h : t.val ≠ 0) (p : State F) :
    (iprop(∃ f, (st0_24 t).view.loc (c : Thread nD τ) ↦[(st0_24 t).view.set]{fullShare} (st0_24 t).view.writes (Elt F) f (rB m c t h p).2.2.2.2.2.2.2.1) : sProp 𝕄)
      ⊢ owns (c : Thread nD τ) (st0_24 t) fullShare (stB m c t h p).o24 := by
  unfold stB; dsimp only
  exact left c (st0_24 t) (rB m c t h p).2.2.2.2.2.2.2.1 (rB m c t h p).2.2.2.2.2.2.2.1 rfl (coverB_24 m c t h p)
theorem leftB_25 (c : Dev nD) (t : Fin cfg0.N) (h : t.val ≠ 0) (p : State F) :
    (iprop(∃ f, (st0_25 t).view.loc (c : Thread nD τ) ↦[(st0_25 t).view.set]{fullShare} (st0_25 t).view.writes (Elt F) f (rB m c t h p).2.2.2.2.2.2.2.2.1) : sProp 𝕄)
      ⊢ owns (c : Thread nD τ) (st0_25 t) fullShare (stB m c t h p).o25 := by
  unfold stB; dsimp only
  exact left c (st0_25 t) (rB m c t h p).2.2.2.2.2.2.2.2.1 (rB m c t h p).2.2.2.2.2.2.2.2.1 rfl (coverB_25 m c t h p)
theorem leftB_26 (c : Dev nD) (t : Fin cfg0.N) (h : t.val ≠ 0) (p : State F) :
    (iprop(∃ f, scM.view.loc (c : Thread nD τ) ↦[scM.view.set]{fullShare} scM.view.writes (Elt F) f (rB m c t h p).2.2.2.2.2.2.2.2.2.1) : sProp 𝕄)
      ⊢ owns (c : Thread nD τ) scM fullShare (stB m c t h p).o26 := by
  unfold stB; dsimp only
  exact left c scM (rB m c t h p).2.2.2.2.2.2.2.2.2.1 (rB m c t h p).2.2.2.2.2.2.2.2.2.1 rfl (coverB_26 m c t h p)

end Cert.Kernel5Ideal.Prep

end
-- ==== Proof.PrepData.lean ====
/-
  The recurrence's preparation, backward: what the buffers hold after each point.
-/
module

public import proofs.«01_k».proof.Proof.PrepSteps

@[expose] public section

set_option maxRecDepth 16384
set_option maxHeartbeats 4000000

noncomputable section

namespace Cert.Kernel5Ideal.Prep

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the buffers hold after point `n`. -/
def st (c : Dev nD) : (n : ℕ) → n < cfg0.N → State F
  | 0, h => stA m c ⟨0, h⟩ rfl
  | n + 1, h => stB m c ⟨n + 1, h⟩ (Nat.succ_ne_zero n) (st c n (Nat.lt_of_succ_lt h))

/-- The carried row between the points. -/
def Phi (c : Dev nD) : (n : ℕ) → n ≤ cfg0.N → sProp 𝕄
  | 0, _ => Pipeline.ΦA spec0 c
  | n + 1, h => iprop(owns (c : Thread nD τ) scM fullShare (st m c n h).o26 ∗ (∃ r, prngReg c r))

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (st m c t.val t.isLt).o17
    | ⟨18, _⟩ => (st m c t.val t.isLt).o18
    | ⟨19, _⟩ => (st m c t.val t.isLt).o19
    | ⟨20, _⟩ => (st m c t.val t.isLt).o20
    | ⟨21, _⟩ => (st m c t.val t.isLt).o21
    | ⟨22, _⟩ => (st m c t.val t.isLt).o22
    | ⟨23, _⟩ => (st m c t.val t.isLt).o23
    | ⟨24, _⟩ => (st m c t.val t.isLt).o24
    | ⟨25, _⟩ => (st m c t.val t.isLt).o25
    | ⟨_ + 26, h⟩ => absurd h (Nat.not_lt.2 (Nat.le_add_left _ _))
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem after_3 (c : Dev nD) (t : Fin cfg0.N) : (dats m 0 c).after 3 t = iblk m c 3 t := by dsimp only [dats]; try rfl
theorem after_4 (c : Dev nD) (t : Fin cfg0.N) : (dats m 0 c).after 4 t = iblk m c 4 t := by dsimp only [dats]; try rfl
theorem after_5 (c : Dev nD) (t : Fin cfg0.N) : (dats m 0 c).after 5 t = iblk m c 5 t := by dsimp only [dats]; try rfl
theorem after_6 (c : Dev nD) (t : Fin cfg0.N) : (dats m 0 c).after 6 t = iblk m c 6 t := by dsimp only [dats]; try rfl
theorem after_7 (c : Dev nD) (t : Fin cfg0.N) : (dats m 0 c).after 7 t = iblk m c 7 t := by dsimp only [dats]; try rfl
theorem after_8 (c : Dev nD) (t : Fin cfg0.N) : (dats m 0 c).after 8 t = iblk m c 8 t := by dsimp only [dats]; try rfl
theorem after_9 (c : Dev nD) (t : Fin cfg0.N) : (dats m 0 c).after 9 t = iblk m c 9 t := by dsimp only [dats]; try rfl
theorem after_10 (c : Dev nD) (t : Fin cfg0.N) : (dats m 0 c).after 10 t = iblk m c 10 t := by dsimp only [dats]; try rfl
theorem after_11 (c : Dev nD) (t : Fin cfg0.N) : (dats m 0 c).after 11 t = iblk m c 11 t := by dsimp only [dats]; try rfl
theorem after_12 (c : Dev nD) (t : Fin cfg0.N) : (dats m 0 c).after 12 t = iblk m c 12 t := by dsimp only [dats]; try rfl
theorem after_13 (c : Dev nD) (t : Fin cfg0.N) : (dats m 0 c).after 13 t = iblk m c 13 t := by dsimp only [dats]; try rfl
theorem after_14 (c : Dev nD) (t : Fin cfg0.N) : (dats m 0 c).after 14 t = iblk m c 14 t := by dsimp only [dats]; try rfl
theorem after_15 (c : Dev nD) (t : Fin cfg0.N) : (dats m 0 c).after 15 t = iblk m c 15 t := by dsimp only [dats]; try rfl
theorem after_16 (c : Dev nD) (t : Fin cfg0.N) : (dats m 0 c).after 16 t = iblk m c 16 t := by dsimp only [dats]; try rfl
theorem after_17 (c : Dev nD) (t : Fin cfg0.N) : (dats m 0 c).after 17 t = (st m c t.val t.isLt).o17 := by dsimp only [dats]; try rfl
theorem after_18 (c : Dev nD) (t : Fin cfg0.N) : (dats m 0 c).after 18 t = (st m c t.val t.isLt).o18 := by dsimp only [dats]; try rfl
theorem after_19 (c : Dev nD) (t : Fin cfg0.N) : (dats m 0 c).after 19 t = (st m c t.val t.isLt).o19 := by dsimp only [dats]; try rfl
theorem after_20 (c : Dev nD) (t : Fin cfg0.N) : (dats m 0 c).after 20 t = (st m c t.val t.isLt).o20 := by dsimp only [dats]; try rfl
theorem after_21 (c : Dev nD) (t : Fin cfg0.N) : (dats m 0 c).after 21 t = (st m c t.val t.isLt).o21 := by dsimp only [dats]; try rfl
theorem after_22 (c : Dev nD) (t : Fin cfg0.N) : (dats m 0 c).after 22 t = (st m c t.val t.isLt).o22 := by dsimp only [dats]; try rfl
theorem after_23 (c : Dev nD) (t : Fin cfg0.N) : (dats m 0 c).after 23 t = (st m c t.val t.isLt).o23 := by dsimp only [dats]; try rfl
theorem after_24 (c : Dev nD) (t : Fin cfg0.N) : (dats m 0 c).after 24 t = (st m c t.val t.isLt).o24 := by dsimp only [dats]; try rfl
theorem after_25 (c : Dev nD) (t : Fin cfg0.N) : (dats m 0 c).after 25 t = (st m c t.val t.isLt).o25 := by dsimp only [dats]; try rfl
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg0.N) (d) : (dats m 0 c).before 15 t d = iblk m c 15 t :=
  ((dats m 0 c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)
theorem before_16 (c : Dev nD) (t : Fin cfg0.N) (d) : (dats m 0 c).before 16 t d = iblk m c 16 t :=
  ((dats m 0 c).before_in_eq_fetched 16 rfl (fun _ => rfl) (fun _ _ _ => rfl) (fun t => by rw [after_16]; unfold Dat.blockOf iblk; rw [A_eq]; try rfl) t d).trans
    (by unfold Dat.fetched Dat.blockOf iblk; rw [A_eq]; try rfl)

/-- Every output is stored into at every point. -/
theorem live_17 : ∀ t : Fin cfg0.N, cfg0.idle 17 (grid0.coords t) = false := (by decide +kernel : ∀ t : Fin grid0.N, cfg0.idle 17 (grid0.coords t) = false)
theorem live_18 : ∀ t : Fin cfg0.N, cfg0.idle 18 (grid0.coords t) = false := (by decide +kernel : ∀ t : Fin grid0.N, cfg0.idle 18 (grid0.coords t) = false)
theorem live_19 : ∀ t : Fin cfg0.N, cfg0.idle 19 (grid0.coords t) = false := (by decide +kernel : ∀ t : Fin grid0.N, cfg0.idle 19 (grid0.coords t) = false)
theorem live_20 : ∀ t : Fin cfg0.N, cfg0.idle 20 (grid0.coords t) = false := (by decide +kernel : ∀ t : Fin grid0.N, cfg0.idle 20 (grid0.coords t) = false)
theorem live_21 : ∀ t : Fin cfg0.N, cfg0.idle 21 (grid0.coords t) = false := (by decide +kernel : ∀ t : Fin grid0.N, cfg0.idle 21 (grid0.coords t) = false)
theorem live_22 : ∀ t : Fin cfg0.N, cfg0.idle 22 (grid0.coords t) = false := (by decide +kernel : ∀ t : Fin grid0.N, cfg0.idle 22 (grid0.coords t) = false)
theorem live_23 : ∀ t : Fin cfg0.N, cfg0.idle 23 (grid0.coords t) = false := (by decide +kernel : ∀ t : Fin grid0.N, cfg0.idle 23 (grid0.coords t) = false)
theorem live_24 : ∀ t : Fin cfg0.N, cfg0.idle 24 (grid0.coords t) = false := (by decide +kernel : ∀ t : Fin grid0.N, cfg0.idle 24 (grid0.coords t) = false)
theorem live_25 : ∀ t : Fin cfg0.N, cfg0.idle 25 (grid0.coords t) = false := (by decide +kernel : ∀ t : Fin grid0.N, cfg0.idle 25 (grid0.coords t) = false)

/-- An accumulator's buffer, written back at the last point only, holds at a later point what the point before left. -/
theorem before_18 (c : Dev nD) (n : ℕ) (h : n + 1 < cfg0.N) (d) : (dats m 0 c).before 18 ⟨n + 1, h⟩ d = (st m c n (Nat.lt_of_succ_lt h)).o18 := by
  have hf : cfg0.fresh 18 (n + 1) = false := by
    rw [Cfg.fresh_succ cfg0 18 n (Nat.lt_of_succ_lt h), live_18, Bool.false_and, Bool.or_false]
    refine Bool.eq_false_iff.mpr fun hfl => ?_
    have := (flush0_18 ⟨n, Nat.lt_of_succ_lt h⟩).mp hfl
    have hN : n + 1 < 16 := h
    simp only at this; omega
  rw [Dat.before_out_traj _ 18 rfl (fun _ _ => rfl) (fun t _ hi => absurd hi (by rw [live_18 t]; exact Bool.false_ne_true)) (n + 1) ⟨n + 1, h⟩ rfl d,
    if_neg (by rw [hf]; exact Bool.false_ne_true), after_18]
  rfl
theorem before_19 (c : Dev nD) (n : ℕ) (h : n + 1 < cfg0.N) (d) : (dats m 0 c).before 19 ⟨n + 1, h⟩ d = (st m c n (Nat.lt_of_succ_lt h)).o19 := by
  have hf : cfg0.fresh 19 (n + 1) = false := by
    rw [Cfg.fresh_succ cfg0 19 n (Nat.lt_of_succ_lt h), live_19, Bool.false_and, Bool.or_false]
    refine Bool.eq_false_iff.mpr fun hfl => ?_
    have := (flush0_19 ⟨n, Nat.lt_of_succ_lt h⟩).mp hfl
    have hN : n + 1 < 16 := h
    simp only at this; omega
  rw [Dat.before_out_traj _ 19 rfl (fun _ _ => rfl) (fun t _ hi => absurd hi (by rw [live_19 t]; exact Bool.false_ne_true)) (n + 1) ⟨n + 1, h⟩ rfl d,
    if_neg (by rw [hf]; exact Bool.false_ne_true), after_19]
  rfl
theorem before_20 (c : Dev nD) (n : ℕ) (h : n + 1 < cfg0.N) (d) : (dats m 0 c).before 20 ⟨n + 1, h⟩ d = (st m c n (Nat.lt_of_succ_lt h)).o20 := by
  have hf : cfg0.fresh 20 (n + 1) = false := by
    rw [Cfg.fresh_succ cfg0 20 n (Nat.lt_of_succ_lt h), live_20, Bool.false_and, Bool.or_false]
    refine Bool.eq_false_iff.mpr fun hfl => ?_
    have := (flush0_20 ⟨n, Nat.lt_of_succ_lt h⟩).mp hfl
    have hN : n + 1 < 16 := h
    simp only at this; omega
  rw [Dat.before_out_traj _ 20 rfl (fun _ _ => rfl) (fun t _ hi => absurd hi (by rw [live_20 t]; exact Bool.false_ne_true)) (n + 1) ⟨n + 1, h⟩ rfl d,
    if_neg (by rw [hf]; exact Bool.false_ne_true), after_20]
  rfl
theorem before_21 (c : Dev nD) (n : ℕ) (h : n + 1 < cfg0.N) (d) : (dats m 0 c).before 21 ⟨n + 1, h⟩ d = (st m c n (Nat.lt_of_succ_lt h)).o21 := by
  have hf : cfg0.fresh 21 (n + 1) = false := by
    rw [Cfg.fresh_succ cfg0 21 n (Nat.lt_of_succ_lt h), live_21, Bool.false_and, Bool.or_false]
    refine Bool.eq_false_iff.mpr fun hfl => ?_
    have := (flush0_21 ⟨n, Nat.lt_of_succ_lt h⟩).mp hfl
    have hN : n + 1 < 16 := h
    simp only at this; omega
  rw [Dat.before_out_traj _ 21 rfl (fun _ _ => rfl) (fun t _ hi => absurd hi (by rw [live_21 t]; exact Bool.false_ne_true)) (n + 1) ⟨n + 1, h⟩ rfl d,
    if_neg (by rw [hf]; exact Bool.false_ne_true), after_21]
  rfl
theorem before_22 (c : Dev nD) (n : ℕ) (h : n + 1 < cfg0.N) (d) : (dats m 0 c).before 22 ⟨n + 1, h⟩ d = (st m c n (Nat.lt_of_succ_lt h)).o22 := by
  have hf : cfg0.fresh 22 (n + 1) = false := by
    rw [Cfg.fresh_succ cfg0 22 n (Nat.lt_of_succ_lt h), live_22, Bool.false_and, Bool.or_false]
    refine Bool.eq_false_iff.mpr fun hfl => ?_
    have := (flush0_22 ⟨n, Nat.lt_of_succ_lt h⟩).mp hfl
    have hN : n + 1 < 16 := h
    simp only at this; omega
  rw [Dat.before_out_traj _ 22 rfl (fun _ _ => rfl) (fun t _ hi => absurd hi (by rw [live_22 t]; exact Bool.false_ne_true)) (n + 1) ⟨n + 1, h⟩ rfl d,
    if_neg (by rw [hf]; exact Bool.false_ne_true), after_22]
  rfl
theorem before_23 (c : Dev nD) (n : ℕ) (h : n + 1 < cfg0.N) (d) : (dats m 0 c).before 23 ⟨n + 1, h⟩ d = (st m c n (Nat.lt_of_succ_lt h)).o23 := by
  have hf : cfg0.fresh 23 (n + 1) = false := by
    rw [Cfg.fresh_succ cfg0 23 n (Nat.lt_of_succ_lt h), live_23, Bool.false_and, Bool.or_false]
    refine Bool.eq_false_iff.mpr fun hfl => ?_
    have := (flush0_23 ⟨n, Nat.lt_of_succ_lt h⟩).mp hfl
    have hN : n + 1 < 16 := h
    simp only at this; omega
  rw [Dat.before_out_traj _ 23 rfl (fun _ _ => rfl) (fun t _ hi => absurd hi (by rw [live_23 t]; exact Bool.false_ne_true)) (n + 1) ⟨n + 1, h⟩ rfl d,
    if_neg (by rw [hf]; exact Bool.false_ne_true), after_23]
  rfl
theorem before_24 (c : Dev nD) (n : ℕ) (h : n + 1 < cfg0.N) (d) : (dats m 0 c).before 24 ⟨n + 1, h⟩ d = (st m c n (Nat.lt_of_succ_lt h)).o24 := by
  have hf : cfg0.fresh 24 (n + 1) = false := by
    rw [Cfg.fresh_succ cfg0 24 n (Nat.lt_of_succ_lt h), live_24, Bool.false_and, Bool.or_false]
    refine Bool.eq_false_iff.mpr fun hfl => ?_
    have := (flush0_24 ⟨n, Nat.lt_of_succ_lt h⟩).mp hfl
    have hN : n + 1 < 16 := h
    simp only at this; omega
  rw [Dat.before_out_traj _ 24 rfl (fun _ _ => rfl) (fun t _ hi => absurd hi (by rw [live_24 t]; exact Bool.false_ne_true)) (n + 1) ⟨n + 1, h⟩ rfl d,
    if_neg (by rw [hf]; exact Bool.false_ne_true), after_24]
  rfl
theorem before_25 (c : Dev nD) (n : ℕ) (h : n + 1 < cfg0.N) (d) : (dats m 0 c).before 25 ⟨n + 1, h⟩ d = (st m c n (Nat.lt_of_succ_lt h)).o25 := by
  have hf : cfg0.fresh 25 (n + 1) = false := by
    rw [Cfg.fresh_succ cfg0 25 n (Nat.lt_of_succ_lt h), live_25, Bool.false_and, Bool.or_false]
    refine Bool.eq_false_iff.mpr fun hfl => ?_
    have := (flush0_25 ⟨n, Nat.lt_of_succ_lt h⟩).mp hfl
    have hN : n + 1 < 16 := h
    simp only at this; omega
  rw [Dat.before_out_traj _ 25 rfl (fun _ _ => rfl) (fun t _ hi => absurd hi (by rw [live_25 t]; exact Bool.false_ne_true)) (n + 1) ⟨n + 1, h⟩ rfl d,
    if_neg (by rw [hf]; exact Bool.false_ne_true), after_25]
  rfl
def pre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare ((dats m 0 c).before 19 t d)) ∗ (∃ d, owns (c : Thread nD τ) (st0_20 t) fullShare ((dats m 0 c).before 20 t d)) ∗ (∃ d, owns (c : Thread nD τ) (st0_21 t) fullShare ((dats m 0 c).before 21 t d)) ∗ (∃ d, owns (c : Thread nD τ) (st0_22 t) fullShare ((dats m 0 c).before 22 t d)) ∗ (∃ d, owns (c : Thread nD τ) (st0_23 t) fullShare ((dats m 0 c).before 23 t d)) ∗ (∃ d, owns (c : Thread nD τ) (st0_24 t) fullShare ((dats m 0 c).before 24 t d)) ∗ (∃ d, owns (c : Thread nD τ) (st0_25 t) fullShare ((dats m 0 c).before 25 t d)))
def post (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t ∗ (dats m 0 c).leavesExact 21 t ∗ (dats m 0 c).leavesExact 22 t ∗ (dats m 0 c).leavesExact 23 t ∗ (dats m 0 c).leavesExact 24 t ∗ (dats m 0 c).leavesExact 25 t)

/-- What is to be held after a point, buffer by buffer. -/
def postR (c : Dev nD) (t : Fin cfg0.N) (S : State F) : sProp 𝕄 := iprop((owns (c : Thread nD τ) scM fullShare S.o26 ∗ (∃ r, prngReg c r)) ∗ (dats m 0 c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (iblk m c 12 t) ∗ owns (c : Thread nD τ) (st0_13 t) fullShare (iblk m c 13 t) ∗ owns (c : Thread nD τ) (st0_14 t) fullShare (iblk m c 14 t) ∗ owns (c : Thread nD τ) (st0_15 t) fullShare (iblk m c 15 t) ∗ owns (c : Thread nD τ) (st0_16 t) fullShare (iblk m c 16 t) ∗ owns (c : Thread nD τ) (st0_17 t) fullShare S.o17 ∗ owns (c : Thread nD τ) (st0_18 t) fullShare S.o18 ∗ owns (c : Thread nD τ) (st0_19 t) fullShare S.o19 ∗ owns (c : Thread nD τ) (st0_20 t) fullShare S.o20 ∗ owns (c : Thread nD τ) (st0_21 t) fullShare S.o21 ∗ owns (c : Thread nD τ) (st0_22 t) fullShare S.o22 ∗ owns (c : Thread nD τ) (st0_23 t) fullShare S.o23 ∗ owns (c : Thread nD τ) (st0_24 t) fullShare S.o24 ∗ owns (c : Thread nD τ) (st0_25 t) fullShare S.o25)

theorem post_eq (c : Dev nD) (t : Fin cfg0.N) : post m c t = postR m c t (st m c t.val t.isLt) := by
  unfold post postR
  rw [show (dats m 0 c).leavesExact 0 t = owns (c : Thread nD τ) (st0_0 t) fullShare ((dats m 0 c).after 0 t) from by unfold Dat.leavesExact; rw [show cfg0.idle 0 (grid0.coords t) = false from rfl], after_0]
  rw [show (dats m 0 c).leavesExact 1 t = owns (c : Thread nD τ) (st0_1 t) fullShare ((dats m 0 c).after 1 t) from by unfold Dat.leavesExact; rw [show cfg0.idle 1 (grid0.coords t) = false from rfl], after_1]
  rw [show (dats m 0 c).leavesExact 2 t = owns (c : Thread nD τ) (st0_2 t) fullShare ((dats m 0 c).after 2 t) from by unfold Dat.leavesExact; rw [show cfg0.idle 2 (grid0.coords t) = false from rfl], after_2]
  rw [show (dats m 0 c).leavesExact 3 t = owns (c : Thread nD τ) (st0_3 t) fullShare ((dats m 0 c).after 3 t) from by unfold Dat.leavesExact; rw [show cfg0.idle 3 (grid0.coords t) = false from rfl], after_3]
  rw [show (dats m 0 c).leavesExact 4 t = owns (c : Thread nD τ) (st0_4 t) fullShare ((dats m 0 c).after 4 t) from by unfold Dat.leavesExact; rw [show cfg0.idle 4 (grid0.coords t) = false from rfl], after_4]
  rw [show (dats m 0 c).leavesExact 5 t = owns (c : Thread nD τ) (st0_5 t) fullShare ((dats m 0 c).after 5 t) from by unfold Dat.leavesExact; rw [show cfg0.idle 5 (grid0.coords t) = false from rfl], after_5]
  rw [show (dats m 0 c).leavesExact 6 t = owns (c : Thread nD τ) (st0_6 t) fullShare ((dats m 0 c).after 6 t) from by unfold Dat.leavesExact; rw [show cfg0.idle 6 (grid0.coords t) = false from rfl], after_6]
  rw [show (dats m 0 c).leavesExact 7 t = owns (c : Thread nD τ) (st0_7 t) fullShare ((dats m 0 c).after 7 t) from by unfold Dat.leavesExact; rw [show cfg0.idle 7 (grid0.coords t) = false from rfl], after_7]
  rw [show (dats m 0 c).leavesExact 8 t = owns (c : Thread nD τ) (st0_8 t) fullShare ((dats m 0 c).after 8 t) from by unfold Dat.leavesExact; rw [show cfg0.idle 8 (grid0.coords t) = false from rfl], after_8]
  rw [show (dats m 0 c).leavesExact 9 t = owns (c : Thread nD τ) (st0_9 t) fullShare ((dats m 0 c).after 9 t) from by unfold Dat.leavesExact; rw [show cfg0.idle 9 (grid0.coords t) = false from rfl], after_9]
  rw [show (dats m 0 c).leavesExact 10 t = owns (c : Thread nD τ) (st0_10 t) fullShare ((dats m 0 c).after 10 t) from by unfold Dat.leavesExact; rw [show cfg0.idle 10 (grid0.coords t) = false from rfl], after_10]
  rw [show (dats m 0 c).leavesExact 11 t = owns (c : Thread nD τ) (st0_11 t) fullShare ((dats m 0 c).after 11 t) from by unfold Dat.leavesExact; rw [show cfg0.idle 11 (grid0.coords t) = false from rfl], after_11]
  rw [show (dats m 0 c).leavesExact 12 t = owns (c : Thread nD τ) (st0_12 t) fullShare ((dats m 0 c).after 12 t) from by unfold Dat.leavesExact; rw [show cfg0.idle 12 (grid0.coords t) = false from rfl], after_12]
  rw [show (dats m 0 c).leavesExact 13 t = owns (c : Thread nD τ) (st0_13 t) fullShare ((dats m 0 c).after 13 t) from by unfold Dat.leavesExact; rw [show cfg0.idle 13 (grid0.coords t) = false from rfl], after_13]
  rw [show (dats m 0 c).leavesExact 14 t = owns (c : Thread nD τ) (st0_14 t) fullShare ((dats m 0 c).after 14 t) from by unfold Dat.leavesExact; rw [show cfg0.idle 14 (grid0.coords t) = false from rfl], after_14]
  rw [show (dats m 0 c).leavesExact 15 t = owns (c : Thread nD τ) (st0_15 t) fullShare ((dats m 0 c).after 15 t) from by unfold Dat.leavesExact; rw [show cfg0.idle 15 (grid0.coords t) = false from rfl], after_15]
  rw [show (dats m 0 c).leavesExact 16 t = owns (c : Thread nD τ) (st0_16 t) fullShare ((dats m 0 c).after 16 t) from by unfold Dat.leavesExact; rw [show cfg0.idle 16 (grid0.coords t) = false from rfl], after_16]
  rw [show (dats m 0 c).leavesExact 17 t = owns (c : Thread nD τ) (st0_17 t) fullShare ((dats m 0 c).after 17 t) from by unfold Dat.leavesExact; rw [show cfg0.idle 17 (grid0.coords t) = false from live_17 t], after_17]
  rw [show (dats m 0 c).leavesExact 18 t = owns (c : Thread nD τ) (st0_18 t) fullShare ((dats m 0 c).after 18 t) from by unfold Dat.leavesExact; rw [show cfg0.idle 18 (grid0.coords t) = false from live_18 t], after_18]
  rw [show (dats m 0 c).leavesExact 19 t = owns (c : Thread nD τ) (st0_19 t) fullShare ((dats m 0 c).after 19 t) from by unfold Dat.leavesExact; rw [show cfg0.idle 19 (grid0.coords t) = false from live_19 t], after_19]
  rw [show (dats m 0 c).leavesExact 20 t = owns (c : Thread nD τ) (st0_20 t) fullShare ((dats m 0 c).after 20 t) from by unfold Dat.leavesExact; rw [show cfg0.idle 20 (grid0.coords t) = false from live_20 t], after_20]
  rw [show (dats m 0 c).leavesExact 21 t = owns (c : Thread nD τ) (st0_21 t) fullShare ((dats m 0 c).after 21 t) from by unfold Dat.leavesExact; rw [show cfg0.idle 21 (grid0.coords t) = false from live_21 t], after_21]
  rw [show (dats m 0 c).leavesExact 22 t = owns (c : Thread nD τ) (st0_22 t) fullShare ((dats m 0 c).after 22 t) from by unfold Dat.leavesExact; rw [show cfg0.idle 22 (grid0.coords t) = false from live_22 t], after_22]
  rw [show (dats m 0 c).leavesExact 23 t = owns (c : Thread nD τ) (st0_23 t) fullShare ((dats m 0 c).after 23 t) from by unfold Dat.leavesExact; rw [show cfg0.idle 23 (grid0.coords t) = false from live_23 t], after_23]
  rw [show (dats m 0 c).leavesExact 24 t = owns (c : Thread nD τ) (st0_24 t) fullShare ((dats m 0 c).after 24 t) from by unfold Dat.leavesExact; rw [show cfg0.idle 24 (grid0.coords t) = false from live_24 t], after_24]
  rw [show (dats m 0 c).leavesExact 25 t = owns (c : Thread nD τ) (st0_25 t) fullShare ((dats m 0 c).after 25 t) from by unfold Dat.leavesExact; rw [show cfg0.idle 25 (grid0.coords t) = false from live_25 t], after_25]
  rfl

end Cert.Kernel5Ideal.Prep

end
-- ==== Proof.PrepBodyA.lean ====
/-
  The recurrence's preparation, backward: the body at the first point.
-/
module

public import proofs.«01_k».proof.Proof.PrepData

@[expose] public section

set_option maxRecDepth 16384
set_option maxHeartbeats 4000000

noncomputable section

namespace Cert.Kernel5Ideal.Prep

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at the first point. -/
theorem sound_first (c : Dev nD) (h : 0 < cfg0.N) :
    pre m c ⟨0, h⟩ ⊢ wp frame (wpE (defs₀ (F := F)) Variants.none c none) Set.univ (bodyAt0 ⟨0, h⟩) (fun _ => post m c ⟨0, h⟩) := by
  rw [(post_eq m c ⟨0, h⟩).trans (show _ = postR m c ⟨0, h⟩ (stA m c ⟨0, h⟩ rfl) from rfl)]
  unfold pre
  simp only [before_0, before_1, before_2, before_3, before_4, before_5, before_6, before_7, before_8, before_9, before_10, before_11, before_12, before_13, before_14, before_15, before_16]
  rw [show (dats m 0 c).Φ (Fin.castSucc ⟨0, h⟩) = Pipeline.ΦA spec0 c from rfl, PhiA_eq]
  unfold bodyAt0
  iintro ⟨⟨⟨%y, H26⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  have hrun := (rA m c ⟨0, h⟩ rfl y).2.2.2.2.2.2.2.2.2.2 Set.univ (fun _ => postR m c ⟨0, h⟩ (stA m c ⟨0, h⟩ rfl))
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexact H26
  iintro ⟨H0, H1, H2, H3, H4, H5, H6, H7, H8, H9, H10, H11, H12, H13, H14, H15, H16, H17, H18, H19, H20, H21, H22, H23, H24, H25, H26⟩
  unfold postR
  isplitl [H26 Hg]
  · isplitl [H26]
    · iapply (leftA_26 m c ⟨0, h⟩ rfl y); iexact H26
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · iapply (leftA_17 m c ⟨0, h⟩ rfl y); iexact H17
  isplitl [H18]
  · iapply (leftA_18 m c ⟨0, h⟩ rfl y); iexact H18
  isplitl [H19]
  · iapply (leftA_19 m c ⟨0, h⟩ rfl y); iexact H19
  isplitl [H20]
  · iapply (leftA_20 m c ⟨0, h⟩ rfl y); iexact H20
  isplitl [H21]
  · iapply (leftA_21 m c ⟨0, h⟩ rfl y); iexact H21
  isplitl [H22]
  · iapply (leftA_22 m c ⟨0, h⟩ rfl y); iexact H22
  isplitl [H23]
  · iapply (leftA_23 m c ⟨0, h⟩ rfl y); iexact H23
  isplitl [H24]
  · iapply (leftA_24 m c ⟨0, h⟩ rfl y); iexact H24
  iapply (leftA_25 m c ⟨0, h⟩ rfl y); iexact H25

end Cert.Kernel5Ideal.Prep

end
-- ==== Proof.PrepBodyB.lean ====
/-
  The recurrence's preparation, backward: the body at a later point.
-/
module

public import proofs.«01_k».proof.Proof.PrepData

@[expose] public section

set_option maxRecDepth 16384
set_option maxHeartbeats 4000000

noncomputable section

namespace Cert.Kernel5Ideal.Prep

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at a later point. -/
theorem sound_later (c : Dev nD) (n : ℕ) (h : n + 1 < cfg0.N) :
    pre m c ⟨n + 1, h⟩ ⊢ wp frame (wpE (defs₀ (F := F)) Variants.none c none) Set.univ (bodyAt0 ⟨n + 1, h⟩) (fun _ => post m c ⟨n + 1, h⟩) := by
  rw [(post_eq m c ⟨n + 1, h⟩).trans (show _ = postR m c ⟨n + 1, h⟩ (stB m c ⟨n + 1, h⟩ (Nat.succ_ne_zero n) (st m c n (Nat.lt_of_succ_lt h))) from rfl)]
  unfold pre
  simp only [before_0, before_1, before_2, before_3, before_4, before_5, before_6, before_7, before_8, before_9, before_10, before_11, before_12, before_13, before_14, before_15, before_16, before_18, before_19, before_20, before_21, before_22, before_23, before_24, before_25]
  rw [show (dats m 0 c).Φ (Fin.castSucc ⟨n + 1, h⟩) = iprop(owns (c : Thread nD τ) scM fullShare (st m c n (Nat.lt_of_succ_lt h)).o26 ∗ (∃ r, prngReg c r)) from rfl]
  unfold bodyAt0
  iintro ⟨⟨H26, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  have hrun := (rB m c ⟨n + 1, h⟩ (Nat.succ_ne_zero n) (st m c n (Nat.lt_of_succ_lt h))).2.2.2.2.2.2.2.2.2.2 Set.univ (fun _ => postR m c ⟨n + 1, h⟩ (stB m c ⟨n + 1, h⟩ (Nat.succ_ne_zero n) (st m c n (Nat.lt_of_succ_lt h))))
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iintro ⟨H0, H1, H2, H3, H4, H5, H6, H7, H8, H9, H10, H11, H12, H13, H14, H15, H16, H17, H18, H19, H20, H21, H22, H23, H24, H25, H26⟩
  unfold postR
  isplitl [H26 Hg]
  · isplitl [H26]
    · iapply (leftB_26 m c ⟨n + 1, h⟩ (Nat.succ_ne_zero n) (st m c n (Nat.lt_of_succ_lt h))); iexact H26
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · iapply (leftB_17 m c ⟨n + 1, h⟩ (Nat.succ_ne_zero n) (st m c n (Nat.lt_of_succ_lt h))); iexact H17
  isplitl [H18]
  · iapply (leftB_18 m c ⟨n + 1, h⟩ (Nat.succ_ne_zero n) (st m c n (Nat.lt_of_succ_lt h))); iexact H18
  isplitl [H19]
  · iapply (leftB_19 m c ⟨n + 1, h⟩ (Nat.succ_ne_zero n) (st m c n (Nat.lt_of_succ_lt h))); iexact H19
  isplitl [H20]
  · iapply (leftB_20 m c ⟨n + 1, h⟩ (Nat.succ_ne_zero n) (st m c n (Nat.lt_of_succ_lt h))); iexact H20
  isplitl [H21]
  · iapply (leftB_21 m c ⟨n + 1, h⟩ (Nat.succ_ne_zero n) (st m c n (Nat.lt_of_succ_lt h))); iexact H21
  isplitl [H22]
  · iapply (leftB_22 m c ⟨n + 1, h⟩ (Nat.succ_ne_zero n) (st m c n (Nat.lt_of_succ_lt h))); iexact H22
  isplitl [H23]
  · iapply (leftB_23 m c ⟨n + 1, h⟩ (Nat.succ_ne_zero n) (st m c n (Nat.lt_of_succ_lt h))); iexact H23
  isplitl [H24]
  · iapply (leftB_24 m c ⟨n + 1, h⟩ (Nat.succ_ne_zero n) (st m c n (Nat.lt_of_succ_lt h))); iexact H24
  iapply (leftB_25 m c ⟨n + 1, h⟩ (Nat.succ_ne_zero n) (st m c n (Nat.lt_of_succ_lt h))); iexact H25

end Cert.Kernel5Ideal.Prep

end
-- ==== Proof.PrepFrame.lean ====
/-
  The recurrence's preparation, backward: the launch and the frame.
-/
module

public import Idealize.ShloMosaic.Lib.Claim
public import proofs.«01_k».proof.Proof.PrepBodyA
public import proofs.«01_k».proof.Proof.PrepBodyB

@[expose] public section

set_option maxRecDepth 16384
set_option maxHeartbeats 4000000

noncomputable section

namespace Cert.Kernel5Ideal.Prep

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    pre m c t ⊢ wp frame (wpE (defs₀ (F := F)) Variants.none c none) Set.univ (bodyAt0 t) (fun _ => post m c t) := by
  obtain ⟨n, h⟩ := t
  cases n with
  | zero => exact sound_first m c h
  | succ n => exact sound_later m c n h

theorem defs₀_row (t : Fin cfg0.N) : defs₀ (F := F) .tc cfg0.body (cfg0.bodyArgs t (cfg0.slots t)) = bodyAt0 t := by
  unfold defs₀; rw [Defs.onTc_tc]; try rfl

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]; try exact Idealize.SL.BI.Entails.refl _

theorem hout (c : Dev nD) : (dats m 0 c).Φ (Fin.last cfg0.N) ⊢ Pipeline.ΦA spec0 c := by
  rw [show (dats m 0 c).Φ (Fin.last cfg0.N) = Phi m c (15 + 1) (Nat.le_of_eq N_0.symm) from rfl, Phi, PhiA_eq]
  iintro ⟨H, Hg⟩
  isplitl [H]
  · iexists _; iexact H
  iexact Hg

set_option backward.isDefEq.respectTransparency.types false in
/-- The launch: every array of the pipeline at what the blocks make of it, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel5Ideal.Prep

end
-- ==== Proof.PrepFrames.lean ====
/-
  The frames of the backward call of the recurrence's preparation and of its reference.
-/
module

public import proofs.«01_k».proof.Defs
public import Idealize.ShloMosaic.Lib.Pipeline.ValueKit
public import proofs.«01_k».proof.Proof.PrepFrame
public import proofs.«01_k».proof.Proof.Gen.Kernel5.Skeleton
public import proofs.«01_k».proof.Proof.Gen.Reference5Ideal.Run

@[expose] public section

set_option maxRecDepth 16384

noncomputable section

open Idealize.ShloMosaic Idealize.ShloMosaic.TcCoe Idealize.ShloMosaic.Tactic Idealize.SL Idealize.SL.Sem Idealize.ShloMosaic.StableHlo

namespace Cert.Reference5Ideal.Value

open Cert.Reference5Ideal Cert.Reference5Ideal.Gen

/-- The reference's run, of its arguments alone. -/
theorem run_kept (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => (h c).2.2.2.2.2.2.2.2.2) (run (F := Ideal) m ρ)

end Cert.Reference5Ideal.Value

namespace Cert.PrepFrames

/-- The frame of the kernel at the hardware's values, of the text `Kernel5Ideal` prints. -/
def Ran : Prop := ∀ (m : (ℓ : Loc Cert.Kernel5Ideal.nD Cert.Kernel5Ideal.τ Cert.Kernel5Ideal.sig) → Buf (Elt Bits) ℓ) (g : Dev Cert.Kernel5Ideal.nD → PrngReg), True →
    θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

theorem ran : Ran := fun m g _ => Cert.Kernel5Ideal.Prep.frame (F := Bits) m g

/-- The two programs' texts are one text. -/
theorem same : Cert.quiescent_Kernel5 (hKernel5 := Cert.Kernel5.Gen.facts) = Ran := by sl_kernel_rfl

theorem quiescent : Cert.quiescent_Kernel5 (hKernel5 := Cert.Kernel5.Gen.facts) := same.mpr ran

theorem frame : Cert.quiescent_Reference5Ideal (hReference5Ideal := Cert.Reference5Ideal.Gen.facts) := by
  intro m ρ _
  run_from Cert.Reference5Ideal.Value.run_kept m ρ
  exact sem_eq_zero_of_no_sems rfl _

end Cert.PrepFrames

end
-- ==== Proof.Lift.lean ====
/-
  Extended-real operations on real arguments: sums, quotients, the reciprocal square root and the constants that the
  programs spell as bit patterns, each as the coercion of the real operation.
-/
module

public import Idealize.ShloMosaic.Lib.Pointwise
public import Idealize.ShloMosaic.Lib.IdealHost
public import Idealize.ShloMosaic.Lib.ReduceAll

@[expose] public section

noncomputable section

open Idealize.ShloMosaic
open scoped BigOperators

namespace Cert.Lift

/-- A finite sum of coerced reals is the coerced sum. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Division of reals by a nonzero real. -/
theorem div_real {y : ℝ} (h : y ≠ 0) (x : ℝ) : Ideal.div (x : EReal) (y : EReal) = ((x / y : ℝ) : EReal) := by
  rw [Ideal.div_coe h, ← EReal.coe_mul, mul_one_div]

/-- The reciprocal square root of a positive real. -/
theorem rsqrt_real {x : ℝ} (h : 0 < x) : Ideal.rsqrt (x : EReal) = (((Real.sqrt x)⁻¹ : ℝ) : EReal) := by
  rw [Ideal.rsqrt_coe, if_neg (not_lt.2 h.le), if_neg h.ne']

/-- The real that the pattern of the norms' `1e-6` denotes. -/
def eps : ℝ := 8796093 / 2 ^ 43

theorem eps_pos : 0 < eps := by unfold eps; positivity

theorem bits_eps : Ideal.ofBits .f32 0x358637BD#32 = ((eps : ℝ) : EReal) := by
  unfold eps
  simp [Ideal.ofBits, Ideal.ieee, -EReal.coe_mul]; norm_num

theorem bits_1024 : Ideal.ofBits .f32 0x44800000#32 = ((1024 : ℝ) : EReal) := by
  simp [Ideal.ofBits, Ideal.ieee, -EReal.coe_mul]; norm_num

theorem bits_inv1024 : Ideal.ofBits .f32 0x3A800000#32 = ((1 / 1024 : ℝ) : EReal) := by
  simp [Ideal.ofBits, Ideal.ieee, -EReal.coe_mul]; norm_num

theorem bits_inv2048 : Ideal.ofBits .f32 0x3A000000#32 = ((1 / 2048 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul, -EReal.coe_neg]; norm_num

theorem bits_two : Ideal.ofBits .f32 0x40000000#32 = ((2 : ℝ) : EReal) := by
  simp [Ideal.ofBits, Ideal.ieee, -EReal.coe_mul]; norm_num

theorem bits_inf : Ideal.ofBits .f32 0x7F800000#32 = (⊤ : EReal) := by
  simp [Ideal.ofBits, Ideal.ieee]

/-- An extended real whose absolute value is below `⊤` is a real. -/
theorem real_of_abs_lt_top {x : EReal} (h : max x (-x) < ⊤) : ((x.toReal : ℝ) : EReal) = x := by
  refine EReal.coe_toReal (fun e => ?_) (fun e => ?_)
  · subst e; simp at h
  · subst e; simp at h

/-- An array all of whose absolute values compare below infinity has real entries. -/
theorem real_of_all {s : Shape} {axes : List (Fin s.rank)} (x : FVec Ideal s .f32)
    (b : (⟨0, ![]⟩ : Shape).BroadcastsInDim s (![] : Fin 0 → Fin s.rank)) (h : s.ReducesTo axes ⟨0, ![]⟩)
    (hu : 0 < (⟨0, ![]⟩ : Shape).numel) (init : IVec ⟨0, ![]⟩ 1) (j : (⟨0, ![]⟩ : Shape).Idx)
    (e : Host.reduce IntOp.andi (cmpf .olt (Host.absf x) (broadcastInDim s ![] b (constant ⟨0, ![]⟩ .f32 0x7F800000#32))) init h hu j = 1#1)
    (i : s.Idx) : (((x i).toReal : ℝ) : EReal) = x i := by
  haveI : Subsingleton (⟨0, ![]⟩ : Shape).Idx := ⟨fun a b => funext fun i => i.elim0⟩
  have e1 := Host.reduce_andi_all _ _ h hu j e i
  pointwise [bits_inf] at e1
  refine real_of_abs_lt_top ?_
  by_contra hn
  have hn' : ¬(show EReal from FloatOps.absf (x i)) < ⊤ := hn
  rw [decide_eq_false hn'] at e1
  exact absurd e1 (by decide)

/-- An array known at every pair of coordinates, read at an index. -/
theorem at_idx {a b : ℕ} {φ : FTy} {f : FVec Ideal ⟨2, ![a, b]⟩ φ} {g : Fin a → Fin b → ℝ}
    (h : ∀ p k, f (ix2 p k) = ((g p k : ℝ) : EReal)) (y : (⟨2, ![a, b]⟩ : Shape).Idx) : f y = ((g (y 0) (y 1) : ℝ) : EReal) := by
  rw [eq_ix2 y]; exact h _ _

variable {n : ℕ}

/-- The mean square of a row, shifted by the norm's constant. -/
def ms (x : Fin n → ℝ) : ℝ := (∑ k, x k * x k) / n + eps

/-- The reciprocal root mean square of a row. -/
def rs (x : Fin n → ℝ) : ℝ := (Real.sqrt (ms x))⁻¹

theorem ms_pos (x : Fin n → ℝ) : 0 < ms x :=
  add_pos_of_nonneg_of_pos (div_nonneg (Finset.sum_nonneg fun k _ => mul_self_nonneg _) (Nat.cast_nonneg _)) eps_pos

theorem rs_div_ms (x : Fin n → ℝ) : rs x / ms x = rs x * rs x * rs x := by
  have h := ms_pos x
  have hs : Real.sqrt (ms x) * Real.sqrt (ms x) = ms x := Real.mul_self_sqrt h.le
  have h0 : Real.sqrt (ms x) ≠ 0 := (Real.sqrt_pos.2 h).ne'
  have hi : (ms x)⁻¹ = (Real.sqrt (ms x))⁻¹ * (Real.sqrt (ms x))⁻¹ := by rw [← mul_inv, hs]
  unfold rs
  rw [div_eq_mul_inv, hi, mul_assoc]

/-- The gradient of a normalised row: the form with the centred cotangent, `rs · (u − x̂ · mean (u · x̂))`, is the one
    that differentiating through the mean square writes. -/
theorem rms_grad (x u : Fin n → ℝ) (j : Fin n) :
    u j * rs x + x j * ((∑ k, x k * u k) * (-(1 / 2) * (rs x / ms x)) / n) + ((∑ k, x k * u k) * (-(1 / 2) * (rs x / ms x)) / n) * x j
      = rs x * (u j - x j * rs x * ((∑ k, u k * (x k * rs x)) / n)) := by
  have e : (∑ k, u k * (x k * rs x)) = (∑ k, x k * u k) * rs x := by
    rw [Finset.sum_mul]; exact Finset.sum_congr rfl fun k _ => by ring
  rw [e, rs_div_ms]; ring

end Cert.Lift

end
-- ==== Proof.FfnModel.lean ====
/-
  The feed-forward half of the block over the reals, one row at a time: the forward values and the gradients that the
  kernel and the reference are both compared with.
-/
module

public import proofs.«01_k».proof.Proof.Lift

@[expose] public section

noncomputable section

open scoped BigOperators

namespace Cert.Lift

/-- The gains and the weights, as real arrays. -/
structure Ffn where
  gp : Fin 1024 → ℝ
  gq : Fin 1024 → ℝ
  wg : Fin 1024 → Fin 2816 → ℝ
  wu : Fin 1024 → Fin 2816 → ℝ
  wd : Fin 2816 → Fin 1024 → ℝ

namespace Ffn

variable (P : Ffn) (x tg : Fin 1024 → ℝ)

/-- The normalised input times its gain. -/
def h (k : Fin 1024) : ℝ := x k * rs x * P.gp k
def gate (j : Fin 2816) : ℝ := ∑ k, P.h x k * P.wg k j
def up (j : Fin 2816) : ℝ := ∑ k, P.h x k * P.wu k j
/-- The gate's logistic. -/
def sg (j : Fin 2816) : ℝ := (1 + Real.exp (-(P.gate x j)))⁻¹
def act (j : Fin 2816) : ℝ := P.gate x j * P.sg x j * P.up x j
def f (k : Fin 1024) : ℝ := ∑ j, P.act x j * P.wd j k
/-- The normalised projection. -/
def fn (k : Fin 1024) : ℝ := P.f x k * rs (P.f x)
def diff (k : Fin 1024) : ℝ := x k + P.fn x k * P.gq k - tg k
/-- The gradient of the loss by the block's output. -/
def dy (k : Fin 1024) : ℝ := P.diff x tg k * (1 / 1024)
def u2 (k : Fin 1024) : ℝ := P.dy x tg k * P.gq k
def df (k : Fin 1024) : ℝ := rs (P.f x) * (P.u2 x tg k - P.fn x k * ((∑ l, P.u2 x tg l * P.fn x l) / 1024))
def dact (j : Fin 2816) : ℝ := ∑ k, P.df x tg k * P.wd j k
def dup (j : Fin 2816) : ℝ := P.dact x tg j * P.gate x j * P.sg x j
def dgate (j : Fin 2816) : ℝ := P.dact x tg j * P.up x j * (P.sg x j * (1 + P.gate x j * (1 - P.sg x j)))
def dh (k : Fin 1024) : ℝ := (∑ j, P.dgate x tg j * P.wg k j) + ∑ j, P.dup x tg j * P.wu k j
def u1 (k : Fin 1024) : ℝ := P.dh x tg k * P.gp k
/-- The gradient by the input row. -/
def dx (k : Fin 1024) : ℝ :=
  P.dy x tg k + rs x * (P.u1 x tg k - x k * rs x * ((∑ l, P.u1 x tg l * (x l * rs x)) / 1024))
/-- The row's squared error. -/
def sq : ℝ := ∑ k, P.diff x tg k * P.diff x tg k

end Ffn

end Cert.Lift

end
-- ==== Proof.FfnKernel.lean ====
/-
  The kernel's payloads on a block of rows whose entries are reals: each is the row model of `FfnModel`.
-/
module

public import proofs.«01_k».proof.Proof.Gen.KernelIdeal.Frame
public import Idealize.ShloMosaic.Lib.Pipeline.ValueKit
public import proofs.«01_k».proof.Proof.FfnModel

@[expose] public section

set_option maxRecDepth 16384

noncomputable section

open Idealize.ShloMosaic Idealize.ShloMosaic.TcCoe Idealize.SL.Sem
open Cert.Lift
open scoped BigOperators

namespace Cert.KernelIdeal.Pay

open Cert.KernelIdeal Cert.KernelIdeal.Gen

/-- The blocks at a point: their entries are the rows `X`, the targets `T` and the parameters `P`. -/
structure Blk (P : Ffn) (X T : Fin 256 → Fin 1024 → ℝ) (v0 v43 : FVec Ideal S256x1024 .f32) (v2 v3 : FVec Ideal S1x1024 .f32)
    (v4 v6 : FVec Ideal S1024x2816 .bf16) (v8 : FVec Ideal S2816x1024 .bf16) : Prop where
  x : ∀ p k, v0 (ix2 p k) = ((X p k : ℝ) : EReal)
  t : ∀ p k, v43 (ix2 p k) = ((T p k : ℝ) : EReal)
  gp : ∀ k, v2 (ix2 0 k) = ((P.gp k : ℝ) : EReal)
  gq : ∀ k, v3 (ix2 0 k) = ((P.gq k : ℝ) : EReal)
  wg : ∀ k j, v4 (ix2 k j) = ((P.wg k j : ℝ) : EReal)
  wu : ∀ k j, v6 (ix2 k j) = ((P.wu k j : ℝ) : EReal)
  wd : ∀ j k, v8 (ix2 j k) = ((P.wd j k : ℝ) : EReal)

variable {P : Ffn} {X T : Fin 256 → Fin 1024 → ℝ} {v0 v43 : FVec Ideal S256x1024 .f32} {v2 v3 : FVec Ideal S1x1024 .f32}
  {v4 v6 : FVec Ideal S1024x2816 .bf16} {v8 : FVec Ideal S2816x1024 .bf16} (B : Blk P X T v0 v43 v2 v3 v4 v6 v8)
include B

theorem pay7_at (p : Fin 256) : k0_pay7 (F := Ideal) v0 (ix2 p 0) = ((rs (X p) : ℝ) : EReal) := by
  pointwise [k0_pay7, k0_pay3]
  simp only [B.x, ← EReal.coe_mul, sum_coe, bits_1024, bits_eps, div_real (by norm_num : (1024 : ℝ) ≠ 0), ← EReal.coe_add]
  exact rsqrt_real (ms_pos (X p))

theorem pay8_at (p : Fin 256) (k : Fin 1024) : k0_pay8 (F := Ideal) v0 (ix2 p k) = ((X p k * rs (X p) : ℝ) : EReal) := by
  pointwise [k0_pay8, k0_pay3]
  rw [B.x, pay7_at B, EReal.coe_mul]

theorem pay9_at (p : Fin 256) (k : Fin 1024) : k0_pay9 (F := Ideal) v0 v2 (ix2 p k) = ((P.h (X p) k : ℝ) : EReal) := by
  pointwise [k0_pay9]
  rw [pay8_at B, B.gp, ← EReal.coe_mul]; rfl

theorem pay10_at (p : Fin 256) (j : Fin 2816) : k0_pay10 (F := Ideal) v0 v2 v4 (ix2 p j) = ((P.gate (X p) j : ℝ) : EReal) := by
  pointwise [k0_pay10, k0_pay4]
  simp only [pay9_at B, B.wg, ← EReal.coe_mul, sum_coe]
  rfl

theorem pay11_at (p : Fin 256) (j : Fin 2816) : k0_pay11 (F := Ideal) v0 v2 v6 (ix2 p j) = ((P.up (X p) j : ℝ) : EReal) := by
  pointwise [k0_pay11, k0_pay5]
  simp only [pay9_at B, B.wu, ← EReal.coe_mul, sum_coe]
  rfl

theorem pay12_at (p : Fin 256) (j : Fin 2816) : k0_pay12 (F := Ideal) v0 v2 v4 (ix2 p j) = ((P.sg (X p) j : ℝ) : EReal) := by
  pointwise [k0_pay12]
  rw [pay10_at B, Ideal.logistic_coe]; rfl

theorem pay13_at (p : Fin 256) (j : Fin 2816) :
    k0_pay13 (F := Ideal) v0 v2 v4 v6 (ix2 p j) = ((P.act (X p) j : ℝ) : EReal) := by
  pointwise [k0_pay13]
  rw [pay10_at B, pay12_at B, pay11_at B]
  simp only [← EReal.coe_mul]; rfl

theorem pay14_at (p : Fin 256) (k : Fin 1024) :
    k0_pay14 (F := Ideal) v0 v2 v4 v6 v8 (ix2 p k) = ((P.f (X p) k : ℝ) : EReal) := by
  pointwise [k0_pay14, k0_pay6]
  simp only [pay13_at B, B.wd, ← EReal.coe_mul, sum_coe]
  rfl

theorem pay15_at (p : Fin 256) : k0_pay15 (F := Ideal) v0 v2 v4 v6 v8 (ix2 p 0) = ((rs (P.f (X p)) : ℝ) : EReal) := by
  pointwise [k0_pay15]
  simp only [pay14_at B, ← EReal.coe_mul, sum_coe, bits_1024, bits_eps, div_real (by norm_num : (1024 : ℝ) ≠ 0), ← EReal.coe_add]
  exact rsqrt_real (ms_pos (P.f (X p)))

theorem pay16_at (p : Fin 256) (k : Fin 1024) :
    k0_pay16 (F := Ideal) (k0_pay14 v0 v2 v4 v6 v8) (k0_pay15 v0 v2 v4 v6 v8) (ix2 p k) = ((P.fn (X p) k : ℝ) : EReal) := by
  pointwise [k0_pay16]
  rw [pay14_at B, pay15_at B, ← EReal.coe_mul]; rfl

theorem pay17_at (p : Fin 256) (k : Fin 1024) :
    k0_pay17 (F := Ideal) (k0_pay3 v0) v3 (k0_pay14 v0 v2 v4 v6 v8) (k0_pay15 v0 v2 v4 v6 v8) v43 (ix2 p k)
      = ((P.diff (X p) (T p) k : ℝ) : EReal) := by
  pointwise [k0_pay17, k0_pay3]
  rw [pay16_at B, B.x, B.gq, B.t]
  simp only [← EReal.coe_mul, ← EReal.coe_add, ← EReal.coe_sub]; rfl

theorem pay18_at (p : Fin 256) (k : Fin 1024) :
    k0_pay18 (F := Ideal) (k0_pay3 v0) v3 (k0_pay14 v0 v2 v4 v6 v8) (k0_pay15 v0 v2 v4 v6 v8) v43 (ix2 p k)
      = ((P.dy (X p) (T p) k : ℝ) : EReal) := by
  pointwise [k0_pay18]
  rw [pay17_at B, bits_inv1024, ← EReal.coe_mul]; rfl

theorem pay19_at (k : Fin 1024) :
    k0_pay19 (F := Ideal) (k0_pay3 v0) v3 (k0_pay14 v0 v2 v4 v6 v8) (k0_pay15 v0 v2 v4 v6 v8) v43 (ix2 0 k)
      = ((∑ p, P.dy (X p) (T p) k * P.fn (X p) k : ℝ) : EReal) := by
  pointwise [k0_pay19]
  simp only [pay18_at B, pay16_at B, ← EReal.coe_mul, sum_coe]

theorem pay20_at (p : Fin 256) (k : Fin 1024) :
    k0_pay20 (F := Ideal) (k0_pay3 v0) v3 (k0_pay14 v0 v2 v4 v6 v8) (k0_pay15 v0 v2 v4 v6 v8) v43 (ix2 p k)
      = ((P.df (X p) (T p) k : ℝ) : EReal) := by
  pointwise [k0_pay20]
  simp only [pay18_at B, pay16_at B, pay15_at B, B.gq, bits_1024, ← EReal.coe_mul, sum_coe,
    div_real (by norm_num : (1024 : ℝ) ≠ 0), ← EReal.coe_sub]
  rfl

theorem pay21_at (p : Fin 256) (j : Fin 2816) :
    k0_pay21 (F := Ideal) (k0_pay3 v0) v3 (k0_pay6 v8) (k0_pay14 v0 v2 v4 v6 v8) (k0_pay15 v0 v2 v4 v6 v8) v43 (ix2 p j)
      = ((P.dact (X p) (T p) j : ℝ) : EReal) := by
  pointwise [k0_pay21, k0_pay6]
  simp only [pay20_at B, B.wd, ← EReal.coe_mul, sum_coe]
  rfl

theorem pay22_at (p : Fin 256) (j : Fin 2816) :
    k0_pay22 (F := Ideal) (k0_pay3 v0) v3 (k0_pay6 v8) (k0_pay10 v0 v2 v4) (k0_pay12 v0 v2 v4) (k0_pay14 v0 v2 v4 v6 v8)
        (k0_pay15 v0 v2 v4 v6 v8) v43 (ix2 p j)
      = ((P.dup (X p) (T p) j : ℝ) : EReal) := by
  pointwise [k0_pay22]
  rw [pay21_at B, pay10_at B, pay12_at B]
  simp only [← EReal.coe_mul]; rfl

theorem pay23_at (p : Fin 256) (j : Fin 2816) :
    k0_pay23 (F := Ideal) (k0_pay3 v0) v3 (k0_pay6 v8) (k0_pay10 v0 v2 v4) (k0_pay11 v0 v2 v6) (k0_pay12 v0 v2 v4)
        (k0_pay14 v0 v2 v4 v6 v8) (k0_pay15 v0 v2 v4 v6 v8) v43 (ix2 p j)
      = ((P.dgate (X p) (T p) j : ℝ) : EReal) := by
  pointwise [k0_pay23]
  rw [pay21_at B, pay10_at B, pay12_at B, pay11_at B]
  simp only [← EReal.coe_one, ← EReal.coe_mul, ← EReal.coe_sub, ← EReal.coe_add]; rfl

theorem pay24_at (p : Fin 256) (k : Fin 1024) :
    k0_pay24 (F := Ideal) (k0_pay3 v0) v3 (k0_pay4 v4) (k0_pay5 v6) (k0_pay6 v8) (k0_pay10 v0 v2 v4) (k0_pay11 v0 v2 v6)
        (k0_pay12 v0 v2 v4) (k0_pay14 v0 v2 v4 v6 v8) (k0_pay15 v0 v2 v4 v6 v8) v43 (ix2 p k)
      = ((P.dh (X p) (T p) k : ℝ) : EReal) := by
  pointwise [k0_pay24, k0_pay4, k0_pay5]
  simp only [pay22_at B, pay23_at B, B.wg, B.wu, ← EReal.coe_mul, sum_coe, ← EReal.coe_add]
  rfl

theorem pay25_at (p : Fin 256) (k : Fin 1024) :
    k0_pay25 (F := Ideal) (k0_pay3 v0) v2 v3 (k0_pay4 v4) (k0_pay5 v6) (k0_pay6 v8) (k0_pay10 v0 v2 v4) (k0_pay11 v0 v2 v6)
        (k0_pay12 v0 v2 v4) (k0_pay14 v0 v2 v4 v6 v8) (k0_pay15 v0 v2 v4 v6 v8) v43 (ix2 p k)
      = ((P.u1 (X p) (T p) k : ℝ) : EReal) := by
  pointwise [k0_pay25]
  rw [pay24_at B, B.gp, ← EReal.coe_mul]; rfl

theorem pay26_at (p : Fin 256) :
    k0_pay26 (F := Ideal) (k0_pay3 v0) v2 v3 (k0_pay4 v4) (k0_pay5 v6) (k0_pay6 v8) (k0_pay8 v0) (k0_pay10 v0 v2 v4)
        (k0_pay11 v0 v2 v6) (k0_pay12 v0 v2 v4) (k0_pay14 v0 v2 v4 v6 v8) (k0_pay15 v0 v2 v4 v6 v8) v43 (ix2 p 0)
      = ((∑ l, P.u1 (X p) (T p) l * (X p l * rs (X p)) : ℝ) : EReal) := by
  pointwise [k0_pay26]
  simp only [pay25_at B, pay8_at B, ← EReal.coe_mul, sum_coe]

theorem pay27_at (k : Fin 1024) :
    k0_pay27 (F := Ideal) (k0_pay8 v0) (k0_pay24 (k0_pay3 v0) v3 (k0_pay4 v4) (k0_pay5 v6) (k0_pay6 v8) (k0_pay10 v0 v2 v4)
        (k0_pay11 v0 v2 v6) (k0_pay12 v0 v2 v4) (k0_pay14 v0 v2 v4 v6 v8) (k0_pay15 v0 v2 v4 v6 v8) v43) (ix2 0 k)
      = ((∑ p, P.dh (X p) (T p) k * (X p k * rs (X p)) : ℝ) : EReal) := by
  pointwise [k0_pay27]
  simp only [pay24_at B, pay8_at B, ← EReal.coe_mul, sum_coe]

theorem pay28_at (p : Fin 256) (k : Fin 1024) :
    k0_pay28 (F := Ideal) (k0_pay7 v0) (k0_pay8 v0)
        (k0_pay18 (k0_pay3 v0) v3 (k0_pay14 v0 v2 v4 v6 v8) (k0_pay15 v0 v2 v4 v6 v8) v43)
        (k0_pay25 (k0_pay3 v0) v2 v3 (k0_pay4 v4) (k0_pay5 v6) (k0_pay6 v8) (k0_pay10 v0 v2 v4) (k0_pay11 v0 v2 v6)
          (k0_pay12 v0 v2 v4) (k0_pay14 v0 v2 v4 v6 v8) (k0_pay15 v0 v2 v4 v6 v8) v43)
        (k0_pay26 (k0_pay3 v0) v2 v3 (k0_pay4 v4) (k0_pay5 v6) (k0_pay6 v8) (k0_pay8 v0) (k0_pay10 v0 v2 v4)
          (k0_pay11 v0 v2 v6) (k0_pay12 v0 v2 v4) (k0_pay14 v0 v2 v4 v6 v8) (k0_pay15 v0 v2 v4 v6 v8) v43)
        (Scalar.ofBits .f32 0x44800000#32) (ix2 p k)
      = ((P.dx (X p) (T p) k : ℝ) : EReal) := by
  pointwise [k0_pay28]
  rw [pay18_at B, pay7_at B, pay25_at B, pay8_at B, pay26_at B]
  simp only [bits_1024, div_real (by norm_num : (1024 : ℝ) ≠ 0), ← EReal.coe_mul, ← EReal.coe_sub, ← EReal.coe_add]
  rfl

theorem pay29_at (a : Fin 8) (b : Fin 128) :
    k0_pay29 (F := Ideal) (k0_pay17 (k0_pay3 v0) v3 (k0_pay14 v0 v2 v4 v6 v8) (k0_pay15 v0 v2 v4 v6 v8) v43) (ix2 a b)
      = (((∑ p, P.sq (X p) (T p)) * (1 / 2048) : ℝ) : EReal) := by
  pointwise [k0_pay29]
  simp only [pay17_at B, bits_inv2048, ← EReal.coe_mul, sum_coe]
  rfl

theorem loss_row (a : Fin 8) (b : Fin 128) :
    k0_pay29 (F := Ideal) (k0_pay17 (k0_pay3 v0) v3 (k0_pay14 v0 v2 v4 v6 v8) (k0_pay15 v0 v2 v4 v6 v8) v43) (ix2 a b)
      = ((∑ p, P.sq (X p) (T p) * (1 / 2048) : ℝ) : EReal) := by
  rw [pay29_at B, Finset.sum_mul]

theorem dgp_row (a : Fin 1) (k : Fin 1024) :
    k0_pay27 (F := Ideal) (k0_pay8 v0) (k0_pay24 (k0_pay3 v0) v3 (k0_pay4 v4) (k0_pay5 v6) (k0_pay6 v8) (k0_pay10 v0 v2 v4)
        (k0_pay11 v0 v2 v6) (k0_pay12 v0 v2 v4) (k0_pay14 v0 v2 v4 v6 v8) (k0_pay15 v0 v2 v4 v6 v8) v43) (ix2 a k)
      = ((∑ p, P.dh (X p) (T p) k * (X p k * rs (X p)) : ℝ) : EReal) := by
  rw [Subsingleton.elim a 0]; exact pay27_at B k

theorem dgq_row (a : Fin 1) (k : Fin 1024) :
    k0_pay19 (F := Ideal) (k0_pay3 v0) v3 (k0_pay14 v0 v2 v4 v6 v8) (k0_pay15 v0 v2 v4 v6 v8) v43 (ix2 a k)
      = ((∑ p, P.dy (X p) (T p) k * P.fn (X p) k : ℝ) : EReal) := by
  rw [Subsingleton.elim a 0]; exact pay19_at B k

end Cert.KernelIdeal.Pay

end
-- ==== Proof.FfnValue.lean ====
/-
  The result arrays of the kernel after its run: each is the row model of `FfnModel` on the argument arrays, the loss and
  the two gains' gradients summed over all rows.
-/
module

public import proofs.«01_k».proof.Proof.FfnKernel
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Lift
open scoped BigOperators

namespace Cert.KernelIdeal.Pay

open Cert.KernelIdeal Cert.KernelIdeal.Gen

variable (m : (ℓ : Loc nD τ sig) → Buf (Elt Ideal) ℓ)

/-- The argument arrays are the real arrays `X`, `T` (their two leading axes joined) and `P`. -/
structure Args (c : Dev nD) (P : Ffn) (X T : Fin 8192 → Fin 1024 → ℝ) : Prop where
  x : ∀ (r : Fin 8192) (k : Fin 1024), (m ((c : Thread nD τ).loc main_arg0) : FVec Ideal S4x2048x1024 .f32)
    (ix3 ⟨r.val / 2048, by omega⟩ ⟨r.val % 2048, by omega⟩ k) = ((X r k : ℝ) : EReal)
  t : ∀ (r : Fin 8192) (k : Fin 1024), (m ((c : Thread nD τ).loc main_arg1) : FVec Ideal S4x2048x1024 .f32)
    (ix3 ⟨r.val / 2048, by omega⟩ ⟨r.val % 2048, by omega⟩ k) = ((T r k : ℝ) : EReal)
  gp : ∀ k : Fin 1024, (m ((c : Thread nD τ).loc main_arg2) : FVec Ideal S1x1024 .f32) (ix2 0 k) = ((P.gp k : ℝ) : EReal)
  gq : ∀ k : Fin 1024, (m ((c : Thread nD τ).loc main_arg3) : FVec Ideal S1x1024 .f32) (ix2 0 k) = ((P.gq k : ℝ) : EReal)
  wg : ∀ (k : Fin 1024) (j : Fin 2816), (m ((c : Thread nD τ).loc main_arg4) : FVec Ideal S1024x2816 .f32) (ix2 k j) = ((P.wg k j : ℝ) : EReal)
  wu : ∀ (k : Fin 1024) (j : Fin 2816), (m ((c : Thread nD τ).loc main_arg5) : FVec Ideal S1024x2816 .f32) (ix2 k j) = ((P.wu k j : ℝ) : EReal)
  wd : ∀ (j : Fin 2816) (k : Fin 1024), (m ((c : Thread nD τ).loc main_arg6) : FVec Ideal S2816x1024 .f32) (ix2 j k) = ((P.wd j k : ℝ) : EReal)

/-- The windows' block indices. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![0, 0] ∧ win0_15.index t = ![0, 0] :=
  (by decide +kernel : ∀ t : Fin grid0.N, _)

/-- Row `p` of the block at point `t`. -/
def row (t : Fin cfg0.N) (p : Fin 256) : Fin 8192 := ⟨t.val * 256 + p.val, by have h : t.val < 32 := t.isLt; omega⟩

variable {m} {c : Dev nD} {P : Ffn} {X T : Fin 8192 → Fin 1024 → ℝ} (A : Args m c P X T)
include A

theorem blk_x (t : Fin cfg0.N) (p : Fin 256) (k : Fin 1024) :
    (iblk m c 0 t : FVec Ideal S256x1024 .f32) (ix2 p k) = ((X (row t p) k : ℝ) : EReal) := by
  refine Eq.trans ?_ (A.x (row t p) k)
  blk_point [iblk, V, idx t, row]

theorem blk (t : Fin cfg0.N) : Blk P (fun p => X (row t p)) (fun p => T (row t p)) (iblk m c 0 t) (iblk m c 1 t) (iblk m c 2 t)
    (iblk m c 3 t) (iblk m c 4 t) (iblk m c 5 t) (iblk m c 6 t) where
  x := blk_x A t
  t p k := by
    refine Eq.trans ?_ (A.t (row t p) k)
    blk_point [iblk, V, idx t, row]
  gp k := by
    refine Eq.trans ?_ (A.gp k)
    blk_ext [iblk, V, idx t]
  gq k := by
    refine Eq.trans ?_ (A.gq k)
    blk_ext [iblk, V, idx t]
  wg k j := by
    refine Eq.trans ?_ (A.wg k j)
    blk_ext [iblk, V, idx t]
  wu k j := by
    refine Eq.trans ?_ (A.wu k j)
    blk_ext [iblk, V, idx t]
  wd j k := by
    refine Eq.trans ?_ (A.wd j k)
    blk_ext [iblk, V, idx t]

theorem final8 : (dats m 0 c).arrAt 8 (cfgs 0).N = (fun i : S8192x1024.Idx => ((P.dx (X (i 0)) (T (i 0)) (i 1) : ℝ) : EReal)) := by
  refine (dats m 0 c).arrAt_eq_of_covers 8 _ (by decide +kernel) fun t hf y => ?_
  blk_simp
  rw [after0_8]
  have hN : t.val < 32 := t.isLt
  have e0 : ((((cfg0.win 8).blk t).view.emb y) 0 : Fin 8192) = row t (y 0) := Fin.ext (by blk_simp [idx t, row])
  have e1 : ((((cfg0.win 8).blk t).view.emb y) 1 : Fin 1024) = y 1 := Fin.ext (by blk_simp [idx t])
  refine Eq.trans ?_ (congrArg₂ (fun (r : Fin 8192) (k : Fin 1024) => ((P.dx (X r) (T r) k : ℝ) : EReal)) e0 e1).symm
  by_cases h0 : t.val % 32 = 0
  · have h1 : ¬1 ≤ t.val := by omega
    rw [outsAt0_A m c t h0 h1 h0 h1 h0 h1]
    frame_out
    exact at_idx (pay28_at (blk A t)) y
  · have h1 : 1 ≤ t.val := by omega
    rw [outsAt0_B m c t h0 h1 h0 h1 h0 h1]
    frame_out
    exact at_idx (pay28_at (blk A t)) y

theorem final9 : (dats m 0 c).arrAt 9 (cfgs 0).N = (fun i : S8192x1024.Idx => ((P.h (X (i 0)) (i 1) : ℝ) : EReal)) := by
  refine (dats m 0 c).arrAt_eq_of_covers 9 _ (by decide +kernel) fun t hf y => ?_
  blk_simp
  rw [after0_9]
  have hN : t.val < 32 := t.isLt
  have e0 : ((((cfg0.win 9).blk t).view.emb y) 0 : Fin 8192) = row t (y 0) := Fin.ext (by blk_simp [idx t, row])
  have e1 : ((((cfg0.win 9).blk t).view.emb y) 1 : Fin 1024) = y 1 := Fin.ext (by blk_simp [idx t])
  refine Eq.trans ?_ (congrArg₂ (fun (r : Fin 8192) (k : Fin 1024) => ((P.h (X r) k : ℝ) : EReal)) e0 e1).symm
  by_cases h0 : t.val % 32 = 0
  · have h1 : ¬1 ≤ t.val := by omega
    rw [outsAt0_A m c t h0 h1 h0 h1 h0 h1]
    frame_out
    exact at_idx (pay9_at (blk A t)) y
  · have h1 : 1 ≤ t.val := by omega
    rw [outsAt0_B m c t h0 h1 h0 h1 h0 h1]
    frame_out
    exact at_idx (pay9_at (blk A t)) y

theorem final10 : (dats m 0 c).arrAt 10 (cfgs 0).N = (fun i : S8192x2816.Idx => ((P.dgate (X (i 0)) (T (i 0)) (i 1) : ℝ) : EReal)) := by
  refine (dats m 0 c).arrAt_eq_of_covers 10 _ (by decide +kernel) fun t hf y => ?_
  blk_simp
  rw [after0_10]
  have hN : t.val < 32 := t.isLt
  have e0 : ((((cfg0.win 10).blk t).view.emb y) 0 : Fin 8192) = row t (y 0) := Fin.ext (by blk_simp [idx t, row])
  have e1 : ((((cfg0.win 10).blk t).view.emb y) 1 : Fin 2816) = y 1 := Fin.ext (by blk_simp [idx t])
  refine Eq.trans ?_ (congrArg₂ (fun (r : Fin 8192) (k : Fin 2816) => ((P.dgate (X r) (T r) k : ℝ) : EReal)) e0 e1).symm
  by_cases h0 : t.val % 32 = 0
  · have h1 : ¬1 ≤ t.val := by omega
    rw [outsAt0_A m c t h0 h1 h0 h1 h0 h1]
    frame_out
    exact at_idx (pay23_at (blk A t)) y
  · have h1 : 1 ≤ t.val := by omega
    rw [outsAt0_B m c t h0 h1 h0 h1 h0 h1]
    frame_out
    exact at_idx (pay23_at (blk A t)) y

theorem final11 : (dats m 0 c).arrAt 11 (cfgs 0).N = (fun i : S8192x2816.Idx => ((P.dup (X (i 0)) (T (i 0)) (i 1) : ℝ) : EReal)) := by
  refine (dats m 0 c).arrAt_eq_of_covers 11 _ (by decide +kernel) fun t hf y => ?_
  blk_simp
  rw [after0_11]
  have hN : t.val < 32 := t.isLt
  have e0 : ((((cfg0.win 11).blk t).view.emb y) 0 : Fin 8192) = row t (y 0) := Fin.ext (by blk_simp [idx t, row])
  have e1 : ((((cfg0.win 11).blk t).view.emb y) 1 : Fin 2816) = y 1 := Fin.ext (by blk_simp [idx t])
  refine Eq.trans ?_ (congrArg₂ (fun (r : Fin 8192) (k : Fin 2816) => ((P.dup (X r) (T r) k : ℝ) : EReal)) e0 e1).symm
  by_cases h0 : t.val % 32 = 0
  · have h1 : ¬1 ≤ t.val := by omega
    rw [outsAt0_A m c t h0 h1 h0 h1 h0 h1]
    frame_out
    exact at_idx (pay22_at (blk A t)) y
  · have h1 : 1 ≤ t.val := by omega
    rw [outsAt0_B m c t h0 h1 h0 h1 h0 h1]
    frame_out
    exact at_idx (pay22_at (blk A t)) y

theorem final12 : (dats m 0 c).arrAt 12 (cfgs 0).N = (fun i : S8192x2816.Idx => ((P.act (X (i 0)) (i 1) : ℝ) : EReal)) := by
  refine (dats m 0 c).arrAt_eq_of_covers 12 _ (by decide +kernel) fun t hf y => ?_
  blk_simp
  rw [after0_12]
  have hN : t.val < 32 := t.isLt
  have e0 : ((((cfg0.win 12).blk t).view.emb y) 0 : Fin 8192) = row t (y 0) := Fin.ext (by blk_simp [idx t, row])
  have e1 : ((((cfg0.win 12).blk t).view.emb y) 1 : Fin 2816) = y 1 := Fin.ext (by blk_simp [idx t])
  refine Eq.trans ?_ (congrArg₂ (fun (r : Fin 8192) (k : Fin 2816) => ((P.act (X r) k : ℝ) : EReal)) e0 e1).symm
  by_cases h0 : t.val % 32 = 0
  · have h1 : ¬1 ≤ t.val := by omega
    rw [outsAt0_A m c t h0 h1 h0 h1 h0 h1]
    frame_out
    exact at_idx (pay13_at (blk A t)) y
  · have h1 : 1 ≤ t.val := by omega
    rw [outsAt0_B m c t h0 h1 h0 h1 h0 h1]
    frame_out
    exact at_idx (pay13_at (blk A t)) y

theorem final13 : (dats m 0 c).arrAt 13 (cfgs 0).N = (fun i : S8192x1024.Idx => ((P.df (X (i 0)) (T (i 0)) (i 1) : ℝ) : EReal)) := by
  refine (dats m 0 c).arrAt_eq_of_covers 13 _ (by decide +kernel) fun t hf y => ?_
  blk_simp
  rw [after0_13]
  have hN : t.val < 32 := t.isLt
  have e0 : ((((cfg0.win 13).blk t).view.emb y) 0 : Fin 8192) = row t (y 0) := Fin.ext (by blk_simp [idx t, row])
  have e1 : ((((cfg0.win 13).blk t).view.emb y) 1 : Fin 1024) = y 1 := Fin.ext (by blk_simp [idx t])
  refine Eq.trans ?_ (congrArg₂ (fun (r : Fin 8192) (k : Fin 1024) => ((P.df (X r) (T r) k : ℝ) : EReal)) e0 e1).symm
  by_cases h0 : t.val % 32 = 0
  · have h1 : ¬1 ≤ t.val := by omega
    rw [outsAt0_A m c t h0 h1 h0 h1 h0 h1]
    frame_out
    exact at_idx (pay20_at (blk A t)) y
  · have h1 : 1 ≤ t.val := by omega
    rw [outsAt0_B m c t h0 h1 h0 h1 h0 h1]
    frame_out
    exact at_idx (pay20_at (blk A t)) y

omit A in
/-- A sum over the rows of all points' blocks is a sum over all rows. -/
theorem sum_rows (F : Fin 8192 → ℝ) (t : Fin cfg0.N) (ht : t.val % 32 = 32 - 1) :
    (∑ s : Fin 32, ∑ q : Fin 256, F (row ⟨32 * (t.val / 32) + s.val, Pipeline.run_point_lt_of_flush t ht s⟩ q)) = ∑ r, F r := by
  have hN : t.val < 32 := t.isLt
  refine Fin.sum_mul_add_congr fun s k hl => ?_
  exact congrArg F (Fin.ext (by show (32 * (t.val / 32) + s.val) * 256 + k.val = s.val * 256 + k.val; omega))

theorem final7 : (dats m 0 c).arrAt 7 (cfgs 0).N = (fun i : S8x128.Idx => ((∑ r, P.sq (X r) (T r) * (1 / 2048) : ℝ) : EReal)) := by
  refine (dats m 0 c).arrAt_eq_of_covers 7 _ (by decide +kernel) fun t hf y => ?_
  blk_simp
  rw [after0_7]
  have e1 : ((((cfg0.win 7).blk t).view.emb y) 1 : Fin 128) = y 1 := Fin.ext (by blk_simp [idx t])
  refine Eq.trans ?_ (congrArg (fun k : Fin 128 => ((∑ r, P.sq (X r) (T r) * (1 / 2048) : ℝ) : EReal)) e1).symm
  refine (Pipeline.eq_sum_fin_of_reset_step_apply_of_flush (fun n h => (outsAt0 m c n h).1) 32 (fun _ => (0 : EReal))
    (fun s j => ((∑ q, P.sq (X (row s q)) (T (row s q)) * (1 / 2048) : ℝ) : EReal)) ?_ ?_ t ((flush0_7 t).mp hf) y).trans ?_
  · intro s h0 j
    have h1 : ¬1 ≤ s.val := by have hN : s.val < 32 := s.isLt; omega
    rw [outsAt0_A m c s h0 h1 h0 h1 h0 h1]
    frame_out
    rw [zero_add]
    exact at_idx (g := fun a k => ∑ q, P.sq (X (row s q)) (T (row s q)) * (1 / 2048)) (loss_row (blk A s)) j
  · intro s h0 j
    have h1 : 1 ≤ s.val := by omega
    rw [outsAt0_B m c s h0 h1 h0 h1 h0 h1]
    frame_out
    pointwise [k0_pay30]
    exact congrArg (_ + ·) (at_idx (g := fun a k => ∑ q, P.sq (X (row s q)) (T (row s q)) * (1 / 2048)) (loss_row (blk A s)) j)
  · rw [zero_add, sum_coe]
    exact congrArg _ (sum_rows (fun r => P.sq (X r) (T r) * (1 / 2048)) t ((flush0_7 t).mp hf))

theorem final14 : (dats m 0 c).arrAt 14 (cfgs 0).N = (fun i : S1x1024.Idx => ((∑ r, P.dh (X r) (T r) (i 1) * (X r (i 1) * rs (X r)) : ℝ) : EReal)) := by
  refine (dats m 0 c).arrAt_eq_of_covers 14 _ (by decide +kernel) fun t hf y => ?_
  blk_simp
  rw [after0_14]
  have e1 : ((((cfg0.win 14).blk t).view.emb y) 1 : Fin 1024) = y 1 := Fin.ext (by blk_simp [idx t])
  refine Eq.trans ?_ (congrArg (fun k : Fin 1024 => ((∑ r, P.dh (X r) (T r) (k) * (X r (k) * rs (X r)) : ℝ) : EReal)) e1).symm
  refine (Pipeline.eq_sum_fin_of_reset_step_apply_of_flush (fun n h => (outsAt0 m c n h).2.2.2.2.2.2.2.1) 32 (fun _ => (0 : EReal))
    (fun s j => ((∑ q, P.dh (X (row s q)) (T (row s q)) (j 1) * (X (row s q) (j 1) * rs (X (row s q))) : ℝ) : EReal)) ?_ ?_ t ((flush0_14 t).mp hf) y).trans ?_
  · intro s h0 j
    have h1 : ¬1 ≤ s.val := by have hN : s.val < 32 := s.isLt; omega
    rw [outsAt0_A m c s h0 h1 h0 h1 h0 h1]
    frame_out
    rw [zero_add]
    exact at_idx (g := fun a k => ∑ q, P.dh (X (row s q)) (T (row s q)) (k) * (X (row s q) (k) * rs (X (row s q)))) (dgp_row (blk A s)) j
  · intro s h0 j
    have h1 : 1 ≤ s.val := by omega
    rw [outsAt0_B m c s h0 h1 h0 h1 h0 h1]
    frame_out
    pointwise [k0_pay1]
    exact congrArg (_ + ·) (at_idx (g := fun a k => ∑ q, P.dh (X (row s q)) (T (row s q)) (k) * (X (row s q) (k) * rs (X (row s q)))) (dgp_row (blk A s)) j)
  · rw [zero_add, sum_coe]
    exact congrArg _ (sum_rows (fun r => P.dh (X r) (T r) ((y 1)) * (X r ((y 1)) * rs (X r))) t ((flush0_14 t).mp hf))

theorem final15 : (dats m 0 c).arrAt 15 (cfgs 0).N = (fun i : S1x1024.Idx => ((∑ r, P.dy (X r) (T r) (i 1) * P.fn (X r) (i 1) : ℝ) : EReal)) := by
  refine (dats m 0 c).arrAt_eq_of_covers 15 _ (by decide +kernel) fun t hf y => ?_
  blk_simp
  rw [after0_15]
  have e1 : ((((cfg0.win 15).blk t).view.emb y) 1 : Fin 1024) = y 1 := Fin.ext (by blk_simp [idx t])
  refine Eq.trans ?_ (congrArg (fun k : Fin 1024 => ((∑ r, P.dy (X r) (T r) (k) * P.fn (X r) (k) : ℝ) : EReal)) e1).symm
  refine (Pipeline.eq_sum_fin_of_reset_step_apply_of_flush (fun n h => (outsAt0 m c n h).2.2.2.2.2.2.2.2) 32 (fun _ => (0 : EReal))
    (fun s j => ((∑ q, P.dy (X (row s q)) (T (row s q)) (j 1) * P.fn (X (row s q)) (j 1) : ℝ) : EReal)) ?_ ?_ t ((flush0_15 t).mp hf) y).trans ?_
  · intro s h0 j
    have h1 : ¬1 ≤ s.val := by have hN : s.val < 32 := s.isLt; omega
    rw [outsAt0_A m c s h0 h1 h0 h1 h0 h1]
    frame_out
    rw [zero_add]
    exact at_idx (g := fun a k => ∑ q, P.dy (X (row s q)) (T (row s q)) (k) * P.fn (X (row s q)) (k)) (dgq_row (blk A s)) j
  · intro s h0 j
    have h1 : 1 ≤ s.val := by omega
    rw [outsAt0_B m c s h0 h1 h0 h1 h0 h1]
    frame_out
    pointwise [k0_pay2]
    exact congrArg (_ + ·) (at_idx (g := fun a k => ∑ q, P.dy (X (row s q)) (T (row s q)) (k) * P.fn (X (row s q)) (k)) (dgq_row (blk A s)) j)
  · rw [zero_add, sum_coe]
    exact congrArg _ (sum_rows (fun r => P.dy (X r) (T r) ((y 1)) * P.fn (X r) ((y 1))) t ((flush0_15 t).mp hf))

end Cert.KernelIdeal.Pay

end
-- ==== Proof.FfnRef.lean ====
/-
  The reference's intermediate arrays on real arguments: each, read at a row, is the row model of `FfnModel`.
-/
module

public import proofs.«01_k».proof.Proof.Gen.ReferenceIdeal.Run
public import Idealize.ShloMosaic.Lib.Pointwise
public import proofs.«01_k».proof.Proof.FfnModel

@[expose] public section

set_option maxRecDepth 16384

noncomputable section

open Idealize.ShloMosaic Idealize.ShloMosaic.TcCoe Idealize.SL.Sem
open Cert.Lift
open scoped BigOperators

namespace Cert.ReferenceIdeal.Value

open Cert.ReferenceIdeal Cert.ReferenceIdeal.Gen Idealize.ShloMosaic.StableHlo

/-- The argument arrays are the real arrays `X`, `T` (their two leading axes joined) and `P`. -/
structure Args (P : Ffn) (X T : Fin 8192 → Fin 1024 → ℝ) (V0 : Valuation τ sig (Elt Ideal)) : Prop where
  x : ∀ (r : Fin 8192) (k : Fin 1024), (V0 (Proc.devRef .tc main_arg0) : FVec Ideal S4x2048x1024 .f32)
    (ix3 ⟨r.val / 2048, by omega⟩ ⟨r.val % 2048, by omega⟩ k) = ((X r k : ℝ) : EReal)
  t : ∀ (r : Fin 8192) (k : Fin 1024), (V0 (Proc.devRef .tc main_arg1) : FVec Ideal S4x2048x1024 .f32)
    (ix3 ⟨r.val / 2048, by omega⟩ ⟨r.val % 2048, by omega⟩ k) = ((T r k : ℝ) : EReal)
  gp : ∀ k : Fin 1024, (V0 (Proc.devRef .tc main_arg2) : FVec Ideal S1x1024 .f32) (ix2 0 k) = ((P.gp k : ℝ) : EReal)
  gq : ∀ k : Fin 1024, (V0 (Proc.devRef .tc main_arg3) : FVec Ideal S1x1024 .f32) (ix2 0 k) = ((P.gq k : ℝ) : EReal)
  wg : ∀ (k : Fin 1024) (j : Fin 2816), (V0 (Proc.devRef .tc main_arg4) : FVec Ideal S1024x2816 .f32) (ix2 k j) = ((P.wg k j : ℝ) : EReal)
  wu : ∀ (k : Fin 1024) (j : Fin 2816), (V0 (Proc.devRef .tc main_arg5) : FVec Ideal S1024x2816 .f32) (ix2 k j) = ((P.wu k j : ℝ) : EReal)
  wd : ∀ (j : Fin 2816) (k : Fin 1024), (V0 (Proc.devRef .tc main_arg6) : FVec Ideal S2816x1024 .f32) (ix2 j k) = ((P.wd j k : ℝ) : EReal)

variable {P : Ffn} {X T : Fin 8192 → Fin 1024 → ℝ} {V0 : Valuation τ sig (Elt Ideal)} (B : Args P X T V0)
include B

theorem v3_at (r : Fin 8192) (k : Fin 1024) : res_main_v3 V0 (ix2 r k : S8192x1024.Idx) = ((X r k : ℝ) : EReal) := by
  pointwise [res_main_v3]
  exact B.x r k

theorem v11_at (r : Fin 8192) : res_main_v11 V0 (ix2 r 0 : S8192x1.Idx) = ((ms (X r) : ℝ) : EReal) := by
  pointwise [res_main_v11]
  simp only [v3_at B, ← EReal.coe_mul, sum_coe, bits_1024, bits_eps, zero_add, div_real (by norm_num : (1024 : ℝ) ≠ 0), ← EReal.coe_add]
  simp only [ms, Nat.cast_ofNat]

theorem v12_at (r : Fin 8192) : res_main_v12 V0 (ix2 r 0 : S8192x1.Idx) = ((rs (X r) : ℝ) : EReal) := by
  pointwise [res_main_v12]
  rw [v11_at B]
  exact rsqrt_real (ms_pos (X r))

theorem v17_at (r : Fin 8192) (k : Fin 1024) : res_main_v17 V0 (ix2 r k : S8192x1024.Idx) = ((X r k * rs (X r) : ℝ) : EReal) := by
  pointwise [res_main_v17]
  rw [v3_at B, v12_at B, EReal.coe_mul]

theorem v19_at (r : Fin 8192) (k : Fin 1024) : res_main_v19 V0 (ix2 r k : S8192x1024.Idx) = ((P.h (X r) k : ℝ) : EReal) := by
  pointwise [res_main_v19]
  rw [v17_at B, B.gp, ← EReal.coe_mul]; rfl

theorem v21_at (r : Fin 8192) (j : Fin 2816) : res_main_v21 V0 (ix2 r j : S8192x2816.Idx) = ((P.gate (X r) j : ℝ) : EReal) := by
  pointwise [res_main_v21]
  simp only [v19_at B, B.wg, ← EReal.coe_mul, sum_coe, add_zero, zero_add]
  rfl

theorem v22_2_at (r : Fin 8192) (j : Fin 2816) : res_main_v22_2 V0 (ix2 r j : S8192x2816.Idx) = ((P.sg (X r) j : ℝ) : EReal) := by
  have h : (1 + Real.exp (-(P.gate (X r) j))) ≠ 0 := by positivity
  pointwise [res_main_v22_2]
  rw [v21_at B]
  simp only [← EReal.coe_neg, Ideal.exp_coe, ← EReal.coe_one, ← EReal.coe_add, div_real h, one_div]
  rfl

theorem v22_0_at (r : Fin 8192) (j : Fin 2816) :
    res_main_v22_0 V0 (ix2 r j : S8192x2816.Idx) = ((P.gate (X r) j * P.sg (X r) j : ℝ) : EReal) := by
  pointwise [res_main_v22_0]
  rw [v21_at B, v22_2_at B, EReal.coe_mul]

theorem v24_at (r : Fin 8192) (j : Fin 2816) : res_main_v24 V0 (ix2 r j : S8192x2816.Idx) = ((P.up (X r) j : ℝ) : EReal) := by
  pointwise [res_main_v24]
  simp only [v19_at B, B.wu, ← EReal.coe_mul, sum_coe, add_zero, zero_add]
  rfl

theorem v25_at (r : Fin 8192) (j : Fin 2816) : res_main_v25 V0 (ix2 r j : S8192x2816.Idx) = ((P.act (X r) j : ℝ) : EReal) := by
  pointwise [res_main_v25]
  rw [v22_0_at B, v24_at B, ← EReal.coe_mul]; rfl

theorem v27_at (r : Fin 8192) (k : Fin 1024) : res_main_v27 V0 (ix2 r k : S8192x1024.Idx) = ((P.f (X r) k : ℝ) : EReal) := by
  pointwise [res_main_v27]
  simp only [v25_at B, B.wd, ← EReal.coe_mul, sum_coe, add_zero, zero_add]
  rfl

theorem v34_at (r : Fin 8192) : res_main_v34 V0 (ix2 r 0 : S8192x1.Idx) = ((ms (P.f (X r)) : ℝ) : EReal) := by
  pointwise [res_main_v34]
  simp only [v27_at B, ← EReal.coe_mul, sum_coe, bits_1024, bits_eps, zero_add, div_real (by norm_num : (1024 : ℝ) ≠ 0), ← EReal.coe_add]
  simp only [ms, Nat.cast_ofNat]

theorem v35_at (r : Fin 8192) : res_main_v35 V0 (ix2 r 0 : S8192x1.Idx) = ((rs (P.f (X r)) : ℝ) : EReal) := by
  pointwise [res_main_v35]
  rw [v34_at B]
  exact rsqrt_real (ms_pos _)

theorem v40_at (r : Fin 8192) (k : Fin 1024) : res_main_v40 V0 (ix2 r k : S8192x1024.Idx) = ((P.fn (X r) k : ℝ) : EReal) := by
  pointwise [res_main_v40]
  rw [v27_at B, v35_at B, ← EReal.coe_mul]; rfl

theorem v44_at (r : Fin 8192) (k : Fin 1024) : res_main_v44 V0 (ix2 r k : S8192x1024.Idx) = ((P.diff (X r) (T r) k : ℝ) : EReal) := by
  pointwise [res_main_v44]
  rw [v3_at B, v40_at B, B.gq]
  refine (congrArg (_ - ·) (B.t r k)).trans ?_
  simp only [← EReal.coe_mul, ← EReal.coe_add, ← EReal.coe_sub]; rfl

theorem v58_at (r : Fin 8192) (k : Fin 1024) : res_main_v58 V0 (ix2 r k : S8192x1024.Idx) = ((P.dy (X r) (T r) k : ℝ) : EReal) := by
  pointwise [res_main_v58]
  rw [v44_at B]
  simp only [bits_half, bits_two, bits_1024, mul_one, div_real (by norm_num : (1024 : ℝ) ≠ 0), ← EReal.coe_mul]
  congr 1; unfold Ffn.dy; ring

theorem v63_at (r : Fin 8192) (k : Fin 1024) : res_main_v63 V0 (ix2 r k : S8192x1024.Idx) = ((P.u2 (X r) (T r) k : ℝ) : EReal) := by
  pointwise [res_main_v63]
  rw [v58_at B, B.gq, ← EReal.coe_mul]; rfl

theorem v73_at (r : Fin 8192) (k : Fin 1024) : res_main_v73 V0 (ix2 r k : S8192x1024.Idx)
    = (((∑ l, P.f (X r) l * P.u2 (X r) (T r) l) * (-(1 / 2) * (rs (P.f (X r)) / ms (P.f (X r)))) / 1024 : ℝ) : EReal) := by
  pointwise [res_main_v73]
  simp only [v27_at B, v63_at B, v34_at B, v35_at B, bits_neg_half, bits_1024, zero_add, ← EReal.coe_mul, sum_coe,
    div_real (ms_pos (P.f (X r))).ne', div_real (by norm_num : (1024 : ℝ) ≠ 0), Finset.univ_unique, Finset.sum_singleton, Fin.isValue,
    Fin.default_eq_zero]

theorem v77_at (r : Fin 8192) (k : Fin 1024) : res_main_v77 V0 (ix2 r k : S8192x1024.Idx) = ((P.df (X r) (T r) k : ℝ) : EReal) := by
  pointwise [res_main_v77]
  rw [v63_at B, v35_at B, v27_at B, v73_at B]
  simp only [← EReal.coe_mul, ← EReal.coe_add]
  have e := rms_grad (P.f (X r)) (P.u2 (X r) (T r)) k
  simp only [Nat.cast_ofNat] at e
  exact congrArg _ e

theorem v78_at (r : Fin 8192) (j : Fin 2816) : res_main_v78 V0 (ix2 r j : S8192x2816.Idx) = ((P.dact (X r) (T r) j : ℝ) : EReal) := by
  pointwise [res_main_v78]
  simp only [v77_at B, B.wd, ← EReal.coe_mul, sum_coe, add_zero, zero_add]
  rfl

theorem v79_at (r : Fin 8192) (j : Fin 2816) : res_main_v79 V0 (ix2 r j : S8192x2816.Idx) = ((P.dup (X r) (T r) j : ℝ) : EReal) := by
  pointwise [res_main_v79]
  rw [v78_at B, v22_0_at B, ← EReal.coe_mul]
  congr 1; unfold Ffn.dup; ring

theorem v80_at (r : Fin 8192) (j : Fin 2816) :
    res_main_v80 V0 (ix2 r j : S8192x2816.Idx) = ((P.dact (X r) (T r) j * P.up (X r) j : ℝ) : EReal) := by
  pointwise [res_main_v80]
  rw [v78_at B, v24_at B, ← EReal.coe_mul]

theorem v82_at (r : Fin 8192) (j : Fin 2816) : res_main_v82 V0 (ix2 r j : S8192x2816.Idx) = ((P.dgate (X r) (T r) j : ℝ) : EReal) := by
  pointwise [res_main_v82]
  rw [v80_at B, v22_2_at B, v21_at B]
  simp only [← EReal.coe_one, ← EReal.coe_mul, ← EReal.coe_add, ← EReal.coe_sub]
  congr 1; unfold Ffn.dgate; ring

theorem v84_at (r : Fin 8192) (k : Fin 1024) : res_main_v84 V0 (ix2 r k : S8192x1024.Idx) = ((P.dh (X r) (T r) k : ℝ) : EReal) := by
  pointwise [res_main_v84]
  simp only [v79_at B, v82_at B, B.wg, B.wu, ← EReal.coe_mul, sum_coe, add_zero, zero_add, ← EReal.coe_add]
  congr 1; unfold Ffn.dh; ring

theorem v89_at (r : Fin 8192) (k : Fin 1024) : res_main_v89 V0 (ix2 r k : S8192x1024.Idx) = ((P.u1 (X r) (T r) k : ℝ) : EReal) := by
  pointwise [res_main_v89]
  rw [v84_at B, B.gp, ← EReal.coe_mul]; rfl

theorem v100_at (r : Fin 8192) (k : Fin 1024) : res_main_v100 V0 (ix2 r k : S8192x1024.Idx)
    = (((∑ l, X r l * P.u1 (X r) (T r) l) * (-(1 / 2) * (rs (X r) / ms (X r))) / 1024 : ℝ) : EReal) := by
  pointwise [res_main_v100]
  simp only [v3_at B, v89_at B, v11_at B, v12_at B, bits_neg_half, bits_1024, zero_add, ← EReal.coe_mul, sum_coe,
    div_real (ms_pos (X r)).ne', div_real (by norm_num : (1024 : ℝ) ≠ 0), Finset.univ_unique, Finset.sum_singleton, Fin.isValue,
    Fin.default_eq_zero]

/-- The loss. -/
theorem loss_at (i : S8x128.Idx) : broadcastInDim S8x128 ![] bcast_S_S8x128 (mulf (constant S_ .f32 0x3F000000#32) (Host.reduceAdd (Host.divf (Host.reduceAdd (mulf (res_main_v44 V0) (res_main_v44 V0)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) i
    = ((∑ r, P.sq (X r) (T r) * (1 / 2048) : ℝ) : EReal) := by
  pointwise []
  simp only [v44_at B, zero_add, bits_half, bits_1024, ← EReal.coe_mul, sum_coe, div_real (by norm_num : (1024 : ℝ) ≠ 0)]
  congr 1
  rw [Finset.mul_sum]
  exact Finset.sum_congr rfl fun r _ => by unfold Ffn.sq; ring

/-- The gradient by the input. -/
theorem dx_at (r : Fin 8192) (k : Fin 1024) : shapeCast S8192x1024 (shapeCast S4x2048x1024 (addf (addf (addf (res_main_v58 V0) (mulf (res_main_v89 V0) (broadcastInDim S8192x1024 ![0, 1] bcast_S8192x1_S8192x1024_0_1 (res_main_v12 V0)))) (mulf (res_main_v3 V0) (res_main_v100 V0))) (mulf (res_main_v100 V0) (res_main_v3 V0))) shapeCasts_S8192x1024_S4x2048x1024) shapeCasts_S4x2048x1024_S8192x1024 (ix2 r k)
    = ((P.dx (X r) (T r) k : ℝ) : EReal) := by
  pointwise []
  rw [v58_at B, v89_at B, v12_at B, v3_at B, v100_at B]
  simp only [← EReal.coe_mul, ← EReal.coe_add]
  refine congrArg _ ?_
  have e := rms_grad (X r) (P.u1 (X r) (T r)) k
  simp only [Nat.cast_ofNat] at e
  unfold Ffn.dx
  rw [← e]; ring

/-- The gradient by the first gain. -/
theorem dgp_row (a : Fin 1) (k : Fin 1024) : shapeCast S1x1024 (Host.reduceAdd (mulf (res_main_v17 V0) (res_main_v84 V0)) (constant S_ .f32 0x00000000#32) reducesTo_S8192x1024_S1024_d0 h_S_) shapeCasts_S1024_S1x1024 (ix2 a k)
    = ((∑ r, P.dh (X r) (T r) k * (X r k * rs (X r)) : ℝ) : EReal) := by
  pointwise []
  simp only [v17_at B, v84_at B, zero_add, ← EReal.coe_mul, sum_coe]
  exact congrArg _ (Finset.sum_congr rfl fun r _ => mul_comm _ _)

/-- The gradient by the second gain. -/
theorem dgq_row (a : Fin 1) (k : Fin 1024) : shapeCast S1x1024 (Host.reduceAdd (mulf (res_main_v40 V0) (res_main_v58 V0)) (constant S_ .f32 0x00000000#32) reducesTo_S8192x1024_S1024_d0 h_S_) shapeCasts_S1024_S1x1024 (ix2 a k)
    = ((∑ r, P.dy (X r) (T r) k * P.fn (X r) k : ℝ) : EReal) := by
  pointwise []
  simp only [v40_at B, v58_at B, zero_add, ← EReal.coe_mul, sum_coe]
  exact congrArg _ (Finset.sum_congr rfl fun r _ => mul_comm _ _)

end Cert.ReferenceIdeal.Value

end
-- ==== Proof.FfnPre.lean ====
/-
  What the precondition says: every argument is a real.
-/
module

public import proofs.«01_k».proof.Proof.Gen.Pre_finite_ffn
public import proofs.«01_k».proof.Proof.Lift

@[expose] public section

set_option maxRecDepth 16384

noncomputable section

open Idealize.ShloMosaic
open Cert.Lift (real_of_all)

namespace Cert.Pre_finite_ffn

open Cert.Pre_finite_ffn Cert.Pre_finite_ffn.Gen

theorem reals [Facts] {a0 a1 : FVec Ideal S4x2048x1024 .f32} {a2 a3 : FVec Ideal S1x1024 .f32} {a4 a5 : FVec Ideal S1024x2816 .f32}
    {a6 : FVec Ideal S2816x1024 .f32} (h : fn (F := Ideal) a0 a1 a2 a3 a4 a5 a6 = fun _ => 1#1) :
    (∀ i, (((a0 i).toReal : ℝ) : EReal) = a0 i) ∧ (∀ i, (((a1 i).toReal : ℝ) : EReal) = a1 i)
      ∧ (∀ i, (((a2 i).toReal : ℝ) : EReal) = a2 i) ∧ (∀ i, (((a3 i).toReal : ℝ) : EReal) = a3 i)
      ∧ (∀ i, (((a4 i).toReal : ℝ) : EReal) = a4 i) ∧ (∀ i, (((a5 i).toReal : ℝ) : EReal) = a5 i)
      ∧ (∀ i, (((a6 i).toReal : ℝ) : EReal) = a6 i) := by
  have h0 := congrFun h default
  dsimp only [fn, fn_part1, andi] at h0
  simp only [IntOp.andi_eq_one] at h0
  obtain ⟨⟨⟨⟨⟨⟨h0, h1⟩, h2⟩, h3⟩, h4⟩, h5⟩, h6⟩ := h0
  exact ⟨real_of_all _ _ _ _ _ _ h0, real_of_all _ _ _ _ _ _ h1, real_of_all _ _ _ _ _ _ h2, real_of_all _ _ _ _ _ _ h3,
    real_of_all _ _ _ _ _ _ h4, real_of_all _ _ _ _ _ _ h5, real_of_all _ _ _ _ _ _ h6⟩

end Cert.Pre_finite_ffn

end
-- ==== Proof.FfnClaim.lean ====
/-
  The feed-forward kernel's nine results are the reference's, on real arguments.
-/
module

public import proofs.«01_k».proof.Defs
public import proofs.«01_k».proof.Proof.Gen.KernelIdeal.Value
public import proofs.«01_k».proof.Proof.FfnValue
public import proofs.«01_k».proof.Proof.FfnRef
public import proofs.«01_k».proof.Proof.FfnPre

@[expose] public section

set_option maxRecDepth 16384

noncomputable section

open Idealize.ShloMosaic Idealize.ShloMosaic.TcCoe Idealize.SL.Sem Idealize.ShloMosaic.StableHlo
open Cert.Lift

namespace Cert.FfnClaim

/-- The rows of an array with two leading axes. -/
def rows (a : FVec Ideal ⟨3, ![4, 2048, 1024]⟩ .f32) (r : Fin 8192) (k : Fin 1024) : ℝ :=
  (a (ix3 ⟨r.val / 2048, by omega⟩ ⟨r.val % 2048, by omega⟩ k)).toReal

/-- The real parameters of the arrays. -/
def par (a2 a3 : FVec Ideal ⟨2, ![1, 1024]⟩ .f32) (a4 a5 : FVec Ideal ⟨2, ![1024, 2816]⟩ .f32) (a6 : FVec Ideal ⟨2, ![2816, 1024]⟩ .f32) : Ffn where
  gp k := (a2 (ix2 0 k)).toReal
  gq k := (a3 (ix2 0 k)).toReal
  wg k j := (a4 (ix2 k j)).toReal
  wu k j := (a5 (ix2 k j)).toReal
  wd j k := (a6 (ix2 j k)).toReal

attribute [local instance] Cert.KernelIdeal.Gen.facts Cert.ReferenceIdeal.Gen.facts Cert.Pre_finite_ffn.Gen.facts

variable {m : (ℓ : Loc Cert.KernelIdeal.nD Cert.KernelIdeal.τ Cert.KernelIdeal.sig) → Buf (Elt Ideal) ℓ}

section
open Cert.KernelIdeal

/-- The kernel's arguments as real arrays. -/
abbrev parOf (m : (ℓ : Loc nD τ sig) → Buf (Elt Ideal) ℓ) (c : Dev nD) : Ffn :=
  par (m ((c : Thread nD τ).loc main_arg2)) (m ((c : Thread nD τ).loc main_arg3)) (m ((c : Thread nD τ).loc main_arg4))
    (m ((c : Thread nD τ).loc main_arg5)) (m ((c : Thread nD τ).loc main_arg6))

theorem kernel_args (hpre : Cert.Pre_KernelIdeal_finite_ffn m) (c : Dev nD) :
    Cert.KernelIdeal.Pay.Args m c (parOf m c) (rows (m ((c : Thread nD τ).loc main_arg0))) (rows (m ((c : Thread nD τ).loc main_arg1))) := by
  obtain ⟨h0, h1, h2, h3, h4, h5, h6⟩ := Cert.Pre_finite_ffn.reals (hpre c)
  exact ⟨fun r k => (h0 _).symm, fun r k => (h1 _).symm, fun k => (h2 _).symm, fun k => (h3 _).symm, fun k j => (h4 _).symm,
    fun k j => (h5 _).symm, fun j k => (h6 _).symm⟩

end

theorem algebraic : Cert.algebraic_KernelIdeal_ReferenceIdeal_pre_finite_ffn := by
  pair_intro
  · run_from Cert.KernelIdeal.Value.run_blocks m g
  · have K := kernel_args hpre
    have R : ∀ c, Cert.ReferenceIdeal.Value.Args (parOf m c) (rows (m ((c.tc : Thread Cert.KernelIdeal.nD Cert.KernelIdeal.τ).loc Cert.KernelIdeal.main_arg0)))
        (rows (m ((c.tc : Thread Cert.KernelIdeal.nD Cert.KernelIdeal.τ).loc Cert.KernelIdeal.main_arg1))) (launchContents m' c) := by
      intro c
      obtain ⟨h0, h1, h2, h3, h4, h5, h6⟩ := hagree c
      exact ⟨fun r k => (congrFun h0 _).trans ((K c).x r k), fun r k => (congrFun h1 _).trans ((K c).t r k),
        fun k => (congrFun h2 _).trans ((K c).gp k), fun k => (congrFun h3 _).trans ((K c).gq k),
        fun k j => (congrFun h4 _).trans ((K c).wg k j), fun k j => (congrFun h5 _).trans ((K c).wu k j),
        fun j k => (congrFun h6 _).trans ((K c).wd j k)⟩
    run_from Cert.ReferenceIdeal.Value.run m' g'
    · exact (funext fun i => Cert.ReferenceIdeal.Value.loss_at (R c) i).trans (Cert.KernelIdeal.Pay.final7 (K c)).symm
    · exact (funext fun i => at_idx (Cert.ReferenceIdeal.Value.dx_at (R c)) i).trans (Cert.KernelIdeal.Pay.final8 (K c)).symm
    · exact (funext fun i => at_idx (φ := .f32) (Cert.ReferenceIdeal.Value.v19_at (R c)) i).trans (Cert.KernelIdeal.Pay.final9 (K c)).symm
    · exact (funext fun i => at_idx (φ := .f32) (Cert.ReferenceIdeal.Value.v82_at (R c)) i).trans (Cert.KernelIdeal.Pay.final10 (K c)).symm
    · exact (funext fun i => at_idx (φ := .f32) (Cert.ReferenceIdeal.Value.v79_at (R c)) i).trans (Cert.KernelIdeal.Pay.final11 (K c)).symm
    · exact (funext fun i => at_idx (φ := .f32) (Cert.ReferenceIdeal.Value.v25_at (R c)) i).trans (Cert.KernelIdeal.Pay.final12 (K c)).symm
    · exact (funext fun i => at_idx (φ := .f32) (Cert.ReferenceIdeal.Value.v77_at (R c)) i).trans (Cert.KernelIdeal.Pay.final13 (K c)).symm
    · exact (funext fun i => at_idx (Cert.ReferenceIdeal.Value.dgp_row (R c)) i).trans (Cert.KernelIdeal.Pay.final14 (K c)).symm
    · exact (funext fun i => at_idx (Cert.ReferenceIdeal.Value.dgq_row (R c)) i).trans (Cert.KernelIdeal.Pay.final15 (K c)).symm

theorem frame : Cert.quiescent_ReferenceIdeal := by
  intro m ρ _
  run_from Cert.ReferenceIdeal.Value.run m ρ
  · simp only [and_self, implies_true]
  · exact sem_eq_zero_of_no_sems rfl _

theorem frame_finite : Cert.quiescent_ReferenceIdeal_pre_finite_ffn := fun m ρ _ => frame m ρ trivial

end Cert.FfnClaim

end
-- ==== Proof.MergeModel.lean ====
/-
  The gated merge of the two branches over the reals, one row at a time: the forward values and the gradients that the
  kernel and the reference are both compared with.
-/
module

public import proofs.«01_k».proof.Proof.Lift

@[expose] public section

noncomputable section

open scoped BigOperators

namespace Cert.Lift

/-- The three projections and the norm's gain, as real arrays. -/
structure Merge where
  ws : Fin 512 → Fin 1024 → ℝ
  wr : Fin 512 → Fin 1024 → ℝ
  wo : Fin 1024 → Fin 1024 → ℝ
  gq : Fin 1024 → ℝ

/-- One row of the operands: the cotangent, the attention's output, the recurrence's output (its heads joined), its gate,
    and the two merge gates. -/
structure MRow where
  dx : Fin 1024 → ℝ
  os : Fin 512 → ℝ
  rw : Fin 512 → ℝ
  g : Fin 512 → ℝ
  gt : Fin 2048 → ℝ

namespace MRow

/-- The first and the second merge gate. -/
def g1 (R : MRow) (k : Fin 1024) : ℝ := R.gt ⟨k.val, by omega⟩
def g2 (R : MRow) (k : Fin 1024) : ℝ := R.gt ⟨1024 + k.val, by omega⟩

end MRow

namespace Merge

variable (P : Merge) (R : MRow)

/-- The gated output of the recurrence. -/
def orw (j : Fin 512) : ℝ := R.rw j * R.g j
def a (k : Fin 1024) : ℝ := ∑ j, R.os j * P.ws j k
def b (k : Fin 1024) : ℝ := ∑ j, orw R j * P.wr j k
/-- The merged branches. -/
def mg (k : Fin 1024) : ℝ := R.g1 k * P.a R k + R.g2 k * P.b R k
def z (k : Fin 1024) : ℝ := ∑ l, P.mg R l * P.wo l k
/-- The normalised projection. -/
def zn (k : Fin 1024) : ℝ := P.z R k * rs (P.z R)
def u (k : Fin 1024) : ℝ := R.dx k * P.gq k
/-- The gradient by the projection. -/
def dz (k : Fin 1024) : ℝ := rs (P.z R) * (P.u R k - P.zn R k * ((∑ l, P.u R l * P.zn R l) / 1024))
def dm (k : Fin 1024) : ℝ := ∑ l, P.dz R l * P.wo k l
def da (k : Fin 1024) : ℝ := P.dm R k * R.g1 k
def db (k : Fin 1024) : ℝ := P.dm R k * R.g2 k
/-- The gradient by the gates' logits. -/
def dgt (c : Fin 2048) : ℝ :=
  if h : c.val < 1024 then P.dm R ⟨c.val, h⟩ * P.a R ⟨c.val, h⟩ * R.gt c * (1 - R.gt c)
  else P.dm R ⟨c.val - 1024, by omega⟩ * P.b R ⟨c.val - 1024, by omega⟩ * R.gt c * (1 - R.gt c)
def dorw (j : Fin 512) : ℝ := ∑ k, P.db R k * P.wr j k
/-- The gradient by the attention's output. -/
def dos (j : Fin 512) : ℝ := ∑ k, P.da R k * P.ws j k
/-- The gradients by the recurrence's output and by its gate. -/
def drw (j : Fin 512) : ℝ := P.dorw R j * R.g j
def dg (j : Fin 512) : ℝ := P.dorw R j * R.rw j

end Merge

end Cert.Lift

end
-- ==== Proof.MergeKernel.lean ====
/-
  The merge kernel's payloads on a block of rows whose entries are reals: each is the row model of `MergeModel`.
-/
module

public import proofs.«01_k».proof.Proof.Gen.Kernel2Ideal.Frame
public import Idealize.ShloMosaic.Lib.Pipeline.ValueKit
public import proofs.«01_k».proof.Proof.MergeModel

@[expose] public section

set_option maxRecDepth 16384

noncomputable section

open Idealize.ShloMosaic Idealize.ShloMosaic.TcCoe Idealize.SL.Sem
open Cert.Lift
open scoped BigOperators

namespace Cert.Kernel2Ideal.Pay

open Cert.Kernel2Ideal Cert.Kernel2Ideal.Gen

/-- The blocks at a point: their entries are the rows `R` and the parameters `P`. -/
structure Blk (P : Merge) (R : Fin 512 → MRow) (v16 v17 : FVec Ideal S512x512 .f32) (v18 v20 : FVec Ideal S512x1024 .bf16)
    (v22 : FVec Ideal S1024x1024 .bf16) (v24 : FVec Ideal S512x512 .bf16) (v26 : FVec Ideal S512x2048 .f32)
    (v39 : FVec Ideal S1x1024 .f32) (v50 : FVec Ideal S512x1024 .f32) : Prop where
  rw : ∀ p j, v16 (ix2 p j) = (((R p).rw j : ℝ) : EReal)
  g : ∀ p j, v17 (ix2 p j) = (((R p).g j : ℝ) : EReal)
  ws : ∀ j k, v18 (ix2 j k) = ((P.ws j k : ℝ) : EReal)
  wr : ∀ j k, v20 (ix2 j k) = ((P.wr j k : ℝ) : EReal)
  wo : ∀ k l, v22 (ix2 k l) = ((P.wo k l : ℝ) : EReal)
  os : ∀ p j, v24 (ix2 p j) = (((R p).os j : ℝ) : EReal)
  gt : ∀ p c, v26 (ix2 p c) = (((R p).gt c : ℝ) : EReal)
  gq : ∀ k, v39 (ix2 0 k) = ((P.gq k : ℝ) : EReal)
  dx : ∀ p k, v50 (ix2 p k) = (((R p).dx k : ℝ) : EReal)

variable {P : Merge} {R : Fin 512 → MRow} {v16 v17 : FVec Ideal S512x512 .f32} {v18 v20 : FVec Ideal S512x1024 .bf16}
  {v22 : FVec Ideal S1024x1024 .bf16} {v24 : FVec Ideal S512x512 .bf16} {v26 : FVec Ideal S512x2048 .f32}
  {v39 : FVec Ideal S1x1024 .f32} {v50 : FVec Ideal S512x1024 .f32} (B : Blk P R v16 v17 v18 v20 v22 v24 v26 v39 v50)
include B

theorem pay8_at (j : Fin 512) (k : Fin 1024) :
    k0_pay8 (F := Ideal) v18 (ix2 j k)
      = ((P.ws j k : ℝ) : EReal) := by
  pointwise [k0_pay8]
  exact B.ws j k

theorem pay12_at (p : Fin 512) (j : Fin 512) :
    k0_pay12 (F := Ideal) v16 v17 (ix2 p j)
      = ((Merge.orw (R p) j : ℝ) : EReal) := by
  pointwise [k0_pay12]
  rw [B.rw, B.g, ← EReal.coe_mul]; rfl

theorem pay13_at (p : Fin 512) (k : Fin 1024) :
    k0_pay13 (F := Ideal) (k0_pay8 v18) v24 (ix2 p k)
      = ((P.a (R p) k : ℝ) : EReal) := by
  pointwise [k0_pay13, k0_pay8]
  simp only [B.os, B.ws, ← EReal.coe_mul, sum_coe]
  rfl

theorem pay14_at (p : Fin 512) (k : Fin 1024) :
    k0_pay14 (F := Ideal) v16 v17 v20 (ix2 p k)
      = ((P.b (R p) k : ℝ) : EReal) := by
  pointwise [k0_pay14, k0_pay9]
  simp only [pay12_at B, B.wr, ← EReal.coe_mul, sum_coe]
  rfl

theorem pay15_at (p : Fin 512) (k : Fin 1024) :
    k0_pay15 (F := Ideal) v26 (ix2 p k)
      = (((R p).g1 k : ℝ) : EReal) := by
  pointwise [k0_pay15, k0_pay11]
  exact B.gt p _

theorem pay16_at (p : Fin 512) (k : Fin 1024) :
    k0_pay16 (F := Ideal) v26 (ix2 p k)
      = (((R p).g2 k : ℝ) : EReal) := by
  pointwise [k0_pay16, k0_pay11]
  exact B.gt p _

theorem pay17_at (p : Fin 512) (k : Fin 1024) :
    k0_pay17 (F := Ideal) v16 v17 (k0_pay8 v18) v20 v24 v26 (ix2 p k)
      = ((P.mg (R p) k : ℝ) : EReal) := by
  pointwise [k0_pay17]
  rw [pay15_at B, pay13_at B, pay16_at B, pay14_at B]
  simp only [← EReal.coe_mul, ← EReal.coe_add]; rfl

theorem pay18_at (p : Fin 512) (k : Fin 1024) :
    k0_pay18 (F := Ideal) v16 v17 (k0_pay8 v18) v20 v22 v24 v26 (ix2 p k)
      = ((P.z (R p) k : ℝ) : EReal) := by
  pointwise [k0_pay18, k0_pay10]
  simp only [pay17_at B, B.wo, ← EReal.coe_mul, sum_coe]
  rfl

theorem pay19_at (p : Fin 512) :
    k0_pay19 (F := Ideal) v16 v17 (k0_pay8 v18) v20 v22 v24 v26 (ix2 p 0)
      = ((rs (P.z (R p)) : ℝ) : EReal) := by
  pointwise [k0_pay19]
  simp only [pay18_at B, ← EReal.coe_mul, sum_coe, bits_1024, bits_eps, div_real (by norm_num : (1024 : ℝ) ≠ 0), ← EReal.coe_add]
  exact rsqrt_real (ms_pos _)

theorem pay20_at (p : Fin 512) (k : Fin 1024) :
    k0_pay20 (F := Ideal) v16 v17 (k0_pay8 v18) v20 v22 v24 v26 (ix2 p k)
      = ((P.zn (R p) k : ℝ) : EReal) := by
  pointwise [k0_pay20]
  rw [pay18_at B, pay19_at B, ← EReal.coe_mul]; rfl

theorem pay21_at (p : Fin 512) (k : Fin 1024) :
    k0_pay21 (F := Ideal) v16 v17 (k0_pay8 v18) v20 v22 v24 v26 v39 v50 (ix2 p k)
      = ((P.dz (R p) k : ℝ) : EReal) := by
  pointwise [k0_pay21]
  simp only [pay20_at B, pay19_at B, B.gq, B.dx, bits_1024, ← EReal.coe_mul, sum_coe,
    div_real (by norm_num : (1024 : ℝ) ≠ 0), ← EReal.coe_sub]
  rfl

theorem pay22_at (a : Fin 1) (k : Fin 1024) :
    k0_pay22 (F := Ideal) (k0_pay20 v16 v17 (k0_pay8 v18) v20 v22 v24 v26) v50 (ix2 a k)
      = ((∑ p, (R p).dx k * P.zn (R p) k : ℝ) : EReal) := by
  pointwise [k0_pay22]
  simp only [pay20_at B, B.dx, ← EReal.coe_mul, sum_coe]

theorem pay23_at (p : Fin 512) (k : Fin 1024) :
    k0_pay23 (F := Ideal) (k0_pay21 v16 v17 (k0_pay8 v18) v20 v22 v24 v26 v39 v50) (ix2 p k)
      = ((P.dz (R p) k : ℝ) : EReal) := by
  pointwise [k0_pay23]
  exact pay21_at B p k

theorem pay24_at (p : Fin 512) (k : Fin 1024) :
    k0_pay24 (F := Ideal) (k0_pay10 v22) (k0_pay21 v16 v17 (k0_pay8 v18) v20 v22 v24 v26 v39 v50) (ix2 p k)
      = ((P.dm (R p) k : ℝ) : EReal) := by
  pointwise [k0_pay24, k0_pay10]
  simp only [pay23_at B, B.wo, ← EReal.coe_mul, sum_coe]
  rfl

theorem pay25_at (p : Fin 512) (k : Fin 1024) :
    k0_pay25 (F := Ideal) (k0_pay10 v22) (k0_pay15 v26) (k0_pay21 v16 v17 (k0_pay8 v18) v20 v22 v24 v26 v39 v50) (ix2 p k)
      = ((P.da (R p) k : ℝ) : EReal) := by
  pointwise [k0_pay25]
  rw [pay24_at B, pay15_at B, ← EReal.coe_mul]; rfl

theorem pay26_at (p : Fin 512) (k : Fin 1024) :
    k0_pay26 (F := Ideal) (k0_pay10 v22) (k0_pay16 v26) (k0_pay21 v16 v17 (k0_pay8 v18) v20 v22 v24 v26 v39 v50) (ix2 p k)
      = ((P.db (R p) k : ℝ) : EReal) := by
  pointwise [k0_pay26]
  rw [pay24_at B, pay16_at B, ← EReal.coe_mul]; rfl

theorem pay27_at (p : Fin 512) (c : Fin 2048) :
    k0_pay27 (F := Ideal) (k0_pay10 v22) (k0_pay13 (k0_pay8 v18) v24) (k0_pay14 v16 v17 v20) (k0_pay15 v26) (k0_pay16 v26) (k0_pay21 v16 v17 (k0_pay8 v18) v20 v22 v24 v26 v39 v50) (ix2 p c)
      = ((P.dgt (R p) c : ℝ) : EReal) := by
  pointwise [k0_pay27]
  unfold Merge.dgt
  by_cases h : c.val < 1024
  · rw [dif_pos h, dif_pos h]
    rw [pay24_at B, pay13_at B, pay15_at B]
    simp only [← EReal.coe_one, ← EReal.coe_mul, ← EReal.coe_sub]; rfl
  · have e : (R p).g2 ⟨c.val - 1024, by omega⟩ = (R p).gt c := congrArg (R p).gt (Fin.ext (by show 1024 + (c.val - 1024) = c.val; omega))
    rw [dif_neg h, dif_neg h, pay24_at B, pay14_at B, pay16_at B, e]
    simp only [← EReal.coe_one, ← EReal.coe_mul, ← EReal.coe_sub]

theorem pay29_at (p : Fin 512) (c : Fin 2048) :
    k0_pay29 (F := Ideal) (k0_pay10 v22) (k0_pay13 (k0_pay8 v18) v24) (k0_pay14 v16 v17 v20) (k0_pay15 v26) (k0_pay16 v26) (k0_pay21 v16 v17 (k0_pay8 v18) v20 v22 v24 v26 v39 v50) (ix2 p c)
      = ((P.dgt (R p) c : ℝ) : EReal) := by
  pointwise [k0_pay29]
  exact pay27_at B p c

theorem pay5_at (a : Fin 1) (c : Fin 2048) :
    k0_pay5 (F := Ideal) (k0_pay27 (k0_pay10 v22) (k0_pay13 (k0_pay8 v18) v24) (k0_pay14 v16 v17 v20) (k0_pay15 v26) (k0_pay16 v26) (k0_pay21 v16 v17 (k0_pay8 v18) v20 v22 v24 v26 v39 v50)) (ix2 a c)
      = ((∑ p, P.dgt (R p) c : ℝ) : EReal) := by
  pointwise [k0_pay5]
  simp only [pay27_at B, sum_coe]

theorem pay28_at (p : Fin 512) (j : Fin 512) :
    k0_pay28 (F := Ideal) (k0_pay9 v20) (k0_pay10 v22) (k0_pay16 v26) (k0_pay21 v16 v17 (k0_pay8 v18) v20 v22 v24 v26 v39 v50) (ix2 p j)
      = ((P.dorw (R p) j : ℝ) : EReal) := by
  pointwise [k0_pay28, k0_pay9]
  simp only [pay26_at B, B.wr, ← EReal.coe_mul, sum_coe]
  rfl

theorem pay30_at (p : Fin 512) (j : Fin 512) :
    k0_pay30 (F := Ideal) (k0_pay8 v18) (k0_pay10 v22) (k0_pay15 v26) (k0_pay21 v16 v17 (k0_pay8 v18) v20 v22 v24 v26 v39 v50) (ix2 p j)
      = ((P.dos (R p) j : ℝ) : EReal) := by
  pointwise [k0_pay30]
  simp only [pay25_at B, pay8_at B, ← EReal.coe_mul, sum_coe]
  rfl

theorem pay31_at (p : Fin 512) (j : Fin 512) :
    k0_pay31 (F := Ideal) v17 (k0_pay9 v20) (k0_pay10 v22) (k0_pay16 v26) (k0_pay21 v16 v17 (k0_pay8 v18) v20 v22 v24 v26 v39 v50) (ix2 p j)
      = ((P.drw (R p) j : ℝ) : EReal) := by
  pointwise [k0_pay31]
  rw [pay28_at B, B.g, ← EReal.coe_mul]; rfl

theorem pay3_at (p : Fin 512) (j : Fin 512) :
    k0_pay3 (F := Ideal) v16 (k0_pay28 (k0_pay9 v20) (k0_pay10 v22) (k0_pay16 v26) (k0_pay21 v16 v17 (k0_pay8 v18) v20 v22 v24 v26 v39 v50)) (ix2 p j)
      = ((P.dg (R p) j : ℝ) : EReal) := by
  pointwise [k0_pay3]
  rw [pay28_at B, B.rw, ← EReal.coe_mul]; rfl

end Cert.Kernel2Ideal.Pay

end
-- ==== Proof.MergeValue.lean ====
/-
  The merge kernel's result arrays after its run: each is the row model of `MergeModel` on the argument arrays, the two
  parameter gradients summed over all rows.
-/
module

public import proofs.«01_k».proof.Proof.MergeKernel
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Lift
open scoped BigOperators

namespace Cert.Kernel2Ideal.Pay

open Cert.Kernel2Ideal Cert.Kernel2Ideal.Gen

variable (m : (ℓ : Loc nD τ sig) → Buf (Elt Ideal) ℓ)

/-- The argument arrays are the real rows `R` and the parameters `P`; the gates are the logistic of their logits. -/
structure Args (c : Dev nD) (P : Merge) (R : Fin 8192 → MRow) : Prop where
  dx : ∀ (r : Fin 8192) (k : Fin 1024), (m ((c : Thread nD τ).loc main_arg0) : FVec Ideal S8192x1024 .f32) (ix2 r k) = (((R r).dx k : ℝ) : EReal)
  os : ∀ (r : Fin 8192) (j : Fin 512), (m ((c : Thread nD τ).loc main_arg1) : FVec Ideal S8192x512 .f32) (ix2 r j) = (((R r).os j : ℝ) : EReal)
  rw : ∀ (r : Fin 8192) (j : Fin 512), (m ((c : Thread nD τ).loc main_arg2) : FVec Ideal S4x8x2048x64 .f32)
    (ix4 ⟨r.val / 2048, by omega⟩ ⟨j.val / 64, by omega⟩ ⟨r.val % 2048, by omega⟩ ⟨j.val % 64, by omega⟩) = (((R r).rw j : ℝ) : EReal)
  g : ∀ (r : Fin 8192) (j : Fin 512), (m ((c : Thread nD τ).loc main_arg3) : FVec Ideal S8192x512 .f32) (ix2 r j) = (((R r).g j : ℝ) : EReal)
  gt : ∀ (r : Fin 8192) (k : Fin 2048), ∃ x y : ℝ, (m ((c : Thread nD τ).loc main_arg4) : FVec Ideal S8192x2048 .f32) (ix2 r k) = ((x : ℝ) : EReal)
    ∧ (m ((c : Thread nD τ).loc main_arg5) : FVec Ideal S1x2048 .f32) (ix2 0 k) = ((y : ℝ) : EReal) ∧ (R r).gt k = (1 + Real.exp (-(x + y)))⁻¹
  ws : ∀ (j : Fin 512) (k : Fin 1024), (m ((c : Thread nD τ).loc main_arg6) : FVec Ideal S512x1024 .f32) (ix2 j k) = ((P.ws j k : ℝ) : EReal)
  wr : ∀ (j : Fin 512) (k : Fin 1024), (m ((c : Thread nD τ).loc main_arg7) : FVec Ideal S512x1024 .f32) (ix2 j k) = ((P.wr j k : ℝ) : EReal)
  wo : ∀ (k l : Fin 1024), (m ((c : Thread nD τ).loc main_arg8) : FVec Ideal S1024x1024 .f32) (ix2 k l) = ((P.wo k l : ℝ) : EReal)
  gq : ∀ k : Fin 1024, (m ((c : Thread nD τ).loc main_arg9) : FVec Ideal S1x1024 .f32) (ix2 0 k) = ((P.gq k : ℝ) : EReal)

/-- The gates from their logits. -/
def gates (x : FVec Ideal S8192x2048 .f32) (y : FVec Ideal S1x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32))
      (Host.exp (Host.negf (addf x (broadcastInDim S8192x2048 ![0, 1] bcast_S1x2048_S8192x2048_0_1 y)))))

theorem V_gates (c : Dev nD) : V m c main_v7 = gates (m ((c : Thread nD τ).loc main_arg4)) (m ((c : Thread nD τ).loc main_arg5)) := by
  unfold V
  after_results
  rfl

/-- The windows' block indices. -/
theorem idx : ∀ t : Fin cfg0.N, win0_0.index t = ![t.val, 0]
    ∧ win0_1.index t = ![t.val, 0]
    ∧ win0_2.index t = ![t.val / 4, 0, t.val % 4, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val / 4, 0, t.val % 4, 0]
    ∧ win0_17.index t = ![t.val, 0]
    ∧ win0_18.index t = ![0, 0]
    ∧ win0_19.index t = ![0, 0] :=
  (by decide +kernel : ∀ t : Fin grid0.N, _)

/-- Row `p` of the block at point `t`. -/
def row (t : Fin cfg0.N) (p : Fin 512) : Fin 8192 := ⟨t.val * 512 + p.val, by have h : t.val < 16 := t.isLt; omega⟩

variable {m} {c : Dev nD} {P : Merge} {R : Fin 8192 → MRow} (A : Args m c P R)
include A

/-- The recurrence's output read by heads: head `h`, row `p`, lane `d`. -/
theorem blk_rw (t : Fin cfg0.N) (h : Fin 8) (p : Fin 512) (d : Fin 64) :
    (iblk m c 2 t : FVec Ideal S1x8x512x64 .f32) (ix4 0 h p d) = (((R (row t p)).rw ⟨h.val * 64 + d.val, by omega⟩ : ℝ) : EReal) := by
  have hN : t.val < 16 := t.isLt
  refine Eq.trans ?_ (A.rw (row t p) _)
  blk_point [iblk, V, idx t, row]

theorem blk_gt (t : Fin cfg0.N) (p : Fin 512) (k : Fin 2048) :
    (iblk m c 4 t : FVec Ideal S512x2048 .f32) (ix2 p k) = (((R (row t p)).gt k : ℝ) : EReal) := by
  obtain ⟨x, y, hx, hy, e⟩ := A.gt (row t p) k
  have h : (iblk m c 4 t : FVec Ideal S512x2048 .f32) (ix2 p k)
      = gates (m ((c : Thread nD τ).loc main_arg4)) (m ((c : Thread nD τ).loc main_arg5)) (ix2 (row t p) k) := by
    refine (congrFun (V_gates m c) _).trans ?_
    blk_ext [idx t, row]
  have hp : (1 + Real.exp (-(x + y))) ≠ 0 := by positivity
  rw [h, e]
  pointwise [gates]
  rw [hx, hy]
  simp only [← EReal.coe_add, ← EReal.coe_neg, Ideal.exp_coe, ← EReal.coe_one, div_real hp, one_div]

omit A in
/-- The eight heads' loads, joined along the lanes. -/
theorem pay7_at (B : FVec Ideal S1x8x512x64 .f32) (p : Fin 512) (j : Fin 512) :
    k0_pay7 (F := Ideal) (View.ld (Val := Elt Ideal) (e' := .f32) B (Rect.unit (s := S1x8x512x64) ![0, 0, 0, 0] ![1, 1, 512, 64] inb_S1x8x512x64_S1x1x512x64_0_0_0_0)) (View.ld (Val := Elt Ideal) (e' := .f32) B (Rect.unit (s := S1x8x512x64) ![0, 1, 0, 0] ![1, 1, 512, 64] inb_S1x8x512x64_S1x1x512x64_0_1_0_0)) (View.ld (Val := Elt Ideal) (e' := .f32) B (Rect.unit (s := S1x8x512x64) ![0, 2, 0, 0] ![1, 1, 512, 64] inb_S1x8x512x64_S1x1x512x64_0_2_0_0)) (View.ld (Val := Elt Ideal) (e' := .f32) B (Rect.unit (s := S1x8x512x64) ![0, 3, 0, 0] ![1, 1, 512, 64] inb_S1x8x512x64_S1x1x512x64_0_3_0_0)) (View.ld (Val := Elt Ideal) (e' := .f32) B (Rect.unit (s := S1x8x512x64) ![0, 4, 0, 0] ![1, 1, 512, 64] inb_S1x8x512x64_S1x1x512x64_0_4_0_0)) (View.ld (Val := Elt Ideal) (e' := .f32) B (Rect.unit (s := S1x8x512x64) ![0, 5, 0, 0] ![1, 1, 512, 64] inb_S1x8x512x64_S1x1x512x64_0_5_0_0)) (View.ld (Val := Elt Ideal) (e' := .f32) B (Rect.unit (s := S1x8x512x64) ![0, 6, 0, 0] ![1, 1, 512, 64] inb_S1x8x512x64_S1x1x512x64_0_6_0_0)) (View.ld (Val := Elt Ideal) (e' := .f32) B (Rect.unit (s := S1x8x512x64) ![0, 7, 0, 0] ![1, 1, 512, 64] inb_S1x8x512x64_S1x1x512x64_0_7_0_0))
      (ix2 p j) = B (ix4 0 ⟨j.val / 64, by omega⟩ p ⟨j.val % 64, by omega⟩) := by
  pointwise [k0_pay7]
  blk_point []

theorem blk (t : Fin cfg0.N) : Blk P (fun p => R (row t p))
    (k0_pay7 (F := Ideal) (View.ld (Val := Elt Ideal) (e' := .f32) (iblk m c 2 t) (Rect.unit (s := S1x8x512x64) ![0, 0, 0, 0] ![1, 1, 512, 64] inb_S1x8x512x64_S1x1x512x64_0_0_0_0)) (View.ld (Val := Elt Ideal) (e' := .f32) (iblk m c 2 t) (Rect.unit (s := S1x8x512x64) ![0, 1, 0, 0] ![1, 1, 512, 64] inb_S1x8x512x64_S1x1x512x64_0_1_0_0)) (View.ld (Val := Elt Ideal) (e' := .f32) (iblk m c 2 t) (Rect.unit (s := S1x8x512x64) ![0, 2, 0, 0] ![1, 1, 512, 64] inb_S1x8x512x64_S1x1x512x64_0_2_0_0)) (View.ld (Val := Elt Ideal) (e' := .f32) (iblk m c 2 t) (Rect.unit (s := S1x8x512x64) ![0, 3, 0, 0] ![1, 1, 512, 64] inb_S1x8x512x64_S1x1x512x64_0_3_0_0)) (View.ld (Val := Elt Ideal) (e' := .f32) (iblk m c 2 t) (Rect.unit (s := S1x8x512x64) ![0, 4, 0, 0] ![1, 1, 512, 64] inb_S1x8x512x64_S1x1x512x64_0_4_0_0)) (View.ld (Val := Elt Ideal) (e' := .f32) (iblk m c 2 t) (Rect.unit (s := S1x8x512x64) ![0, 5, 0, 0] ![1, 1, 512, 64] inb_S1x8x512x64_S1x1x512x64_0_5_0_0)) (View.ld (Val := Elt Ideal) (e' := .f32) (iblk m c 2 t) (Rect.unit (s := S1x8x512x64) ![0, 6, 0, 0] ![1, 1, 512, 64] inb_S1x8x512x64_S1x1x512x64_0_6_0_0)) (View.ld (Val := Elt Ideal) (e' := .f32) (iblk m c 2 t) (Rect.unit (s := S1x8x512x64) ![0, 7, 0, 0] ![1, 1, 512, 64] inb_S1x8x512x64_S1x1x512x64_0_7_0_0)))
    (iblk m c 3 t) (iblk m c 5 t) (iblk m c 6 t) (iblk m c 7 t)
    (iblk m c 1 t) (iblk m c 4 t) (iblk m c 8 t) (iblk m c 0 t) where
  rw p j := by
    refine ((pay7_at (iblk m c 2 t) p j).trans (blk_rw A t _ p _)).trans ?_
    exact congrArg (fun k => (((R (row t p)).rw k : ℝ) : EReal)) (Fin.ext (by show j.val / 64 * 64 + j.val % 64 = j.val; omega))
  g p j := by
    refine Eq.trans ?_ (A.g (row t p) j)
    blk_point [iblk, V, idx t, row]
  ws j k := by
    refine Eq.trans ?_ (A.ws j k)
    blk_point [iblk, V, idx t]
  wr j k := by
    refine Eq.trans ?_ (A.wr j k)
    blk_point [iblk, V, idx t]
  wo k l := by
    refine Eq.trans ?_ (A.wo k l)
    blk_point [iblk, V, idx t]
  os p j := by
    refine Eq.trans ?_ (A.os (row t p) j)
    blk_point [iblk, V, idx t, row]
  gt p k := blk_gt A t p k
  gq k := by
    refine Eq.trans ?_ (A.gq k)
    blk_point [iblk, V, idx t]
  dx p k := by
    refine Eq.trans ?_ (A.dx (row t p) k)
    blk_point [iblk, V, idx t, row]

omit A in
/-- A sum over the rows of all points' blocks is a sum over all rows. -/
theorem sum_rows (F : Fin 8192 → ℝ) (t : Fin cfg0.N) (ht : t.val % 16 = 16 - 1) :
    (∑ s : Fin 16, ∑ q : Fin 512, F (row ⟨16 * (t.val / 16) + s.val, Pipeline.run_point_lt_of_flush t ht s⟩ q)) = ∑ r, F r := by
  have hN : t.val < 16 := t.isLt
  refine Fin.sum_mul_add_congr fun s k hl => ?_
  exact congrArg F (Fin.ext (by show (16 * (t.val / 16) + s.val) * 512 + k.val = s.val * 512 + k.val; omega))

theorem final9 : (dats m 0 c).arrAt 9 (cfgs 0).N = (fun i : S8192x512.Idx => ((Merge.orw (R (i 0)) (i 1) : ℝ) : EReal)) := by
  refine (dats m 0 c).arrAt_eq_of_covers 9 _ (by decide +kernel) fun t hf y => ?_
  blk_simp
  rw [after0_9]
  have hN : t.val < 16 := t.isLt
  have e0 : ((((cfg0.win 9).blk t).view.emb y) 0 : Fin 8192) = row t (y 0) := Fin.ext (by blk_simp [idx t, row])
  have e1 : ((((cfg0.win 9).blk t).view.emb y) 1 : Fin 512) = y 1 := Fin.ext (by blk_simp [idx t])
  refine Eq.trans ?_ (congrArg₂ (fun (r : Fin 8192) (k : Fin 512) => ((Merge.orw (R r) k : ℝ) : EReal)) e0 e1).symm
  by_cases h0 : t.val % 16 = 0
  · have h1 : ¬1 ≤ t.val := by omega
    rw [outsAt0_A m c t h0 h1 h0 h1]
    frame_out
    exact at_idx (pay12_at (blk A t)) y
  · have h1 : 1 ≤ t.val := by omega
    rw [outsAt0_B m c t h0 h1 h0 h1]
    frame_out
    exact at_idx (pay12_at (blk A t)) y

theorem final10 : (dats m 0 c).arrAt 10 (cfgs 0).N = (fun i : S8192x1024.Idx => ((P.mg (R (i 0)) (i 1) : ℝ) : EReal)) := by
  refine (dats m 0 c).arrAt_eq_of_covers 10 _ (by decide +kernel) fun t hf y => ?_
  blk_simp
  rw [after0_10]
  have hN : t.val < 16 := t.isLt
  have e0 : ((((cfg0.win 10).blk t).view.emb y) 0 : Fin 8192) = row t (y 0) := Fin.ext (by blk_simp [idx t, row])
  have e1 : ((((cfg0.win 10).blk t).view.emb y) 1 : Fin 1024) = y 1 := Fin.ext (by blk_simp [idx t])
  refine Eq.trans ?_ (congrArg₂ (fun (r : Fin 8192) (k : Fin 1024) => ((P.mg (R r) k : ℝ) : EReal)) e0 e1).symm
  by_cases h0 : t.val % 16 = 0
  · have h1 : ¬1 ≤ t.val := by omega
    rw [outsAt0_A m c t h0 h1 h0 h1]
    frame_out
    exact at_idx (pay17_at (blk A t)) y
  · have h1 : 1 ≤ t.val := by omega
    rw [outsAt0_B m c t h0 h1 h0 h1]
    frame_out
    exact at_idx (pay17_at (blk A t)) y

theorem final11 : (dats m 0 c).arrAt 11 (cfgs 0).N = (fun i : S8192x1024.Idx => ((P.dz (R (i 0)) (i 1) : ℝ) : EReal)) := by
  refine (dats m 0 c).arrAt_eq_of_covers 11 _ (by decide +kernel) fun t hf y => ?_
  blk_simp
  rw [after0_11]
  have hN : t.val < 16 := t.isLt
  have e0 : ((((cfg0.win 11).blk t).view.emb y) 0 : Fin 8192) = row t (y 0) := Fin.ext (by blk_simp [idx t, row])
  have e1 : ((((cfg0.win 11).blk t).view.emb y) 1 : Fin 1024) = y 1 := Fin.ext (by blk_simp [idx t])
  refine Eq.trans ?_ (congrArg₂ (fun (r : Fin 8192) (k : Fin 1024) => ((P.dz (R r) k : ℝ) : EReal)) e0 e1).symm
  by_cases h0 : t.val % 16 = 0
  · have h1 : ¬1 ≤ t.val := by omega
    rw [outsAt0_A m c t h0 h1 h0 h1]
    frame_out
    exact at_idx (pay23_at (blk A t)) y
  · have h1 : 1 ≤ t.val := by omega
    rw [outsAt0_B m c t h0 h1 h0 h1]
    frame_out
    exact at_idx (pay23_at (blk A t)) y

theorem final12 : (dats m 0 c).arrAt 12 (cfgs 0).N = (fun i : S8192x1024.Idx => ((P.da (R (i 0)) (i 1) : ℝ) : EReal)) := by
  refine (dats m 0 c).arrAt_eq_of_covers 12 _ (by decide +kernel) fun t hf y => ?_
  blk_simp
  rw [after0_12]
  have hN : t.val < 16 := t.isLt
  have e0 : ((((cfg0.win 12).blk t).view.emb y) 0 : Fin 8192) = row t (y 0) := Fin.ext (by blk_simp [idx t, row])
  have e1 : ((((cfg0.win 12).blk t).view.emb y) 1 : Fin 1024) = y 1 := Fin.ext (by blk_simp [idx t])
  refine Eq.trans ?_ (congrArg₂ (fun (r : Fin 8192) (k : Fin 1024) => ((P.da (R r) k : ℝ) : EReal)) e0 e1).symm
  by_cases h0 : t.val % 16 = 0
  · have h1 : ¬1 ≤ t.val := by omega
    rw [outsAt0_A m c t h0 h1 h0 h1]
    frame_out
    exact at_idx (pay25_at (blk A t)) y
  · have h1 : 1 ≤ t.val := by omega
    rw [outsAt0_B m c t h0 h1 h0 h1]
    frame_out
    exact at_idx (pay25_at (blk A t)) y

theorem final13 : (dats m 0 c).arrAt 13 (cfgs 0).N = (fun i : S8192x1024.Idx => ((P.db (R (i 0)) (i 1) : ℝ) : EReal)) := by
  refine (dats m 0 c).arrAt_eq_of_covers 13 _ (by decide +kernel) fun t hf y => ?_
  blk_simp
  rw [after0_13]
  have hN : t.val < 16 := t.isLt
  have e0 : ((((cfg0.win 13).blk t).view.emb y) 0 : Fin 8192) = row t (y 0) := Fin.ext (by blk_simp [idx t, row])
  have e1 : ((((cfg0.win 13).blk t).view.emb y) 1 : Fin 1024) = y 1 := Fin.ext (by blk_simp [idx t])
  refine Eq.trans ?_ (congrArg₂ (fun (r : Fin 8192) (k : Fin 1024) => ((P.db (R r) k : ℝ) : EReal)) e0 e1).symm
  by_cases h0 : t.val % 16 = 0
  · have h1 : ¬1 ≤ t.val := by omega
    rw [outsAt0_A m c t h0 h1 h0 h1]
    frame_out
    exact at_idx (pay26_at (blk A t)) y
  · have h1 : 1 ≤ t.val := by omega
    rw [outsAt0_B m c t h0 h1 h0 h1]
    frame_out
    exact at_idx (pay26_at (blk A t)) y

theorem final14 : (dats m 0 c).arrAt 14 (cfgs 0).N = (fun i : S8192x2048.Idx => ((P.dgt (R (i 0)) (i 1) : ℝ) : EReal)) := by
  refine (dats m 0 c).arrAt_eq_of_covers 14 _ (by decide +kernel) fun t hf y => ?_
  blk_simp
  rw [after0_14]
  have hN : t.val < 16 := t.isLt
  have e0 : ((((cfg0.win 14).blk t).view.emb y) 0 : Fin 8192) = row t (y 0) := Fin.ext (by blk_simp [idx t, row])
  have e1 : ((((cfg0.win 14).blk t).view.emb y) 1 : Fin 2048) = y 1 := Fin.ext (by blk_simp [idx t])
  refine Eq.trans ?_ (congrArg₂ (fun (r : Fin 8192) (k : Fin 2048) => ((P.dgt (R r) k : ℝ) : EReal)) e0 e1).symm
  by_cases h0 : t.val % 16 = 0
  · have h1 : ¬1 ≤ t.val := by omega
    rw [outsAt0_A m c t h0 h1 h0 h1]
    frame_out
    exact at_idx (pay29_at (blk A t)) y
  · have h1 : 1 ≤ t.val := by omega
    rw [outsAt0_B m c t h0 h1 h0 h1]
    frame_out
    exact at_idx (pay29_at (blk A t)) y

theorem final15 : (dats m 0 c).arrAt 15 (cfgs 0).N = (fun i : S8192x512.Idx => ((P.dos (R (i 0)) (i 1) : ℝ) : EReal)) := by
  refine (dats m 0 c).arrAt_eq_of_covers 15 _ (by decide +kernel) fun t hf y => ?_
  blk_simp
  rw [after0_15]
  have hN : t.val < 16 := t.isLt
  have e0 : ((((cfg0.win 15).blk t).view.emb y) 0 : Fin 8192) = row t (y 0) := Fin.ext (by blk_simp [idx t, row])
  have e1 : ((((cfg0.win 15).blk t).view.emb y) 1 : Fin 512) = y 1 := Fin.ext (by blk_simp [idx t])
  refine Eq.trans ?_ (congrArg₂ (fun (r : Fin 8192) (k : Fin 512) => ((P.dos (R r) k : ℝ) : EReal)) e0 e1).symm
  by_cases h0 : t.val % 16 = 0
  · have h1 : ¬1 ≤ t.val := by omega
    rw [outsAt0_A m c t h0 h1 h0 h1]
    frame_out
    exact at_idx (pay30_at (blk A t)) y
  · have h1 : 1 ≤ t.val := by omega
    rw [outsAt0_B m c t h0 h1 h0 h1]
    frame_out
    exact at_idx (pay30_at (blk A t)) y

theorem final17 : (dats m 0 c).arrAt 17 (cfgs 0).N = (fun i : S8192x512.Idx => ((P.dg (R (i 0)) (i 1) : ℝ) : EReal)) := by
  refine (dats m 0 c).arrAt_eq_of_covers 17 _ (by decide +kernel) fun t hf y => ?_
  blk_simp
  rw [after0_17]
  have hN : t.val < 16 := t.isLt
  have e0 : ((((cfg0.win 17).blk t).view.emb y) 0 : Fin 8192) = row t (y 0) := Fin.ext (by blk_simp [idx t, row])
  have e1 : ((((cfg0.win 17).blk t).view.emb y) 1 : Fin 512) = y 1 := Fin.ext (by blk_simp [idx t])
  refine Eq.trans ?_ (congrArg₂ (fun (r : Fin 8192) (k : Fin 512) => ((P.dg (R r) k : ℝ) : EReal)) e0 e1).symm
  by_cases h0 : t.val % 16 = 0
  · have h1 : ¬1 ≤ t.val := by omega
    rw [outsAt0_A m c t h0 h1 h0 h1]
    frame_out
    exact at_idx (pay3_at (blk A t)) y
  · have h1 : 1 ≤ t.val := by omega
    rw [outsAt0_B m c t h0 h1 h0 h1]
    frame_out
    exact at_idx (pay3_at (blk A t)) y

theorem final18 : (dats m 0 c).arrAt 18 (cfgs 0).N = (fun i : S1x1024.Idx => ((∑ r, (R r).dx (i 1) * P.zn (R r) (i 1) : ℝ) : EReal)) := by
  refine (dats m 0 c).arrAt_eq_of_covers 18 _ (by decide +kernel) fun t hf y => ?_
  blk_simp
  rw [after0_18]
  have e1 : ((((cfg0.win 18).blk t).view.emb y) 1 : Fin 1024) = y 1 := Fin.ext (by blk_simp [idx t])
  refine Eq.trans ?_ (congrArg (fun k : Fin 1024 => ((∑ r, (R r).dx k * P.zn (R r) k : ℝ) : EReal)) e1).symm
  refine (Pipeline.eq_sum_fin_of_reset_step_apply_of_flush (fun n h => (outsAt0 m c n h).2.2.2.2.2.2.2.2.2.1) 16 (fun _ => (0 : EReal))
    (fun s j => ((∑ q, (R (row s q)).dx (j 1) * P.zn (R (row s q)) (j 1) : ℝ) : EReal)) ?_ ?_ t ((flush0_18 t).mp hf) y).trans ?_
  · intro s h0 j
    have h1 : ¬1 ≤ s.val := by have hN : s.val < 16 := s.isLt; omega
    rw [outsAt0_A m c s h0 h1 h0 h1]
    frame_out
    rw [zero_add]
    exact at_idx (g := fun a k => ∑ q, (R (row s q)).dx k * P.zn (R (row s q)) k) (pay22_at (blk A s)) j
  · intro s h0 j
    have h1 : 1 ≤ s.val := by omega
    rw [outsAt0_B m c s h0 h1 h0 h1]
    frame_out
    pointwise [k0_pay4]
    exact congrArg (_ + ·) (at_idx (g := fun a k => ∑ q, (R (row s q)).dx k * P.zn (R (row s q)) k) (pay22_at (blk A s)) j)
  · rw [zero_add, sum_coe]
    exact congrArg _ (sum_rows (fun r => (R r).dx (y 1) * P.zn (R r) (y 1)) t ((flush0_18 t).mp hf))

theorem final19 : (dats m 0 c).arrAt 19 (cfgs 0).N = (fun i : S1x2048.Idx => ((∑ r, P.dgt (R r) (i 1) : ℝ) : EReal)) := by
  refine (dats m 0 c).arrAt_eq_of_covers 19 _ (by decide +kernel) fun t hf y => ?_
  blk_simp
  rw [after0_19]
  have e1 : ((((cfg0.win 19).blk t).view.emb y) 1 : Fin 2048) = y 1 := Fin.ext (by blk_simp [idx t])
  refine Eq.trans ?_ (congrArg (fun k : Fin 2048 => ((∑ r, P.dgt (R r) k : ℝ) : EReal)) e1).symm
  refine (Pipeline.eq_sum_fin_of_reset_step_apply_of_flush (fun n h => (outsAt0 m c n h).2.2.2.2.2.2.2.2.2.2) 16 (fun _ => (0 : EReal))
    (fun s j => ((∑ q, P.dgt (R (row s q)) (j 1) : ℝ) : EReal)) ?_ ?_ t ((flush0_19 t).mp hf) y).trans ?_
  · intro s h0 j
    have h1 : ¬1 ≤ s.val := by have hN : s.val < 16 := s.isLt; omega
    rw [outsAt0_A m c s h0 h1 h0 h1]
    frame_out
    rw [zero_add]
    exact at_idx (g := fun a k => ∑ q, P.dgt (R (row s q)) k) (pay5_at (blk A s)) j
  · intro s h0 j
    have h1 : 1 ≤ s.val := by omega
    rw [outsAt0_B m c s h0 h1 h0 h1]
    frame_out
    pointwise [k0_pay6]
    exact congrArg (_ + ·) (at_idx (g := fun a k => ∑ q, P.dgt (R (row s q)) k) (pay5_at (blk A s)) j)
  · rw [zero_add, sum_coe]
    exact congrArg _ (sum_rows (fun r => P.dgt (R r) (y 1)) t ((flush0_19 t).mp hf))
theorem final16 : (dats m 0 c).arrAt 16 (cfgs 0).N = (fun i : S4x8x2048x64.Idx =>
    ((P.drw (R ⟨(i 0).val * 2048 + (i 2).val, by have h0 : (i 0).val < 4 := (i 0).isLt; have h2 : (i 2).val < 2048 := (i 2).isLt; omega⟩)
      ⟨(i 1).val * 64 + (i 3).val, by have h1 : (i 1).val < 8 := (i 1).isLt; have h3 : (i 3).val < 64 := (i 3).isLt; omega⟩ : ℝ) : EReal)) := by
  refine (dats m 0 c).arrAt_eq_of_covers 16 _ (by decide +kernel) fun t hf y => ?_
  have hN : t.val < 16 := t.isLt
  have y0 : (y 0).val < 1 := (y 0).isLt
  have y1 : (y 1).val < 8 := (y 1).isLt
  have y2 : (y 2).val < 512 := (y 2).isLt
  have y3 : (y 3).val < 64 := (y 3).isLt
  blk_simp
  rw [after0_16]
  refine Eq.trans ?_ (congrArg₂ (fun (r : Fin 8192) (k : Fin 512) => ((P.drw (R r) k : ℝ) : EReal))
    (x := row t ⟨(y 2).val, y2⟩) (y := ⟨(y 1).val * 64 + (y 3).val, by omega⟩)
    (Fin.ext (by simp only [idx t, row, Matrix.cons_val]; omega)) (Fin.ext (by simp only [idx t, Matrix.cons_val]; omega)))
  by_cases h0 : t.val % 16 = 0
  · have h1 : ¬1 ≤ t.val := by omega
    rw [outsAt0_A m c t h0 h1 h0 h1]
    frame_out
    refine Eq.trans ?_ (pay31_at (blk A t) ⟨(y 2).val, y2⟩ ⟨(y 1).val * 64 + (y 3).val, by omega⟩)
    canon_tiles x h
    all_goals (open_payloads; pointwise; blk_ext)
  · have h1 : 1 ≤ t.val := by omega
    rw [outsAt0_B m c t h0 h1 h0 h1]
    frame_out
    refine Eq.trans ?_ (pay31_at (blk A t) ⟨(y 2).val, y2⟩ ⟨(y 1).val * 64 + (y 3).val, by omega⟩)
    canon_tiles x h
    all_goals (open_payloads; pointwise; blk_ext)

end Cert.Kernel2Ideal.Pay

end
-- ==== Proof.MergeRef.lean ====
/-
  The merge reference's intermediate arrays on real arguments: each, read at a row, is the row model of `MergeModel`.
-/
module

public import proofs.«01_k».proof.Proof.Gen.Reference2Ideal.Run
public import Idealize.ShloMosaic.Lib.Pointwise
public import proofs.«01_k».proof.Proof.MergeModel

@[expose] public section

set_option maxRecDepth 16384

noncomputable section

open Idealize.ShloMosaic Idealize.ShloMosaic.TcCoe Idealize.SL.Sem
open Cert.Lift
open scoped BigOperators

namespace Cert.Reference2Ideal.Value

open Cert.Reference2Ideal Cert.Reference2Ideal.Gen Idealize.ShloMosaic.StableHlo

/-- The argument arrays. -/
structure In where
  a0 : FVec Ideal S8192x1024 .f32
  a1 : FVec Ideal S8192x512 .f32
  a2 : FVec Ideal S4x8x2048x64 .f32
  a3 : FVec Ideal S8192x512 .f32
  a4 : FVec Ideal S8192x2048 .f32
  a5 : FVec Ideal S1x2048 .f32
  a6 : FVec Ideal S512x1024 .f32
  a7 : FVec Ideal S512x1024 .f32
  a8 : FVec Ideal S1024x1024 .f32
  a9 : FVec Ideal S1x1024 .f32

/-! The reference's arrays that are read more than once, each over the ones before it. -/

def r8 (A : In) : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf A.a4 (broadcastInDim S8192x2048 ![0, 1] bcast_S1x2048_S8192x2048_0_1 A.a5)))))

def r11 (A : In) : FVec Ideal S8192x2048 .f32 :=
  mulf (r8 A) (subf (broadcastInDim S8192x2048 ![] bcast_S_S8192x2048 (constant S_ .f32 0x3F800000#32)) (r8 A))

def r13 (A : In) : FVec Ideal S8192x512 .f32 :=
  shapeCast S8192x512 (transpose S4x2048x8x64 [0, 2, 1, 3] A.a2 transposes_S4x8x2048x64_S4x2048x8x64_0_2_1_3) shapeCasts_S4x2048x8x64_S8192x512

def r14 (A : In) : FVec Ideal S8192x512 .f32 :=
  mulf (r13 A) A.a3

def r17 (A : In) : FVec Ideal S8192x1024 .f32 :=
  addf (Host.dotGeneral dot_S8192x512_S512x1024_S8192x1024_1_0_0_1_n_n none A.a1 A.a6) (broadcastInDim S8192x1024 ![] bcast_S_S8192x1024 (constant S_ .f32 0x00000000#32))

def r21 (A : In) : FVec Ideal S8192x1024 .f32 :=
  addf (Host.dotGeneral dot_S8192x512_S512x1024_S8192x1024_1_0_0_1_n_n none (r14 A) A.a7) (broadcastInDim S8192x1024 ![] bcast_S_S8192x1024 (constant S_ .f32 0x00000000#32))

def r23 (A : In) : FVec Ideal S8192x1024 .f32 :=
  addf (mulf (extractStridedSlice S8192x1024 ![0, 0] (r8 A) slices_S8192x2048_S8192x1024_0_0) (r17 A)) (mulf (extractStridedSlice S8192x1024 ![0, 1024] (r8 A) slices_S8192x2048_S8192x1024_0_1024) (r21 A))

def r25 (A : In) : FVec Ideal S8192x1024 .f32 :=
  addf (Host.dotGeneral dot_S8192x1024_S1024x1024_S8192x1024_1_0_0_1_n_n none (r23 A) A.a8) (broadcastInDim S8192x1024 ![] bcast_S_S8192x1024 (constant S_ .f32 0x00000000#32))

def r32 (A : In) : FVec Ideal S8192x1 .f32 :=
  addf (Host.divf (broadcastInDim S8192x1 ![0] bcast_S8192_S8192x1_0 (Host.reduceAdd (mulf (r25 A) (r25 A)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

def r33 (A : In) : FVec Ideal S8192x1 .f32 :=
  Host.rsqrt (r32 A)

def r38 (A : In) : FVec Ideal S8192x1024 .f32 :=
  mulf (r25 A) (broadcastInDim S8192x1024 ![0, 1] bcast_S8192x1_S8192x1024_0_1 (r33 A))

def r43 (A : In) : FVec Ideal S1x1024 .f32 :=
  shapeCast S1x1024 (Host.reduceAdd (mulf (r38 A) A.a0) (constant S_ .f32 0x00000000#32) reducesTo_S8192x1024_S1024_d0 h_S_) shapeCasts_S1024_S1x1024

def r45 (A : In) : FVec Ideal S8192x1024 .f32 :=
  mulf A.a0 (broadcastInDim S8192x1024 ![0, 1] bcast_S1x1024_S8192x1024_0_1 A.a9)

def r55 (A : In) : FVec Ideal S8192x1024 .f32 :=
  broadcastInDim S8192x1024 ![0] bcast_S8192_S8192x1024_0 (Host.reduceAdd (Host.divf (mulf (shapeCast S8192x1 (Host.reduceAdd (mulf (r25 A) (r45 A)) (constant S_ .f32 0x00000000#32) reducesTo_S8192x1024_S8192_d1 h_S_) shapeCasts_S8192_S8192x1) (mulf (broadcastInDim S8192x1 ![] bcast_S_S8192x1 (constant S_ .f32 0xBF000000#32)) (Host.divf (r33 A) (r32 A)))) (broadcastInDim S8192x1 ![] bcast_S_S8192x1 (constant S_ .f32 0x44800000#32))) (constant S_ .f32 0x00000000#32) reducesTo_S8192x1_S8192_d1 h_S_)

def r59 (A : In) : FVec Ideal S8192x1024 .f32 :=
  addf (addf (mulf (r45 A) (broadcastInDim S8192x1024 ![0, 1] bcast_S8192x1_S8192x1024_0_1 (r33 A))) (mulf (r25 A) (r55 A))) (mulf (r55 A) (r25 A))

def r60 (A : In) : FVec Ideal S8192x1024 .f32 :=
  Host.dotGeneral dot_S8192x1024_S1024x1024_S8192x1024_1_1_0_0_n_n none (r59 A) A.a8

def r61 (A : In) : FVec Ideal S8192x1024 .f32 :=
  mulf (extractStridedSlice S8192x1024 ![0, 1024] (r8 A) slices_S8192x2048_S8192x1024_0_1024) (r60 A)

def r63 (A : In) : FVec Ideal S8192x512 .f32 :=
  Host.dotGeneral dot_S8192x1024_S512x1024_S8192x512_1_1_0_0_n_n none (r61 A) A.a7

def r65 (A : In) : FVec Ideal S8192x1024 .f32 :=
  mulf (extractStridedSlice S8192x1024 ![0, 0] (r8 A) slices_S8192x2048_S8192x1024_0_0) (r60 A)

def r67 (A : In) : FVec Ideal S8192x512 .f32 :=
  Host.dotGeneral dot_S8192x1024_S512x1024_S8192x512_1_1_0_0_n_n none (r65 A) A.a6

def r69 (A : In) : FVec Ideal S8192x2048 .f32 :=
  addf (pad S8192x2048 ![0, 1024] ![0, 0] ![0, 0] (mulf (r60 A) (r21 A)) (constant S_ .f32 0x00000000#32) pads_S8192x1024_S8192x2048_000_102400 h_S_) (pad S8192x2048 ![0, 0] ![0, 1024] ![0, 0] (mulf (r60 A) (r17 A)) (constant S_ .f32 0x00000000#32) pads_S8192x1024_S8192x2048_000_010240 h_S_)

def r70 (A : In) : FVec Ideal S8192x512 .f32 :=
  mulf (r13 A) (r63 A)

def r73 (A : In) : FVec Ideal S4x8x2048x64 .f32 :=
  transpose S4x8x2048x64 [0, 2, 1, 3] (shapeCast S4x2048x8x64 (mulf (r63 A) A.a3) shapeCasts_S8192x512_S4x2048x8x64) transposes_S4x2048x8x64_S4x8x2048x64_0_2_1_3

def r74 (A : In) : FVec Ideal S8192x2048 .f32 :=
  mulf (r69 A) (r11 A)

def r76 (A : In) : FVec Ideal S1x2048 .f32 :=
  shapeCast S1x2048 (Host.reduceAdd (r74 A) (constant S_ .f32 0x00000000#32) reducesTo_S8192x2048_S2048_d0 h_S_) shapeCasts_S2048_S1x2048

/-- The argument arrays are the real rows `R` and the parameters `P`; the gates are the logistic of their logits. -/
structure Args (P : Merge) (R : Fin 8192 → MRow) (A : In) : Prop where
  dx : ∀ (r : Fin 8192) (k : Fin 1024), A.a0 (ix2 r k) = (((R r).dx k : ℝ) : EReal)
  os : ∀ (r : Fin 8192) (j : Fin 512), A.a1 (ix2 r j) = (((R r).os j : ℝ) : EReal)
  rw : ∀ (r : Fin 8192) (j : Fin 512), A.a2 (ix4 ⟨r.val / 2048, by omega⟩ ⟨j.val / 64, by omega⟩ ⟨r.val % 2048, by omega⟩ ⟨j.val % 64, by omega⟩)
    = (((R r).rw j : ℝ) : EReal)
  g : ∀ (r : Fin 8192) (j : Fin 512), A.a3 (ix2 r j) = (((R r).g j : ℝ) : EReal)
  gt : ∀ (r : Fin 8192) (c : Fin 2048), r8 A (ix2 r c) = (((R r).gt c : ℝ) : EReal)
  ws : ∀ (j : Fin 512) (k : Fin 1024), A.a6 (ix2 j k) = ((P.ws j k : ℝ) : EReal)
  wr : ∀ (j : Fin 512) (k : Fin 1024), A.a7 (ix2 j k) = ((P.wr j k : ℝ) : EReal)
  wo : ∀ (k l : Fin 1024), A.a8 (ix2 k l) = ((P.wo k l : ℝ) : EReal)
  gq : ∀ k : Fin 1024, A.a9 (ix2 0 k) = ((P.gq k : ℝ) : EReal)

variable {P : Merge} {R : Fin 8192 → MRow} {A : In} (B : Args P R A)
include B

theorem r8_at (r : Fin 8192) (c : Fin 2048) : r8 A (ix2 r c : S8192x2048.Idx) = (((R r).gt c : ℝ) : EReal) :=
  B.gt r c

theorem r13_at (r : Fin 8192) (j : Fin 512) : r13 A (ix2 r j : S8192x512.Idx) = (((R r).rw j : ℝ) : EReal) := by
  refine Eq.trans ?_ (B.rw r j)
  pointwise [r13]

theorem r14_at (r : Fin 8192) (j : Fin 512) : r14 A (ix2 r j : S8192x512.Idx) = ((Merge.orw (R r) j : ℝ) : EReal) := by
  pointwise [r14]
  rw [r13_at B, B.g, ← EReal.coe_mul]; rfl

theorem r17_at (r : Fin 8192) (k : Fin 1024) : r17 A (ix2 r k : S8192x1024.Idx) = ((P.a (R r) k : ℝ) : EReal) := by
  pointwise [r17]
  simp only [B.os, B.ws, ← EReal.coe_mul, sum_coe, add_zero, zero_add]
  rfl

theorem r21_at (r : Fin 8192) (k : Fin 1024) : r21 A (ix2 r k : S8192x1024.Idx) = ((P.b (R r) k : ℝ) : EReal) := by
  pointwise [r21]
  simp only [r14_at B, B.wr, ← EReal.coe_mul, sum_coe, add_zero, zero_add]
  rfl

theorem r23_at (r : Fin 8192) (k : Fin 1024) : r23 A (ix2 r k : S8192x1024.Idx) = ((P.mg (R r) k : ℝ) : EReal) := by
  pointwise [r23]
  simp only [r8_at B, r17_at B, r21_at B, ← EReal.coe_mul, ← EReal.coe_add]
  rfl

theorem r25_at (r : Fin 8192) (k : Fin 1024) : r25 A (ix2 r k : S8192x1024.Idx) = ((P.z (R r) k : ℝ) : EReal) := by
  pointwise [r25]
  simp only [r23_at B, B.wo, ← EReal.coe_mul, sum_coe, add_zero, zero_add]
  rfl

theorem r32_at (r : Fin 8192) : r32 A (ix2 r 0 : S8192x1.Idx) = ((ms (P.z (R r)) : ℝ) : EReal) := by
  pointwise [r32]
  simp only [r25_at B, ← EReal.coe_mul, sum_coe, bits_1024, bits_eps, zero_add, div_real (by norm_num : (1024 : ℝ) ≠ 0), ← EReal.coe_add]
  simp only [ms, Nat.cast_ofNat]

theorem r33_at (r : Fin 8192) : r33 A (ix2 r 0 : S8192x1.Idx) = ((rs (P.z (R r)) : ℝ) : EReal) := by
  pointwise [r33]
  rw [r32_at B]
  exact rsqrt_real (ms_pos _)

theorem r38_at (r : Fin 8192) (k : Fin 1024) : r38 A (ix2 r k : S8192x1024.Idx) = ((P.zn (R r) k : ℝ) : EReal) := by
  pointwise [r38]
  rw [r25_at B, r33_at B, ← EReal.coe_mul]; rfl

theorem r45_at (r : Fin 8192) (k : Fin 1024) : r45 A (ix2 r k : S8192x1024.Idx) = ((P.u (R r) k : ℝ) : EReal) := by
  pointwise [r45]
  rw [B.dx, B.gq, ← EReal.coe_mul]; rfl

theorem r55_at (r : Fin 8192) (k : Fin 1024) : r55 A (ix2 r k : S8192x1024.Idx) = (((∑ l, P.z (R r) l * P.u (R r) l) * (-(1 / 2) * (rs (P.z (R r)) / ms (P.z (R r)))) / 1024 : ℝ) : EReal) := by
  pointwise [r55]
  simp only [r25_at B, r45_at B, r32_at B, r33_at B, bits_neg_half, bits_1024, zero_add, ← EReal.coe_mul, sum_coe,
    div_real (ms_pos (P.z (R r))).ne', div_real (by norm_num : (1024 : ℝ) ≠ 0), Finset.univ_unique, Finset.sum_singleton, Fin.isValue,
    Fin.default_eq_zero]

theorem r59_at (r : Fin 8192) (k : Fin 1024) : r59 A (ix2 r k : S8192x1024.Idx) = ((P.dz (R r) k : ℝ) : EReal) := by
  pointwise [r59]
  rw [r45_at B, r33_at B, r25_at B, r55_at B]
  simp only [← EReal.coe_mul, ← EReal.coe_add]
  have e := rms_grad (P.z (R r)) (P.u (R r)) k
  simp only [Nat.cast_ofNat] at e
  exact congrArg _ e

theorem r60_at (r : Fin 8192) (k : Fin 1024) : r60 A (ix2 r k : S8192x1024.Idx) = ((P.dm (R r) k : ℝ) : EReal) := by
  pointwise [r60]
  simp only [r59_at B, B.wo, ← EReal.coe_mul, sum_coe, add_zero, zero_add]
  rfl

theorem r61_at (r : Fin 8192) (k : Fin 1024) : r61 A (ix2 r k : S8192x1024.Idx) = ((P.db (R r) k : ℝ) : EReal) := by
  pointwise [r61]
  rw [r60_at B, r8_at B, ← EReal.coe_mul]
  exact congrArg _ (mul_comm _ _)

theorem r65_at (r : Fin 8192) (k : Fin 1024) : r65 A (ix2 r k : S8192x1024.Idx) = ((P.da (R r) k : ℝ) : EReal) := by
  pointwise [r65]
  rw [r60_at B, r8_at B, ← EReal.coe_mul]
  exact congrArg _ (mul_comm _ _)

theorem r63_at (r : Fin 8192) (j : Fin 512) : r63 A (ix2 r j : S8192x512.Idx) = ((P.dorw (R r) j : ℝ) : EReal) := by
  pointwise [r63]
  simp only [r61_at B, B.wr, ← EReal.coe_mul, sum_coe, add_zero, zero_add]
  rfl

theorem r67_at (r : Fin 8192) (j : Fin 512) : r67 A (ix2 r j : S8192x512.Idx) = ((P.dos (R r) j : ℝ) : EReal) := by
  pointwise [r67]
  simp only [r65_at B, B.ws, ← EReal.coe_mul, sum_coe, add_zero, zero_add]
  rfl

theorem r69_at (r : Fin 8192) (c : Fin 2048) : r69 A (ix2 r c : S8192x2048.Idx) = ((if h : c.val < 1024 then P.dm (R r) ⟨c.val, h⟩ * P.a (R r) ⟨c.val, h⟩ else P.dm (R r) ⟨c.val - 1024, by omega⟩ * P.b (R r) ⟨c.val - 1024, by omega⟩ : ℝ) : EReal) := by
  pointwise [r69]
  by_cases h : c.val < 1024
  · rw [dif_neg (by omega), dif_pos h, dif_pos h, r60_at B, r17_at B, zero_add, ← EReal.coe_mul]
  · rw [dif_pos (by omega), dif_neg h, dif_neg h, r60_at B, r21_at B, add_zero, ← EReal.coe_mul]

theorem r11_at (r : Fin 8192) (c : Fin 2048) : r11 A (ix2 r c : S8192x2048.Idx) = (((R r).gt c * (1 - (R r).gt c) : ℝ) : EReal) := by
  pointwise [r11]
  simp only [r8_at B, ← EReal.coe_one, ← EReal.coe_mul, ← EReal.coe_sub]

theorem r74_at (r : Fin 8192) (c : Fin 2048) : r74 A (ix2 r c : S8192x2048.Idx) = ((P.dgt (R r) c : ℝ) : EReal) := by
  pointwise [r74]
  rw [r69_at B, r11_at B, ← EReal.coe_mul]
  refine congrArg _ ?_
  unfold Merge.dgt
  by_cases h : c.val < 1024
  · rw [dif_pos h, dif_pos h]; ring
  · rw [dif_neg h, dif_neg h]; ring

theorem r70_at (r : Fin 8192) (j : Fin 512) : r70 A (ix2 r j : S8192x512.Idx) = ((P.dg (R r) j : ℝ) : EReal) := by
  pointwise [r70]
  rw [r63_at B, r13_at B, ← EReal.coe_mul]
  exact congrArg _ (mul_comm _ _)

theorem r73_at (b : Fin 4) (h : Fin 8) (s : Fin 2048) (d : Fin 64) : r73 A (ix4 b h s d : S4x8x2048x64.Idx)
    = ((P.drw (R ⟨b.val * 2048 + s.val, by omega⟩) ⟨h.val * 64 + d.val, by omega⟩ : ℝ) : EReal) := by
  pointwise [r73]
  rw [r63_at B, B.g, ← EReal.coe_mul]; rfl

theorem r43_at (a : Fin 1) (k : Fin 1024) : r43 A (ix2 a k : S1x1024.Idx) = ((∑ r, (R r).dx k * P.zn (R r) k : ℝ) : EReal) := by
  pointwise [r43]
  simp only [r38_at B, B.dx, zero_add, ← EReal.coe_mul, sum_coe]
  exact congrArg _ (Finset.sum_congr rfl fun r _ => mul_comm _ _)

theorem r76_at (a : Fin 1) (c : Fin 2048) : r76 A (ix2 a c : S1x2048.Idx) = ((∑ r, P.dgt (R r) c : ℝ) : EReal) := by
  pointwise [r76]
  simp only [r74_at B, zero_add, sum_coe]

end Cert.Reference2Ideal.Value

end
-- ==== Proof.MergePre.lean ====
/-
  What the precondition says: every argument is a real.
-/
module

public import proofs.«01_k».proof.Proof.Gen.Pre_finite_merge
public import proofs.«01_k».proof.Proof.Lift

@[expose] public section

set_option maxRecDepth 16384

noncomputable section

open Idealize.ShloMosaic
open Cert.Lift (real_of_all)

namespace Cert.Pre_finite_merge

open Cert.Pre_finite_merge Cert.Pre_finite_merge.Gen

theorem reals [Facts] {a0 : FVec Ideal S8192x1024 .f32} {a1 : FVec Ideal S8192x512 .f32} {a2 : FVec Ideal S4x8x2048x64 .f32} {a3 : FVec Ideal S8192x512 .f32} {a4 : FVec Ideal S8192x2048 .f32} {a5 : FVec Ideal S1x2048 .f32} {a6 : FVec Ideal S512x1024 .f32} {a7 : FVec Ideal S512x1024 .f32} {a8 : FVec Ideal S1024x1024 .f32} {a9 : FVec Ideal S1x1024 .f32}
    (h : fn (F := Ideal) a0 a1 a2 a3 a4 a5 a6 a7 a8 a9 = fun _ => 1#1) :
    (∀ i, (((a0 i).toReal : ℝ) : EReal) = a0 i)
      ∧ (∀ i, (((a1 i).toReal : ℝ) : EReal) = a1 i)
      ∧ (∀ i, (((a2 i).toReal : ℝ) : EReal) = a2 i)
      ∧ (∀ i, (((a3 i).toReal : ℝ) : EReal) = a3 i)
      ∧ (∀ i, (((a4 i).toReal : ℝ) : EReal) = a4 i)
      ∧ (∀ i, (((a5 i).toReal : ℝ) : EReal) = a5 i)
      ∧ (∀ i, (((a6 i).toReal : ℝ) : EReal) = a6 i)
      ∧ (∀ i, (((a7 i).toReal : ℝ) : EReal) = a7 i)
      ∧ (∀ i, (((a8 i).toReal : ℝ) : EReal) = a8 i)
      ∧ (∀ i, (((a9 i).toReal : ℝ) : EReal) = a9 i) := by
  have h0 := congrFun h default
  dsimp only [fn, fn_part1, fn_part2, andi] at h0
  simp only [IntOp.andi_eq_one] at h0
  obtain ⟨⟨⟨⟨⟨⟨⟨⟨⟨h0, h1⟩, h2⟩, h3⟩, h4⟩, h5⟩, h6⟩, h7⟩, h8⟩, h9⟩ := h0
  exact ⟨real_of_all _ _ _ _ _ _ h0, real_of_all _ _ _ _ _ _ h1, real_of_all _ _ _ _ _ _ h2, real_of_all _ _ _ _ _ _ h3, real_of_all _ _ _ _ _ _ h4, real_of_all _ _ _ _ _ _ h5, real_of_all _ _ _ _ _ _ h6, real_of_all _ _ _ _ _ _ h7, real_of_all _ _ _ _ _ _ h8, real_of_all _ _ _ _ _ _ h9⟩

end Cert.Pre_finite_merge

end
-- ==== Proof.MergeClaim.lean ====
/-
  The merge kernel's eleven results are the reference's, on real arguments.
-/
module

public import proofs.«01_k».proof.Defs
public import proofs.«01_k».proof.Proof.Gen.Kernel2Ideal.Value
public import proofs.«01_k».proof.Proof.MergeValue
public import proofs.«01_k».proof.Proof.MergeRef
public import proofs.«01_k».proof.Proof.MergePre

@[expose] public section

set_option maxRecDepth 16384

noncomputable section

open Idealize.ShloMosaic Idealize.ShloMosaic.TcCoe Idealize.SL.Sem Idealize.ShloMosaic.StableHlo
open Cert.Lift

namespace Cert.MergeClaim

/-- The real rows of the arrays. -/
def rows (a0 : FVec Ideal ⟨2, ![8192, 1024]⟩ .f32) (a1 : FVec Ideal ⟨2, ![8192, 512]⟩ .f32) (a2 : FVec Ideal ⟨4, ![4, 8, 2048, 64]⟩ .f32)
    (a3 : FVec Ideal ⟨2, ![8192, 512]⟩ .f32) (a4 : FVec Ideal ⟨2, ![8192, 2048]⟩ .f32) (a5 : FVec Ideal ⟨2, ![1, 2048]⟩ .f32) (r : Fin 8192) : MRow where
  dx k := (a0 (ix2 r k)).toReal
  os j := (a1 (ix2 r j)).toReal
  rw j := (a2 (ix4 ⟨r.val / 2048, by omega⟩ ⟨j.val / 64, by omega⟩ ⟨r.val % 2048, by omega⟩ ⟨j.val % 64, by omega⟩)).toReal
  g j := (a3 (ix2 r j)).toReal
  gt k := (1 + Real.exp (-((a4 (ix2 r k)).toReal + (a5 (ix2 0 k)).toReal)))⁻¹

/-- The real parameters of the arrays. -/
def par (a6 a7 : FVec Ideal ⟨2, ![512, 1024]⟩ .f32) (a8 : FVec Ideal ⟨2, ![1024, 1024]⟩ .f32) (a9 : FVec Ideal ⟨2, ![1, 1024]⟩ .f32) : Merge where
  ws j k := (a6 (ix2 j k)).toReal
  wr j k := (a7 (ix2 j k)).toReal
  wo k l := (a8 (ix2 k l)).toReal
  gq k := (a9 (ix2 0 k)).toReal

attribute [local instance] Cert.Kernel2Ideal.Gen.facts Cert.Reference2Ideal.Gen.facts Cert.Pre_finite_merge.Gen.facts

section
open Cert.Kernel2Ideal

variable (m : (ℓ : Loc nD τ sig) → Buf (Elt Ideal) ℓ)

abbrev parOf (c : Dev nD) : Merge :=
  par (m ((c : Thread nD τ).loc main_arg6)) (m ((c : Thread nD τ).loc main_arg7)) (m ((c : Thread nD τ).loc main_arg8))
    (m ((c : Thread nD τ).loc main_arg9))

abbrev rowsOf (c : Dev nD) : Fin 8192 → MRow :=
  rows (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable {m}

theorem kernel_args (hpre : Cert.Pre_Kernel2Ideal_finite_merge m) (c : Dev nD) :
    Cert.Kernel2Ideal.Pay.Args m c (parOf m c) (rowsOf m c) := by
  obtain ⟨h0, h1, h2, h3, h4, h5, h6, h7, h8, h9⟩ := Cert.Pre_finite_merge.reals (hpre c)
  exact ⟨fun r k => (h0 _).symm, fun r j => (h1 _).symm, fun r j => (h2 _).symm, fun r j => (h3 _).symm,
    fun r k => ⟨_, _, (h4 _).symm, (h5 _).symm, rfl⟩, fun j k => (h6 _).symm, fun j k => (h7 _).symm, fun k l => (h8 _).symm, fun k => (h9 _).symm⟩

end

section
open Cert.Reference2Ideal Cert.Reference2Ideal.Value

/-- The reference's argument arrays. -/
abbrev inp (m : (ℓ : Loc nD τ sig) → Buf (Elt Ideal) ℓ) (c : Dev nD) : In :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9)⟩

/-- The reference's run, its results named by the cuts above. -/
theorem run_cut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v77) = r14 (inp m c)
      ∧ r.2.mem ((c.tc : Thread nD τ).loc main_v78) = r23 (inp m c)
      ∧ r.2.mem ((c.tc : Thread nD τ).loc main_v79) = r59 (inp m c)
      ∧ r.2.mem ((c.tc : Thread nD τ).loc main_v80) = r65 (inp m c)
      ∧ r.2.mem ((c.tc : Thread nD τ).loc main_v81) = r61 (inp m c)
      ∧ r.2.mem ((c.tc : Thread nD τ).loc main_v82) = r74 (inp m c)
      ∧ r.2.mem ((c.tc : Thread nD τ).loc main_v83) = r67 (inp m c)
      ∧ r.2.mem ((c.tc : Thread nD τ).loc main_v73) = r73 (inp m c)
      ∧ r.2.mem ((c.tc : Thread nD τ).loc main_v70) = r70 (inp m c)
      ∧ r.2.mem ((c.tc : Thread nD τ).loc main_v43) = r43 (inp m c)
      ∧ r.2.mem ((c.tc : Thread nD τ).loc main_v76) = r76 (inp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
    obtain ⟨h0, h1, h2, h3, h4, h5, h6, h7, h8, h9, h10, h11, h12, h13, h14, h15, h16, h17, h18, h19, h20⟩ := h c
    exact ⟨h0.trans rfl, h1.trans rfl, h2.trans rfl, h3.trans rfl, h4.trans rfl, h5.trans rfl, h6.trans rfl, h7.trans rfl, h8.trans rfl, h9.trans rfl, h10.trans rfl, h11, h12, h13, h14, h15, h16, h17, h18, h19, h20⟩) (run (F := Ideal) m ρ)

theorem gates_real {A : In} {r : Fin 8192} {k : Fin 2048} {x y : ℝ} (hx : A.a4 (ix2 r k) = ((x : ℝ) : EReal)) (hy : A.a5 (ix2 0 k) = ((y : ℝ) : EReal)) :
    r8 A (ix2 r k) = (((1 + Real.exp (-(x + y)))⁻¹ : ℝ) : EReal) := by
  have hp : (1 + Real.exp (-(x + y))) ≠ 0 := by positivity
  pointwise [r8]
  rw [hx, hy]
  simp only [← EReal.coe_add, ← EReal.coe_neg, Ideal.exp_coe, ← EReal.coe_one, div_real hp, one_div]

end

section
variable {m : (ℓ : Loc Cert.Kernel2Ideal.nD Cert.Kernel2Ideal.τ Cert.Kernel2Ideal.sig) → Buf (Elt Ideal) ℓ} {c : Dev Cert.Kernel2Ideal.nD}
  {P : Merge} {R : Fin 8192 → MRow} {A : Cert.Reference2Ideal.Value.In} (K : Cert.Kernel2Ideal.Pay.Args m c P R) (B : Cert.Reference2Ideal.Value.Args P R A)
include K B

theorem res9 : Cert.Reference2Ideal.Value.r14 A = (Cert.Kernel2Ideal.Gen.dats m 0 c).arrAt 9 Cert.Kernel2Ideal.cfg0.N :=
  Eq.trans (funext fun i => at_idx (φ := .f32) (Cert.Reference2Ideal.Value.r14_at B) i) (Cert.Kernel2Ideal.Pay.final9 K).symm

theorem res10 : Cert.Reference2Ideal.Value.r23 A = (Cert.Kernel2Ideal.Gen.dats m 0 c).arrAt 10 Cert.Kernel2Ideal.cfg0.N :=
  Eq.trans (funext fun i => at_idx (φ := .f32) (Cert.Reference2Ideal.Value.r23_at B) i) (Cert.Kernel2Ideal.Pay.final10 K).symm

theorem res11 : Cert.Reference2Ideal.Value.r59 A = (Cert.Kernel2Ideal.Gen.dats m 0 c).arrAt 11 Cert.Kernel2Ideal.cfg0.N :=
  Eq.trans (funext fun i => at_idx (φ := .f32) (Cert.Reference2Ideal.Value.r59_at B) i) (Cert.Kernel2Ideal.Pay.final11 K).symm

theorem res12 : Cert.Reference2Ideal.Value.r65 A = (Cert.Kernel2Ideal.Gen.dats m 0 c).arrAt 12 Cert.Kernel2Ideal.cfg0.N :=
  Eq.trans (funext fun i => at_idx (φ := .f32) (Cert.Reference2Ideal.Value.r65_at B) i) (Cert.Kernel2Ideal.Pay.final12 K).symm

theorem res13 : Cert.Reference2Ideal.Value.r61 A = (Cert.Kernel2Ideal.Gen.dats m 0 c).arrAt 13 Cert.Kernel2Ideal.cfg0.N :=
  Eq.trans (funext fun i => at_idx (φ := .f32) (Cert.Reference2Ideal.Value.r61_at B) i) (Cert.Kernel2Ideal.Pay.final13 K).symm

theorem res14 : Cert.Reference2Ideal.Value.r74 A = (Cert.Kernel2Ideal.Gen.dats m 0 c).arrAt 14 Cert.Kernel2Ideal.cfg0.N :=
  Eq.trans (funext fun i => at_idx (φ := .f32) (Cert.Reference2Ideal.Value.r74_at B) i) (Cert.Kernel2Ideal.Pay.final14 K).symm

theorem res15 : Cert.Reference2Ideal.Value.r67 A = (Cert.Kernel2Ideal.Gen.dats m 0 c).arrAt 15 Cert.Kernel2Ideal.cfg0.N :=
  Eq.trans (funext fun i => at_idx (φ := .f32) (Cert.Reference2Ideal.Value.r67_at B) i) (Cert.Kernel2Ideal.Pay.final15 K).symm

theorem res16 : Cert.Reference2Ideal.Value.r73 A = (Cert.Kernel2Ideal.Gen.dats m 0 c).arrAt 16 Cert.Kernel2Ideal.cfg0.N :=
  Eq.trans (funext fun i => (congrArg _ (eq_ix4 i)).trans (Cert.Reference2Ideal.Value.r73_at B (i 0) (i 1) (i 2) (i 3))) (Cert.Kernel2Ideal.Pay.final16 K).symm

theorem res17 : Cert.Reference2Ideal.Value.r70 A = (Cert.Kernel2Ideal.Gen.dats m 0 c).arrAt 17 Cert.Kernel2Ideal.cfg0.N :=
  Eq.trans (funext fun i => at_idx (φ := .f32) (Cert.Reference2Ideal.Value.r70_at B) i) (Cert.Kernel2Ideal.Pay.final17 K).symm

theorem res18 : Cert.Reference2Ideal.Value.r43 A = (Cert.Kernel2Ideal.Gen.dats m 0 c).arrAt 18 Cert.Kernel2Ideal.cfg0.N :=
  Eq.trans (funext fun i => at_idx (φ := .f32) (Cert.Reference2Ideal.Value.r43_at B) i) (Cert.Kernel2Ideal.Pay.final18 K).symm

theorem res19 : Cert.Reference2Ideal.Value.r76 A = (Cert.Kernel2Ideal.Gen.dats m 0 c).arrAt 19 Cert.Kernel2Ideal.cfg0.N :=
  Eq.trans (funext fun i => at_idx (φ := .f32) (Cert.Reference2Ideal.Value.r76_at B) i) (Cert.Kernel2Ideal.Pay.final19 K).symm

end

theorem algebraic : Cert.algebraic_Kernel2Ideal_Reference2Ideal_pre_finite_merge := by
  pair_intro
  · run_from Cert.Kernel2Ideal.Value.run_blocks m g
  · have K := kernel_args hpre
    have R : ∀ c, Cert.Reference2Ideal.Value.Args (parOf m c) (rowsOf m c) (inp m' c) := by
      intro c
      obtain ⟨h0, h1, h2, h3, h4, h5, h6, h7, h8, h9⟩ := hagree c
      refine ⟨fun r k => (congrFun h0 _).trans ((K c).dx r k), fun r j => (congrFun h1 _).trans ((K c).os r j),
        fun r j => (congrFun h2 _).trans ((K c).rw r j), fun r j => (congrFun h3 _).trans ((K c).g r j), fun r k => ?_,
        fun j k => (congrFun h6 _).trans ((K c).ws j k), fun j k => (congrFun h7 _).trans ((K c).wr j k),
        fun k l => (congrFun h8 _).trans ((K c).wo k l), fun k => (congrFun h9 _).trans ((K c).gq k)⟩
      obtain ⟨x, y, hx, hy, e⟩ := (K c).gt r k
      rw [e]
      exact gates_real ((congrFun h4 _).trans hx) ((congrFun h5 _).trans hy)
    run_from run_cut m' g'
    · exact res9 (K c) (R c)
    · exact res10 (K c) (R c)
    · exact res11 (K c) (R c)
    · exact res12 (K c) (R c)
    · exact res13 (K c) (R c)
    · exact res14 (K c) (R c)
    · exact res15 (K c) (R c)
    · exact res16 (K c) (R c)
    · exact res17 (K c) (R c)
    · exact res18 (K c) (R c)
    · exact res19 (K c) (R c)

theorem frame : Cert.quiescent_Reference2Ideal := by
  intro m ρ _
  run_from run_cut m ρ
  · simp only [and_self, implies_true]
  · exact sem_eq_zero_of_no_sems rfl _

theorem frame_finite : Cert.quiescent_Reference2Ideal_pre_finite_merge := fun m ρ _ => frame m ρ trivial

end Cert.MergeClaim

end
-- ==== Proof.InProjModel.lean ====
/-
  The input norm and projection over the reals, one row at a time: the gradient that the kernel and the reference are both
  compared with.
-/
module

public import proofs.«01_k».proof.Proof.Lift

@[expose] public section

noncomputable section

open scoped BigOperators

namespace Cert.Lift

/-- The norm's gain and the projection, as real arrays. -/
structure InProj where
  gp : Fin 1024 → ℝ
  w : Fin 1024 → Fin 5376 → ℝ

/-- One row: the input, the three slices of the projection's cotangent, and the residual's cotangent, which need not be finite. -/
structure IRow where
  x : Fin 1024 → ℝ
  q : Fin 1536 → ℝ
  r : Fin 1792 → ℝ
  g : Fin 2048 → ℝ
  d : Fin 1024 → EReal

/-- The projection's cotangent, joined. -/
def IRow.ct (R : IRow) (j : Fin 5376) : ℝ :=
  if h : j.val < 1536 then R.q ⟨j.val, h⟩ else if h' : j.val - 1536 < 1792 then R.r ⟨j.val - 1536, h'⟩ else R.g ⟨j.val - 1536 - 1792, by omega⟩

namespace InProj

variable (P : InProj) (R : IRow)

def xn (k : Fin 1024) : ℝ := R.x k * rs R.x
def dh (k : Fin 1024) : ℝ := ∑ j, R.ct j * P.w k j
def u (k : Fin 1024) : ℝ := P.dh R k * P.gp k
/-- The norm's share of the input's gradient. -/
def dx (k : Fin 1024) : ℝ := rs R.x * (P.u R k - xn R k * ((∑ l, P.u R l * xn R l) / 1024))

end InProj

/-- A sum over the joined columns is the sum of the slices' sums. -/
theorem sum_slices (f : Fin 5376 → ℝ) : ∑ j, f j = (∑ j : Fin 1536, f ⟨j.val, by omega⟩) + (∑ j : Fin 1792, f ⟨1536 + j.val, by omega⟩)
    + ∑ j : Fin 2048, f ⟨3328 + j.val, by omega⟩ :=
  (Fin.sum_univ_add (a := 3328) (b := 2048) f).trans
    (congrArg (· + ∑ j : Fin 2048, f ⟨3328 + j.val, by omega⟩) (Fin.sum_univ_add (a := 1536) (b := 1792) fun j => f ⟨j.val, by omega⟩))

theorem InProj.dh_slices (P : InProj) (R : IRow) (k : Fin 1024) : P.dh R k = (∑ j : Fin 1536, R.q j * P.w k ⟨j.val, by omega⟩)
    + (∑ j : Fin 1792, R.r j * P.w k ⟨1536 + j.val, by omega⟩) + ∑ j : Fin 2048, R.g j * P.w k ⟨3328 + j.val, by omega⟩ := by
  unfold InProj.dh
  rw [sum_slices]
  refine congrArg₂ (· + ·) (congrArg₂ (· + ·) ?_ ?_) ?_
  · refine Finset.sum_congr rfl fun j _ => congrArg (· * _) ?_
    unfold IRow.ct
    rw [dif_pos j.isLt]
  · refine Finset.sum_congr rfl fun j _ => congrArg (· * _) ?_
    unfold IRow.ct
    rw [dif_neg (by show ¬1536 + j.val < 1536; omega), dif_pos (by show 1536 + j.val - 1536 < 1792; omega)]
    exact congrArg R.r (Fin.ext (by show 1536 + j.val - 1536 = j.val; omega))
  · refine Finset.sum_congr rfl fun j _ => congrArg (· * _) ?_
    unfold IRow.ct
    rw [dif_neg (by show ¬3328 + j.val < 1536; omega), dif_neg (by show ¬3328 + j.val - 1536 < 1792; omega)]
    exact congrArg R.g (Fin.ext (by show 3328 + j.val - 1536 - 1792 = j.val; omega))

end Cert.Lift

end
-- ==== Proof.InProjKernel.lean ====
/-
  The input projection's payloads on real blocks: each, read at a row, is the row model of `InProjModel`.
-/
module

public import proofs.«01_k».proof.Proof.Gen.Kernel3Ideal.Value
public import Idealize.ShloMosaic.Lib.Pointwise
public import proofs.«01_k».proof.Proof.InProjModel

@[expose] public section

set_option maxRecDepth 16384

noncomputable section

open Idealize.ShloMosaic Idealize.ShloMosaic.TcCoe Idealize.SL.Sem
open Idealize.ShloMosaic.Pipeline (Dat)
open Cert.Lift
open scoped BigOperators

namespace Cert.Kernel3Ideal.Pay

open Cert.Kernel3Ideal Cert.Kernel3Ideal.Gen

/-- The blocks at a point: their entries are the rows `R` and the parameters `P`. -/
structure Blk (P : InProj) (R : Fin 512 → IRow) (v0 : FVec Ideal S512x1536 .bf16) (v1 : FVec Ideal S1024x1536 .bf16)
    (v4 : FVec Ideal S512x1792 .bf16) (v5 : FVec Ideal S1024x1792 .bf16) (v9 : FVec Ideal S512x2048 .bf16) (v10 : FVec Ideal S1024x2048 .bf16)
    (v14 : FVec Ideal S1x1024 .f32) (v15 v42 : FVec Ideal S512x1024 .f32) : Prop where
  q : ∀ p j, v0 (ix2 p j) = (((R p).q j : ℝ) : EReal)
  wq : ∀ k j, v1 (ix2 k j) = ((P.w k ⟨j.val, by omega⟩ : ℝ) : EReal)
  r : ∀ p j, v4 (ix2 p j) = (((R p).r j : ℝ) : EReal)
  wr : ∀ k j, v5 (ix2 k j) = ((P.w k ⟨1536 + j.val, by omega⟩ : ℝ) : EReal)
  g : ∀ p j, v9 (ix2 p j) = (((R p).g j : ℝ) : EReal)
  wg : ∀ k j, v10 (ix2 k j) = ((P.w k ⟨3328 + j.val, by omega⟩ : ℝ) : EReal)
  gp : ∀ k, v14 (ix2 0 k) = ((P.gp k : ℝ) : EReal)
  x : ∀ p k, v15 (ix2 p k) = (((R p).x k : ℝ) : EReal)
  d : ∀ p k, v42 (ix2 p k) = (R p).d k

variable {P : InProj} {R : Fin 512 → IRow} {v0 : FVec Ideal S512x1536 .bf16} {v1 : FVec Ideal S1024x1536 .bf16} {v4 : FVec Ideal S512x1792 .bf16}
  {v5 : FVec Ideal S1024x1792 .bf16} {v9 : FVec Ideal S512x2048 .bf16} {v10 : FVec Ideal S1024x2048 .bf16} {v14 : FVec Ideal S1x1024 .f32}
  {v15 v42 : FVec Ideal S512x1024 .f32}
  (B : Blk P R v0 v1 v4 v5 v9 v10 v14 v15 v42)
include B

theorem pay4_at (p : Fin 512) (k : Fin 1024) : k0_pay4 (F := Ideal) v0 v1 v4 v5 v9 v10 (ix2 p k) = ((P.dh (R p) k : ℝ) : EReal) := by
  pointwise [k0_pay4]
  simp only [B.q, B.r, B.g, B.wq, B.wr, B.wg, ← EReal.coe_mul, sum_coe, ← EReal.coe_add]
  exact congrArg _ (P.dh_slices (R p) k).symm

theorem pay6_at (p : Fin 512) : k0_pay6 (F := Ideal) v15 (ix2 p 0) = ((rs (R p).x : ℝ) : EReal) := by
  pointwise [k0_pay6, k0_pay5]
  simp only [B.x, ← EReal.coe_mul, sum_coe, bits_1024, bits_eps, div_real (by norm_num : (1024 : ℝ) ≠ 0), ← EReal.coe_add]
  exact rsqrt_real (ms_pos (R p).x)

theorem pay7_at (p : Fin 512) (k : Fin 1024) : k0_pay7 (F := Ideal) v15 (ix2 p k) = ((InProj.xn (R p) k : ℝ) : EReal) := by
  pointwise [k0_pay7, k0_pay5]
  rw [pay6_at B, B.x, ← EReal.coe_mul]; rfl

theorem pay8_at (p : Fin 512) (k : Fin 1024) : k0_pay8 (F := Ideal) v0 v1 v4 v5 v9 v10 v14 (ix2 p k) = ((P.u (R p) k : ℝ) : EReal) := by
  pointwise [k0_pay8]
  rw [pay4_at B, B.gp, ← EReal.coe_mul]; rfl

theorem pay9_at (p : Fin 512) (k : Fin 1024) : k0_pay9 (F := Ideal) v0 v1 v4 v5 v9 v10 v14 v15 (ix2 p k) = (((∑ l, P.u (R p) l * InProj.xn (R p) l) / 1024 : ℝ) : EReal) := by
  pointwise [k0_pay9]
  simp only [pay8_at B, pay7_at B, ← EReal.coe_mul, sum_coe, bits_1024, div_real (by norm_num : (1024 : ℝ) ≠ 0)]

theorem pay2_at (p : Fin 512) (k : Fin 1024) : k0_pay2 (F := Ideal) (k0_pay6 v15) (k0_pay7 v15) (k0_pay8 v0 v1 v4 v5 v9 v10 v14) (k0_pay9 v0 v1 v4 v5 v9 v10 v14 v15) v42 (ix2 p k)
    = (R p).d k + ((P.dx (R p) k : ℝ) : EReal) := by
  pointwise [k0_pay2]
  rw [pay6_at B, pay7_at B, pay8_at B, pay9_at B, B.d]
  simp only [← EReal.coe_mul, ← EReal.coe_sub]
  rfl

theorem pay1_at (a : Fin 1) (k : Fin 1024) : k0_pay1 (F := Ideal) (k0_pay4 v0 v1 v4 v5 v9 v10) (k0_pay7 v15) (ix2 a k) = ((∑ p, P.dh (R p) k * InProj.xn (R p) k : ℝ) : EReal) := by
  pointwise [k0_pay1]
  simp only [pay4_at B, pay7_at B, ← EReal.coe_mul, sum_coe]

end Cert.Kernel3Ideal.Pay

end
-- ==== Proof.InProjValue.lean ====
/-
  The input projection kernel's result arrays after its run: each is the row model of `InProjModel` on the argument arrays,
  the gain's gradient summed over all rows.
-/
module

public import proofs.«01_k».proof.Proof.InProjKernel
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Lift
open scoped BigOperators

namespace Cert.Kernel3Ideal.Pay

open Cert.Kernel3Ideal Cert.Kernel3Ideal.Gen

variable (m : (ℓ : Loc nD τ sig) → Buf (Elt Ideal) ℓ)

/-- The argument arrays are the rows `R` and the parameters `P`. -/
structure Args (c : Dev nD) (P : InProj) (R : Fin 8192 → IRow) : Prop where
  x : ∀ (r : Fin 8192) (k : Fin 1024), (m ((c : Thread nD τ).loc main_arg0) : FVec Ideal S4x2048x1024 .f32)
    (ix3 ⟨r.val / 2048, by omega⟩ ⟨r.val % 2048, by omega⟩ k) = (((R r).x k : ℝ) : EReal)
  gp : ∀ k : Fin 1024, (m ((c : Thread nD τ).loc main_arg1) : FVec Ideal S1x1024 .f32) (ix2 0 k) = ((P.gp k : ℝ) : EReal)
  d : ∀ (r : Fin 8192) (k : Fin 1024), (m ((c : Thread nD τ).loc main_arg2) : FVec Ideal S8192x1024 .f32) (ix2 r k) = (R r).d k
  q : ∀ (r : Fin 8192) (j : Fin 1536), (m ((c : Thread nD τ).loc main_arg3) : FVec Ideal S8192x1536 .bf16) (ix2 r j) = (((R r).q j : ℝ) : EReal)
  r : ∀ (r : Fin 8192) (j : Fin 1792), (m ((c : Thread nD τ).loc main_arg4) : FVec Ideal S8192x1792 .bf16) (ix2 r j) = (((R r).r j : ℝ) : EReal)
  g : ∀ (r : Fin 8192) (j : Fin 2048), (m ((c : Thread nD τ).loc main_arg5) : FVec Ideal S8192x2048 .bf16) (ix2 r j) = (((R r).g j : ℝ) : EReal)
  w : ∀ (k : Fin 1024) (j : Fin 5376), (m ((c : Thread nD τ).loc main_arg6) : FVec Ideal S1024x5376 .f32) (ix2 k j) = ((P.w k j : ℝ) : EReal)

/-- The windows' block indices. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![0, 0]
    ∧ win0_7.index t = ![t.val, 0]
    ∧ win0_8.index t = ![0, 0] :=
  (by decide +kernel : ∀ t : Fin grid0.N, _)

/-- Row `p` of the block at point `t`. -/
def row (t : Fin cfg0.N) (p : Fin 512) : Fin 8192 := ⟨t.val * 512 + p.val, by have h : t.val < 16 := t.isLt; omega⟩

variable {m} {c : Dev nD} {P : InProj} {R : Fin 8192 → IRow} (A : Args m c P R)
include A

theorem blk (t : Fin cfg0.N) : Blk P (fun p => R (row t p)) (iblk m c 3 t) (View.ld (Val := Elt Ideal) (e' := .bf16) (iblk m c 6 t) (Rect.unit (s := S1024x5376) ![0, 0] ![1024, 1536] inb_S1024x5376_S1024x1536_0_0)) (iblk m c 4 t)
    (View.ld (Val := Elt Ideal) (e' := .bf16) (iblk m c 6 t) (Rect.unit (s := S1024x5376) ![0, 1536] ![1024, 1792] inb_S1024x5376_S1024x1792_0_1536)) (iblk m c 5 t)
    (View.ld (Val := Elt Ideal) (e' := .bf16) (iblk m c 6 t) (Rect.unit (s := S1024x5376) ![0, 3328] ![1024, 2048] inb_S1024x5376_S1024x2048_0_3328)) (iblk m c 1 t) (iblk m c 0 t) (iblk m c 2 t) where
  q p j := by
    refine Eq.trans ?_ (A.q (row t p) j)
    blk_point [iblk, V, idx t, row]
  wq k j := by
    refine Eq.trans ?_ (A.w k _)
    blk_point [iblk, V, idx t]
  r p j := by
    refine Eq.trans ?_ (A.r (row t p) j)
    blk_point [iblk, V, idx t, row]
  wr k j := by
    refine Eq.trans ?_ (A.w k _)
    blk_point [iblk, V, idx t]
  g p j := by
    refine Eq.trans ?_ (A.g (row t p) j)
    blk_point [iblk, V, idx t, row]
  wg k j := by
    refine Eq.trans ?_ (A.w k _)
    blk_point [iblk, V, idx t]
  gp k := by
    refine Eq.trans ?_ (A.gp k)
    blk_point [iblk, V, idx t]
  x p k := by
    refine Eq.trans ?_ (A.x (row t p) k)
    blk_point [iblk, V, idx t, row]
  d p k := by
    refine Eq.trans ?_ (A.d (row t p) k)
    blk_point [iblk, V, idx t, row]

omit A in
/-- A sum over the rows of all points' blocks is a sum over all rows. -/
theorem sum_rows (F : Fin 8192 → ℝ) (t : Fin cfg0.N) (ht : t.val % 16 = 16 - 1) :
    (∑ s : Fin 16, ∑ q : Fin 512, F (row ⟨16 * (t.val / 16) + s.val, Pipeline.run_point_lt_of_flush t ht s⟩ q)) = ∑ r, F r := by
  have hN : t.val < 16 := t.isLt
  refine Fin.sum_mul_add_congr fun s k hl => ?_
  exact congrArg F (Fin.ext (by show (16 * (t.val / 16) + s.val) * 512 + k.val = s.val * 512 + k.val; omega))

theorem final7 : (dats m 0 c).arrAt 7 (cfgs 0).N = (fun i : S8192x1024.Idx => (R (i 0)).d (i 1) + ((P.dx (R (i 0)) (i 1) : ℝ) : EReal)) := by
  refine (dats m 0 c).arrAt_eq_of_covers 7 _ (by decide +kernel) fun t hf y => ?_
  blk_simp
  rw [after0_7]
  have hN : t.val < 16 := t.isLt
  have e0 : ((((cfg0.win 7).blk t).view.emb y) 0 : Fin 8192) = row t (y 0) := Fin.ext (by blk_simp [idx t, row])
  have e1 : ((((cfg0.win 7).blk t).view.emb y) 1 : Fin 1024) = y 1 := Fin.ext (by blk_simp [idx t])
  refine Eq.trans ?_ (congrArg₂ (fun (r : Fin 8192) (k : Fin 1024) => (R r).d k + ((P.dx (R r) k : ℝ) : EReal)) e0 e1).symm
  by_cases h0 : t.val % 16 = 0
  · have h1 : ¬1 ≤ t.val := by omega
    rw [outsAt0_A m c t h0 h1]
    frame_out
    exact (congrArg _ (eq_ix2 y)).trans (pay2_at (blk A t) (y 0) (y 1))
  · have h1 : 1 ≤ t.val := by omega
    rw [outsAt0_B m c t h0 h1]
    frame_out
    exact (congrArg _ (eq_ix2 y)).trans (pay2_at (blk A t) (y 0) (y 1))

theorem final8 : (dats m 0 c).arrAt 8 (cfgs 0).N = (fun i : S1x1024.Idx => ((∑ r, P.dh (R r) (i 1) * InProj.xn (R r) (i 1) : ℝ) : EReal)) := by
  refine (dats m 0 c).arrAt_eq_of_covers 8 _ (by decide +kernel) fun t hf y => ?_
  blk_simp
  rw [after0_8]
  have e1 : ((((cfg0.win 8).blk t).view.emb y) 1 : Fin 1024) = y 1 := Fin.ext (by blk_simp [idx t])
  refine Eq.trans ?_ (congrArg (fun k : Fin 1024 => ((∑ r, P.dh (R r) k * InProj.xn (R r) k : ℝ) : EReal)) e1).symm
  refine (Pipeline.eq_sum_fin_of_reset_step_apply_of_flush (fun n h => (outsAt0 m c n h).2) 16 (fun _ => (0 : EReal))
    (fun s j => ((∑ q, P.dh (R (row s q)) (j 1) * InProj.xn (R (row s q)) (j 1) : ℝ) : EReal)) ?_ ?_ t ((flush0_8 t).mp hf) y).trans ?_
  · intro s h0 j
    have h1 : ¬1 ≤ s.val := by have hN : s.val < 16 := s.isLt; omega
    rw [outsAt0_A m c s h0 h1]
    frame_out
    rw [zero_add]
    exact at_idx (g := fun a k => ∑ q, P.dh (R (row s q)) k * InProj.xn (R (row s q)) k) (pay1_at (blk A s)) j
  · intro s h0 j
    have h1 : 1 ≤ s.val := by omega
    rw [outsAt0_B m c s h0 h1]
    frame_out
    pointwise [k0_pay3]
    exact congrArg (_ + ·) (at_idx (g := fun a k => ∑ q, P.dh (R (row s q)) k * InProj.xn (R (row s q)) k) (pay1_at (blk A s)) j)
  · rw [zero_add, sum_coe]
    exact congrArg _ (sum_rows (fun r => P.dh (R r) (y 1) * InProj.xn (R r) (y 1)) t ((flush0_8 t).mp hf))

end Cert.Kernel3Ideal.Pay

end
-- ==== Proof.InProjRef.lean ====
/-
  The input projection reference's intermediate arrays on real arguments: each, read at a row, is the row model of
  `InProjModel`.
-/
module

public import proofs.«01_k».proof.Proof.Gen.Reference3Ideal.Run
public import Idealize.ShloMosaic.Lib.Pointwise
public import proofs.«01_k».proof.Proof.InProjModel

@[expose] public section

set_option maxRecDepth 16384

noncomputable section

open Idealize.ShloMosaic Idealize.ShloMosaic.TcCoe Idealize.SL.Sem
open Cert.Lift
open scoped BigOperators

namespace Cert.Reference3Ideal.Value

open Cert.Reference3Ideal Cert.Reference3Ideal.Gen Idealize.ShloMosaic.StableHlo

/-- The argument arrays. -/
structure In where
  a0 : FVec Ideal S4x2048x1024 .f32
  a1 : FVec Ideal S1x1024 .f32
  a2 : FVec Ideal S8192x1024 .f32
  a3 : FVec Ideal S8192x1536 .bf16
  a4 : FVec Ideal S8192x1792 .bf16
  a5 : FVec Ideal S8192x2048 .bf16
  a6 : FVec Ideal S1024x5376 .f32

/-! The reference's arrays that are read more than once, each over the ones before it. -/

def r0 (A : In) : FVec Ideal S8192x1024 .f32 :=
  shapeCast S8192x1024 A.a0 shapeCasts_S4x2048x1024_S8192x1024

def r7 (A : In) : FVec Ideal S8192x1 .f32 :=
  addf (Host.divf (broadcastInDim S8192x1 ![0] bcast_S8192_S8192x1_0 (Host.reduceAdd (mulf (r0 A) (r0 A)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

def r8 (A : In) : FVec Ideal S8192x1 .f32 :=
  Host.rsqrt (r7 A)

def r13 (A : In) : FVec Ideal S8192x1024 .f32 :=
  mulf (r0 A) (broadcastInDim S8192x1024 ![0, 1] bcast_S8192x1_S8192x1024_0_1 (r8 A))

def r20 (A : In) : FVec Ideal S8192x5376 .f32 :=
  fn_main_v20 (F := Ideal) (extf .f32 A.a3 bitsLt_bf16_f32) (extf .f32 A.a4 bitsLt_bf16_f32) (extf .f32 A.a5 bitsLt_bf16_f32)

def r21 (A : In) : FVec Ideal S8192x1024 .f32 :=
  Host.dotGeneral dot_S8192x5376_S1024x5376_S8192x1024_1_1_0_0_n_n none (r20 A) A.a6

def r24 (A : In) : FVec Ideal S1x1024 .f32 :=
  shapeCast S1x1024 (Host.reduceAdd (mulf (r13 A) (r21 A)) (constant S_ .f32 0x00000000#32) reducesTo_S8192x1024_S1024_d0 h_S_) shapeCasts_S1024_S1x1024

def r26 (A : In) : FVec Ideal S8192x1024 .f32 :=
  mulf (r21 A) (broadcastInDim S8192x1024 ![0, 1] bcast_S1x1024_S8192x1024_0_1 A.a1)

def r37 (A : In) : FVec Ideal S8192x1024 .f32 :=
  broadcastInDim S8192x1024 ![0] bcast_S8192_S8192x1024_0 (Host.reduceAdd (Host.divf (mulf (shapeCast S8192x1 (Host.reduceAdd (mulf (r0 A) (r26 A)) (constant S_ .f32 0x00000000#32) reducesTo_S8192x1024_S8192_d1 h_S_) shapeCasts_S8192_S8192x1) (mulf (broadcastInDim S8192x1 ![] bcast_S_S8192x1 (constant S_ .f32 0xBF000000#32)) (Host.divf (r8 A) (r7 A)))) (broadcastInDim S8192x1 ![] bcast_S_S8192x1 (constant S_ .f32 0x44800000#32))) (constant S_ .f32 0x00000000#32) reducesTo_S8192x1_S8192_d1 h_S_)

def r43 (A : In) : FVec Ideal S8192x1024 .f32 :=
  shapeCast S8192x1024 (shapeCast S4x2048x1024 (addf (addf (addf A.a2 (mulf (r26 A) (broadcastInDim S8192x1024 ![0, 1] bcast_S8192x1_S8192x1024_0_1 (r8 A)))) (mulf (r0 A) (r37 A))) (mulf (r37 A) (r0 A))) shapeCasts_S8192x1024_S4x2048x1024) shapeCasts_S4x2048x1024_S8192x1024

/-- The argument arrays are the rows `R` and the parameters `P`. -/
structure Args (P : InProj) (R : Fin 8192 → IRow) (A : In) : Prop where
  x : ∀ (r : Fin 8192) (k : Fin 1024), A.a0 (ix3 ⟨r.val / 2048, by omega⟩ ⟨r.val % 2048, by omega⟩ k) = (((R r).x k : ℝ) : EReal)
  gp : ∀ k : Fin 1024, A.a1 (ix2 0 k) = ((P.gp k : ℝ) : EReal)
  d : ∀ (r : Fin 8192) (k : Fin 1024), A.a2 (ix2 r k) = (R r).d k
  q : ∀ (r : Fin 8192) (j : Fin 1536), A.a3 (ix2 r j) = (((R r).q j : ℝ) : EReal)
  r : ∀ (r : Fin 8192) (j : Fin 1792), A.a4 (ix2 r j) = (((R r).r j : ℝ) : EReal)
  g : ∀ (r : Fin 8192) (j : Fin 2048), A.a5 (ix2 r j) = (((R r).g j : ℝ) : EReal)
  w : ∀ (k : Fin 1024) (j : Fin 5376), A.a6 (ix2 k j) = ((P.w k j : ℝ) : EReal)

variable {P : InProj} {R : Fin 8192 → IRow} {A : In} (B : Args P R A)
include B

theorem r0_at (r : Fin 8192) (k : Fin 1024) : r0 A (ix2 r k : S8192x1024.Idx) = (((R r).x k : ℝ) : EReal) := by
  refine Eq.trans ?_ (B.x r k)
  pointwise [r0]

theorem r7_at (r : Fin 8192) : r7 A (ix2 r 0 : S8192x1.Idx) = ((ms (R r).x : ℝ) : EReal) := by
  pointwise [r7]
  simp only [r0_at B, ← EReal.coe_mul, sum_coe, bits_1024, bits_eps, zero_add, div_real (by norm_num : (1024 : ℝ) ≠ 0), ← EReal.coe_add]
  rfl

theorem r8_at (r : Fin 8192) : r8 A (ix2 r 0 : S8192x1.Idx) = ((rs (R r).x : ℝ) : EReal) := by
  pointwise [r8]
  rw [r7_at B]
  exact rsqrt_real (ms_pos _)

theorem r13_at (r : Fin 8192) (k : Fin 1024) : r13 A (ix2 r k : S8192x1024.Idx) = ((InProj.xn (R r) k : ℝ) : EReal) := by
  pointwise [r13]
  rw [r0_at B, r8_at B, ← EReal.coe_mul]; rfl

theorem r20_at (r : Fin 8192) (j : Fin 5376) : r20 A (ix2 r j : S8192x5376.Idx) = (((R r).ct j : ℝ) : EReal) := by
  pointwise [r20, fn_main_v20]
  unfold IRow.ct
  by_cases h : j.val < 1536
  · rw [dif_pos h, dif_pos h]; exact B.q r _
  · by_cases h' : j.val - 1536 < 1792
    · rw [dif_neg h, dif_neg h, dif_pos h', dif_pos h']; exact B.r r _
    · rw [dif_neg h, dif_neg h, dif_neg h', dif_neg h']; exact B.g r _

theorem r21_at (r : Fin 8192) (k : Fin 1024) : r21 A (ix2 r k : S8192x1024.Idx) = ((P.dh (R r) k : ℝ) : EReal) := by
  pointwise [r21]
  simp only [r20_at B, B.w, ← EReal.coe_mul, sum_coe, add_zero, zero_add]
  rfl

theorem r24_at (a : Fin 1) (k : Fin 1024) : r24 A (ix2 a k : S1x1024.Idx) = ((∑ r, P.dh (R r) k * InProj.xn (R r) k : ℝ) : EReal) := by
  pointwise [r24]
  simp only [r13_at B, r21_at B, ← EReal.coe_mul, sum_coe, zero_add]
  exact congrArg _ (Finset.sum_congr rfl fun r _ => mul_comm _ _)

theorem r26_at (r : Fin 8192) (k : Fin 1024) : r26 A (ix2 r k : S8192x1024.Idx) = ((P.u (R r) k : ℝ) : EReal) := by
  pointwise [r26]
  rw [r21_at B, B.gp, ← EReal.coe_mul]; rfl

theorem r37_at (r : Fin 8192) (k : Fin 1024) : r37 A (ix2 r k : S8192x1024.Idx) = (((∑ l, (R r).x l * P.u (R r) l) * (-(1 / 2) * (rs (R r).x / ms (R r).x)) / 1024 : ℝ) : EReal) := by
  pointwise [r37]
  simp only [r0_at B, r26_at B, r7_at B, r8_at B, bits_neg_half, bits_1024, zero_add, ← EReal.coe_mul, sum_coe,
    div_real (ms_pos (R r).x).ne', div_real (by norm_num : (1024 : ℝ) ≠ 0), Finset.univ_unique, Finset.sum_singleton, Fin.isValue,
    Fin.default_eq_zero]

theorem r43_at (r : Fin 8192) (k : Fin 1024) : r43 A (ix2 r k : S8192x1024.Idx) = (R r).d k + ((P.dx (R r) k : ℝ) : EReal) := by
  pointwise [r43]
  rw [r26_at B, r8_at B, r0_at B, r37_at B, B.d, add_assoc, add_assoc]
  simp only [← EReal.coe_mul, ← EReal.coe_add]
  have e := rms_grad (R r).x (P.u (R r)) k
  simp only [Nat.cast_ofNat] at e
  rw [← add_assoc, e]
  rfl

omit B

/-- The reference's argument arrays. -/
abbrev inp (m : (ℓ : Loc nD τ sig) → Buf (Elt Ideal) ℓ) (c : Dev nD) : In :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6)⟩

/-- The reference's run, its results named by the cuts above. -/
theorem run_cut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = r43 (inp m c)
      ∧ r.2.mem ((c.tc : Thread nD τ).loc main_v24) = r24 (inp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨h0, h1, h2, h3, h4, h5, h6, h7, h8⟩ := h c
    exact ⟨h0.trans rfl, h1.trans rfl, h2, h3, h4, h5, h6, h7, h8⟩) (run (F := Ideal) m ρ)

end Cert.Reference3Ideal.Value

end
-- ==== Proof.InProjPre.lean ====
/-
  What the precondition says: every argument is a real.
-/
module

public import proofs.«01_k».proof.Proof.Gen.Pre_finite_in_proj
public import proofs.«01_k».proof.Proof.Lift

@[expose] public section

set_option maxRecDepth 16384

noncomputable section

open Idealize.ShloMosaic
open Cert.Lift (real_of_all)

namespace Cert.Pre_finite_in_proj

open Cert.Pre_finite_in_proj Cert.Pre_finite_in_proj.Gen

theorem reals [Facts] {a0 : FVec Ideal S4x2048x1024 .f32} {a1 : FVec Ideal S1x1024 .f32} {a2 : FVec Ideal S8192x1024 .f32} {a3 : FVec Ideal S8192x1536 .bf16} {a4 : FVec Ideal S8192x1792 .bf16} {a5 : FVec Ideal S8192x2048 .bf16} {a6 : FVec Ideal S1024x5376 .f32}
    (h : fn (F := Ideal) a0 a1 a2 a3 a4 a5 a6 = fun _ => 1#1) :
    (∀ i, (((a0 i).toReal : ℝ) : EReal) = a0 i)
      ∧ (∀ i, (((a1 i).toReal : ℝ) : EReal) = a1 i)
      ∧ (∀ i, (((a3 i).toReal : ℝ) : EReal) = a3 i)
      ∧ (∀ i, (((a4 i).toReal : ℝ) : EReal) = a4 i)
      ∧ (∀ i, (((a5 i).toReal : ℝ) : EReal) = a5 i)
      ∧ (∀ i, (((a6 i).toReal : ℝ) : EReal) = a6 i) := by
  have h0 := congrFun h default
  dsimp only [fn, fn_part1, andi] at h0
  simp only [IntOp.andi_eq_one] at h0
  obtain ⟨⟨⟨⟨⟨h0, h1⟩, h3⟩, h4⟩, h5⟩, h6⟩ := h0
  exact ⟨real_of_all _ _ _ _ _ _ h0, real_of_all _ _ _ _ _ _ h1, real_of_all _ _ _ _ _ _ h3, real_of_all _ _ _ _ _ _ h4, real_of_all _ _ _ _ _ _ h5, real_of_all _ _ _ _ _ _ h6⟩

end Cert.Pre_finite_in_proj

end
-- ==== Proof.InProjClaim.lean ====
/-
  The input projection kernel's two results are the reference's, on real arguments; the residual gradient it adds to may be
  anything.
-/
module

public import proofs.«01_k».proof.Defs
public import proofs.«01_k».proof.Proof.Gen.Kernel3Ideal.Value
public import proofs.«01_k».proof.Proof.InProjValue
public import proofs.«01_k».proof.Proof.InProjRef
public import proofs.«01_k».proof.Proof.InProjPre

@[expose] public section

set_option maxRecDepth 16384

noncomputable section

open Idealize.ShloMosaic Idealize.ShloMosaic.TcCoe Idealize.SL.Sem Idealize.ShloMosaic.StableHlo
open Cert.Lift

namespace Cert.InProjClaim

/-- The rows of the arrays. -/
def rows (a0 : FVec Ideal ⟨3, ![4, 2048, 1024]⟩ .f32) (a2 : FVec Ideal ⟨2, ![8192, 1024]⟩ .f32) (a3 : FVec Ideal ⟨2, ![8192, 1536]⟩ .bf16)
    (a4 : FVec Ideal ⟨2, ![8192, 1792]⟩ .bf16) (a5 : FVec Ideal ⟨2, ![8192, 2048]⟩ .bf16) (r : Fin 8192) : IRow where
  x k := (a0 (ix3 ⟨r.val / 2048, by omega⟩ ⟨r.val % 2048, by omega⟩ k)).toReal
  q j := (a3 (ix2 r j)).toReal
  r j := (a4 (ix2 r j)).toReal
  g j := (a5 (ix2 r j)).toReal
  d k := a2 (ix2 r k)

/-- The real parameters of the arrays. -/
def par (a1 : FVec Ideal ⟨2, ![1, 1024]⟩ .f32) (a6 : FVec Ideal ⟨2, ![1024, 5376]⟩ .f32) : InProj where
  gp k := (a1 (ix2 0 k)).toReal
  w k j := (a6 (ix2 k j)).toReal

attribute [local instance] Cert.Kernel3Ideal.Gen.facts Cert.Reference3Ideal.Gen.facts Cert.Pre_finite_in_proj.Gen.facts

section
open Cert.Kernel3Ideal

variable (m : (ℓ : Loc nD τ sig) → Buf (Elt Ideal) ℓ)

abbrev parOf (c : Dev nD) : InProj := par (m ((c : Thread nD τ).loc main_arg1)) (m ((c : Thread nD τ).loc main_arg6))

abbrev rowsOf (c : Dev nD) : Fin 8192 → IRow :=
  rows (m ((c : Thread nD τ).loc main_arg0)) (m ((c : Thread nD τ).loc main_arg2)) (m ((c : Thread nD τ).loc main_arg3))
    (m ((c : Thread nD τ).loc main_arg4)) (m ((c : Thread nD τ).loc main_arg5))

variable {m}

theorem kernel_args (hpre : Cert.Pre_Kernel3Ideal_finite_in_proj m) (c : Dev nD) :
    Cert.Kernel3Ideal.Pay.Args m c (parOf m c) (rowsOf m c) := by
  obtain ⟨h0, h1, h3, h4, h5, h6⟩ := Cert.Pre_finite_in_proj.reals (hpre c)
  exact ⟨fun r k => (h0 _).symm, fun k => (h1 _).symm, fun r k => rfl, fun r j => (h3 _).symm, fun r j => (h4 _).symm,
    fun r j => (h5 _).symm, fun k j => (h6 _).symm⟩

end

section
variable {m : (ℓ : Loc Cert.Kernel3Ideal.nD Cert.Kernel3Ideal.τ Cert.Kernel3Ideal.sig) → Buf (Elt Ideal) ℓ} {c : Dev Cert.Kernel3Ideal.nD}
  {P : InProj} {R : Fin 8192 → IRow} {A : Cert.Reference3Ideal.Value.In} (K : Cert.Kernel3Ideal.Pay.Args m c P R) (B : Cert.Reference3Ideal.Value.Args P R A)
include K B

theorem res7 : Cert.Reference3Ideal.Value.r43 A = (Cert.Kernel3Ideal.Gen.dats m 0 c).arrAt 7 Cert.Kernel3Ideal.cfg0.N :=
  Eq.trans (funext fun i => (congrArg _ (eq_ix2 i)).trans (Cert.Reference3Ideal.Value.r43_at B (i 0) (i 1))) (Cert.Kernel3Ideal.Pay.final7 K).symm

theorem res8 : Cert.Reference3Ideal.Value.r24 A = (Cert.Kernel3Ideal.Gen.dats m 0 c).arrAt 8 Cert.Kernel3Ideal.cfg0.N :=
  Eq.trans (funext fun i => (congrArg _ (eq_ix2 i)).trans (Cert.Reference3Ideal.Value.r24_at B (i 0) (i 1))) (Cert.Kernel3Ideal.Pay.final8 K).symm

end

theorem algebraic : Cert.algebraic_Kernel3Ideal_Reference3Ideal_pre_finite_in_proj := by
  pair_intro
  · run_from Cert.Kernel3Ideal.Value.run_blocks m g
  · have K := kernel_args hpre
    have R : ∀ c, Cert.Reference3Ideal.Value.Args (parOf m c) (rowsOf m c) (Cert.Reference3Ideal.Value.inp m' c) := by
      intro c
      obtain ⟨h0, h1, h2, h3, h4, h5, h6⟩ := hagree c
      exact ⟨fun r k => (congrFun h0 _).trans ((K c).x r k), fun k => (congrFun h1 _).trans ((K c).gp k), fun r k => (congrFun h2 _).trans ((K c).d r k),
        fun r j => (congrFun h3 _).trans ((K c).q r j), fun r j => (congrFun h4 _).trans ((K c).r r j), fun r j => (congrFun h5 _).trans ((K c).g r j),
        fun k j => (congrFun h6 _).trans ((K c).w k j)⟩
    run_from Cert.Reference3Ideal.Value.run_cut m' g'
    · exact res7 (K c) (R c)
    · exact res8 (K c) (R c)

theorem frame : Cert.quiescent_Reference3Ideal := by
  intro m ρ _
  run_from Cert.Reference3Ideal.Value.run_cut m ρ
  · simp only [and_self, implies_true]
  · exact sem_eq_zero_of_no_sems rfl _

theorem frame_finite : Cert.quiescent_Reference3Ideal_pre_finite_in_proj := fun m ρ _ => frame m ρ trivial

end Cert.InProjClaim

end
-- ==== Proof.SbOps.lean ====
/-
  One head of the attention's backward on a block of 256 rows and 512 columns: the operations of the kernel's inner loop
  as functions of vectors, and what they are on vectors whose entries are reals.
-/
module

public import proofs.«01_k».proof.Proof.Gen.Kernel4Ideal.Skeleton
public import Idealize.ShloMosaic.Lib.Pipeline.ValueKit
public import proofs.«01_k».proof.Proof.Lift

@[expose] public section

set_option maxRecDepth 16384

noncomputable section

open Idealize.ShloMosaic Idealize.ShloMosaic.TcCoe Idealize.SL.Sem
open Cert.Lift
open scoped BigOperators

namespace Cert.Kernel4Ideal.Sb

open Cert.Kernel4Ideal Cert.Kernel4Ideal.Gen

section Ops
variable {F : FTy → Type} [FloatOps F]

/-- The scores of the rows against the columns; also the products of the rows' cotangents with the columns' values. -/
def opZ (q : FVec F S256x128 .bf16) (k : FVec F S512x128 .bf16) : FVec F S256x512 .f32 :=
  matmul dot_S256x128_S512x128_S256x512_1_1_0_0_n_n none q k (constant S256x512 .f32 0x00000000#32)

/-- The number zero everywhere. -/
def opO : FVec F S256x512 .f32 := broadcast S256x512 (Scalar.ofBits .f32 0x00000000#32)

/-- The number one everywhere. -/
def opI : FVec F S256x512 .f32 := broadcast S256x512 (Scalar.ofBits .f32 0x3F800000#32)

/-- The softplus of every score. -/
def opSp (z : FVec F S256x512 .f32) : FVec F S256x512 .f32 :=
  addf (maximumf z opO) (log (addf opI (exp (subf opO (absf z)))))

/-- The entries where the mask is set, zero elsewhere. -/
def opMask (va : IVec S256x512 1) (x : FVec F S256x512 .f32) : FVec F S256x512 .f32 := select va x opO

/-- The first 256 columns. -/
def opL (x : FVec F S256x512 .f32) : FVec F S256x256 .f32 := extractStridedSlice S256x256 ![0, 0] x slices_S256x512_o0_0_S256x256

/-- The last 256 columns. -/
def opR (x : FVec F S256x512 .f32) : FVec F S256x256 .f32 := extractStridedSlice S256x256 ![0, 256] x slices_S256x512_o0_256_S256x256

/-- A carry with the sum of 256 columns added. -/
def opCarry (a : FVec F S256x1 .f32) (x : FVec F S256x256 .f32) : FVec F S256x1 .f32 :=
  addf a (shapeCast S256x1 (multiReduction .add [1] S256 x 0x00000000#32 reduces_S256x256_S256 (.inl rfl) rfl) shapeCasts_S256_S256x1)

/-- A carry with the running sums of 256 columns added, by a product with a triangle of ones. -/
def opRun (tri : FVec F S256x256 .bf16) (a : FVec F S256x1 .f32) (x : FVec F S256x256 .f32) : FVec F S256x256 .f32 :=
  addf (broadcastTo S256x256 a broadcasts_S256x1_S256x256)
    (matmul dot_S256x256_S256x256_S256x256_1_0_0_1_n_n none (truncf .bf16 x bitsLt_bf16_f32) tri (constant S256x256 .f32 0x00000000#32))

/-- The running sums over all 512 columns. -/
def opSums (tri : FVec F S256x256 .bf16) (a : FVec F S256x1 .f32) (x : FVec F S256x512 .f32) : FVec F S256x512 .f32 :=
  concatenate S256x512 1 [⟨S256x256, opRun tri a (opL x)⟩, ⟨S256x256, opRun tri (opCarry a (opL x)) (opR x)⟩]
    concatenates_S256x256_S256x256_S256x512_d1

/-- The carry after all 512 columns. -/
def opNext (a : FVec F S256x1 .f32) (x : FVec F S256x512 .f32) : FVec F S256x1 .f32 := opCarry (opCarry a (opL x)) (opR x)

/-- The attention weights. -/
def opW (va : IVec S256x512 1) (tri : FVec F S256x256 .bf16) (z : FVec F S256x512 .f32) (L ps : FVec F S256x1 .f32) : FVec F S256x512 .f32 :=
  opMask va (exp (subf (subf z (opSp z)) (subf (broadcastTo S256x512 L broadcasts_S256x1_S256x512) (opSums tri ps (opMask va (opSp z))))))

/-- The gradient of the scores, before its scale. -/
def opG (va : IVec S256x512 1) (tri : FVec F S256x256 .bf16) (z e : FVec F S256x512 .f32) (es : FVec F S256x1 .f32) : FVec F S256x512 .f32 :=
  opMask va (subf (mulf e (subf opI (exp (subf z (opSp z))))) (mulf (opSums tri es e) (exp (subf z (opSp z)))))

/-- The gradient of the scores. -/
def opDz (va : IVec S256x512 1) (tri : FVec F S256x256 .bf16) (z e : FVec F S256x512 .f32) (es : FVec F S256x1 .f32) : FVec F S256x512 .bf16 :=
  truncf .bf16 (mulf (opG va tri z e es) (broadcast S256x512 (Scalar.ofBits .f32 0x3E000000#32))) bitsLt_bf16_f32

/-- A sum over the rows, for every column and lane. -/
def opCol (g : FVec F S256x512 .bf16) (x : FVec F S256x128 .bf16) : FVec F S512x128 .f32 :=
  matmul dot_S256x512_S256x128_S512x128_0_0_1_1_n_n none g x (constant S512x128 .f32 0x00000000#32)

/-- A sum over the columns, for every row and lane. -/
def opRow (g : FVec F S256x512 .bf16) (k : FVec F S512x128 .bf16) : FVec F S256x128 .f32 :=
  matmul dot_S256x512_S512x128_S256x128_1_0_0_1_n_n none g k (constant S256x128 .f32 0x00000000#32)

/-- The first head's sums in its lanes, the second's in the others, added to what is there. -/
def opAcc (hm : IVec S1x128 1) (x y : FVec F S512x128 .f32) (o : Vec F S512x128 .f32) : FVec F S512x128 .f32 :=
  shapeCast S512x128 (addf o (select (broadcastTo S512x128 (shapeCast S1x128 hm shapeCasts_S1x128_S1x128) broadcasts_S1x128_S512x128) x y))
    shapeCasts_S512x128_S512x128

end Ops

/-! ### On real entries -/

/-- The softplus of a real. -/
def sp (x : ℝ) : ℝ := max x 0 + Real.log (1 + Real.exp (-|x|))

/-- The zero pattern. -/
theorem bits_zero : Ideal.ofBits .f32 0x00000000#32 = ((0 : ℝ) : EReal) := by simp [Ideal.ofBits, Ideal.ieee]
theorem bits_eighth : Ideal.ofBits .f32 0x3E000000#32 = ((1 / 8 : ℝ) : EReal) := by
  simp [Ideal.ofBits, Ideal.ieee, -EReal.coe_mul]; norm_num

theorem abs_coe (x : ℝ) : max (x : EReal) (-(x : EReal)) = ((|x| : ℝ) : EReal) := by
  rw [← EReal.coe_neg]; exact (Monotone.map_max EReal.coe_strictMono.monotone).symm

theorem opZ_at {q : FVec Ideal S256x128 .bf16} {k : FVec Ideal S512x128 .bf16} {q' : Fin 256 → Fin 128 → ℝ} {k' : Fin 512 → Fin 128 → ℝ}
    (hq : ∀ t l, q (ix2 t l) = ((q' t l : ℝ) : EReal)) (hk : ∀ s l, k (ix2 s l) = ((k' s l : ℝ) : EReal)) (t : Fin 256) (s : Fin 512) :
    opZ q k (ix2 t s) = ((∑ l, q' t l * k' s l : ℝ) : EReal) := by
  pointwise [opZ]
  simp only [hq, hk, ← EReal.coe_mul, sum_coe]

theorem opSp_at {z : FVec Ideal S256x512 .f32} {z' : Fin 256 → Fin 512 → ℝ}
    (hz : ∀ t s, z (ix2 t s) = ((z' t s : ℝ) : EReal)) (t : Fin 256) (s : Fin 512) :
    opSp z (ix2 t s) = ((sp (z' t s) : ℝ) : EReal) := by
  pointwise [opSp, opO, opI]
  simp only [hz]
  have e : (FloatOps.absf (F := Ideal) (φ := .f32) ((z' t s : ℝ) : EReal)) = ((|z' t s| : ℝ) : EReal) := abs_coe _
  rw [e, zero_sub, ← EReal.coe_neg, Ideal.exp_coe, ← EReal.coe_one, ← EReal.coe_add, Ideal.log_coe, if_neg, ← EReal.coe_zero]
  · rw [← Monotone.map_max EReal.coe_strictMono.monotone, ← EReal.coe_add]; rfl
  · have := Real.exp_pos (-|z' t s|); intro h; linarith

theorem opMask_at {va : IVec S256x512 1} {x : FVec Ideal S256x512 .f32} {v : Fin 256 → Fin 512 → Bool} {x' : Fin 256 → Fin 512 → ℝ}
    (hv : ∀ t s, va (ix2 t s) = BitVec.ofBool (v t s)) (hx : ∀ t s, x (ix2 t s) = ((x' t s : ℝ) : EReal)) (t : Fin 256) (s : Fin 512) :
    opMask va x (ix2 t s) = ((if v t s then x' t s else 0 : ℝ) : EReal) := by
  pointwise [opMask, opO]
  simp only [hv, hx]
  cases v t s <;> simp [Scalar.select]

theorem opCarry_at {a : FVec Ideal S256x1 .f32} {x : FVec Ideal S256x256 .f32} {a' : Fin 256 → ℝ} {x' : Fin 256 → Fin 256 → ℝ}
    (ha : ∀ t, a (ix2 t 0) = ((a' t : ℝ) : EReal)) (hx : ∀ t s, x (ix2 t s) = ((x' t s : ℝ) : EReal)) (t : Fin 256) :
    opCarry a x (ix2 t 0) = ((a' t + ∑ s, x' t s : ℝ) : EReal) := by
  pointwise [opCarry]
  simp only [ha, hx, sum_coe, ← EReal.coe_add]

theorem opRun_at {tri : FVec Ideal S256x256 .bf16} {r : Fin 256 → Fin 256 → ℝ} {a : FVec Ideal S256x1 .f32} {x : FVec Ideal S256x256 .f32} {a' : Fin 256 → ℝ} {x' : Fin 256 → Fin 256 → ℝ}
    (ht : ∀ t s, tri (ix2 t s) = ((r t s : ℝ) : EReal))
    (ha : ∀ t, a (ix2 t 0) = ((a' t : ℝ) : EReal)) (hx : ∀ t s, x (ix2 t s) = ((x' t s : ℝ) : EReal)) (t s : Fin 256) :
    opRun tri a x (ix2 t s) = ((a' t + ∑ u, x' t u * r u s : ℝ) : EReal) := by
  pointwise [opRun]
  simp only [ha, hx, ht, ← EReal.coe_mul, sum_coe, ← EReal.coe_add]

/-- A relation of positions that a triangle of ones spells in blocks of 256. -/
structure Tri (R : ℕ → ℕ → Prop) : Prop where
  shift : ∀ u s, R (u + 256) (s + 256) ↔ R u s
  below : ∀ u s, u < 256 → 256 ≤ s → R u s
  above : ∀ u s, 256 ≤ u → s < 256 → ¬ R u s

theorem tri_le : Tri (fun u s => u ≤ s) := ⟨fun _ _ => by omega, fun _ _ _ _ => by omega, fun _ _ _ _ => by omega⟩
theorem tri_lt : Tri (fun u s => u < s) := ⟨fun _ _ => by omega, fun _ _ _ _ => by omega, fun _ _ _ _ => by omega⟩

/-- A carry with the sum of the earlier columns' entries added. -/
def runR (R : ℕ → ℕ → Prop) [DecidableRel R] (a : ℝ) (x : Fin 512 → ℝ) (s : Fin 512) : ℝ := a + ∑ u, if R u.val s.val then x u else 0

theorem sum_512 (f : Fin 512 → ℝ) : ∑ u, f u = (∑ u : Fin 256, f ⟨u.val, by omega⟩) + ∑ u : Fin 256, f ⟨u.val + 256, by omega⟩ := by
  rw [show (∑ u, f u) = ∑ u : Fin (256 + 256), f u from rfl, Fin.sum_univ_add]
  refine congrArg₂ _ rfl (Finset.sum_congr rfl fun u _ => congrArg f (Fin.ext ?_))
  simp [Fin.natAdd]; omega

theorem opL_at {x : FVec Ideal S256x512 .f32} {x' : Fin 256 → Fin 512 → ℝ} (hx : ∀ t s, x (ix2 t s) = ((x' t s : ℝ) : EReal)) (t s : Fin 256) :
    opL x (ix2 t s) = ((x' t ⟨s.val, by omega⟩ : ℝ) : EReal) := by
  pointwise [opL]
  rw [← hx]

theorem opR_at {x : FVec Ideal S256x512 .f32} {x' : Fin 256 → Fin 512 → ℝ} (hx : ∀ t s, x (ix2 t s) = ((x' t s : ℝ) : EReal)) (t s : Fin 256) :
    opR x (ix2 t s) = ((x' t ⟨s.val + 256, by omega⟩ : ℝ) : EReal) := by
  pointwise [opR]
  rw [← hx]; congr 1; congr 1; apply Fin.ext; simp; omega

theorem opSums_at {R : ℕ → ℕ → Prop} [DecidableRel R] (hR : Tri R) {tri : FVec Ideal S256x256 .bf16} {a : FVec Ideal S256x1 .f32}
    {x : FVec Ideal S256x512 .f32} {a' : Fin 256 → ℝ} {x' : Fin 256 → Fin 512 → ℝ}
    (ht : ∀ t s, tri (ix2 t s) = ((if R t.val s.val then 1 else 0 : ℝ) : EReal))
    (ha : ∀ t, a (ix2 t 0) = ((a' t : ℝ) : EReal)) (hx : ∀ t s, x (ix2 t s) = ((x' t s : ℝ) : EReal)) (t : Fin 256) (s : Fin 512) :
    opSums tri a x (ix2 t s) = ((runR R (a' t) (x' t) s : ℝ) : EReal) := by
  have e : opSums tri a x (ix2 t s) = if h : s.val < 256 then opRun tri a (opL x) (ix2 t ⟨s.val, h⟩) else
      opRun tri (opCarry a (opL x)) (opR x) (ix2 t ⟨s.val - 256, by omega⟩) := by
    pointwise [opSums]
  rw [e]
  unfold runR
  split
  · rename_i h
    rw [opRun_at ht ha (opL_at hx), sum_512]
    refine congrArg _ (congrArg _ ?_)
    rw [Finset.sum_eq_zero (s := Finset.univ) (f := fun u : Fin 256 => if R (u.val + 256) s.val then x' t ⟨u.val + 256, by omega⟩ else 0)
      fun u _ => if_neg (hR.above _ _ (by omega) h), add_zero]
    exact Finset.sum_congr rfl fun u _ => by simp
  · rename_i h
    rw [opRun_at ht (opCarry_at ha (opL_at hx)) (opR_at hx), sum_512]
    refine congrArg _ ?_
    rw [add_assoc]
    refine congrArg _ (congrArg₂ _ (Finset.sum_congr rfl fun u _ => ?_) (Finset.sum_congr rfl fun u _ => ?_))
    · rw [if_pos (hR.below u.val s.val u.isLt (by omega))]
    · have := hR.shift u.val (s.val - 256)
      rw [show s.val - 256 + 256 = s.val by omega] at this
      simp only [this]
      simp

theorem opNext_at {a : FVec Ideal S256x1 .f32} {x : FVec Ideal S256x512 .f32} {a' : Fin 256 → ℝ} {x' : Fin 256 → Fin 512 → ℝ}
    (ha : ∀ t, a (ix2 t 0) = ((a' t : ℝ) : EReal)) (hx : ∀ t s, x (ix2 t s) = ((x' t s : ℝ) : EReal)) (t : Fin 256) :
    opNext a x (ix2 t 0) = ((a' t + ∑ s, x' t s : ℝ) : EReal) := by
  unfold opNext
  rw [opCarry_at (opCarry_at ha (opL_at hx)) (opR_at hx), sum_512, add_assoc]

variable {va : IVec S256x512 1} {v : Fin 256 → Fin 512 → Bool} (hv : ∀ t s, va (ix2 t s) = BitVec.ofBool (v t s))

/-- The weight of a column, from the row's scores, its total and the carry of the earlier columns. -/
def wR (v : Fin 512 → Bool) (z : Fin 512 → ℝ) (L a : ℝ) (s : Fin 512) : ℝ :=
  if v s then Real.exp (z s - sp (z s) - (L - runR (fun u s => u ≤ s) a (fun s => if v s then sp (z s) else 0) s)) else 0

/-- The gradient of a column's score. -/
def dzR (v : Fin 512 → Bool) (z e : Fin 512 → ℝ) (a : ℝ) (s : Fin 512) : ℝ :=
  (if v s then e s * (1 - Real.exp (z s - sp (z s))) - runR (fun u s => u < s) a e s * Real.exp (z s - sp (z s)) else 0) * (1 / 8)

section
include hv

theorem opW_at {tri : FVec Ideal S256x256 .bf16} {z : FVec Ideal S256x512 .f32} {L a : FVec Ideal S256x1 .f32}
    {z' : Fin 256 → Fin 512 → ℝ} {L' a' : Fin 256 → ℝ}
    (ht : ∀ t s, tri (ix2 t s) = ((if t.val ≤ s.val then 1 else 0 : ℝ) : EReal))
    (hz : ∀ t s, z (ix2 t s) = ((z' t s : ℝ) : EReal)) (hL : ∀ t, L (ix2 t 0) = ((L' t : ℝ) : EReal))
    (ha : ∀ t, a (ix2 t 0) = ((a' t : ℝ) : EReal)) (t : Fin 256) (s : Fin 512) :
    opW va tri z L a (ix2 t s) = ((wR (v t) (z' t) (L' t) (a' t) s : ℝ) : EReal) := by
  unfold opW
  refine opMask_at (x' := fun t s => Real.exp (z' t s - sp (z' t s) - (L' t - runR (fun u s => u ≤ s) (a' t) (fun s => if v t s then sp (z' t s) else 0) s))) hv (fun t s => ?_) t s
  pointwise
  rw [hz, opSp_at hz, hL, opSums_at tri_le ht ha (opMask_at hv (opSp_at hz))]
  simp only [← EReal.coe_sub, Ideal.exp_coe]

theorem opDz_at {tri : FVec Ideal S256x256 .bf16} {z e : FVec Ideal S256x512 .f32} {a : FVec Ideal S256x1 .f32}
    {z' e' : Fin 256 → Fin 512 → ℝ} {a' : Fin 256 → ℝ}
    (ht : ∀ t s, tri (ix2 t s) = ((if t.val < s.val then 1 else 0 : ℝ) : EReal))
    (hz : ∀ t s, z (ix2 t s) = ((z' t s : ℝ) : EReal)) (he : ∀ t s, e (ix2 t s) = ((e' t s : ℝ) : EReal))
    (ha : ∀ t, a (ix2 t 0) = ((a' t : ℝ) : EReal)) (t : Fin 256) (s : Fin 512) :
    opDz va tri z e a (ix2 t s) = ((dzR (v t) (z' t) (e' t) (a' t) s : ℝ) : EReal) := by
  have h : ∀ t s, opG va tri z e a (ix2 t s) = ((if v t s then e' t s * (1 - Real.exp (z' t s - sp (z' t s))) - runR (fun u s => u < s) (a' t) (e' t) s * Real.exp (z' t s - sp (z' t s)) else 0 : ℝ) : EReal) := by
    intro t s
    unfold opG
    refine opMask_at (x' := fun t s => e' t s * (1 - Real.exp (z' t s - sp (z' t s))) - runR (fun u s => u < s) (a' t) (e' t) s * Real.exp (z' t s - sp (z' t s))) hv (fun t s => ?_) t s
    pointwise [opI]
    rw [hz, opSp_at hz, he, opSums_at tri_lt ht ha he]
    simp only [← EReal.coe_sub, Ideal.exp_coe, ← EReal.coe_mul, ← EReal.coe_one]
  pointwise [opDz, bits_eighth]
  rw [h, ← EReal.coe_mul]; rfl
end

theorem opCol_at {g : FVec Ideal S256x512 .bf16} {x : FVec Ideal S256x128 .bf16} {g' : Fin 256 → Fin 512 → ℝ} {x' : Fin 256 → Fin 128 → ℝ}
    (hg : ∀ t s, g (ix2 t s) = ((g' t s : ℝ) : EReal)) (hx : ∀ t l, x (ix2 t l) = ((x' t l : ℝ) : EReal)) (s : Fin 512) (l : Fin 128) :
    opCol g x (ix2 s l) = ((∑ t, g' t s * x' t l : ℝ) : EReal) := by
  pointwise [opCol]
  simp only [hg, hx, ← EReal.coe_mul, sum_coe]

theorem opRow_at {g : FVec Ideal S256x512 .bf16} {k : FVec Ideal S512x128 .bf16} {g' : Fin 256 → Fin 512 → ℝ} {k' : Fin 512 → Fin 128 → ℝ}
    (hg : ∀ t s, g (ix2 t s) = ((g' t s : ℝ) : EReal)) (hk : ∀ s l, k (ix2 s l) = ((k' s l : ℝ) : EReal)) (t : Fin 256) (l : Fin 128) :
    opRow g k (ix2 t l) = ((∑ s, g' t s * k' s l : ℝ) : EReal) := by
  pointwise [opRow]
  simp only [hg, hk, ← EReal.coe_mul, sum_coe]

theorem opAcc_at {hm : IVec S1x128 1} {x y : FVec Ideal S512x128 .f32} {o : Vec Ideal S512x128 .f32} {b : Fin 128 → Bool}
    {x' y' o' : Fin 512 → Fin 128 → ℝ} (hh : ∀ l, hm (ix2 0 l) = BitVec.ofBool (b l))
    (hx : ∀ s l, x (ix2 s l) = ((x' s l : ℝ) : EReal)) (hy : ∀ s l, y (ix2 s l) = ((y' s l : ℝ) : EReal))
    (ho : ∀ s l, o (ix2 s l) = ((o' s l : ℝ) : EReal)) (s : Fin 512) (l : Fin 128) :
    opAcc hm x y o (ix2 s l) = ((o' s l + (if b l then x' s l else y' s l) : ℝ) : EReal) := by
  pointwise [opAcc]
  rw [hh, hx, hy, ho]
  cases b l <;> simp [Scalar.select]

end Cert.Kernel4Ideal.Sb

end
-- ==== Proof.SbTie.lean ====
/-
  A trip of the kernel's inner loop in terms of the operations of `SbOps`: what it carries on for each of the four heads,
  and what it writes into the two accumulators.
-/
module

public import proofs.«01_k».proof.Proof.SbRun
public import proofs.«01_k».proof.Proof.SbOps

@[expose] public section

set_option maxRecDepth 100000
set_option maxHeartbeats 4000000

noncomputable section

namespace Cert.Kernel4Ideal.Sb

open Cert.Kernel4Ideal.Gen
open Idealize.ShloMosaic Idealize.ShloMosaic.TcCoe Idealize.ShloMosaic.Tactic
open Idealize.SL Idealize.SL.Sem

section
variable {F : FTy → Type} [FloatOps F]

/-- The 512 rows of an operand that an inner trip reads. -/
def kvAt (arg4 : Memref sig .tc .vmem S2048x256 .bf16) (X4 : BufTy.Contents (Elt F) arg4.view.ty) (k0_t1 : Fin k0_t1_loop.trips) (v95 : Elt F .i32)
    (k0_hw1 : k0_chk1 k0_t1 v95) (k : Fin (k0_t2_loop k0_t1 v95).trips) : Vec F S512x256 .bf16 :=
  View.readAt (Elt F) arg4.view (Rect.unit (s := S2048x256) (k0_off7 k0_t1 v95 k) S512x256.size (k0_off7_inb k0_t1 v95 k0_hw1 k)).toLoadRect X4

/-- The first pair's 128 lanes of a block of columns. -/
def laneL (x : Vec F S512x256 .bf16) : FVec F S512x128 .bf16 :=
  extractStridedSlice S512x128 ![0, 0] (shapeCast S512x256 x shapeCasts_S512x256_S512x256) slices_S512x256_o0_0_S512x128

/-- The second pair's 128 lanes of a block of columns. -/
def laneR (x : Vec F S512x256 .bf16) : FVec F S512x128 .bf16 :=
  extractStridedSlice S512x128 ![0, 128] (shapeCast S512x256 x shapeCasts_S512x256_S512x256) slices_S512x256_o0_128_S512x128

/-- The first pair's 128 lanes of a block of rows. -/
def rowL (x : FVec F S256x256 .bf16) : FVec F S256x128 .bf16 := extractStridedSlice S256x128 ![0, 0] x slices_S256x256_o0_0_S256x128

/-- The second pair's 128 lanes of a block of rows. -/
def rowR (x : FVec F S256x256 .bf16) : FVec F S256x128 .bf16 := extractStridedSlice S256x128 ![0, 128] x slices_S256x256_o0_128_S256x128

/-- A head's weights. -/
def headW (va : IVec S256x512 1) (inc : FVec F S256x256 .bf16) (q : FVec F S256x128 .bf16) (k : FVec F S512x128 .bf16) (L ps : FVec F S256x1 .f32) : FVec F S256x512 .f32 :=
  opW va inc (opZ q k) L ps

/-- A head's weights times their cotangents. -/
def headE (va : IVec S256x512 1) (inc : FVec F S256x256 .bf16) (q d : FVec F S256x128 .bf16) (k v : FVec F S512x128 .bf16) (L ps : FVec F S256x1 .f32) : FVec F S256x512 .f32 :=
  mulf (opZ d v) (headW va inc q k L ps)

/-- A head's gradient of the scores. -/
def headDz (va : IVec S256x512 1) (inc exc : FVec F S256x256 .bf16) (q d : FVec F S256x128 .bf16) (k v : FVec F S512x128 .bf16) (L ps es : FVec F S256x1 .f32) : FVec F S256x512 .bf16 :=
  opDz va exc (opZ q k) (headE va inc q d k v L ps) es

end

variable {F : FTy → Type} [FloatOps F] (c : Dev nD) (i : grid0.Coords) (arg2 : Memref sig .tc .smem S8x8 .i32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x4x2048x1 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .f32) (harg11 : arg11.IsWhole) (arg12 : Memref sig .tc .vmem S2048x256 .f32) (harg12 : arg12.IsWhole) (v4 : IVec S1x128 1) (v10 : FVec F S256x256 .bf16) (v16 : FVec F S256x256 .bf16) (k0_t1 : Fin k0_t1_loop.trips) (arg13 : BitVec 32) (v33 : BitVec 32) (v36 : FVec F S256x256 .bf16) (v40 : Vec F S256x256 .bf16) (v45 : FVec F S256x128 .bf16) (v50 : FVec F S256x128 .bf16) (v55 : FVec F S256x128 .bf16) (v60 : FVec F S256x128 .bf16) (v65 : FVec F S256x128 .bf16) (v70 : FVec F S256x128 .bf16) (v75 : FVec F S256x128 .bf16) (v80 : FVec F S256x128 .bf16) (v83 : FVec F S256x1 .f32) (v86 : FVec F S256x1 .f32) (v89 : FVec F S256x1 .f32) (v92 : FVec F S256x1 .f32) (v95 : Elt F .i32) (k0_hw1 : k0_chk1 k0_t1 v95) (v115 : BitVec 32) (c128_i32_41 : BitVec 32) (v116 : BitVec 32) (X4 : BufTy.Contents (Elt F) arg4.view.ty) (X5 : BufTy.Contents (Elt F) arg5.view.ty)

theorem dq_0 (k : Fin (k0_t2_loop k0_t1 v95).trips) (acc : FVec F S256x128 .f32 × FVec F S256x128 .f32 × FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32) (f11 : BufTy.Contents (Elt F) arg11.view.ty) (f12 : BufTy.Contents (Elt F) arg12.view.ty) :
    ((trip_k0_t2 (F := F) 𝒱₀ c none i arg2 harg2 arg3 harg3 arg4 harg4 arg5 harg5 arg6 harg6 arg7 harg7 arg8 harg8 arg9 harg9 arg10 harg10 arg11 harg11 arg12 harg12 v4 v10 v16 k0_t1 arg13 v33 v36 v40 v45 v50 v55 v60 v65 v70 v75 v80 v83 v86 v89 v92 v95 k0_hw1 v115 c128_i32_41 v116 X4 X5 k).1 acc f11 f12).1 = addf acc.1 (opRow (headDz (k0_pay11 k0_t1 arg13 v95 v116 0#32 1#32 k) v10 v16 v45 v65 (laneL (kvAt arg4 X4 k0_t1 v95 k0_hw1 k)) (laneL (kvAt arg5 X5 k0_t1 v95 k0_hw1 k)) v83 acc.2.2.2.2.1 acc.2.2.2.2.2.2.2.2.1) (laneL (kvAt arg4 X4 k0_t1 v95 k0_hw1 k))) := by
  unfold trip_k0_t2
  sl_kernel_rfl

theorem dq_1 (k : Fin (k0_t2_loop k0_t1 v95).trips) (acc : FVec F S256x128 .f32 × FVec F S256x128 .f32 × FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32) (f11 : BufTy.Contents (Elt F) arg11.view.ty) (f12 : BufTy.Contents (Elt F) arg12.view.ty) :
    ((trip_k0_t2 (F := F) 𝒱₀ c none i arg2 harg2 arg3 harg3 arg4 harg4 arg5 harg5 arg6 harg6 arg7 harg7 arg8 harg8 arg9 harg9 arg10 harg10 arg11 harg11 arg12 harg12 v4 v10 v16 k0_t1 arg13 v33 v36 v40 v45 v50 v55 v60 v65 v70 v75 v80 v83 v86 v89 v92 v95 k0_hw1 v115 c128_i32_41 v116 X4 X5 k).1 acc f11 f12).2.1 = addf acc.2.1 (opRow (headDz (k0_pay11 k0_t1 arg13 v95 v116 0#32 1#32 k) v10 v16 v50 v70 (laneL (kvAt arg4 X4 k0_t1 v95 k0_hw1 k)) (laneL (kvAt arg5 X5 k0_t1 v95 k0_hw1 k)) v86 acc.2.2.2.2.2.1 acc.2.2.2.2.2.2.2.2.2.1) (laneL (kvAt arg4 X4 k0_t1 v95 k0_hw1 k))) := by
  unfold trip_k0_t2
  sl_kernel_rfl

theorem dq_2 (k : Fin (k0_t2_loop k0_t1 v95).trips) (acc : FVec F S256x128 .f32 × FVec F S256x128 .f32 × FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32) (f11 : BufTy.Contents (Elt F) arg11.view.ty) (f12 : BufTy.Contents (Elt F) arg12.view.ty) :
    ((trip_k0_t2 (F := F) 𝒱₀ c none i arg2 harg2 arg3 harg3 arg4 harg4 arg5 harg5 arg6 harg6 arg7 harg7 arg8 harg8 arg9 harg9 arg10 harg10 arg11 harg11 arg12 harg12 v4 v10 v16 k0_t1 arg13 v33 v36 v40 v45 v50 v55 v60 v65 v70 v75 v80 v83 v86 v89 v92 v95 k0_hw1 v115 c128_i32_41 v116 X4 X5 k).1 acc f11 f12).2.2.1 = addf acc.2.2.1 (opRow (headDz (k0_pay11 k0_t1 arg13 v95 v116 0#32 1#32 k) v10 v16 v55 v75 (laneR (kvAt arg4 X4 k0_t1 v95 k0_hw1 k)) (laneR (kvAt arg5 X5 k0_t1 v95 k0_hw1 k)) v89 acc.2.2.2.2.2.2.1 acc.2.2.2.2.2.2.2.2.2.2.1) (laneR (kvAt arg4 X4 k0_t1 v95 k0_hw1 k))) := by
  unfold trip_k0_t2
  sl_kernel_rfl

theorem dq_3 (k : Fin (k0_t2_loop k0_t1 v95).trips) (acc : FVec F S256x128 .f32 × FVec F S256x128 .f32 × FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32) (f11 : BufTy.Contents (Elt F) arg11.view.ty) (f12 : BufTy.Contents (Elt F) arg12.view.ty) :
    ((trip_k0_t2 (F := F) 𝒱₀ c none i arg2 harg2 arg3 harg3 arg4 harg4 arg5 harg5 arg6 harg6 arg7 harg7 arg8 harg8 arg9 harg9 arg10 harg10 arg11 harg11 arg12 harg12 v4 v10 v16 k0_t1 arg13 v33 v36 v40 v45 v50 v55 v60 v65 v70 v75 v80 v83 v86 v89 v92 v95 k0_hw1 v115 c128_i32_41 v116 X4 X5 k).1 acc f11 f12).2.2.2.1 = addf acc.2.2.2.1 (opRow (headDz (k0_pay11 k0_t1 arg13 v95 v116 0#32 1#32 k) v10 v16 v60 v80 (laneR (kvAt arg4 X4 k0_t1 v95 k0_hw1 k)) (laneR (kvAt arg5 X5 k0_t1 v95 k0_hw1 k)) v92 acc.2.2.2.2.2.2.2.1 acc.2.2.2.2.2.2.2.2.2.2.2) (laneR (kvAt arg4 X4 k0_t1 v95 k0_hw1 k))) := by
  unfold trip_k0_t2
  sl_kernel_rfl

theorem ps_0 (k : Fin (k0_t2_loop k0_t1 v95).trips) (acc : FVec F S256x128 .f32 × FVec F S256x128 .f32 × FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32) (f11 : BufTy.Contents (Elt F) arg11.view.ty) (f12 : BufTy.Contents (Elt F) arg12.view.ty) :
    ((trip_k0_t2 (F := F) 𝒱₀ c none i arg2 harg2 arg3 harg3 arg4 harg4 arg5 harg5 arg6 harg6 arg7 harg7 arg8 harg8 arg9 harg9 arg10 harg10 arg11 harg11 arg12 harg12 v4 v10 v16 k0_t1 arg13 v33 v36 v40 v45 v50 v55 v60 v65 v70 v75 v80 v83 v86 v89 v92 v95 k0_hw1 v115 c128_i32_41 v116 X4 X5 k).1 acc f11 f12).2.2.2.2.1 = opNext acc.2.2.2.2.1 (opMask (k0_pay11 k0_t1 arg13 v95 v116 0#32 1#32 k) (opSp (opZ v45 (laneL (kvAt arg4 X4 k0_t1 v95 k0_hw1 k))))) := by
  unfold trip_k0_t2
  sl_kernel_rfl

theorem ps_1 (k : Fin (k0_t2_loop k0_t1 v95).trips) (acc : FVec F S256x128 .f32 × FVec F S256x128 .f32 × FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32) (f11 : BufTy.Contents (Elt F) arg11.view.ty) (f12 : BufTy.Contents (Elt F) arg12.view.ty) :
    ((trip_k0_t2 (F := F) 𝒱₀ c none i arg2 harg2 arg3 harg3 arg4 harg4 arg5 harg5 arg6 harg6 arg7 harg7 arg8 harg8 arg9 harg9 arg10 harg10 arg11 harg11 arg12 harg12 v4 v10 v16 k0_t1 arg13 v33 v36 v40 v45 v50 v55 v60 v65 v70 v75 v80 v83 v86 v89 v92 v95 k0_hw1 v115 c128_i32_41 v116 X4 X5 k).1 acc f11 f12).2.2.2.2.2.1 = opNext acc.2.2.2.2.2.1 (opMask (k0_pay11 k0_t1 arg13 v95 v116 0#32 1#32 k) (opSp (opZ v50 (laneL (kvAt arg4 X4 k0_t1 v95 k0_hw1 k))))) := by
  unfold trip_k0_t2
  sl_kernel_rfl

theorem ps_2 (k : Fin (k0_t2_loop k0_t1 v95).trips) (acc : FVec F S256x128 .f32 × FVec F S256x128 .f32 × FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32) (f11 : BufTy.Contents (Elt F) arg11.view.ty) (f12 : BufTy.Contents (Elt F) arg12.view.ty) :
    ((trip_k0_t2 (F := F) 𝒱₀ c none i arg2 harg2 arg3 harg3 arg4 harg4 arg5 harg5 arg6 harg6 arg7 harg7 arg8 harg8 arg9 harg9 arg10 harg10 arg11 harg11 arg12 harg12 v4 v10 v16 k0_t1 arg13 v33 v36 v40 v45 v50 v55 v60 v65 v70 v75 v80 v83 v86 v89 v92 v95 k0_hw1 v115 c128_i32_41 v116 X4 X5 k).1 acc f11 f12).2.2.2.2.2.2.1 = opNext acc.2.2.2.2.2.2.1 (opMask (k0_pay11 k0_t1 arg13 v95 v116 0#32 1#32 k) (opSp (opZ v55 (laneR (kvAt arg4 X4 k0_t1 v95 k0_hw1 k))))) := by
  unfold trip_k0_t2
  sl_kernel_rfl

theorem ps_3 (k : Fin (k0_t2_loop k0_t1 v95).trips) (acc : FVec F S256x128 .f32 × FVec F S256x128 .f32 × FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32) (f11 : BufTy.Contents (Elt F) arg11.view.ty) (f12 : BufTy.Contents (Elt F) arg12.view.ty) :
    ((trip_k0_t2 (F := F) 𝒱₀ c none i arg2 harg2 arg3 harg3 arg4 harg4 arg5 harg5 arg6 harg6 arg7 harg7 arg8 harg8 arg9 harg9 arg10 harg10 arg11 harg11 arg12 harg12 v4 v10 v16 k0_t1 arg13 v33 v36 v40 v45 v50 v55 v60 v65 v70 v75 v80 v83 v86 v89 v92 v95 k0_hw1 v115 c128_i32_41 v116 X4 X5 k).1 acc f11 f12).2.2.2.2.2.2.2.1 = opNext acc.2.2.2.2.2.2.2.1 (opMask (k0_pay11 k0_t1 arg13 v95 v116 0#32 1#32 k) (opSp (opZ v60 (laneR (kvAt arg4 X4 k0_t1 v95 k0_hw1 k))))) := by
  unfold trip_k0_t2
  sl_kernel_rfl

theorem es_0 (k : Fin (k0_t2_loop k0_t1 v95).trips) (acc : FVec F S256x128 .f32 × FVec F S256x128 .f32 × FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32) (f11 : BufTy.Contents (Elt F) arg11.view.ty) (f12 : BufTy.Contents (Elt F) arg12.view.ty) :
    ((trip_k0_t2 (F := F) 𝒱₀ c none i arg2 harg2 arg3 harg3 arg4 harg4 arg5 harg5 arg6 harg6 arg7 harg7 arg8 harg8 arg9 harg9 arg10 harg10 arg11 harg11 arg12 harg12 v4 v10 v16 k0_t1 arg13 v33 v36 v40 v45 v50 v55 v60 v65 v70 v75 v80 v83 v86 v89 v92 v95 k0_hw1 v115 c128_i32_41 v116 X4 X5 k).1 acc f11 f12).2.2.2.2.2.2.2.2.1 = opNext acc.2.2.2.2.2.2.2.2.1 (headE (k0_pay11 k0_t1 arg13 v95 v116 0#32 1#32 k) v10 v45 v65 (laneL (kvAt arg4 X4 k0_t1 v95 k0_hw1 k)) (laneL (kvAt arg5 X5 k0_t1 v95 k0_hw1 k)) v83 acc.2.2.2.2.1) := by
  unfold trip_k0_t2
  sl_kernel_rfl

theorem es_1 (k : Fin (k0_t2_loop k0_t1 v95).trips) (acc : FVec F S256x128 .f32 × FVec F S256x128 .f32 × FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32) (f11 : BufTy.Contents (Elt F) arg11.view.ty) (f12 : BufTy.Contents (Elt F) arg12.view.ty) :
    ((trip_k0_t2 (F := F) 𝒱₀ c none i arg2 harg2 arg3 harg3 arg4 harg4 arg5 harg5 arg6 harg6 arg7 harg7 arg8 harg8 arg9 harg9 arg10 harg10 arg11 harg11 arg12 harg12 v4 v10 v16 k0_t1 arg13 v33 v36 v40 v45 v50 v55 v60 v65 v70 v75 v80 v83 v86 v89 v92 v95 k0_hw1 v115 c128_i32_41 v116 X4 X5 k).1 acc f11 f12).2.2.2.2.2.2.2.2.2.1 = opNext acc.2.2.2.2.2.2.2.2.2.1 (headE (k0_pay11 k0_t1 arg13 v95 v116 0#32 1#32 k) v10 v50 v70 (laneL (kvAt arg4 X4 k0_t1 v95 k0_hw1 k)) (laneL (kvAt arg5 X5 k0_t1 v95 k0_hw1 k)) v86 acc.2.2.2.2.2.1) := by
  unfold trip_k0_t2
  sl_kernel_rfl

theorem es_2 (k : Fin (k0_t2_loop k0_t1 v95).trips) (acc : FVec F S256x128 .f32 × FVec F S256x128 .f32 × FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32) (f11 : BufTy.Contents (Elt F) arg11.view.ty) (f12 : BufTy.Contents (Elt F) arg12.view.ty) :
    ((trip_k0_t2 (F := F) 𝒱₀ c none i arg2 harg2 arg3 harg3 arg4 harg4 arg5 harg5 arg6 harg6 arg7 harg7 arg8 harg8 arg9 harg9 arg10 harg10 arg11 harg11 arg12 harg12 v4 v10 v16 k0_t1 arg13 v33 v36 v40 v45 v50 v55 v60 v65 v70 v75 v80 v83 v86 v89 v92 v95 k0_hw1 v115 c128_i32_41 v116 X4 X5 k).1 acc f11 f12).2.2.2.2.2.2.2.2.2.2.1 = opNext acc.2.2.2.2.2.2.2.2.2.2.1 (headE (k0_pay11 k0_t1 arg13 v95 v116 0#32 1#32 k) v10 v55 v75 (laneR (kvAt arg4 X4 k0_t1 v95 k0_hw1 k)) (laneR (kvAt arg5 X5 k0_t1 v95 k0_hw1 k)) v89 acc.2.2.2.2.2.2.1) := by
  unfold trip_k0_t2
  sl_kernel_rfl

theorem es_3 (k : Fin (k0_t2_loop k0_t1 v95).trips) (acc : FVec F S256x128 .f32 × FVec F S256x128 .f32 × FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32) (f11 : BufTy.Contents (Elt F) arg11.view.ty) (f12 : BufTy.Contents (Elt F) arg12.view.ty) :
    ((trip_k0_t2 (F := F) 𝒱₀ c none i arg2 harg2 arg3 harg3 arg4 harg4 arg5 harg5 arg6 harg6 arg7 harg7 arg8 harg8 arg9 harg9 arg10 harg10 arg11 harg11 arg12 harg12 v4 v10 v16 k0_t1 arg13 v33 v36 v40 v45 v50 v55 v60 v65 v70 v75 v80 v83 v86 v89 v92 v95 k0_hw1 v115 c128_i32_41 v116 X4 X5 k).1 acc f11 f12).2.2.2.2.2.2.2.2.2.2.2 = opNext acc.2.2.2.2.2.2.2.2.2.2.2 (headE (k0_pay11 k0_t1 arg13 v95 v116 0#32 1#32 k) v10 v60 v80 (laneR (kvAt arg4 X4 k0_t1 v95 k0_hw1 k)) (laneR (kvAt arg5 X5 k0_t1 v95 k0_hw1 k)) v92 acc.2.2.2.2.2.2.2.1) := by
  unfold trip_k0_t2
  sl_kernel_rfl

theorem piece11 (k : Fin (k0_t2_loop k0_t1 v95).trips) (acc : FVec F S256x128 .f32 × FVec F S256x128 .f32 × FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32) (f11 : BufTy.Contents (Elt F) arg11.view.ty) (f12 : BufTy.Contents (Elt F) arg12.view.ty) :
    (trip_k0_t2 (F := F) 𝒱₀ c none i arg2 harg2 arg3 harg3 arg4 harg4 arg5 harg5 arg6 harg6 arg7 harg7 arg8 harg8 arg9 harg9 arg10 harg10 arg11 harg11 arg12 harg12 v4 v10 v16 k0_t1 arg13 v33 v36 v40 v45 v50 v55 v60 v65 v70 v75 v80 v83 v86 v89 v92 v95 k0_hw1 v115 c128_i32_41 v116 X4 X5 k).2.1 acc f11 f12 = [⟨(Rect.unit (s := S2048x256) (k0_off9 k0_t1 v95 k) S512x128.size (k0_off9_inb k0_t1 v95 k0_hw1 k)), opAcc v4 (opCol (headDz (k0_pay11 k0_t1 arg13 v95 v116 0#32 1#32 k) v10 v16 v55 v75 (laneR (kvAt arg4 X4 k0_t1 v95 k0_hw1 k)) (laneR (kvAt arg5 X5 k0_t1 v95 k0_hw1 k)) v89 acc.2.2.2.2.2.2.1 acc.2.2.2.2.2.2.2.2.2.2.1) (rowR v36)) (opCol (headDz (k0_pay11 k0_t1 arg13 v95 v116 0#32 1#32 k) v10 v16 v60 v80 (laneR (kvAt arg4 X4 k0_t1 v95 k0_hw1 k)) (laneR (kvAt arg5 X5 k0_t1 v95 k0_hw1 k)) v92 acc.2.2.2.2.2.2.2.1 acc.2.2.2.2.2.2.2.2.2.2.2) (rowR v36)) (View.readAt (Elt F) arg11.view (Rect.unit (s := S2048x256) (k0_off9 k0_t1 v95 k) S512x128.size (k0_off9_inb k0_t1 v95 k0_hw1 k)).toLoadRect (arg11.view.writes (Elt F) f11 [(⟨(Rect.unit (s := S2048x256) (k0_off8 k0_t1 v95 k) S512x128.size (k0_off8_inb k0_t1 v95 k0_hw1 k)), opAcc v4 (opCol (headDz (k0_pay11 k0_t1 arg13 v95 v116 0#32 1#32 k) v10 v16 v45 v65 (laneL (kvAt arg4 X4 k0_t1 v95 k0_hw1 k)) (laneL (kvAt arg5 X5 k0_t1 v95 k0_hw1 k)) v83 acc.2.2.2.2.1 acc.2.2.2.2.2.2.2.2.1) (rowL v36)) (opCol (headDz (k0_pay11 k0_t1 arg13 v95 v116 0#32 1#32 k) v10 v16 v50 v70 (laneL (kvAt arg4 X4 k0_t1 v95 k0_hw1 k)) (laneL (kvAt arg5 X5 k0_t1 v95 k0_hw1 k)) v86 acc.2.2.2.2.2.1 acc.2.2.2.2.2.2.2.2.2.1) (rowL v36)) (View.readAt (Elt F) arg11.view (Rect.unit (s := S2048x256) (k0_off8 k0_t1 v95 k) S512x128.size (k0_off8_inb k0_t1 v95 k0_hw1 k)).toLoadRect f11)⟩ : View.Piece (Elt F) S2048x256 .f32)]))⟩, (⟨(Rect.unit (s := S2048x256) (k0_off8 k0_t1 v95 k) S512x128.size (k0_off8_inb k0_t1 v95 k0_hw1 k)), opAcc v4 (opCol (headDz (k0_pay11 k0_t1 arg13 v95 v116 0#32 1#32 k) v10 v16 v45 v65 (laneL (kvAt arg4 X4 k0_t1 v95 k0_hw1 k)) (laneL (kvAt arg5 X5 k0_t1 v95 k0_hw1 k)) v83 acc.2.2.2.2.1 acc.2.2.2.2.2.2.2.2.1) (rowL v36)) (opCol (headDz (k0_pay11 k0_t1 arg13 v95 v116 0#32 1#32 k) v10 v16 v50 v70 (laneL (kvAt arg4 X4 k0_t1 v95 k0_hw1 k)) (laneL (kvAt arg5 X5 k0_t1 v95 k0_hw1 k)) v86 acc.2.2.2.2.2.1 acc.2.2.2.2.2.2.2.2.2.1) (rowL v36)) (View.readAt (Elt F) arg11.view (Rect.unit (s := S2048x256) (k0_off8 k0_t1 v95 k) S512x128.size (k0_off8_inb k0_t1 v95 k0_hw1 k)).toLoadRect f11)⟩ : View.Piece (Elt F) S2048x256 .f32)] := by
  unfold trip_k0_t2
  sl_kernel_rfl

theorem piece12 (k : Fin (k0_t2_loop k0_t1 v95).trips) (acc : FVec F S256x128 .f32 × FVec F S256x128 .f32 × FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32) (f11 : BufTy.Contents (Elt F) arg11.view.ty) (f12 : BufTy.Contents (Elt F) arg12.view.ty) :
    (trip_k0_t2 (F := F) 𝒱₀ c none i arg2 harg2 arg3 harg3 arg4 harg4 arg5 harg5 arg6 harg6 arg7 harg7 arg8 harg8 arg9 harg9 arg10 harg10 arg11 harg11 arg12 harg12 v4 v10 v16 k0_t1 arg13 v33 v36 v40 v45 v50 v55 v60 v65 v70 v75 v80 v83 v86 v89 v92 v95 k0_hw1 v115 c128_i32_41 v116 X4 X5 k).2.2.1 acc f11 f12 = [⟨(Rect.unit (s := S2048x256) (k0_off9 k0_t1 v95 k) S512x128.size (k0_off9_inb k0_t1 v95 k0_hw1 k)), opAcc v4 (opCol (truncf .bf16 (headW (k0_pay11 k0_t1 arg13 v95 v116 0#32 1#32 k) v10 v55 (laneR (kvAt arg4 X4 k0_t1 v95 k0_hw1 k)) v89 acc.2.2.2.2.2.2.1) bitsLt_bf16_f32) (rowR v40)) (opCol (truncf .bf16 (headW (k0_pay11 k0_t1 arg13 v95 v116 0#32 1#32 k) v10 v60 (laneR (kvAt arg4 X4 k0_t1 v95 k0_hw1 k)) v92 acc.2.2.2.2.2.2.2.1) bitsLt_bf16_f32) (rowR v40)) (View.readAt (Elt F) arg12.view (Rect.unit (s := S2048x256) (k0_off9 k0_t1 v95 k) S512x128.size (k0_off9_inb k0_t1 v95 k0_hw1 k)).toLoadRect (arg12.view.writes (Elt F) f12 [(⟨(Rect.unit (s := S2048x256) (k0_off8 k0_t1 v95 k) S512x128.size (k0_off8_inb k0_t1 v95 k0_hw1 k)), opAcc v4 (opCol (truncf .bf16 (headW (k0_pay11 k0_t1 arg13 v95 v116 0#32 1#32 k) v10 v45 (laneL (kvAt arg4 X4 k0_t1 v95 k0_hw1 k)) v83 acc.2.2.2.2.1) bitsLt_bf16_f32) (rowL v40)) (opCol (truncf .bf16 (headW (k0_pay11 k0_t1 arg13 v95 v116 0#32 1#32 k) v10 v50 (laneL (kvAt arg4 X4 k0_t1 v95 k0_hw1 k)) v86 acc.2.2.2.2.2.1) bitsLt_bf16_f32) (rowL v40)) (View.readAt (Elt F) arg12.view (Rect.unit (s := S2048x256) (k0_off8 k0_t1 v95 k) S512x128.size (k0_off8_inb k0_t1 v95 k0_hw1 k)).toLoadRect f12)⟩ : View.Piece (Elt F) S2048x256 .f32)]))⟩, (⟨(Rect.unit (s := S2048x256) (k0_off8 k0_t1 v95 k) S512x128.size (k0_off8_inb k0_t1 v95 k0_hw1 k)), opAcc v4 (opCol (truncf .bf16 (headW (k0_pay11 k0_t1 arg13 v95 v116 0#32 1#32 k) v10 v45 (laneL (kvAt arg4 X4 k0_t1 v95 k0_hw1 k)) v83 acc.2.2.2.2.1) bitsLt_bf16_f32) (rowL v40)) (opCol (truncf .bf16 (headW (k0_pay11 k0_t1 arg13 v95 v116 0#32 1#32 k) v10 v50 (laneL (kvAt arg4 X4 k0_t1 v95 k0_hw1 k)) v86 acc.2.2.2.2.2.1) bitsLt_bf16_f32) (rowL v40)) (View.readAt (Elt F) arg12.view (Rect.unit (s := S2048x256) (k0_off8 k0_t1 v95 k) S512x128.size (k0_off8_inb k0_t1 v95 k0_hw1 k)).toLoadRect f12)⟩ : View.Piece (Elt F) S2048x256 .f32)] := by
  unfold trip_k0_t2
  sl_kernel_rfl

end Cert.Kernel4Ideal.Sb

end
-- ==== Proof.SbModel.lean ====
/-
  The attention's backward on one sequence and two pairs of heads, over the reals: four heads, each in half of its pair's
  128 lanes; the kernel's windows of 512 columns as segments of sums over the columns.
-/
module

public import proofs.«01_k».proof.Proof.SbOps

@[expose] public section

noncomputable section

open Idealize.ShloMosaic Idealize.ShloMosaic.TcCoe Idealize.SL.Sem
open Cert.Lift
open scoped BigOperators

namespace Cert.Kernel4Ideal.Sb

open Cert.Kernel4Ideal Cert.Kernel4Ideal.Gen

/-- Queries, keys, values and cotangents by position and lane, and a total by head and position. -/
structure Pt where
  Q : ℕ → ℕ → ℝ
  K : ℕ → ℕ → ℝ
  V : ℕ → ℕ → ℝ
  D : ℕ → ℕ → ℝ
  L : ℕ → ℕ → ℝ

/-- Head `h` has the lower half of its pair's lanes when `h` is even, the upper half when odd. -/
def has (h l : ℕ) : Prop := (h % 2 = 0 ↔ l < 64)

instance : DecidableRel has := fun h l => by unfold has; infer_instance

namespace Pt
variable (P : Pt)

def q (h t l : ℕ) : ℝ := if has h l then P.Q t (128 * (h / 2) + l) * (1 / 8) else 0
def d (h t l : ℕ) : ℝ := if has h l then P.D t (128 * (h / 2) + l) else 0
def z (h t s : ℕ) : ℝ := ∑ l : Fin 128, P.q h t l.val * P.K s (128 * (h / 2) + l.val)
def dv (h t s : ℕ) : ℝ := ∑ l : Fin 128, P.d h t l.val * P.V s (128 * (h / 2) + l.val)
def spm (h t s : ℕ) : ℝ := if s < t then sp (P.z h t s) else 0
def sg (h t s : ℕ) : ℝ := Real.exp (P.z h t s - sp (P.z h t s))
def w (h t s : ℕ) : ℝ :=
  if s < t then Real.exp (P.z h t s - sp (P.z h t s) - (P.L h t - ∑ u ∈ Finset.range (s + 1), P.spm h t u)) else 0
def e (h t s : ℕ) : ℝ := P.dv h t s * P.w h t s
def dz (h t s : ℕ) : ℝ :=
  (if s < t then P.e h t s * (1 - P.sg h t s) - (∑ u ∈ Finset.range s, P.e h t u) * P.sg h t s else 0) * (1 / 8)

end Pt

/-- A segment of a sum. -/
theorem sum_seg (f : ℕ → ℝ) (a m : ℕ) : (∑ u ∈ Finset.range a, f u) + ∑ b : Fin m, f (a + b.val) = ∑ u ∈ Finset.range (a + m), f u := by
  rw [Finset.sum_range_add, Fin.sum_univ_eq_sum_range (fun x => f (a + x))]

theorem runR_le (f : ℕ → ℝ) (a : ℕ) (s : Fin 512) :
    runR (fun u s => u ≤ s) (∑ u ∈ Finset.range a, f u) (fun b => f (a + b.val)) s = ∑ u ∈ Finset.range (a + s.val + 1), f u := by
  unfold runR
  rw [Fin.sum_univ_eq_sum_range (fun x => if x ≤ s.val then f (a + x) else 0), add_assoc, Finset.sum_range_add, ← Finset.sum_filter]
  refine congrArg _ (Finset.sum_congr (Finset.ext fun u => ?_) fun _ _ => rfl)
  simp only [Finset.mem_filter, Finset.mem_range]; omega

theorem runR_lt (f : ℕ → ℝ) (a : ℕ) (s : Fin 512) :
    runR (fun u s => u < s) (∑ u ∈ Finset.range a, f u) (fun b => f (a + b.val)) s = ∑ u ∈ Finset.range (a + s.val), f u := by
  unfold runR
  rw [Fin.sum_univ_eq_sum_range (fun x => if x < s.val then f (a + x) else 0), Finset.sum_range_add, ← Finset.sum_filter]
  refine congrArg _ (Finset.sum_congr (Finset.ext fun u => ?_) fun _ _ => rfl)
  simp only [Finset.mem_filter, Finset.mem_range]; omega

end Cert.Kernel4Ideal.Sb

end
-- ==== Proof.SbStep.lean ====
/-
  One head in one window: 256 rows from row `256 * k` against 512 columns from column `512 * n`, with the sums over the
  earlier columns carried in; and the scalars of the kernel's loops at a table of zeros.
-/
module

public import proofs.«01_k».proof.Proof.SbTie
public import proofs.«01_k».proof.Proof.SbModel

@[expose] public section

set_option maxRecDepth 16384

noncomputable section

open Idealize.ShloMosaic Idealize.ShloMosaic.TcCoe Idealize.SL.Sem
open Cert.Lift
open scoped BigOperators

namespace Cert.Kernel4Ideal.Sb

open Cert.Kernel4Ideal Cert.Kernel4Ideal.Gen

/-- The window's mask: the columns before the row. -/
def Va (k n : ℕ) (va : IVec S256x512 1) : Prop := ∀ (a : Fin 256) (b : Fin 512), va (ix2 a b) = BitVec.ofBool (decide (512 * n + b.val < 256 * k + a.val))

/-- A triangle of ones. -/
def TriV (R : ℕ → ℕ → Prop) [DecidableRel R] (v : FVec Ideal S256x256 .bf16) : Prop :=
  ∀ t s : Fin 256, v (ix2 t s) = ((if R t.val s.val then 1 else 0 : ℝ) : EReal)

/-- What head `h` reads in a window. -/
structure HeadIn (P : Pt) (h k n : ℕ) (q d : FVec Ideal S256x128 .bf16) (kk vv : FVec Ideal S512x128 .bf16) (L : FVec Ideal S256x1 .f32) : Prop where
  rq : ∀ a l, q (ix2 a l) = ((P.q h (256 * k + a.val) l.val : ℝ) : EReal)
  rd : ∀ a l, d (ix2 a l) = ((P.d h (256 * k + a.val) l.val : ℝ) : EReal)
  rk : ∀ b l, kk (ix2 b l) = ((P.K (512 * n + b.val) (128 * (h / 2) + l.val) : ℝ) : EReal)
  rv : ∀ b l, vv (ix2 b l) = ((P.V (512 * n + b.val) (128 * (h / 2) + l.val) : ℝ) : EReal)
  rL : ∀ a, L (ix2 a 0) = ((P.L h (256 * k + a.val) : ℝ) : EReal)

section
variable {P : Pt} {h k n : ℕ} {va : IVec S256x512 1} {inc exc : FVec Ideal S256x256 .bf16} {q d : FVec Ideal S256x128 .bf16} {kk vv : FVec Ideal S512x128 .bf16}
  {L ps es : FVec Ideal S256x1 .f32} (hv : Va k n va) (hi : TriV (fun u s => u ≤ s) inc) (he : TriV (fun u s => u < s) exc) (H : HeadIn P h k n q d kk vv L)
  (hp : ∀ a, ps (ix2 a 0) = ((∑ u ∈ Finset.range (512 * n), P.spm h (256 * k + a.val) u : ℝ) : EReal))
  (hq : ∀ a, es (ix2 a 0) = ((∑ u ∈ Finset.range (512 * n), P.e h (256 * k + a.val) u : ℝ) : EReal))
include H

theorem z_at (a : Fin 256) (b : Fin 512) : opZ q kk (ix2 a b) = ((P.z h (256 * k + a.val) (512 * n + b.val) : ℝ) : EReal) :=
  opZ_at (q' := fun a l => P.q h (256 * k + a.val) l.val) (k' := fun b l => P.K (512 * n + b.val) (128 * (h / 2) + l.val)) H.rq H.rk a b

theorem dv_at (a : Fin 256) (b : Fin 512) : opZ d vv (ix2 a b) = ((P.dv h (256 * k + a.val) (512 * n + b.val) : ℝ) : EReal) :=
  opZ_at (q' := fun a l => P.d h (256 * k + a.val) l.val) (k' := fun b l => P.V (512 * n + b.val) (128 * (h / 2) + l.val)) H.rd H.rv a b

include hv

theorem spm_at (a : Fin 256) (b : Fin 512) : opMask va (opSp (opZ q kk)) (ix2 a b) = ((P.spm h (256 * k + a.val) (512 * n + b.val) : ℝ) : EReal) := by
  rw [opMask_at hv (opSp_at (z_at H))]
  simp only [Pt.spm, decide_eq_true_eq]

theorem ps_next (hp : ∀ a, ps (ix2 a 0) = ((∑ u ∈ Finset.range (512 * n), P.spm h (256 * k + a.val) u : ℝ) : EReal)) (a : Fin 256) :
    opNext ps (opMask va (opSp (opZ q kk))) (ix2 a 0) = ((∑ u ∈ Finset.range (512 * (n + 1)), P.spm h (256 * k + a.val) u : ℝ) : EReal) := by
  rw [opNext_at hp (spm_at hv H), sum_seg, Nat.mul_succ]

include hi hp

theorem headW_at (a : Fin 256) (b : Fin 512) : headW va inc q kk L ps (ix2 a b) = ((P.w h (256 * k + a.val) (512 * n + b.val) : ℝ) : EReal) := by
  unfold headW
  rw [opW_at hv hi (z_at H) H.rL hp]
  unfold wR Pt.w
  have e := runR_le (P.spm h (256 * k + a.val)) (512 * n) b
  have e' : (fun s : Fin 512 => if decide (512 * n + s.val < 256 * k + a.val) = true then sp (P.z h (256 * k + a.val) (512 * n + s.val)) else 0)
      = fun s => P.spm h (256 * k + a.val) (512 * n + s.val) := by
    funext s; simp only [Pt.spm, decide_eq_true_eq]
  rw [e', e]
  simp only [decide_eq_true_eq]

theorem headE_at (a : Fin 256) (b : Fin 512) : headE va inc q d kk vv L ps (ix2 a b) = ((P.e h (256 * k + a.val) (512 * n + b.val) : ℝ) : EReal) := by
  unfold headE
  pointwise
  rw [dv_at H, headW_at hv hi H hp]
  exact (EReal.coe_mul _ _).symm

include hq

theorem es_next (a : Fin 256) :
    opNext es (headE va inc q d kk vv L ps) (ix2 a 0) = ((∑ u ∈ Finset.range (512 * (n + 1)), P.e h (256 * k + a.val) u : ℝ) : EReal) := by
  rw [opNext_at hq (headE_at hv hi H hp), sum_seg, Nat.mul_succ]

include he

theorem headDz_at (a : Fin 256) (b : Fin 512) : headDz va inc exc q d kk vv L ps es (ix2 a b) = ((P.dz h (256 * k + a.val) (512 * n + b.val) : ℝ) : EReal) := by
  unfold headDz
  rw [opDz_at hv he (z_at H) (headE_at hv hi H hp) hq]
  unfold dzR Pt.dz Pt.sg
  rw [runR_lt (P.e h (256 * k + a.val)) (512 * n) b]
  simp only [decide_eq_true_eq]

theorem dq_next {dq : FVec Ideal S256x128 .f32}
    (hd : ∀ a l, dq (ix2 a l) = ((∑ s ∈ Finset.range (512 * n), P.dz h (256 * k + a.val) s * P.K s (128 * (h / 2) + l.val) : ℝ) : EReal)) (a : Fin 256) (l : Fin 128) :
    addf dq (opRow (headDz va inc exc q d kk vv L ps es) kk) (ix2 a l)
      = ((∑ s ∈ Finset.range (512 * (n + 1)), P.dz h (256 * k + a.val) s * P.K s (128 * (h / 2) + l.val) : ℝ) : EReal) := by
  pointwise
  rw [hd, opRow_at (headDz_at hv hi he H hp hq) H.rk]
  refine (EReal.coe_add _ _).symm.trans (congrArg _ ?_)
  rw [sum_seg (fun s => P.dz h (256 * k + a.val) s * P.K s (128 * (h / 2) + l.val)), Nat.mul_succ]

end

/-! ### The loops' scalars -/

theorem trips1 : k0_t1_loop.trips = 8 := by decide +kernel
theorem trips2 : ∀ k : Fin k0_t1_loop.trips, (k0_t2_loop k 0#32).trips = k.val / 2 + 1 := by decide +kernel
theorem off1 : ∀ k, k0_off1 k 0 = 256 * k.val ∧ k0_off1 k 1 = 0 := by decide +kernel
theorem off2 : ∀ k, k0_off2 k = ![0, 0, 256 * k.val, 0] := by decide +kernel
theorem off3 : ∀ k, k0_off3 k = ![0, 1, 256 * k.val, 0] := by decide +kernel
theorem off4 : ∀ k, k0_off4 k = ![0, 2, 256 * k.val, 0] := by decide +kernel
theorem off5 : ∀ k, k0_off5 k = ![0, 3, 256 * k.val, 0] := by decide +kernel
theorem off7 : ∀ (k : Fin k0_t1_loop.trips) (n : Fin (k0_t2_loop k 0#32).trips), k0_off7 k 0#32 n = ![512 * n.val, 0] := by decide +kernel
theorem off8 : ∀ (k : Fin k0_t1_loop.trips) (n : Fin (k0_t2_loop k 0#32).trips), k0_off8 k 0#32 n = ![512 * n.val, 0] := by decide +kernel
theorem off9 : ∀ (k : Fin k0_t1_loop.trips) (n : Fin (k0_t2_loop k 0#32).trips), k0_off9 k 0#32 n = ![512 * n.val, 128] := by decide +kernel

theorem toInt_small (a : ℕ) (ha : a < 4096) : (BitVec.ofNat 32 a).toInt = (a : ℤ) := by
  simp only [BitVec.toInt, BitVec.toNat_ofNat]; omega

theorem slt_small (a b : ℕ) (ha : a < 4096) (hb : b < 4096) (c : BitVec 32) (r : ℤ) (hc : c.toInt = r) :
    (BitVec.ofNat 32 b - BitVec.ofNat 32 a).slt c = decide ((b : ℤ) - a < r) := by
  rw [BitVec.slt_eq_decide, hc, BitVec.toInt_sub, toInt_small a ha, toInt_small b hb]
  congr 2
  simp only [Int.bmod]; omega

theorem cmp_slt (a b : ℕ) (ha : a < 4096) (hb : b < 4096) : IntOp.cmpi .slt (BitVec.ofNat 32 a) (BitVec.ofNat 32 b) = BitVec.ofBool (decide (a < b)) := by
  show BitVec.ofBool (BitVec.slt _ _) = _
  rw [BitVec.slt_eq_decide, toInt_small a ha, toInt_small b hb]
  exact congrArg _ (decide_eq_decide.2 Nat.cast_lt)

theorem cmp_sle (a b : ℕ) (ha : a < 4096) (hb : b < 4096) : IntOp.cmpi .sle (BitVec.ofNat 32 a) (BitVec.ofNat 32 b) = BitVec.ofBool (decide (a ≤ b)) := by
  show BitVec.ofBool (BitVec.sle _ _) = _
  rw [BitVec.sle_eq_decide, toInt_small a ha, toInt_small b hb]
  exact congrArg _ (decide_eq_decide.2 Nat.cast_le)

/-- The first column of a window. -/
abbrev lo (n : ℕ) : BitVec 32 := Scalar.minsi (Scalar.addi 0#32 (Scalar.muli (Scf.iv 0#32 1#32 n) 512#32)) 1536#32

theorem lo_row : ∀ (k : Fin k0_t1_loop.trips) (n : Fin (k0_t2_loop k 0#32).trips),
    (Scalar.subi (Scalar.muli (Scf.iv 0#32 1#32 k.val) 256#32) (lo n.val)).toInt = 256 * (k.val : ℤ) - 512 * n.val := by decide +kernel
theorem lo_start : ∀ (k : Fin k0_t1_loop.trips) (n : Fin (k0_t2_loop k 0#32).trips),
    Scalar.subi (Scalar.addi 0#32 (Scalar.muli (Scf.iv 0#32 1#32 n.val) 512#32)) (lo n.val) = 0#32 := by decide +kernel
theorem lo_end : ∀ (k : Fin k0_t1_loop.trips) (n : Fin (k0_t2_loop k 0#32).trips),
    Scalar.subi 2048#32 (lo n.val) = BitVec.ofNat 32 (2048 - 512 * n.val) := by decide +kernel
theorem lo_lt : ∀ (k : Fin k0_t1_loop.trips) (n : Fin (k0_t2_loop k 0#32).trips), n.val < 4 := by decide +kernel
theorem sge_zero : ∀ b : Fin 512, IntOp.cmpi .sge (BitVec.ofNat 32 b.val) 0#32 = 1#1 := by decide +kernel
theorem and_one : ∀ x : BitVec 1, IntOp.andi x (IntOp.andi 1#1 1#1) = x := by decide +kernel

theorem mask_at (k : Fin k0_t1_loop.trips) (n : Fin (k0_t2_loop k 0#32).trips) :
    Va k.val n.val (k0_pay11 (F := Ideal) k (Scf.iv 0#32 1#32 k) 0#32 0#32 0#32 1#32 n) := by
  intro a b
  pointwise [k0_pay11]
  have h1 := lo_row k n
  have h2 := lo_start k n
  have h3 := lo_end k n
  have h4 := lo_lt k n
  unfold lo at h1 h2 h3
  rw [h2, h3, sge_zero, cmp_slt _ _ (by omega) (by omega), decide_eq_true (by omega : b.val < 2048 - 512 * n.val)]
  refine (and_one _).trans ?_
  show BitVec.ofBool (BitVec.slt (_ - _) _) = _
  rw [slt_small a.val b.val (by omega) (by omega) _ _ h1]
  refine congrArg _ (decide_eq_decide.2 ?_)
  omega

theorem sitofp_bit (p : Prop) [Decidable p] :
    (FloatOps.sitofp (F := Ideal) .f32 (BitVec.setWidth 32 (BitVec.ofBool (decide p))) : EReal) = ((if p then 1 else 0 : ℝ) : EReal) := by
  by_cases h : p
  · rw [decide_eq_true h, if_pos h]
    show (((BitVec.setWidth 32 (BitVec.ofBool true)).toInt : ℝ) : EReal) = _
    rw [show (BitVec.setWidth 32 (BitVec.ofBool true)).toInt = 1 by decide]; simp
  · rw [decide_eq_false h, if_neg h]
    show (((BitVec.setWidth 32 (BitVec.ofBool false)).toInt : ℝ) : EReal) = _
    rw [show (BitVec.setWidth 32 (BitVec.ofBool false)).toInt = 0 by decide]; simp

theorem inc_at : TriV (fun u s => u ≤ s) (k0_pay2 (F := Ideal)) := by
  intro t s
  pointwise [k0_pay2]
  rw [cmp_sle _ _ (by omega) (by omega)]
  exact sitofp_bit _

theorem exc_at : TriV (fun u s => u < s) (k0_pay3 (F := Ideal)) := by
  intro t s
  pointwise [k0_pay3]
  rw [cmp_slt _ _ (by omega) (by omega)]
  exact sitofp_bit _

theorem half_at (l : Fin 128) : k0_pay1 (ix2 0 l) = BitVec.ofBool (decide (l.val < 64)) := by
  pointwise [k0_pay1]
  exact cmp_slt l.val 64 (by omega) (by omega)

end Cert.Kernel4Ideal.Sb

end
-- ==== Proof.SbInner.lean ====
/-
  The kernel's inner loop on one block of 256 rows: what it carries and what the two accumulators hold after `n` windows.
-/
module

public import proofs.«01_k».proof.Proof.SbStep
public import Idealize.ShloMosaic.Lib.WritesUnit

@[expose] public section

set_option maxRecDepth 16384
set_option maxHeartbeats 1000000

noncomputable section

open Idealize.ShloMosaic Idealize.ShloMosaic.TcCoe Idealize.SL Idealize.SL.Sem
open Cert.Lift
open scoped BigOperators

namespace Cert.Kernel4Ideal.Sb

open Cert.Kernel4Ideal Cert.Kernel4Ideal.Gen

/-- What the inner loop carries. -/
abbrev Acc : Type := FVec Ideal S256x128 .f32 × FVec Ideal S256x128 .f32 × FVec Ideal S256x128 .f32 × FVec Ideal S256x128 .f32 × FVec Ideal S256x1 .f32 × FVec Ideal S256x1 .f32 × FVec Ideal S256x1 .f32 × FVec Ideal S256x1 .f32 × FVec Ideal S256x1 .f32 × FVec Ideal S256x1 .f32 × FVec Ideal S256x1 .f32 × FVec Ideal S256x1 .f32

/-- The binders of a trip of the inner loop, at a table of zeros. -/
structure Args where
  c : Dev nD
  i : grid0.Coords
  arg2 : Memref sig .tc .smem S8x8 .i32
  harg2 : arg2.IsWhole
  arg3 : Memref sig .tc .vmem S2048x256 .bf16
  harg3 : arg3.IsWhole
  arg4 : Memref sig .tc .vmem S2048x256 .bf16
  harg4 : arg4.IsWhole
  arg5 : Memref sig .tc .vmem S2048x256 .bf16
  harg5 : arg5.IsWhole
  arg6 : Memref sig .tc .vmem S2048x256 .bf16
  harg6 : arg6.IsWhole
  arg7 : Memref sig .tc .vmem S1x4x2048x1 .f32
  harg7 : arg7.IsWhole
  arg8 : Memref sig .tc .vmem S2048x256 .bf16
  harg8 : arg8.IsWhole
  arg9 : Memref sig .tc .vmem S2048x256 .bf16
  harg9 : arg9.IsWhole
  arg10 : Memref sig .tc .vmem S2048x256 .bf16
  harg10 : arg10.IsWhole
  arg11 : Memref sig .tc .vmem S2048x256 .f32
  harg11 : arg11.IsWhole
  arg12 : Memref sig .tc .vmem S2048x256 .f32
  harg12 : arg12.IsWhole
  k0_t1 : Fin k0_t1_loop.trips
  v36 : FVec Ideal S256x256 .bf16
  v40 : Vec Ideal S256x256 .bf16
  v45 : FVec Ideal S256x128 .bf16
  v50 : FVec Ideal S256x128 .bf16
  v55 : FVec Ideal S256x128 .bf16
  v60 : FVec Ideal S256x128 .bf16
  v65 : FVec Ideal S256x128 .bf16
  v70 : FVec Ideal S256x128 .bf16
  v75 : FVec Ideal S256x128 .bf16
  v80 : FVec Ideal S256x128 .bf16
  v83 : FVec Ideal S256x1 .f32
  v86 : FVec Ideal S256x1 .f32
  v89 : FVec Ideal S256x1 .f32
  v92 : FVec Ideal S256x1 .f32
  X4 : BufTy.Contents (Elt Ideal) arg4.view.ty
  X5 : BufTy.Contents (Elt Ideal) arg5.view.ty

namespace Args
variable (A : Args) (f11 : BufTy.Contents (Elt Ideal) A.arg11.view.ty) (f12 : BufTy.Contents (Elt Ideal) A.arg12.view.ty)

/-- The number of windows. -/
abbrev N : ℕ := (k0_t2_loop A.k0_t1 0#32).trips

/-- What is carried, and the pieces written, before window `n`. -/
def st (init : Acc) (n : ℕ) : Acc × List (View.Piece (Elt Ideal) S2048x256 .f32) × List (View.Piece (Elt Ideal) S2048x256 .f32) :=
  st_k0_t2 (F := Ideal) 𝒱₀ A.c none A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 k0_pay1 (k0_pay2 (F := Ideal)) (k0_pay3 (F := Ideal)) A.k0_t1 (Scf.iv 0#32 1#32 A.k0_t1.val) (Scalar.muli (Scf.iv 0#32 1#32 A.k0_t1.val) 256#32) A.v36 A.v40 A.v45 A.v50 A.v55 A.v60 A.v65 A.v70 A.v75 A.v80 A.v83 A.v86 A.v89 A.v92 0#32 (chk_zero A.k0_t1) 0#32 128#32 0#32 A.X4 A.X5 f11 f12 init n

/-- A window's columns of an operand. -/
def kv (m : Memref sig .tc .vmem S2048x256 .bf16) (X : BufTy.Contents (Elt Ideal) m.view.ty) (n : Fin A.N) : Vec Ideal S512x256 .bf16 :=
  kvAt m X A.k0_t1 0#32 (chk_zero A.k0_t1) n

/-- A window's mask. -/
def va (n : Fin A.N) : IVec S256x512 1 := k0_pay11 (F := Ideal) A.k0_t1 (Scf.iv 0#32 1#32 A.k0_t1.val) 0#32 0#32 0#32 1#32 n

abbrev R8 (n : Fin A.N) := Rect.unit (s := S2048x256) (k0_off8 A.k0_t1 0#32 n) S512x128.size (k0_off8_inb A.k0_t1 0#32 (chk_zero A.k0_t1) n)
abbrev R9 (n : Fin A.N) := Rect.unit (s := S2048x256) (k0_off9 A.k0_t1 0#32 n) S512x128.size (k0_off9_inb A.k0_t1 0#32 (chk_zero A.k0_t1) n)

/-- The pieces a window writes into an accumulator: two pairs of heads. -/
def wr (m : Memref sig .tc .vmem S2048x256 .f32) (f : BufTy.Contents (Elt Ideal) m.view.ty) (n : Fin A.N) (d0 d1 d2 d3 : FVec Ideal S512x128 .f32) :
    List (View.Piece (Elt Ideal) S2048x256 .f32) :=
  [⟨A.R9 n, opAcc k0_pay1 d2 d3 (View.readAt (Elt Ideal) m.view (A.R9 n).toLoadRect (m.view.writes (Elt Ideal) f
      [⟨A.R8 n, opAcc k0_pay1 d0 d1 (View.readAt (Elt Ideal) m.view (A.R8 n).toLoadRect f)⟩]))⟩,
   ⟨A.R8 n, opAcc k0_pay1 d0 d1 (View.readAt (Elt Ideal) m.view (A.R8 n).toLoadRect f)⟩]

/-- What a window carries on. -/
def next (n : Fin A.N) (a : Acc) : Acc :=
  (addf a.1 (opRow (headDz (A.va n) (k0_pay2 (F := Ideal)) (k0_pay3 (F := Ideal)) A.v45 A.v65 (laneL (A.kv A.arg4 A.X4 n)) (laneL (A.kv A.arg5 A.X5 n)) A.v83 a.2.2.2.2.1 a.2.2.2.2.2.2.2.2.1) (laneL (A.kv A.arg4 A.X4 n))), addf a.2.1 (opRow (headDz (A.va n) (k0_pay2 (F := Ideal)) (k0_pay3 (F := Ideal)) A.v50 A.v70 (laneL (A.kv A.arg4 A.X4 n)) (laneL (A.kv A.arg5 A.X5 n)) A.v86 a.2.2.2.2.2.1 a.2.2.2.2.2.2.2.2.2.1) (laneL (A.kv A.arg4 A.X4 n))), addf a.2.2.1 (opRow (headDz (A.va n) (k0_pay2 (F := Ideal)) (k0_pay3 (F := Ideal)) A.v55 A.v75 (laneR (A.kv A.arg4 A.X4 n)) (laneR (A.kv A.arg5 A.X5 n)) A.v89 a.2.2.2.2.2.2.1 a.2.2.2.2.2.2.2.2.2.2.1) (laneR (A.kv A.arg4 A.X4 n))), addf a.2.2.2.1 (opRow (headDz (A.va n) (k0_pay2 (F := Ideal)) (k0_pay3 (F := Ideal)) A.v60 A.v80 (laneR (A.kv A.arg4 A.X4 n)) (laneR (A.kv A.arg5 A.X5 n)) A.v92 a.2.2.2.2.2.2.2.1 a.2.2.2.2.2.2.2.2.2.2.2) (laneR (A.kv A.arg4 A.X4 n))), opNext a.2.2.2.2.1 (opMask (A.va n) (opSp (opZ A.v45 (laneL (A.kv A.arg4 A.X4 n))))), opNext a.2.2.2.2.2.1 (opMask (A.va n) (opSp (opZ A.v50 (laneL (A.kv A.arg4 A.X4 n))))), opNext a.2.2.2.2.2.2.1 (opMask (A.va n) (opSp (opZ A.v55 (laneR (A.kv A.arg4 A.X4 n))))), opNext a.2.2.2.2.2.2.2.1 (opMask (A.va n) (opSp (opZ A.v60 (laneR (A.kv A.arg4 A.X4 n))))), opNext a.2.2.2.2.2.2.2.2.1 (headE (A.va n) (k0_pay2 (F := Ideal)) A.v45 A.v65 (laneL (A.kv A.arg4 A.X4 n)) (laneL (A.kv A.arg5 A.X5 n)) A.v83 a.2.2.2.2.1), opNext a.2.2.2.2.2.2.2.2.2.1 (headE (A.va n) (k0_pay2 (F := Ideal)) A.v50 A.v70 (laneL (A.kv A.arg4 A.X4 n)) (laneL (A.kv A.arg5 A.X5 n)) A.v86 a.2.2.2.2.2.1), opNext a.2.2.2.2.2.2.2.2.2.2.1 (headE (A.va n) (k0_pay2 (F := Ideal)) A.v55 A.v75 (laneR (A.kv A.arg4 A.X4 n)) (laneR (A.kv A.arg5 A.X5 n)) A.v89 a.2.2.2.2.2.2.1), opNext a.2.2.2.2.2.2.2.2.2.2.2 (headE (A.va n) (k0_pay2 (F := Ideal)) A.v60 A.v80 (laneR (A.kv A.arg4 A.X4 n)) (laneR (A.kv A.arg5 A.X5 n)) A.v92 a.2.2.2.2.2.2.2.1))

/-- A window's part of the key gradients. -/
def dk0 (n : Fin A.N) (a : Acc) : FVec Ideal S512x128 .f32 := opCol (headDz (A.va n) (k0_pay2 (F := Ideal)) (k0_pay3 (F := Ideal)) A.v45 A.v65 (laneL (A.kv A.arg4 A.X4 n)) (laneL (A.kv A.arg5 A.X5 n)) A.v83 a.2.2.2.2.1 a.2.2.2.2.2.2.2.2.1) (rowL A.v36)
def dk1 (n : Fin A.N) (a : Acc) : FVec Ideal S512x128 .f32 := opCol (headDz (A.va n) (k0_pay2 (F := Ideal)) (k0_pay3 (F := Ideal)) A.v50 A.v70 (laneL (A.kv A.arg4 A.X4 n)) (laneL (A.kv A.arg5 A.X5 n)) A.v86 a.2.2.2.2.2.1 a.2.2.2.2.2.2.2.2.2.1) (rowL A.v36)
def dk2 (n : Fin A.N) (a : Acc) : FVec Ideal S512x128 .f32 := opCol (headDz (A.va n) (k0_pay2 (F := Ideal)) (k0_pay3 (F := Ideal)) A.v55 A.v75 (laneR (A.kv A.arg4 A.X4 n)) (laneR (A.kv A.arg5 A.X5 n)) A.v89 a.2.2.2.2.2.2.1 a.2.2.2.2.2.2.2.2.2.2.1) (rowR A.v36)
def dk3 (n : Fin A.N) (a : Acc) : FVec Ideal S512x128 .f32 := opCol (headDz (A.va n) (k0_pay2 (F := Ideal)) (k0_pay3 (F := Ideal)) A.v60 A.v80 (laneR (A.kv A.arg4 A.X4 n)) (laneR (A.kv A.arg5 A.X5 n)) A.v92 a.2.2.2.2.2.2.2.1 a.2.2.2.2.2.2.2.2.2.2.2) (rowR A.v36)
def dv0 (n : Fin A.N) (a : Acc) : FVec Ideal S512x128 .f32 := opCol (truncf .bf16 (headW (A.va n) (k0_pay2 (F := Ideal)) A.v45 (laneL (A.kv A.arg4 A.X4 n)) A.v83 a.2.2.2.2.1) bitsLt_bf16_f32) (rowL A.v40)
def dv1 (n : Fin A.N) (a : Acc) : FVec Ideal S512x128 .f32 := opCol (truncf .bf16 (headW (A.va n) (k0_pay2 (F := Ideal)) A.v50 (laneL (A.kv A.arg4 A.X4 n)) A.v86 a.2.2.2.2.2.1) bitsLt_bf16_f32) (rowL A.v40)
def dv2 (n : Fin A.N) (a : Acc) : FVec Ideal S512x128 .f32 := opCol (truncf .bf16 (headW (A.va n) (k0_pay2 (F := Ideal)) A.v55 (laneR (A.kv A.arg4 A.X4 n)) A.v89 a.2.2.2.2.2.2.1) bitsLt_bf16_f32) (rowR A.v40)
def dv3 (n : Fin A.N) (a : Acc) : FVec Ideal S512x128 .f32 := opCol (truncf .bf16 (headW (A.va n) (k0_pay2 (F := Ideal)) A.v60 (laneR (A.kv A.arg4 A.X4 n)) A.v92 a.2.2.2.2.2.2.2.1) bitsLt_bf16_f32) (rowR A.v40)

/-- Window `n`, from what the windows before it left. -/
theorem st_succ (init : Acc) (n : Fin A.N) :
    A.st f11 f12 init (n.val + 1) = (A.next n (A.st f11 f12 init n.val).1,
      A.wr A.arg11 (A.arg11.view.writes (Elt Ideal) f11 (A.st f11 f12 init n.val).2.1) n (A.dk0 n (A.st f11 f12 init n.val).1) (A.dk1 n (A.st f11 f12 init n.val).1) (A.dk2 n (A.st f11 f12 init n.val).1) (A.dk3 n (A.st f11 f12 init n.val).1) ++ (A.st f11 f12 init n.val).2.1,
      A.wr A.arg12 (A.arg12.view.writes (Elt Ideal) f12 (A.st f11 f12 init n.val).2.2) n (A.dv0 n (A.st f11 f12 init n.val).1) (A.dv1 n (A.st f11 f12 init n.val).1) (A.dv2 n (A.st f11 f12 init n.val).1) (A.dv3 n (A.st f11 f12 init n.val).1) ++ (A.st f11 f12 init n.val).2.2) := by
  unfold st
  refine (st_k0_t2_succ (F := Ideal) 𝒱₀ A.c none A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 k0_pay1 (k0_pay2 (F := Ideal)) (k0_pay3 (F := Ideal)) A.k0_t1 (Scf.iv 0#32 1#32 A.k0_t1.val) (Scalar.muli (Scf.iv 0#32 1#32 A.k0_t1.val) 256#32) A.v36 A.v40 A.v45 A.v50 A.v55 A.v60 A.v65 A.v70 A.v75 A.v80 A.v83 A.v86 A.v89 A.v92 0#32 (chk_zero A.k0_t1) 0#32 128#32 0#32 A.X4 A.X5 f11 f12 init n).trans ?_
  refine congrArg₂ Prod.mk ?_ (congrArg₂ Prod.mk (congrArg (· ++ _) ?_) (congrArg (· ++ _) ?_))
  · unfold next tripR_k0_t2
    refine congrArg₂ Prod.mk (dq_0 ..) (congrArg₂ Prod.mk (dq_1 ..) (congrArg₂ Prod.mk (dq_2 ..) (congrArg₂ Prod.mk (dq_3 ..) (congrArg₂ Prod.mk (ps_0 ..) (congrArg₂ Prod.mk (ps_1 ..) (congrArg₂ Prod.mk (ps_2 ..) (congrArg₂ Prod.mk (ps_3 ..) (congrArg₂ Prod.mk (es_0 ..) (congrArg₂ Prod.mk (es_1 ..) (congrArg₂ Prod.mk (es_2 ..) (es_3 ..)))))))))))
  · exact piece11 ..
  · exact piece12 ..

end Args

end Cert.Kernel4Ideal.Sb

end
-- ==== Proof.SbInnerVal.lean ====
/-
  The kernel's inner loop on real entries: after `n` windows each head carries its sums over the first `512 * n` columns,
  and the accumulators hold this block of rows' share of the key and value gradients in those columns.
-/
module

public import proofs.«01_k».proof.Proof.SbInner

@[expose] public section

set_option maxRecDepth 16384
set_option maxHeartbeats 1000000

noncomputable section

open Idealize.ShloMosaic Idealize.ShloMosaic.TcCoe Idealize.SL Idealize.SL.Sem
open Cert.Lift
open scoped BigOperators

namespace Cert.Kernel4Ideal.Sb

open Cert.Kernel4Ideal Cert.Kernel4Ideal.Gen

/-- The head whose sums a lane holds. -/
def hd (l : ℕ) : ℕ := 2 * (l / 128) + (if l % 128 < 64 then 0 else 1)

/-- A block of rows' share of the key gradients. -/
def Pt.ck (P : Pt) (k h s l : ℕ) : ℝ := ∑ a : Fin 256, P.dz h (256 * k + a.val) s * P.Q (256 * k + a.val) l

/-- A block of rows' share of the value gradients. -/
def Pt.cv (P : Pt) (k h s l : ℕ) : ℝ := ∑ a : Fin 256, P.w h (256 * k + a.val) s * P.D (256 * k + a.val) l

/-- A head's rows. -/
structure RowIn (P : Pt) (h k : ℕ) (q d : FVec Ideal S256x128 .bf16) (L : FVec Ideal S256x1 .f32) : Prop where
  rq : ∀ a l, q (ix2 a l) = ((P.q h (256 * k + a.val) l.val : ℝ) : EReal)
  rd : ∀ a l, d (ix2 a l) = ((P.d h (256 * k + a.val) l.val : ℝ) : EReal)
  rL : ∀ a, L (ix2 a 0) = ((P.L h (256 * k + a.val) : ℝ) : EReal)

/-- A head's carries before window `n`. -/
structure HeadAt (P : Pt) (h k n : ℕ) (dq : FVec Ideal S256x128 .f32) (ps es : FVec Ideal S256x1 .f32) : Prop where
  cd : ∀ a l, dq (ix2 a l) = ((∑ s ∈ Finset.range (512 * n), P.dz h (256 * k + a.val) s * P.K s (128 * (h / 2) + l.val) : ℝ) : EReal)
  cp : ∀ a, ps (ix2 a 0) = ((∑ u ∈ Finset.range (512 * n), P.spm h (256 * k + a.val) u : ℝ) : EReal)
  ce : ∀ a, es (ix2 a 0) = ((∑ u ∈ Finset.range (512 * n), P.e h (256 * k + a.val) u : ℝ) : EReal)

namespace Args
variable (A : Args) (P : Pt)

/-- The inner loop's operands are those of `P`. -/
structure Good : Prop where
  h0 : RowIn P 0 A.k0_t1.val A.v45 A.v65 A.v83
  h1 : RowIn P 1 A.k0_t1.val A.v50 A.v70 A.v86
  h2 : RowIn P 2 A.k0_t1.val A.v55 A.v75 A.v89
  h3 : RowIn P 3 A.k0_t1.val A.v60 A.v80 A.v92
  gQ : ∀ (a : Fin 256) (l : Fin 256), A.v36 (ix2 a l) = ((P.Q (256 * A.k0_t1.val + a.val) l.val : ℝ) : EReal)
  gD : ∀ (a : Fin 256) (l : Fin 256), A.v40 (ix2 a l) = ((P.D (256 * A.k0_t1.val + a.val) l.val : ℝ) : EReal)
  gK : ∀ (s : Fin 2048) (l : Fin 256), A.arg4.view.read (Elt Ideal) A.X4 (ix2 s l) = ((P.K s.val l.val : ℝ) : EReal)
  gV : ∀ (s : Fin 2048) (l : Fin 256), A.arg5.view.read (Elt Ideal) A.X5 (ix2 s l) = ((P.V s.val l.val : ℝ) : EReal)

variable {A P}

theorem kv_at (m : Memref sig .tc .vmem S2048x256 .bf16) (X : BufTy.Contents (Elt Ideal) m.view.ty) {g : ℕ → ℕ → ℝ}
    (hX : ∀ (s : Fin 2048) (l : Fin 256), m.view.read (Elt Ideal) X (ix2 s l) = ((g s.val l.val : ℝ) : EReal)) (n : Fin A.N) (b : Fin 512) (l : Fin 256) :
    A.kv m X n (ix2 b l) = ((g (512 * n.val + b.val) l.val : ℝ) : EReal) := by
  have hn := lo_lt A.k0_t1 n
  refine Eq.trans ?_ (hX ⟨512 * n.val + b.val, by omega⟩ l)
  unfold kv kvAt
  refine (congrFun (View.readAt_eq_ld _ _ _) _).trans (View.ld_unit_apply_of _ _ _ _ _ _ fun a => ?_)
  have ho := off7 A.k0_t1 n
  refine Fin.cases ?_ (fun a => Fin.cases ?_ (fun a => a.elim0) a) a
  · exact (congrArg (· + b.val) (congrFun ho 0)).symm
  · exact (Nat.zero_add _).symm.trans (congrArg (· + l.val) (congrFun ho 1)).symm

theorem laneL_at {x : Vec Ideal S512x256 .bf16} {g : Fin 512 → ℕ → ℝ} (hx : ∀ (b : Fin 512) (l : Fin 256), x (ix2 b l) = ((g b l.val : ℝ) : EReal)) (b : Fin 512) (l : Fin 128) :
    laneL x (ix2 b l) = ((g b l.val : ℝ) : EReal) := by
  pointwise [laneL]
  rw [hx]

theorem laneR_at {x : Vec Ideal S512x256 .bf16} {g : Fin 512 → ℕ → ℝ} (hx : ∀ (b : Fin 512) (l : Fin 256), x (ix2 b l) = ((g b l.val : ℝ) : EReal)) (b : Fin 512) (l : Fin 128) :
    laneR x (ix2 b l) = ((g b (128 + l.val) : ℝ) : EReal) := by
  pointwise [laneR]
  rw [hx]

theorem rowL_at {x : FVec Ideal S256x256 .bf16} {g : Fin 256 → ℕ → ℝ} (hx : ∀ (b : Fin 256) (l : Fin 256), x (ix2 b l) = ((g b l.val : ℝ) : EReal)) (b : Fin 256) (l : Fin 128) :
    rowL x (ix2 b l) = ((g b l.val : ℝ) : EReal) := by
  pointwise [rowL]
  rw [hx]

theorem rowR_at {x : FVec Ideal S256x256 .bf16} {g : Fin 256 → ℕ → ℝ} (hx : ∀ (b : Fin 256) (l : Fin 256), x (ix2 b l) = ((g b l.val : ℝ) : EReal)) (b : Fin 256) (l : Fin 128) :
    rowR x (ix2 b l) = ((g b (128 + l.val) : ℝ) : EReal) := by
  pointwise [rowR]
  rw [hx]

theorem Good.in0 (G : Good A P) (n : Fin A.N) : HeadIn P 0 A.k0_t1.val n.val A.v45 A.v65 (laneL (A.kv A.arg4 A.X4 n)) (laneL (A.kv A.arg5 A.X5 n)) A.v83 :=
  ⟨G.h0.rq, G.h0.rd, fun b l => by simpa using laneL_at (kv_at _ _ G.gK n) b l, fun b l => by simpa using laneL_at (kv_at _ _ G.gV n) b l, G.h0.rL⟩
theorem Good.in1 (G : Good A P) (n : Fin A.N) : HeadIn P 1 A.k0_t1.val n.val A.v50 A.v70 (laneL (A.kv A.arg4 A.X4 n)) (laneL (A.kv A.arg5 A.X5 n)) A.v86 :=
  ⟨G.h1.rq, G.h1.rd, fun b l => by simpa using laneL_at (kv_at _ _ G.gK n) b l, fun b l => by simpa using laneL_at (kv_at _ _ G.gV n) b l, G.h1.rL⟩
theorem Good.in2 (G : Good A P) (n : Fin A.N) : HeadIn P 2 A.k0_t1.val n.val A.v55 A.v75 (laneR (A.kv A.arg4 A.X4 n)) (laneR (A.kv A.arg5 A.X5 n)) A.v89 :=
  ⟨G.h2.rq, G.h2.rd, fun b l => by simpa using laneR_at (kv_at _ _ G.gK n) b l, fun b l => by simpa using laneR_at (kv_at _ _ G.gV n) b l, G.h2.rL⟩
theorem Good.in3 (G : Good A P) (n : Fin A.N) : HeadIn P 3 A.k0_t1.val n.val A.v60 A.v80 (laneR (A.kv A.arg4 A.X4 n)) (laneR (A.kv A.arg5 A.X5 n)) A.v92 :=
  ⟨G.h3.rq, G.h3.rd, fun b l => by simpa using laneR_at (kv_at _ _ G.gK n) b l, fun b l => by simpa using laneR_at (kv_at _ _ G.gV n) b l, G.h3.rL⟩

theorem va_at (n : Fin A.N) : Va A.k0_t1.val n.val (A.va n) := mask_at A.k0_t1 n

/-- One head's carries over a window. -/
theorem HeadAt.step {h k n : ℕ} {va : IVec S256x512 1} {q d : FVec Ideal S256x128 .bf16} {kk vv : FVec Ideal S512x128 .bf16} {L ps es : FVec Ideal S256x1 .f32}
    {dq : FVec Ideal S256x128 .f32} (hv : Va k n va) (I : HeadIn P h k n q d kk vv L) (H : HeadAt P h k n dq ps es) :
    HeadAt P h k (n + 1) (addf dq (opRow (headDz va k0_pay2 k0_pay3 q d kk vv L ps es) kk)) (opNext ps (opMask va (opSp (opZ q kk))))
      (opNext es (headE va k0_pay2 q d kk vv L ps)) :=
  ⟨dq_next hv inc_at exc_at I H.cp H.ce H.cd, ps_next hv I H.cp, es_next hv inc_at I H.cp H.ce⟩

/-- One head's share of the key gradients in a window. -/
theorem HeadAt.ck {h k n : ℕ} {va : IVec S256x512 1} {q d x : FVec Ideal S256x128 .bf16} {kk vv : FVec Ideal S512x128 .bf16} {L ps es : FVec Ideal S256x1 .f32}
    {dq : FVec Ideal S256x128 .f32} (hv : Va k n va) (I : HeadIn P h k n q d kk vv L) (H : HeadAt P h k n dq ps es)
    (hx : ∀ a l, x (ix2 a l) = ((P.Q (256 * k + a.val) (128 * (h / 2) + l.val) : ℝ) : EReal)) (b : Fin 512) (l : Fin 128) :
    opCol (headDz va k0_pay2 k0_pay3 q d kk vv L ps es) x (ix2 b l) = ((P.ck k h (512 * n + b.val) (128 * (h / 2) + l.val) : ℝ) : EReal) :=
  opCol_at (headDz_at hv inc_at exc_at I H.cp H.ce) hx b l

/-- One head's share of the value gradients in a window. -/
theorem HeadAt.cv {h k n : ℕ} {va : IVec S256x512 1} {q d x : FVec Ideal S256x128 .bf16} {kk vv : FVec Ideal S512x128 .bf16} {L ps es : FVec Ideal S256x1 .f32}
    {dq : FVec Ideal S256x128 .f32} (hv : Va k n va) (I : HeadIn P h k n q d kk vv L) (H : HeadAt P h k n dq ps es)
    (hx : ∀ a l, x (ix2 a l) = ((P.D (256 * k + a.val) (128 * (h / 2) + l.val) : ℝ) : EReal)) (b : Fin 512) (l : Fin 128) :
    opCol (truncf .bf16 (headW va k0_pay2 q kk L ps) bitsLt_bf16_f32) x (ix2 b l) = ((P.cv k h (512 * n + b.val) (128 * (h / 2) + l.val) : ℝ) : EReal) :=
  opCol_at (g' := fun a b => P.w h (256 * k + a.val) (512 * n + b.val)) (fun a b => headW_at hv inc_at I H.cp a b) hx b l

/-- What a window's two stores leave in an accumulator. -/
theorem wr_at (m : Memref sig .tc .vmem S2048x256 .f32) (f : BufTy.Contents (Elt Ideal) m.view.ty) (n : Fin A.N) {d0 d1 d2 d3 : FVec Ideal S512x128 .f32}
    {M : ℕ → ℕ → ℕ → ℝ} {g : ℕ → ℕ → ℝ}
    (e0 : ∀ b l, d0 (ix2 b l) = ((M 0 (512 * n.val + b.val) l.val : ℝ) : EReal)) (e1 : ∀ b l, d1 (ix2 b l) = ((M 1 (512 * n.val + b.val) l.val : ℝ) : EReal))
    (e2 : ∀ b l, d2 (ix2 b l) = ((M 2 (512 * n.val + b.val) (128 + l.val) : ℝ) : EReal)) (e3 : ∀ b l, d3 (ix2 b l) = ((M 3 (512 * n.val + b.val) (128 + l.val) : ℝ) : EReal))
    (hf : ∀ (s : Fin 2048) (l : Fin 256), m.view.read (Elt Ideal) f (ix2 s l) = ((g s.val l.val : ℝ) : EReal)) (s : Fin 2048) (l : Fin 256) :
    m.view.read (Elt Ideal) (m.view.writes (Elt Ideal) f (A.wr m f n d0 d1 d2 d3)) (ix2 s l)
      = ((g s.val l.val + (if 512 * n.val ≤ s.val ∧ s.val < 512 * n.val + 512 then M (hd l.val) s.val l.val else 0) : ℝ) : EReal) := by
  have hn := lo_lt A.k0_t1 n
  have o8 := off8 A.k0_t1 n
  have o9 := off9 A.k0_t1 n
  have r8 : ∀ (b : Fin 512) (l : Fin 128), View.readAt (Elt Ideal) m.view (A.R8 n).toLoadRect f (ix2 b l) = ((g (512 * n.val + b.val) l.val : ℝ) : EReal) := by
    intro b l
    refine Eq.trans ?_ (hf ⟨512 * n.val + b.val, by omega⟩ ⟨l.val, by omega⟩)
    refine (congrFun (View.readAt_eq_ld _ _ _) _).trans (View.ld_unit_apply_of _ _ _ _ _ _ fun a => ?_)
    refine Fin.cases ?_ (fun a => Fin.cases ?_ (fun a => a.elim0) a) a
    · exact (congrArg (· + b.val) (congrFun o8 0)).symm
    · exact (Nat.zero_add _).symm.trans (congrArg (· + l.val) (congrFun o8 1)).symm
  have p8 := opAcc_at (b := fun l => decide (l.val < 64)) half_at e0 e1 r8
  have r9 : ∀ (b : Fin 512) (l : Fin 128), View.readAt (Elt Ideal) m.view (A.R9 n).toLoadRect (m.view.writes (Elt Ideal) f
      [⟨A.R8 n, opAcc k0_pay1 d0 d1 (View.readAt (Elt Ideal) m.view (A.R8 n).toLoadRect f)⟩]) (ix2 b l) = ((g (512 * n.val + b.val) (128 + l.val) : ℝ) : EReal) := by
    intro b l
    refine Eq.trans ?_ (hf ⟨512 * n.val + b.val, by omega⟩ ⟨128 + l.val, by omega⟩)
    refine (congrFun (View.readAt_eq_ld _ _ _) _).trans ((View.ld_unit_apply_of _ _ _ _ _ (ix2 ⟨512 * n.val + b.val, by omega⟩ ⟨128 + l.val, by omega⟩) fun a => ?_).trans ?_)
    · refine Fin.cases ?_ (fun a => Fin.cases ?_ (fun a => a.elim0) a) a
      · exact (congrArg (· + b.val) (congrFun o9 0)).symm
      · exact (congrArg (· + l.val) (congrFun o9 1)).symm
    · exact View.read_writes_cons_unit_of_not_mem _ _ _ _ _ _ o8 1 (Or.inr (show 0 + 128 ≤ 128 + l.val by omega))
  have p9 := opAcc_at (b := fun l => decide (l.val < 64)) half_at e2 e3 r9
  unfold wr
  by_cases hs : 512 * n.val ≤ s.val ∧ s.val < 512 * n.val + 512
  · by_cases hl : l.val < 128
    · rw [View.read_writes_cons_unit_of_not_mem _ _ _ _ _ _ o9 1 (Or.inl (show l.val < 128 from hl)),
        View.read_writes_cons_unit_of_mem _ _ _ _ _ _ (ix2 ⟨s.val - 512 * n.val, by omega⟩ ⟨l.val, hl⟩) o8 ?_, p8, if_pos hs]
      · have h1 : 512 * n.val + (s.val - 512 * n.val) = s.val := by omega
        have h2 : l.val / 128 = 0 := by omega
        have h3 : l.val % 128 = l.val := by omega
        simp only [h1, hd, h2, h3, decide_eq_true_eq]
        split <;> rfl
      · intro a
        refine Fin.cases ?_ (fun a => Fin.cases ?_ (fun a => a.elim0) a) a
        · show s.val = 512 * n.val + (s.val - 512 * n.val); omega
        · exact (Nat.zero_add _).symm
    · rw [View.read_writes_cons_unit_of_mem _ _ _ _ _ _ (ix2 ⟨s.val - 512 * n.val, by omega⟩ ⟨l.val - 128, by omega⟩) o9 ?_, p9, if_pos hs]
      · have h1 : 512 * n.val + (s.val - 512 * n.val) = s.val := by omega
        have h2 : l.val / 128 = 1 := by omega
        have h3 : l.val % 128 = l.val - 128 := by omega
        have h4 : 128 + (l.val - 128) = l.val := by omega
        simp only [h1, hd, h2, h3, h4, decide_eq_true_eq]
        split <;> rfl
      · intro a
        refine Fin.cases ?_ (fun a => Fin.cases ?_ (fun a => a.elim0) a) a
        · show s.val = 512 * n.val + (s.val - 512 * n.val); omega
        · show l.val = 128 + (l.val - 128); omega
  · rw [View.read_writes_cons_unit_of_not_mem _ _ _ _ _ _ o9 0 (show s.val < 512 * n.val ∨ 512 * n.val + 512 ≤ s.val by omega),
      View.read_writes_cons_unit_of_not_mem _ _ _ _ _ _ o8 0 (show s.val < 512 * n.val ∨ 512 * n.val + 512 ≤ s.val by omega), if_neg hs, add_zero]
    exact hf s l

/-- The loop's state before window `n`. -/
structure Inv (A : Args) (P : Pt) (f11 : BufTy.Contents (Elt Ideal) A.arg11.view.ty) (f12 : BufTy.Contents (Elt Ideal) A.arg12.view.ty) (gk gv : ℕ → ℕ → ℝ) (n : ℕ)
    (x : Acc × List (View.Piece (Elt Ideal) S2048x256 .f32) × List (View.Piece (Elt Ideal) S2048x256 .f32)) : Prop where
  i0 : HeadAt P 0 A.k0_t1.val n x.1.1 x.1.2.2.2.2.1 x.1.2.2.2.2.2.2.2.2.1
  i1 : HeadAt P 1 A.k0_t1.val n x.1.2.1 x.1.2.2.2.2.2.1 x.1.2.2.2.2.2.2.2.2.2.1
  i2 : HeadAt P 2 A.k0_t1.val n x.1.2.2.1 x.1.2.2.2.2.2.2.1 x.1.2.2.2.2.2.2.2.2.2.2.1
  i3 : HeadAt P 3 A.k0_t1.val n x.1.2.2.2.1 x.1.2.2.2.2.2.2.2.1 x.1.2.2.2.2.2.2.2.2.2.2.2
  ik : ∀ (s : Fin 2048) (l : Fin 256), A.arg11.view.read (Elt Ideal) (A.arg11.view.writes (Elt Ideal) f11 x.2.1) (ix2 s l)
    = ((gk s.val l.val + (if s.val < 512 * n then P.ck A.k0_t1.val (hd l.val) s.val l.val else 0) : ℝ) : EReal)
  iv : ∀ (s : Fin 2048) (l : Fin 256), A.arg12.view.read (Elt Ideal) (A.arg12.view.writes (Elt Ideal) f12 x.2.2) (ix2 s l)
    = ((gv s.val l.val + (if s.val < 512 * n then P.cv A.k0_t1.val (hd l.val) s.val l.val else 0) : ℝ) : EReal)

theorem seg_if (g x : ℝ) (s n : ℕ) :
    g + (if s < 512 * n then x else 0) + (if 512 * n ≤ s ∧ s < 512 * n + 512 then x else 0) = g + (if s < 512 * (n + 1) then x else 0) := by
  by_cases h1 : s < 512 * n
  · rw [if_pos h1, if_neg (by omega), if_pos (by omega), add_zero]
  · by_cases h2 : s < 512 * (n + 1)
    · rw [if_neg h1, if_pos (by omega), if_pos h2, add_zero]
    · rw [if_neg h1, if_neg (by omega), if_neg h2, add_zero]

theorem inv_step (G : Good A P) {f11 : BufTy.Contents (Elt Ideal) A.arg11.view.ty} {f12 : BufTy.Contents (Elt Ideal) A.arg12.view.ty} {gk gv : ℕ → ℕ → ℝ} {init : Acc} (n : Fin A.N)
    (H : Inv A P f11 f12 gk gv n.val (A.st f11 f12 init n.val)) : Inv A P f11 f12 gk gv (n.val + 1) (A.st f11 f12 init (n.val + 1)) := by
  rw [st_succ]
  generalize A.st f11 f12 init n.val = x at H
  obtain ⟨a, L11, L12⟩ := x
  refine ⟨HeadAt.step (va_at n) (G.in0 n) H.i0, HeadAt.step (va_at n) (G.in1 n) H.i1, HeadAt.step (va_at n) (G.in2 n) H.i2, HeadAt.step (va_at n) (G.in3 n) H.i3, fun s l => ?_, fun s l => ?_⟩
  · rw [View.writes_append, wr_at A.arg11 _ n (M := P.ck A.k0_t1.val) (g := fun s l => gk s l + (if s < 512 * n.val then P.ck A.k0_t1.val (hd l) s l else 0)) ?_ ?_ ?_ ?_ H.ik, seg_if]
    · intro b l; unfold dk0; simpa using HeadAt.ck (va_at n) (G.in0 n) H.i0 (fun a l => by simpa using rowL_at (g := fun a l => P.Q (256 * A.k0_t1.val + a.val) l) G.gQ a l) b l
    · intro b l; unfold dk1; simpa using HeadAt.ck (va_at n) (G.in1 n) H.i1 (fun a l => by simpa using rowL_at (g := fun a l => P.Q (256 * A.k0_t1.val + a.val) l) G.gQ a l) b l
    · intro b l; unfold dk2; simpa using HeadAt.ck (va_at n) (G.in2 n) H.i2 (fun a l => by simpa using rowR_at (g := fun a l => P.Q (256 * A.k0_t1.val + a.val) l) G.gQ a l) b l
    · intro b l; unfold dk3; simpa using HeadAt.ck (va_at n) (G.in3 n) H.i3 (fun a l => by simpa using rowR_at (g := fun a l => P.Q (256 * A.k0_t1.val + a.val) l) G.gQ a l) b l
  · rw [View.writes_append, wr_at A.arg12 _ n (M := P.cv A.k0_t1.val) (g := fun s l => gv s l + (if s < 512 * n.val then P.cv A.k0_t1.val (hd l) s l else 0)) ?_ ?_ ?_ ?_ H.iv, seg_if]
    · intro b l; unfold dv0; simpa using HeadAt.cv (va_at n) (G.in0 n) H.i0 (fun a l => by simpa using rowL_at (g := fun a l => P.D (256 * A.k0_t1.val + a.val) l) G.gD a l) b l
    · intro b l; unfold dv1; simpa using HeadAt.cv (va_at n) (G.in1 n) H.i1 (fun a l => by simpa using rowL_at (g := fun a l => P.D (256 * A.k0_t1.val + a.val) l) G.gD a l) b l
    · intro b l; unfold dv2; simpa using HeadAt.cv (va_at n) (G.in2 n) H.i2 (fun a l => by simpa using rowR_at (g := fun a l => P.D (256 * A.k0_t1.val + a.val) l) G.gD a l) b l
    · intro b l; unfold dv3; simpa using HeadAt.cv (va_at n) (G.in3 n) H.i3 (fun a l => by simpa using rowR_at (g := fun a l => P.D (256 * A.k0_t1.val + a.val) l) G.gD a l) b l

theorem inv_all (G : Good A P) {f11 : BufTy.Contents (Elt Ideal) A.arg11.view.ty} {f12 : BufTy.Contents (Elt Ideal) A.arg12.view.ty} {gk gv : ℕ → ℕ → ℝ} {init : Acc}
    (H : Inv A P f11 f12 gk gv 0 (A.st f11 f12 init 0)) : ∀ n, n ≤ A.N → Inv A P f11 f12 gk gv n (A.st f11 f12 init n)
  | 0, _ => H
  | n + 1, h => inv_step G ⟨n, h⟩ (inv_all G H n (Nat.le_of_succ_le h))

end Args

end Cert.Kernel4Ideal.Sb

end
-- ==== Proof.SbOuter.lean ====
/-
  A trip of the kernel's outer loop in terms of its inner loop: the operands it hands on, and what it writes.
-/
module

public import proofs.«01_k».proof.Proof.SbInnerVal

@[expose] public section

set_option maxRecDepth 100000
set_option maxHeartbeats 4000000

noncomputable section

open Idealize.ShloMosaic Idealize.ShloMosaic.TcCoe Idealize.ShloMosaic.Tactic Idealize.SL Idealize.SL.Sem
open scoped BigOperators

namespace Cert.Kernel4Ideal.Sb

open Cert.Kernel4Ideal Cert.Kernel4Ideal.Gen

/-- The second loop over windows runs no trip. -/
theorem t3_nil (𝒱 : Variants) (c : Dev nD) (bd : Option 𝒱.V) (i : grid0.Coords) (arg2 : Memref sig .tc .smem S8x8 .i32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x4x2048x1 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .f32) (harg11 : arg11.IsWhole) (arg12 : Memref sig .tc .vmem S2048x256 .f32) (harg12 : arg12.IsWhole) (v4 : IVec S1x128 1) (v10 : FVec Ideal S256x256 .bf16) (v16 : FVec Ideal S256x256 .bf16) (k0_t1 : Fin k0_t1_loop.trips) (arg13 : BitVec 32) (v33 : BitVec 32) (v36 : FVec Ideal S256x256 .bf16) (v40 : Vec Ideal S256x256 .bf16) (v45 : FVec Ideal S256x128 .bf16) (v50 : FVec Ideal S256x128 .bf16) (v55 : FVec Ideal S256x128 .bf16) (v60 : FVec Ideal S256x128 .bf16) (v65 : FVec Ideal S256x128 .bf16) (v70 : FVec Ideal S256x128 .bf16) (v75 : FVec Ideal S256x128 .bf16) (v80 : FVec Ideal S256x128 .bf16) (v83 : FVec Ideal S256x1 .f32) (v86 : FVec Ideal S256x1 .f32) (v89 : FVec Ideal S256x1 .f32) (v92 : FVec Ideal S256x1 .f32) (v95 : Elt Ideal .i32) (k0_hw1 : k0_chk1 k0_t1 v95) (v115 : BitVec 32) (c128_i32_41 : BitVec 32) (v116 : BitVec 32) (v145 : BitVec 32) (X_arg4 : BufTy.Contents (Elt Ideal) arg4.view.ty) (X_arg5 : BufTy.Contents (Elt Ideal) arg5.view.ty) (G_arg11 : BufTy.Contents (Elt Ideal) arg11.view.ty) (G_arg12 : BufTy.Contents (Elt Ideal) arg12.view.ty) (init : FVec Ideal S256x128 .f32 × FVec Ideal S256x128 .f32 × FVec Ideal S256x128 .f32 × FVec Ideal S256x128 .f32 × FVec Ideal S256x1 .f32 × FVec Ideal S256x1 .f32 × FVec Ideal S256x1 .f32 × FVec Ideal S256x1 .f32 × FVec Ideal S256x1 .f32 × FVec Ideal S256x1 .f32 × FVec Ideal S256x1 .f32 × FVec Ideal S256x1 .f32) (n : ℕ) (hn : n = 0) :
    st_k0_t3 (F := Ideal) 𝒱 c bd i arg2 harg2 arg3 harg3 arg4 harg4 arg5 harg5 arg6 harg6 arg7 harg7 arg8 harg8 arg9 harg9 arg10 harg10 arg11 harg11 arg12 harg12 v4 v10 v16 k0_t1 arg13 v33 v36 v40 v45 v50 v55 v60 v65 v70 v75 v80 v83 v86 v89 v92 v95 k0_hw1 v115 c128_i32_41 v116 v145 X_arg4 X_arg5 G_arg11 G_arg12 init n = (init, [], []) := by
  subst hn; rfl

/-- The binders of a trip of the outer loop. -/
structure Outer where
  c : Dev nD
  i : grid0.Coords
  arg2 : Memref sig .tc .smem S8x8 .i32
  harg2 : arg2.IsWhole
  arg3 : Memref sig .tc .vmem S2048x256 .bf16
  harg3 : arg3.IsWhole
  arg4 : Memref sig .tc .vmem S2048x256 .bf16
  harg4 : arg4.IsWhole
  arg5 : Memref sig .tc .vmem S2048x256 .bf16
  harg5 : arg5.IsWhole
  arg6 : Memref sig .tc .vmem S2048x256 .bf16
  harg6 : arg6.IsWhole
  arg7 : Memref sig .tc .vmem S1x4x2048x1 .f32
  harg7 : arg7.IsWhole
  arg8 : Memref sig .tc .vmem S2048x256 .bf16
  harg8 : arg8.IsWhole
  arg9 : Memref sig .tc .vmem S2048x256 .bf16
  harg9 : arg9.IsWhole
  arg10 : Memref sig .tc .vmem S2048x256 .bf16
  harg10 : arg10.IsWhole
  arg11 : Memref sig .tc .vmem S2048x256 .f32
  harg11 : arg11.IsWhole
  arg12 : Memref sig .tc .vmem S2048x256 .f32
  harg12 : arg12.IsWhole
  v1 : BitVec 32
  X2 : BufTy.Contents (Elt Ideal) arg2.view.ty
  X3 : BufTy.Contents (Elt Ideal) arg3.view.ty
  X4 : BufTy.Contents (Elt Ideal) arg4.view.ty
  X5 : BufTy.Contents (Elt Ideal) arg5.view.ty
  X6 : BufTy.Contents (Elt Ideal) arg6.view.ty
  X7 : BufTy.Contents (Elt Ideal) arg7.view.ty
  hz : ZeroWords (F := Ideal) i arg2 X2

namespace Outer
variable (O : Outer) (k : Fin k0_t1_loop.trips)

/-- The inner loop's binders at block `k` of rows. -/
def args : Args where
  c := O.c
  i := O.i
  arg2 := O.arg2
  harg2 := O.harg2
  arg3 := O.arg3
  harg3 := O.harg3
  arg4 := O.arg4
  harg4 := O.harg4
  arg5 := O.arg5
  harg5 := O.harg5
  arg6 := O.arg6
  harg6 := O.harg6
  arg7 := O.arg7
  harg7 := O.harg7
  arg8 := O.arg8
  harg8 := O.harg8
  arg9 := O.arg9
  harg9 := O.harg9
  arg10 := O.arg10
  harg10 := O.harg10
  arg11 := O.arg11
  harg11 := O.harg11
  arg12 := O.arg12
  harg12 := O.harg12
  k0_t1 := k
  v36 := k0_pay199 (F := Ideal) (View.readAt (Elt Ideal) O.arg3.view (Rect.unit (s := S2048x256) (k0_off1 k) S256x256.size (k0_off1_inb k)).toLoadRect O.X3)
  v40 := (View.readAt (Elt Ideal) O.arg6.view (Rect.unit (s := S2048x256) (k0_off1 k) S256x256.size (k0_off1_inb k)).toLoadRect O.X6)
  v45 := k0_pay201 k0_pay1 (View.readAt (Elt Ideal) O.arg3.view (Rect.unit (s := S2048x256) (k0_off1 k) S256x256.size (k0_off1_inb k)).toLoadRect O.X3)
  v50 := k0_pay202 k0_pay1 (View.readAt (Elt Ideal) O.arg3.view (Rect.unit (s := S2048x256) (k0_off1 k) S256x256.size (k0_off1_inb k)).toLoadRect O.X3)
  v55 := k0_pay203 k0_pay1 (View.readAt (Elt Ideal) O.arg3.view (Rect.unit (s := S2048x256) (k0_off1 k) S256x256.size (k0_off1_inb k)).toLoadRect O.X3)
  v60 := k0_pay204 k0_pay1 (View.readAt (Elt Ideal) O.arg3.view (Rect.unit (s := S2048x256) (k0_off1 k) S256x256.size (k0_off1_inb k)).toLoadRect O.X3)
  v65 := k0_pay205 k0_pay1 (View.readAt (Elt Ideal) O.arg6.view (Rect.unit (s := S2048x256) (k0_off1 k) S256x256.size (k0_off1_inb k)).toLoadRect O.X6)
  v70 := k0_pay206 k0_pay1 (View.readAt (Elt Ideal) O.arg6.view (Rect.unit (s := S2048x256) (k0_off1 k) S256x256.size (k0_off1_inb k)).toLoadRect O.X6)
  v75 := k0_pay207 k0_pay1 (View.readAt (Elt Ideal) O.arg6.view (Rect.unit (s := S2048x256) (k0_off1 k) S256x256.size (k0_off1_inb k)).toLoadRect O.X6)
  v80 := k0_pay211 (k0_pay208 (View.readAt (Elt Ideal) O.arg6.view (Rect.unit (s := S2048x256) (k0_off1 k) S256x256.size (k0_off1_inb k)).toLoadRect O.X6)) k0_pay209 (k0_pay210 k0_pay1)
  v83 := k0_pay212 (View.readAt (Elt Ideal) O.arg7.view (Rect.unit (s := S1x4x2048x1) (k0_off2 k) S1x1x256x1.size (k0_off2_inb k)).toLoadRect O.X7)
  v86 := k0_pay213 (View.readAt (Elt Ideal) O.arg7.view (Rect.unit (s := S1x4x2048x1) (k0_off3 k) S1x1x256x1.size (k0_off3_inb k)).toLoadRect O.X7)
  v89 := k0_pay214 (View.readAt (Elt Ideal) O.arg7.view (Rect.unit (s := S1x4x2048x1) (k0_off4 k) S1x1x256x1.size (k0_off4_inb k)).toLoadRect O.X7)
  v92 := k0_pay215 (View.readAt (Elt Ideal) O.arg7.view (Rect.unit (s := S1x4x2048x1) (k0_off5 k) S1x1x256x1.size (k0_off5_inb k)).toLoadRect O.X7)
  X4 := O.X4
  X5 := O.X5

/-- The inner loop starts from zeros. -/
def init : Acc := (k0_pay216 (F := Ideal), k0_pay216 (F := Ideal), k0_pay216 (F := Ideal), k0_pay216 (F := Ideal), k0_pay217 (F := Ideal), k0_pay217 (F := Ideal), k0_pay217 (F := Ideal), k0_pay217 (F := Ideal), k0_pay217 (F := Ideal), k0_pay217 (F := Ideal), k0_pay217 (F := Ideal), k0_pay217 (F := Ideal))

variable (f11 : BufTy.Contents (Elt Ideal) O.arg11.view.ty) (f12 : BufTy.Contents (Elt Ideal) O.arg12.view.ty)

/-- What the inner loop leaves at block `k` of rows. -/
def fin : Acc × List (View.Piece (Elt Ideal) S2048x256 .f32) × List (View.Piece (Elt Ideal) S2048x256 .f32) :=
  (O.args k).st f11 f12 init (O.args k).N

theorem trips3 : ∀ k : Fin k0_t1_loop.trips, (k0_t3_loop k 0#32).trips = 0 := by decide +kernel

theorem lt8 : k.val < 8 := lt_of_lt_of_eq k.isLt trips1

theorem trip11 : (trip (F := Ideal) O.c O.i O.arg2 O.harg2 O.arg3 O.harg3 O.arg4 O.harg4 O.arg5 O.harg5 O.arg6 O.harg6 O.arg7 O.harg7 O.arg8 O.harg8 O.arg9 O.harg9 O.arg10 O.harg10 O.arg11 O.harg11 O.arg12 O.harg12 O.v1 O.X2 O.X3 O.X4 O.X5 O.X6 O.X7 O.hz k).2.1 f11 f12 = (O.fin k f11 f12).2.1 := by
  unfold trip
  dsimp only
  rw [t3_nil (hn := trips3 k)]
  unfold fin Args.st
  sl_kernel_rfl

theorem trip12 : (trip (F := Ideal) O.c O.i O.arg2 O.harg2 O.arg3 O.harg3 O.arg4 O.harg4 O.arg5 O.harg5 O.arg6 O.harg6 O.arg7 O.harg7 O.arg8 O.harg8 O.arg9 O.harg9 O.arg10 O.harg10 O.arg11 O.harg11 O.arg12 O.harg12 O.v1 O.X2 O.X3 O.X4 O.X5 O.X6 O.X7 O.hz k).2.2.1 f11 f12 = (O.fin k f11 f12).2.2 := by
  unfold trip
  dsimp only
  rw [t3_nil (hn := trips3 k)]
  unfold fin Args.st
  sl_kernel_rfl

theorem trip8 : (trip (F := Ideal) O.c O.i O.arg2 O.harg2 O.arg3 O.harg3 O.arg4 O.harg4 O.arg5 O.harg5 O.arg6 O.harg6 O.arg7 O.harg7 O.arg8 O.harg8 O.arg9 O.harg9 O.arg10 O.harg10 O.arg11 O.harg11 O.arg12 O.harg12 O.v1 O.X2 O.X3 O.X4 O.X5 O.X6 O.X7 O.hz k).1 f11 f12 =
    [⟨Rect.unit (s := S2048x256) (k0_off14 k) S256x128.size (k0_off14_inb k), k0_pay6 (k0_pay221 k0_pay1 (O.fin k f11 f12).1.2.2.1 (O.fin k f11 f12).1.2.2.2.1)⟩,
     ⟨Rect.unit (s := S2048x256) (k0_off13 k) S256x128.size (k0_off13_inb k), k0_pay220 k0_pay1 (O.fin k f11 f12).1.1 (O.fin k f11 f12).1.2.1⟩] := by
  unfold trip trip.sl.r_11
  dsimp only
  rw [t3_nil (hn := trips3 k)]
  unfold fin Args.st
  sl_kernel_rfl

/-- The pieces written before block `n`. -/
def pcs (n : ℕ) : List (View.Piece (Elt Ideal) S2048x256 .bf16) × List (View.Piece (Elt Ideal) S2048x256 .f32) × List (View.Piece (Elt Ideal) S2048x256 .f32) :=
  pieces (F := Ideal) O.c O.i O.arg2 O.harg2 O.arg3 O.harg3 O.arg4 O.harg4 O.arg5 O.harg5 O.arg6 O.harg6 O.arg7 O.harg7 O.arg8 O.harg8 O.arg9 O.harg9 O.arg10 O.harg10 O.arg11 O.harg11 O.arg12 O.harg12 O.v1 O.X2 O.X3 O.X4 O.X5 O.X6 O.X7 O.hz f11 f12 n

theorem pcs_succ : O.pcs f11 f12 (k.val + 1) =
    ([⟨Rect.unit (s := S2048x256) (k0_off14 k) S256x128.size (k0_off14_inb k), k0_pay6 (k0_pay221 k0_pay1 (O.fin k (O.arg11.view.writes (Elt Ideal) f11 (O.pcs f11 f12 k.val).2.1) (O.arg12.view.writes (Elt Ideal) f12 (O.pcs f11 f12 k.val).2.2)).1.2.2.1 (O.fin k (O.arg11.view.writes (Elt Ideal) f11 (O.pcs f11 f12 k.val).2.1) (O.arg12.view.writes (Elt Ideal) f12 (O.pcs f11 f12 k.val).2.2)).1.2.2.2.1)⟩,
      ⟨Rect.unit (s := S2048x256) (k0_off13 k) S256x128.size (k0_off13_inb k), k0_pay220 k0_pay1 (O.fin k (O.arg11.view.writes (Elt Ideal) f11 (O.pcs f11 f12 k.val).2.1) (O.arg12.view.writes (Elt Ideal) f12 (O.pcs f11 f12 k.val).2.2)).1.1 (O.fin k (O.arg11.view.writes (Elt Ideal) f11 (O.pcs f11 f12 k.val).2.1) (O.arg12.view.writes (Elt Ideal) f12 (O.pcs f11 f12 k.val).2.2)).1.2.1⟩] ++ (O.pcs f11 f12 k.val).1,
     (O.fin k (O.arg11.view.writes (Elt Ideal) f11 (O.pcs f11 f12 k.val).2.1) (O.arg12.view.writes (Elt Ideal) f12 (O.pcs f11 f12 k.val).2.2)).2.1 ++ (O.pcs f11 f12 k.val).2.1,
     (O.fin k (O.arg11.view.writes (Elt Ideal) f11 (O.pcs f11 f12 k.val).2.1) (O.arg12.view.writes (Elt Ideal) f12 (O.pcs f11 f12 k.val).2.2)).2.2 ++ (O.pcs f11 f12 k.val).2.2) := by
  unfold pcs
  rw [pieces_succ, ← trip8, ← trip11, ← trip12]

end Outer

end Cert.Kernel4Ideal.Sb

end
-- ==== Proof.SbOuterVal.lean ====
/-
  The kernel's outer loop on real entries: after `n` blocks of rows the query gradient's first `256 * n` rows are written,
  and the accumulators hold those rows' shares of the key and value gradients.
-/
module

public import proofs.«01_k».proof.Proof.SbOuter

@[expose] public section

set_option maxRecDepth 16384
set_option maxHeartbeats 1000000

noncomputable section

open Idealize.ShloMosaic Idealize.ShloMosaic.TcCoe Idealize.SL Idealize.SL.Sem
open Cert.Lift
open scoped BigOperators

namespace Cert.Kernel4Ideal.Sb

open Cert.Kernel4Ideal Cert.Kernel4Ideal.Gen

namespace Pt
variable (P : Pt)

/-- The gradients of a query's, a key's and a value's lane. -/
def gq (t l : ℕ) : ℝ := ∑ s ∈ Finset.range 2048, P.dz (hd l) t s * P.K s l
def gk (s l : ℕ) : ℝ := ∑ t ∈ Finset.range 2048, P.dz (hd l) t s * P.Q t l
def gv (s l : ℕ) : ℝ := ∑ t ∈ Finset.range 2048, P.w (hd l) t s * P.D t l

variable {P}

theorem dz_zero {h t s : ℕ} (H : t ≤ s) : P.dz h t s = 0 := by
  unfold dz; rw [if_neg (by omega), zero_mul]

theorem w_zero {h t s : ℕ} (H : t ≤ s) : P.w h t s = 0 := by
  unfold w; rw [if_neg (by omega)]

theorem ck_if (k h s l N : ℕ) (H : 256 * (k + 1) ≤ 512 * N) : (if s < 512 * N then P.ck k h s l else 0) = P.ck k h s l := by
  by_cases hs : s < 512 * N
  · rw [if_pos hs]
  · rw [if_neg hs]
    refine (Finset.sum_eq_zero fun a _ => ?_).symm
    rw [dz_zero (by have := a.isLt; omega), zero_mul]

theorem cv_if (k h s l N : ℕ) (H : 256 * (k + 1) ≤ 512 * N) : (if s < 512 * N then P.cv k h s l else 0) = P.cv k h s l := by
  by_cases hs : s < 512 * N
  · rw [if_pos hs]
  · rw [if_neg hs]
    refine (Finset.sum_eq_zero fun a _ => ?_).symm
    rw [w_zero (by have := a.isLt; omega), zero_mul]

theorem ck_sum (k h s l : ℕ) : (∑ t ∈ Finset.range (256 * k), P.dz h t s * P.Q t l) + P.ck k h s l = ∑ t ∈ Finset.range (256 * (k + 1)), P.dz h t s * P.Q t l :=
  sum_seg (fun t => P.dz h t s * P.Q t l) (256 * k) 256

theorem cv_sum (k h s l : ℕ) : (∑ t ∈ Finset.range (256 * k), P.w h t s * P.D t l) + P.cv k h s l = ∑ t ∈ Finset.range (256 * (k + 1)), P.w h t s * P.D t l :=
  sum_seg (fun t => P.w h t s * P.D t l) (256 * k) 256

theorem gq_range (h t l N : ℕ) (H : t ≤ 512 * N) (H' : 512 * N ≤ 2048) :
    (∑ s ∈ Finset.range (512 * N), P.dz h t s * P.K s l) = ∑ s ∈ Finset.range 2048, P.dz h t s * P.K s l := by
  refine Finset.sum_subset (fun x hx => Finset.mem_range.2 (lt_of_lt_of_le (Finset.mem_range.1 hx) H')) fun s _ hs => ?_
  have h1 : ¬ s < 512 * N := fun h => hs (Finset.mem_range.2 h)
  rw [dz_zero (by omega), zero_mul]

end Pt

theorem off13' (k : Fin k0_t1_loop.trips) : k0_off13 k = ![256 * k.val, 0] := by
  revert k; decide +kernel
theorem off14' (k : Fin k0_t1_loop.trips) : k0_off14 k = ![256 * k.val, 128] := by
  revert k; decide +kernel

theorem bits_eighth16 : Ideal.ofBits .bf16 0x3E00#16 = ((1 / 8 : ℝ) : EReal) := by
  simp [Ideal.ofBits, Ideal.ieee, -EReal.coe_mul]; norm_num

/-- A block of rows' queries, scaled. -/
theorem scaled_at {x : Vec Ideal S256x256 .bf16} {g : Fin 256 → ℕ → ℝ} (hx : ∀ (b : Fin 256) (l : Fin 256), x (ix2 b l) = ((g b l.val : ℝ) : EReal)) (b : Fin 256) (l : Fin 256) :
    k0_pay200 x (ix2 b l) = ((g b l.val * (1 / 8) : ℝ) : EReal) := by
  pointwise [k0_pay200, k0_pay199]
  rw [hx, bits_eighth16, ← EReal.coe_mul]

theorem sel_at (p : Prop) [Decidable p] {x y : EReal} {a b : ℝ} (hx : x = (a : EReal)) (hy : y = (b : EReal)) :
    Scalar.select (BitVec.ofBool (decide p)) x y = ((if p then a else b : ℝ) : EReal) := by
  by_cases h : p
  · rw [if_pos h, decide_eq_true h]; exact hx
  · rw [if_neg h, decide_eq_false h]; exact hy

section
variable {x : Vec Ideal S256x256 .bf16} {g : Fin 256 → ℕ → ℝ} (hx : ∀ (b : Fin 256) (l : Fin 256), x (ix2 b l) = ((g b l.val : ℝ) : EReal)) (b : Fin 256) (l : Fin 128)
include hx

theorem q0_at : k0_pay201 k0_pay1 x (ix2 b l) = ((if l.val < 64 then g b l.val * (1 / 8) else 0 : ℝ) : EReal) := by
  pointwise [k0_pay201]
  rw [half_at]
  exact sel_at (l.val < 64) (scaled_at hx _ _) EReal.coe_zero.symm
theorem q1_at : k0_pay202 k0_pay1 x (ix2 b l) = ((if l.val < 64 then 0 else g b l.val * (1 / 8) : ℝ) : EReal) := by
  pointwise [k0_pay202]
  rw [half_at]
  exact sel_at (l.val < 64) EReal.coe_zero.symm (scaled_at hx _ _)
theorem q2_at : k0_pay203 k0_pay1 x (ix2 b l) = ((if l.val < 64 then g b (128 + l.val) * (1 / 8) else 0 : ℝ) : EReal) := by
  pointwise [k0_pay203]
  rw [half_at]
  exact sel_at (l.val < 64) (scaled_at hx _ _) EReal.coe_zero.symm
theorem q3_at : k0_pay204 k0_pay1 x (ix2 b l) = ((if l.val < 64 then 0 else g b (128 + l.val) * (1 / 8) : ℝ) : EReal) := by
  pointwise [k0_pay204]
  rw [half_at]
  exact sel_at (l.val < 64) EReal.coe_zero.symm (scaled_at hx _ _)
theorem d0_at : k0_pay205 k0_pay1 x (ix2 b l) = ((if l.val < 64 then g b l.val else 0 : ℝ) : EReal) := by
  pointwise [k0_pay205]
  rw [half_at]
  exact sel_at (l.val < 64) (hx _ _) EReal.coe_zero.symm
theorem d1_at : k0_pay206 k0_pay1 x (ix2 b l) = ((if l.val < 64 then 0 else g b l.val : ℝ) : EReal) := by
  pointwise [k0_pay206]
  rw [half_at]
  exact sel_at (l.val < 64) EReal.coe_zero.symm (hx _ _)
theorem d2_at : k0_pay207 k0_pay1 x (ix2 b l) = ((if l.val < 64 then g b (128 + l.val) else 0 : ℝ) : EReal) := by
  pointwise [k0_pay207]
  rw [half_at]
  exact sel_at (l.val < 64) (hx _ _) EReal.coe_zero.symm
theorem d3_at : k0_pay211 (k0_pay208 x) k0_pay209 (k0_pay210 k0_pay1) (ix2 b l) = ((if l.val < 64 then 0 else g b (128 + l.val) : ℝ) : EReal) := by
  pointwise [k0_pay211, k0_pay208, k0_pay209, k0_pay210]
  rw [half_at]
  exact sel_at (l.val < 64) EReal.coe_zero.symm (hx _ _)
end

/-- A block of rows' query gradient in a pair's lanes. -/
theorem out_at {x y : FVec Ideal S256x128 .f32} {g g' : Fin 256 → ℕ → ℝ} (hx : ∀ b (l : Fin 128), x (ix2 b l) = ((g b l.val : ℝ) : EReal)) (hy : ∀ b (l : Fin 128), y (ix2 b l) = ((g' b l.val : ℝ) : EReal)) (b : Fin 256) (l : Fin 128) :
    k0_pay220 k0_pay1 x y (ix2 b l) = ((if l.val < 64 then g b l.val else g' b l.val : ℝ) : EReal)
    ∧ k0_pay6 (k0_pay221 k0_pay1 x y) (ix2 b l) = ((if l.val < 64 then g b l.val else g' b l.val : ℝ) : EReal) := by
  constructor
  · pointwise [k0_pay220]
    rw [half_at]
    exact sel_at (l.val < 64) (hx _ _) (hy _ _)
  · pointwise [k0_pay6, k0_pay221]
    rw [half_at]
    exact sel_at (l.val < 64) (hx _ _) (hy _ _)

namespace Outer
variable (O : Outer) (P : Pt)

/-- The operands are those of `P`. -/
structure Reads : Prop where
  r3 : ∀ (s : Fin 2048) (l : Fin 256), O.arg3.view.read (Elt Ideal) O.X3 (ix2 s l) = ((P.Q s.val l.val : ℝ) : EReal)
  r4 : ∀ (s : Fin 2048) (l : Fin 256), O.arg4.view.read (Elt Ideal) O.X4 (ix2 s l) = ((P.K s.val l.val : ℝ) : EReal)
  r5 : ∀ (s : Fin 2048) (l : Fin 256), O.arg5.view.read (Elt Ideal) O.X5 (ix2 s l) = ((P.V s.val l.val : ℝ) : EReal)
  r6 : ∀ (s : Fin 2048) (l : Fin 256), O.arg6.view.read (Elt Ideal) O.X6 (ix2 s l) = ((P.D s.val l.val : ℝ) : EReal)
  r7 : ∀ (h : Fin 4) (s : Fin 2048), O.arg7.view.read (Elt Ideal) O.X7 (ix4 0 h s 0) = ((P.L h.val s.val : ℝ) : EReal)

variable {O P}

theorem rows_at (m : Memref sig .tc .vmem S2048x256 .bf16) (X : BufTy.Contents (Elt Ideal) m.view.ty) {g : ℕ → ℕ → ℝ}
    (hX : ∀ (s : Fin 2048) (l : Fin 256), m.view.read (Elt Ideal) X (ix2 s l) = ((g s.val l.val : ℝ) : EReal)) (k : Fin k0_t1_loop.trips) (b : Fin 256) (l : Fin 256) :
    View.readAt (Elt Ideal) m.view (Rect.unit (s := S2048x256) (k0_off1 k) S256x256.size (k0_off1_inb k)).toLoadRect X (ix2 b l) = ((g (256 * k.val + b.val) l.val : ℝ) : EReal) := by
  have hk := lt8 k
  refine Eq.trans ?_ (hX ⟨256 * k.val + b.val, by omega⟩ l)
  refine (congrFun (View.readAt_eq_ld _ _ _) _).trans (View.ld_unit_apply_of _ _ _ _ _ _ fun a => ?_)
  have ho := off1 k
  refine Fin.cases ?_ (fun a => Fin.cases ?_ (fun a => a.elim0) a) a
  · exact (congrArg (· + b.val) ho.1).symm
  · exact (Nat.zero_add _).symm.trans (congrArg (· + l.val) ho.2).symm

theorem tot_at (m : Memref sig .tc .vmem S1x4x2048x1 .f32) (X : BufTy.Contents (Elt Ideal) m.view.ty) {g : ℕ → ℕ → ℝ}
    (hX : ∀ (h : Fin 4) (s : Fin 2048), m.view.read (Elt Ideal) X (ix4 0 h s 0) = ((g h.val s.val : ℝ) : EReal)) (k : Fin k0_t1_loop.trips) (h : Fin 4)
    (off : Fin 4 → ℕ) (ho : off = ![0, h.val, 256 * k.val, 0]) (hb : ∀ a, off a + S1x1x256x1.size a ≤ S1x4x2048x1.size a) (b : Fin 256) :
    View.readAt (Elt Ideal) m.view (Rect.unit (s := S1x4x2048x1) off S1x1x256x1.size hb).toLoadRect X (ix4 0 0 b 0) = ((g h.val (256 * k.val + b.val) : ℝ) : EReal) := by
  have hk := lt8 k
  refine Eq.trans ?_ (hX h ⟨256 * k.val + b.val, by omega⟩)
  refine (congrFun (View.readAt_eq_ld _ _ _) _).trans (View.ld_unit_apply_of _ _ _ _ _ _ fun a => ?_)
  subst ho
  refine Fin.cases ?_ (fun a => Fin.cases ?_ (fun a => Fin.cases ?_ (fun a => Fin.cases ?_ (fun a => a.elim0) a) a) a) a <;> rfl

theorem good (R : Reads O P) (k : Fin k0_t1_loop.trips) : Args.Good (O.args k) P where
  h0 := ⟨fun a l => (q0_at (rows_at _ _ R.r3 k) a l).trans (by by_cases hl : l.val < 64 <;> simp [Pt.q, has, args, hl]), fun a l => (d0_at (rows_at _ _ R.r6 k) a l).trans (by by_cases hl : l.val < 64 <;> simp [Pt.d, has, args, hl]),
    fun a => (by pointwise [args, k0_pay212]; exact tot_at _ _ R.r7 k 0 _ (off2 k) _ a)⟩
  h1 := ⟨fun a l => (q1_at (rows_at _ _ R.r3 k) a l).trans (by by_cases hl : l.val < 64 <;> simp [Pt.q, has, args, hl]), fun a l => (d1_at (rows_at _ _ R.r6 k) a l).trans (by by_cases hl : l.val < 64 <;> simp [Pt.d, has, args, hl]),
    fun a => (by pointwise [args, k0_pay213]; exact tot_at _ _ R.r7 k 1 _ (off3 k) _ a)⟩
  h2 := ⟨fun a l => (q2_at (rows_at _ _ R.r3 k) a l).trans (by by_cases hl : l.val < 64 <;> simp [Pt.q, has, args, hl]), fun a l => (d2_at (rows_at _ _ R.r6 k) a l).trans (by by_cases hl : l.val < 64 <;> simp [Pt.d, has, args, hl]),
    fun a => (by pointwise [args, k0_pay214]; exact tot_at _ _ R.r7 k 2 _ (off4 k) _ a)⟩
  h3 := ⟨fun a l => (q3_at (rows_at _ _ R.r3 k) a l).trans (by by_cases hl : l.val < 64 <;> simp [Pt.q, has, args, hl]), fun a l => (d3_at (rows_at _ _ R.r6 k) a l).trans (by by_cases hl : l.val < 64 <;> simp [Pt.d, has, args, hl]),
    fun a => (by pointwise [args, k0_pay215]; exact tot_at _ _ R.r7 k 3 _ (off5 k) _ a)⟩
  gQ a l := by pointwise [args, k0_pay199]; exact rows_at _ _ R.r3 k a l
  gD a l := rows_at _ _ R.r6 k a l
  gK := R.r4
  gV := R.r5

theorem head_zero (h k : ℕ) : HeadAt P h k 0 (k0_pay216 (F := Ideal)) (k0_pay217 (F := Ideal)) (k0_pay217 (F := Ideal)) where
  cd a l := by pointwise [k0_pay216]; simp
  cp a := by pointwise [k0_pay217]; simp
  ce a := by pointwise [k0_pay217]; simp

/-- What holds of the written memrefs before block `n`. -/
structure At (O : Outer) (P : Pt) (f8 : BufTy.Contents (Elt Ideal) O.arg8.view.ty) (f11 : BufTy.Contents (Elt Ideal) O.arg11.view.ty) (f12 : BufTy.Contents (Elt Ideal) O.arg12.view.ty) (n : ℕ) : Prop where
  aq : ∀ (s : Fin 2048) (l : Fin 256), s.val < 256 * n → O.arg8.view.read (Elt Ideal) (O.arg8.view.writes (Elt Ideal) f8 (O.pcs f11 f12 n).1) (ix2 s l) = ((P.gq s.val l.val : ℝ) : EReal)
  ak : ∀ (s : Fin 2048) (l : Fin 256), O.arg11.view.read (Elt Ideal) (O.arg11.view.writes (Elt Ideal) f11 (O.pcs f11 f12 n).2.1) (ix2 s l)
    = ((∑ t ∈ Finset.range (256 * n), P.dz (hd l.val) t s.val * P.Q t l.val : ℝ) : EReal)
  av : ∀ (s : Fin 2048) (l : Fin 256), O.arg12.view.read (Elt Ideal) (O.arg12.view.writes (Elt Ideal) f12 (O.pcs f11 f12 n).2.2) (ix2 s l)
    = ((∑ t ∈ Finset.range (256 * n), P.w (hd l.val) t s.val * P.D t l.val : ℝ) : EReal)

theorem fin_inv (R : Reads O P) (k : Fin k0_t1_loop.trips) (f11 : BufTy.Contents (Elt Ideal) O.arg11.view.ty) (f12 : BufTy.Contents (Elt Ideal) O.arg12.view.ty) {gk gv : ℕ → ℕ → ℝ}
    (ik : ∀ (s : Fin 2048) (l : Fin 256), O.arg11.view.read (Elt Ideal) f11 (ix2 s l) = ((gk s.val l.val : ℝ) : EReal))
    (iv : ∀ (s : Fin 2048) (l : Fin 256), O.arg12.view.read (Elt Ideal) f12 (ix2 s l) = ((gv s.val l.val : ℝ) : EReal)) :
    Args.Inv (O.args k) P f11 f12 gk gv (k.val / 2 + 1) (O.fin k f11 f12) := by
  have h := Args.inv_all (good R k) (f11 := f11) (f12 := f12) (gk := gk) (gv := gv) (init := init)
    ⟨head_zero _ _, head_zero _ _, head_zero _ _, head_zero _ _, fun s l => ((congrArg (fun x => ((gk s.val l.val + x : ℝ) : EReal)) (if_neg (by omega))).trans (by rw [add_zero]; exact (ik s l).symm)).symm, fun s l => ((congrArg (fun x => ((gv s.val l.val + x : ℝ) : EReal)) (if_neg (by omega))).trans (by rw [add_zero]; exact (iv s l).symm)).symm⟩ _ le_rfl
  have hN : (O.args k).N = k.val / 2 + 1 := trips2 k
  rw [show O.fin k f11 f12 = (O.args k).st f11 f12 init (O.args k).N from rfl]
  rw [← hN]; exact h

/-- A trip of the outer loop. -/
theorem At.step (R : Reads O P) {f8 : BufTy.Contents (Elt Ideal) O.arg8.view.ty} {f11 : BufTy.Contents (Elt Ideal) O.arg11.view.ty} {f12 : BufTy.Contents (Elt Ideal) O.arg12.view.ty}
    (k : Fin k0_t1_loop.trips) (H : At O P f8 f11 f12 k.val) : At O P f8 f11 f12 (k.val + 1) := by
  have hk := lt8 k
  have I := fin_inv R k _ _ (gk := fun s l => ∑ t ∈ Finset.range (256 * k.val), P.dz (hd l) t s * P.Q t l)
    (gv := fun s l => ∑ t ∈ Finset.range (256 * k.val), P.w (hd l) t s * P.D t l) H.ak H.av
  have hs := O.pcs_succ k f11 f12
  generalize O.fin k (O.arg11.view.writes (Elt Ideal) f11 (O.pcs f11 f12 k.val).2.1) (O.arg12.view.writes (Elt Ideal) f12 (O.pcs f11 f12 k.val).2.2) = x at I hs
  have hN : 256 * (k.val + 1) ≤ 512 * (k.val / 2 + 1) := by omega
  have row : ∀ (h : ℕ) (a : Fin 256) (l : ℕ), (∑ s ∈ Finset.range (512 * (k.val / 2 + 1)), P.dz h (256 * k.val + a.val) s * P.K s l) = ∑ s ∈ Finset.range 2048, P.dz h (256 * k.val + a.val) s * P.K s l :=
    fun h a l => Pt.gq_range h _ l _ (by omega) (by omega)
  have p13 := fun a l => (out_at (g := (fun (a : Fin 256) (l : ℕ) => ∑ s ∈ Finset.range 2048, P.dz 0 (256 * k.val + a.val) s * P.K s (128 * (0 / 2) + l)))
    (g' := (fun (a : Fin 256) (l : ℕ) => ∑ s ∈ Finset.range 2048, P.dz 1 (256 * k.val + a.val) s * P.K s (128 * (1 / 2) + l))) (fun a l => (I.i0.cd a l).trans (congrArg _ (row 0 a _))) (fun a l => (I.i1.cd a l).trans (congrArg _ (row 1 a _))) a l).1
  have p14 := fun a l => (out_at (g := (fun (a : Fin 256) (l : ℕ) => ∑ s ∈ Finset.range 2048, P.dz 2 (256 * k.val + a.val) s * P.K s (128 * (2 / 2) + l)))
    (g' := (fun (a : Fin 256) (l : ℕ) => ∑ s ∈ Finset.range 2048, P.dz 3 (256 * k.val + a.val) s * P.K s (128 * (3 / 2) + l))) (fun a l => (I.i2.cd a l).trans (congrArg _ (row 2 a _))) (fun a l => (I.i3.cd a l).trans (congrArg _ (row 3 a _))) a l).2
  refine ⟨fun s l hsl => ?_, fun s l => ?_, fun s l => ?_⟩
  · rw [hs, View.writes_append]
    by_cases h1 : s.val < 256 * k.val
    · rw [View.read_writes_cons_unit_of_not_mem _ _ _ _ _ _ (off14' k) 0 (Or.inl h1), View.read_writes_cons_unit_of_not_mem _ _ _ _ _ _ (off13' k) 0 (Or.inl h1)]
      exact H.aq s l h1
    · have e : 256 * k.val + (s.val - 256 * k.val) = s.val := by omega
      by_cases hl : l.val < 128
      · rw [View.read_writes_cons_unit_of_not_mem _ _ _ _ _ _ (off14' k) 1 (Or.inl hl),
          View.read_writes_cons_unit_of_mem _ _ _ _ _ _ (ix2 ⟨s.val - 256 * k.val, by omega⟩ ⟨l.val, hl⟩) (off13' k) ?_, p13]
        · have h2 : l.val / 128 = 0 := by omega
          have h3 : l.val % 128 = l.val := by omega
          simp only [e, Pt.gq, hd, h2, h3]
          split <;> simp
        · intro a
          refine Fin.cases ?_ (fun a => Fin.cases ?_ (fun a => a.elim0) a) a
          · exact e.symm
          · exact (Nat.zero_add _).symm
      · rw [View.read_writes_cons_unit_of_mem _ _ _ _ _ _ (ix2 ⟨s.val - 256 * k.val, by omega⟩ ⟨l.val - 128, by omega⟩) (off14' k) ?_, p14]
        · have h2 : l.val / 128 = 1 := by omega
          have h3 : l.val % 128 = l.val - 128 := by omega
          have h4 : 128 + (l.val - 128) = l.val := by omega
          simp only [e, Pt.gq, hd, h2, h3]
          split <;> simp [h4]
        · intro a
          refine Fin.cases ?_ (fun a => Fin.cases ?_ (fun a => a.elim0) a) a
          · exact e.symm
          · show l.val = 128 + (l.val - 128); omega
  · rw [hs, View.writes_append]
    refine (I.ik s l).trans (congrArg _ ?_)
    exact (congrArg _ (Pt.ck_if _ _ _ _ _ hN)).trans (Pt.ck_sum _ _ _ _)
  · rw [hs, View.writes_append]
    refine (I.iv s l).trans (congrArg _ ?_)
    exact (congrArg _ (Pt.cv_if _ _ _ _ _ hN)).trans (Pt.cv_sum _ _ _ _)

/-- The whole loop, from accumulators that read zero. -/
theorem at_all (R : Reads O P) {f8 : BufTy.Contents (Elt Ideal) O.arg8.view.ty} {f11 : BufTy.Contents (Elt Ideal) O.arg11.view.ty} {f12 : BufTy.Contents (Elt Ideal) O.arg12.view.ty}
    (z11 : ∀ (s : Fin 2048) (l : Fin 256), O.arg11.view.read (Elt Ideal) f11 (ix2 s l) = 0) (z12 : ∀ (s : Fin 2048) (l : Fin 256), O.arg12.view.read (Elt Ideal) f12 (ix2 s l) = 0) :
    ∀ n, n ≤ 8 → At O P f8 f11 f12 n
  | 0, _ => ⟨fun s l h => absurd h (by omega), fun s l => (z11 s l).trans (by simp), fun s l => (z12 s l).trans (by simp)⟩
  | n + 1, h => At.step R ⟨n, lt_of_lt_of_eq h trips1.symm⟩ (at_all R z11 z12 n (Nat.le_of_succ_le h))

end Outer

end Cert.Kernel4Ideal.Sb

end
-- ==== Proof.SbWhole.lean ====
/-
  The attention's gradients over the whole arrays, over the reals, and the grid points' share of them.
-/
module

public import proofs.«01_k».proof.Proof.SbOuterVal

@[expose] public section

noncomputable section

open Idealize.ShloMosaic
open Cert.Lift
open scoped BigOperators

namespace Cert.SbM

open Cert.Kernel4Ideal.Sb (Pt has hd sp)

/-- The projections' rows, 512 queries, keys and values each, and the cotangent's rows. -/
structure In where
  X : ℕ → ℕ → ℝ
  Y : ℕ → ℕ → ℝ

namespace In
variable (A : In)

/-- The scaled score of head `h` of sequence `b`. -/
def z (b h t s : ℕ) : ℝ := (∑ d : Fin 64, A.X (2048 * b + t) (64 * h + d.val) * A.X (2048 * b + s) (512 + (64 * h + d.val))) * (1 / 8)
def dv (b h t s : ℕ) : ℝ := ∑ d : Fin 64, A.Y (2048 * b + t) (64 * h + d.val) * A.X (2048 * b + s) (1024 + (64 * h + d.val))
def spm (b h t s : ℕ) : ℝ := if s < t then sp (A.z b h t s) else 0
def L (b h t : ℕ) : ℝ := ∑ u ∈ Finset.range 2048, A.spm b h t u
def sg (b h t s : ℕ) : ℝ := Real.exp (A.z b h t s - sp (A.z b h t s))
def w (b h t s : ℕ) : ℝ :=
  if s < t then Real.exp (A.z b h t s - sp (A.z b h t s) - (A.L b h t - ∑ u ∈ Finset.range (s + 1), A.spm b h t u)) else 0
def e (b h t s : ℕ) : ℝ := A.dv b h t s * A.w b h t s
def dz (b h t s : ℕ) : ℝ :=
  (if s < t then A.e b h t s * (1 - A.sg b h t s) - (∑ u ∈ Finset.range s, A.e b h t u) * A.sg b h t s else 0) * (1 / 8)

/-- The three results at row `r` and lane `j`. -/
def oq (r j : ℕ) : ℝ := ∑ s ∈ Finset.range 2048, A.dz (r / 2048) (j / 64) (r % 2048) s * A.X (2048 * (r / 2048) + s) (512 + j)
def ok (r j : ℕ) : ℝ := ∑ t ∈ Finset.range 2048, A.dz (r / 2048) (j / 64) t (r % 2048) * A.X (2048 * (r / 2048) + t) j
def ov (r j : ℕ) : ℝ := ∑ t ∈ Finset.range 2048, A.w (r / 2048) (j / 64) t (r % 2048) * A.Y (2048 * (r / 2048) + t) j

/-- Sequence `b` and heads `4 p … 4 p + 3`. -/
def pt (b p : ℕ) : Pt where
  Q t l := A.X (2048 * b + t) (256 * p + l)
  K s l := A.X (2048 * b + s) (512 + (256 * p + l))
  V s l := A.X (2048 * b + s) (1024 + (256 * p + l))
  D t l := A.Y (2048 * b + t) (256 * p + l)
  L h t := A.L b (4 * p + h) t

/-- A head's lanes of its pair's. -/
theorem sum_lanes (h : ℕ) (f : ℕ → ℝ) : (∑ l : Fin 128, if has h l.val then f (128 * (h / 2) + l.val) else 0) = ∑ d : Fin 64, f (64 * h + d.val) := by
  rw [Fin.sum_univ_eq_sum_range (fun l => if has h l then f (128 * (h / 2) + l) else 0), Fin.sum_univ_eq_sum_range (fun d => f (64 * h + d)), show (128 : ℕ) = 64 + 64 from rfl, Finset.sum_range_add]
  rcases Nat.mod_two_eq_zero_or_one h with e | e
  · rw [Finset.sum_eq_zero (s := Finset.range 64) (f := fun x => if has h (64 + x) then f ((64 + 64) * (h / 2) + (64 + x)) else 0) fun x _ => if_neg fun H => by have := H.1 e; omega, add_zero]
    refine Finset.sum_congr rfl fun x hx => ?_
    have := Finset.mem_range.1 hx
    have H : has h x := ⟨fun _ => this, fun _ => e⟩
    rw [if_pos H]
    congr 1; omega
  · rw [Finset.sum_eq_zero (s := Finset.range 64) (f := fun x => if has h x then f ((64 + 64) * (h / 2) + x) else 0) fun x hx => if_neg fun H => by have := H.2 (Finset.mem_range.1 hx); omega, zero_add]
    refine Finset.sum_congr rfl fun x hx => ?_
    have H : has h (64 + x) := ⟨fun h' => by omega, fun h' => by omega⟩
    rw [if_pos H]
    congr 1; omega

variable (b p h t s : ℕ)

theorem pt_z : (A.pt b p).z h t s = A.z b (4 * p + h) t s := by
  unfold Pt.z z
  rw [Finset.sum_mul]
  refine Eq.trans (Finset.sum_congr rfl fun l _ => ?_) ((sum_lanes h fun l => A.X (2048 * b + t) (256 * p + l) * A.X (2048 * b + s) (512 + (256 * p + l)) * (1 / 8)).trans (Finset.sum_congr rfl fun d _ => ?_))
  · unfold Pt.q pt; dsimp only
    split <;> ring
  · rw [show 256 * p + (64 * h + d.val) = 64 * (4 * p + h) + d.val by ring]

theorem pt_dv : (A.pt b p).dv h t s = A.dv b (4 * p + h) t s := by
  unfold Pt.dv dv
  refine Eq.trans (Finset.sum_congr rfl fun l _ => ?_) ((sum_lanes h fun l => A.Y (2048 * b + t) (256 * p + l) * A.X (2048 * b + s) (1024 + (256 * p + l))).trans (Finset.sum_congr rfl fun d _ => ?_))
  · unfold Pt.d pt; dsimp only
    split <;> ring
  · rw [show 256 * p + (64 * h + d.val) = 64 * (4 * p + h) + d.val by ring]

theorem pt_spm : (A.pt b p).spm h t s = A.spm b (4 * p + h) t s := by unfold Pt.spm spm; rw [pt_z]
theorem pt_sg : (A.pt b p).sg h t s = A.sg b (4 * p + h) t s := by unfold Pt.sg sg; rw [pt_z]
theorem pt_w : (A.pt b p).w h t s = A.w b (4 * p + h) t s := by
  unfold Pt.w w; simp only [pt_z, pt_spm]; rfl
theorem pt_e : (A.pt b p).e h t s = A.e b (4 * p + h) t s := by unfold Pt.e e; rw [pt_dv, pt_w]
theorem pt_dz : (A.pt b p).dz h t s = A.dz b (4 * p + h) t s := by unfold Pt.dz dz; simp only [pt_e, pt_sg]

variable {b p}

theorem head {r j : ℕ} (l : Fin 256) (hr : r = 2048 * b + s) (hs : s < 2048) (hj : j = 256 * p + l.val) :
    r / 2048 = b ∧ r % 2048 = s ∧ j / 64 = 4 * p + hd l.val := by
  have := l.isLt
  unfold hd
  refine ⟨by omega, by omega, ?_⟩
  split <;> omega

theorem oq_eq {r j : ℕ} (l : Fin 256) (hr : r = 2048 * b + s) (hs : s < 2048) (hj : j = 256 * p + l.val) : (A.pt b p).gq s l.val = A.oq r j := by
  obtain ⟨e1, e2, e3⟩ := head s l hr hs hj
  unfold Pt.gq oq
  rw [e1, e2, e3, hj]
  exact Finset.sum_congr rfl fun u _ => by rw [pt_dz]; rfl

theorem ok_eq {r j : ℕ} (l : Fin 256) (hr : r = 2048 * b + s) (hs : s < 2048) (hj : j = 256 * p + l.val) : (A.pt b p).gk s l.val = A.ok r j := by
  obtain ⟨e1, e2, e3⟩ := head s l hr hs hj
  unfold Pt.gk ok
  rw [e1, e2, e3, hj]
  exact Finset.sum_congr rfl fun u _ => by rw [pt_dz]; rfl

theorem ov_eq {r j : ℕ} (l : Fin 256) (hr : r = 2048 * b + s) (hs : s < 2048) (hj : j = 256 * p + l.val) : (A.pt b p).gv s l.val = A.ov r j := by
  obtain ⟨e1, e2, e3⟩ := head s l hr hs hj
  unfold Pt.gv ov
  rw [e1, e2, e3, hj]
  exact Finset.sum_congr rfl fun u _ => by rw [pt_w]; rfl

end In

end Cert.SbM

end
-- ==== Proof.SbHost.lean ====
/-
  What the attention's backward call is handed by the host: the rounded projections, and each row's total.
-/
module

public import proofs.«01_k».proof.Proof.SbWhole
public import proofs.«01_k».proof.Proof.SbFrame
public import Idealize.ShloMosaic.Lib.Pipeline.ValueKit

@[expose] public section

set_option maxRecDepth 16384
set_option maxHeartbeats 4000000

noncomputable section

open Idealize.ShloMosaic Idealize.ShloMosaic.TcCoe Idealize.ShloMosaic.Tactic Idealize.SL Idealize.SL.Sem
open Cert.Lift Cert.SbM
open scoped BigOperators

namespace Cert.Kernel4Ideal.Sb

open Cert.Kernel4Ideal Cert.Kernel4Ideal.Gen

/-- A scalar of the host, broadcast over the scores. -/
def hC (b : BitVec 32) : FVec Ideal S4x8x2048x2048 .f32 := broadcastInDim S4x8x2048x2048 ![] bcast_S_S4x8x2048x2048 (constant (F := Ideal) S_ .f32 b)

/-- The scores. -/
def hZ (x : FVec Ideal S8192x1536 .f32) : FVec Ideal S4x8x2048x2048 .f32 :=
  mulf (Host.dotGeneral (F := Ideal) dot_S4x2048x8x64_S4x2048x8x64_S4x8x2048x2048_3_3_1_1_02_02 none
    (shapeCast S4x2048x8x64 (extractStridedSlice S8192x512 ![0, 0] x slices_S8192x1536_S8192x512_0_0) shapeCasts_S8192x512_S4x2048x8x64)
    (shapeCast S4x2048x8x64 (extractStridedSlice S8192x512 ![0, 512] x slices_S8192x1536_S8192x512_0_512) shapeCasts_S8192x512_S4x2048x8x64)) (hC 0x3E000000#32)

/-- Columns strictly before the row. -/
def hM : IVec S2048x2048 1 :=
  cmpi .slt (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- The logarithm of the logistic function. -/
def hLs (y : FVec Ideal S4x8x2048x2048 .f32) : FVec Ideal S4x8x2048x2048 .f32 :=
  Host.negf (select (cmpf .une (subf (Host.negf y) (hC 0x00000000#32)) (subf (Host.negf y) (hC 0x00000000#32))) (addf (Host.negf y) (hC 0x00000000#32))
    (addf (maximumf (Host.negf y) (hC 0x00000000#32)) (Host.log1p (Host.exp (Host.negf (Host.absf (subf (Host.negf y) (hC 0x00000000#32))))))))

/-- The rows' totals. -/
def hL (x : FVec Ideal S8192x1536 .f32) : FVec Ideal S4x8x2048x1 .f32 :=
  Host.negf (broadcastInDim S4x8x2048x1 ![0, 1, 2] bcast_S4x8x2048_S4x8x2048x1_0_1_2
    (Host.reduceAdd (select (broadcastInDim S4x8x2048x2048 ![2, 3] bcast_S2048x2048_S4x8x2048x2048_2_3 hM) (hLs (Host.negf (hZ x))) (hC 0x00000000#32))
      (constant (F := Ideal) S_ .f32 0x00000000#32) reducesTo_S4x8x2048x2048_S4x8x2048_d3 h_S_))

section
variable (m : (ℓ : Loc nD τ sig) → Buf (Elt Ideal) ℓ) (c : Dev nD)

theorem V_rows : V m c main_v4 = (truncf (F := Ideal) (s := S8192x1536) (φ := .f32) .bf16 (m ((c : Thread nD τ).loc main_arg0)) bitsLt_bf16_f32 : FVec Ideal S8192x1536 .bf16) := by
  simp only [V, stretches, hostOps0, hostOps0_1, hostOps0_2, hostOps0_3, hostOps0_4, List.flatten_cons, List.flatten_nil, List.append_nil, List.cons_append, List.nil_append]
  after_results

theorem V_totals : V m c main_v20 = hL (m ((c : Thread nD τ).loc main_arg0)) := by
  simp only [V, stretches, hostOps0, hostOps0_1, hostOps0_2, hostOps0_3, hostOps0_4, List.flatten_cons, List.flatten_nil, List.append_nil, List.cons_append, List.nil_append]
  after_results
  rfl
end

variable {x : FVec Ideal S8192x1536 .f32} {A : In} (hx : ∀ (r : Fin 8192) (j : Fin 1536), x (ix2 r j) = ((A.X r.val j.val : ℝ) : EReal))
include hx

theorem hZ_at (b : Fin 4) (h : Fin 8) (t s : Fin 2048) : hZ x (ix4 b h t s) = ((A.z b.val h.val t.val s.val : ℝ) : EReal) := by
  pointwise [hZ, hC, bits_eighth]
  simp only [hx, ← EReal.coe_mul, sum_coe]
  refine congrArg _ (congrArg (· * (1 / 8 : ℝ)) (Finset.sum_congr rfl fun d _ => ?_))
  rw [Nat.mul_comm b.val 2048, Nat.mul_comm h.val 64]

omit hx in
theorem hM_at (t s : Fin 2048) : hM (ix2 t s) = BitVec.ofBool (decide (s.val < t.val)) := by
  pointwise [hM]
  exact cmp_slt _ _ (by omega) (by omega)

omit hx in
/-- The softplus as the host writes it. -/
theorem sp_host (a : ℝ) : max (a : EReal) 0 + Ideal.log1p (Ideal.exp (-FloatOps.absf (F := Ideal) (φ := .f32) (a : EReal))) = ((sp a : ℝ) : EReal) := by
  have e : (FloatOps.absf (F := Ideal) (φ := .f32) (a : EReal)) = ((|a| : ℝ) : EReal) := abs_coe _
  unfold Ideal.log1p
  rw [e, ← EReal.coe_neg, Ideal.exp_coe, ← EReal.coe_one, ← EReal.coe_add, Ideal.log_coe, if_neg, ← EReal.coe_zero]
  · rw [← Monotone.map_max EReal.coe_strictMono.monotone, ← EReal.coe_add]; rfl
  · have := Real.exp_pos (-|a|); intro h; linarith

omit hx in
theorem hLs_at {y : FVec Ideal S4x8x2048x2048 .f32} {i : S4x8x2048x2048.Idx} {a : ℝ} (hy : y i = ((a : ℝ) : EReal)) : hLs y i = ((-sp (-a) : ℝ) : EReal) := by
  pointwise [hLs, hC]
  rw [hy, if_neg (fun h => h rfl), ← EReal.coe_neg, sp_host, ← EReal.coe_neg]

theorem hL_at (b : Fin 4) (h : Fin 8) (t : Fin 2048) : hL x (ix4 b h t 0) = ((A.L b.val h.val t.val : ℝ) : EReal) := by
  pointwise [hL, hC]
  have e : ∀ s : Fin 2048, Scalar.select (hM (ix2 t s)) (hLs (Host.negf (hZ x)) (ix4 b h t s)) 0 = ((-A.spm b.val h.val t.val s.val : ℝ) : EReal) := fun s => by
    rw [hM_at, hLs_at (a := -A.z b.val h.val t.val s.val) (by pointwise; rw [hZ_at hx, EReal.coe_neg]), neg_neg, ← EReal.coe_zero]
    refine (sel_at (s.val < t.val) rfl rfl).trans (congrArg _ ?_)
    unfold In.spm; split <;> simp
  simp only [e, sum_coe]
  rw [← EReal.coe_neg, Finset.sum_neg_distrib, neg_neg, Fin.sum_univ_eq_sum_range (fun s => A.spm b.val h.val t.val s)]
  rfl

end Cert.Kernel4Ideal.Sb

end
-- ==== Proof.SbOut.lean ====
/-
  What a grid point of the attention's backward call leaves in its three output windows, entry by entry.
-/
module

public import proofs.«01_k».proof.Proof.SbOuterVal
public import proofs.«01_k».proof.Proof.SbFrame

@[expose] public section

set_option maxRecDepth 100000
set_option maxHeartbeats 4000000

noncomputable section

open Idealize.ShloMosaic Idealize.ShloMosaic.TcCoe Idealize.ShloMosaic.Tactic Idealize.SL Idealize.SL.Sem
open scoped BigOperators

namespace Cert.Kernel4Ideal.Sb

open Cert.Kernel4Ideal Cert.Kernel4Ideal.Gen

variable (m : (ℓ : Loc nD τ sig) → Buf (Elt Ideal) ℓ) (c : Dev nD) (t : Fin (cfgM (F := Ideal)).N)

/-- The loop's binders at a grid point. -/
def outer : Outer :=
  ⟨c, grid0.coords t, tbM, Memref.isWhole_whole _, ms0 (F := Ideal) t, hs0 t, ms1 (F := Ideal) t, hs1 t, ms2 (F := Ideal) t, hs2 t, ms3 (F := Ideal) t, hs3 t, ms4 (F := Ideal) t, hs4 t, ms5 (F := Ideal) t, hs5 t, ms6 (F := Ideal) t, hs6 t, ms7 (F := Ideal) t, hs7 t,
   sc0, Memref.isWhole_whole _, sc1, Memref.isWhole_whole _, run.sl.v1 (grid0.coords t), tbl (F := Ideal) 0,
   (hs0 t).unread (iblk m c 0 t), (hs1 t).unread (iblk m c 1 t), (hs2 t).unread (iblk m c 2 t), (hs3 t).unread (iblk m c 3 t), (hs4 t).unread (iblk m c 4 t), zeroWords _⟩

/-- A cleared scratch buffer. -/
def clear11 : BufTy.Contents (Elt Ideal) (sc0 : Memref sig .tc .vmem S2048x256 .f32).view.ty :=
  sc0.view.writes (Elt Ideal) sc0.view.junk [⟨Rect.unit (s := S2048x256) ![0, 0] S2048x256.size inb_S2048x256_S2048x256_0_0, k0_pay4 (F := Ideal)⟩]
def clear12 : BufTy.Contents (Elt Ideal) (sc1 : Memref sig .tc .vmem S2048x256 .f32).view.ty :=
  sc1.view.writes (Elt Ideal) sc1.view.junk [⟨Rect.unit (s := S2048x256) ![0, 0] S2048x256.size inb_S2048x256_S2048x256_0_0, k0_pay5 (F := Ideal)⟩]

theorem run5 : (runAt m c t).1 (k0_pay4 (F := Ideal)) (k0_pay5 (F := Ideal)) = ((outer m c t).pcs clear11 clear12 k0_t1_loop.trips).1 := by
  unfold runAt run; dsimp only
  unfold Outer.pcs outer clear11 clear12
  sl_kernel_rfl

theorem run6 : (runAt m c t).2.1 (k0_pay4 (F := Ideal)) (k0_pay5 (F := Ideal)) =
    [⟨Rect.unit (s := S2048x256) ![0, 0] S2048x256.size inb_S2048x256_S2048x256_0_0, k0_pay7 (View.readAt (Elt Ideal) (sc0 : Memref sig .tc .vmem S2048x256 .f32).view (Rect.unit (s := S2048x256) ![0, 0] S2048x256.size inb_S2048x256_S2048x256_0_0).toLoadRect
      (sc0.view.writes (Elt Ideal) clear11 ((outer m c t).pcs clear11 clear12 k0_t1_loop.trips).2.1))⟩] := by
  unfold runAt run; dsimp only
  unfold Outer.pcs outer clear11 clear12
  sl_kernel_rfl

theorem run7 : (runAt m c t).2.2.1 (k0_pay4 (F := Ideal)) (k0_pay5 (F := Ideal)) =
    [⟨Rect.unit (s := S2048x256) ![0, 0] S2048x256.size inb_S2048x256_S2048x256_0_0, k0_pay8 (View.readAt (Elt Ideal) (sc1 : Memref sig .tc .vmem S2048x256 .f32).view (Rect.unit (s := S2048x256) ![0, 0] S2048x256.size inb_S2048x256_S2048x256_0_0).toLoadRect
      (sc1.view.writes (Elt Ideal) clear12 ((outer m c t).pcs clear11 clear12 k0_t1_loop.trips).2.2))⟩] := by
  unfold runAt run; dsimp only
  unfold Outer.pcs outer clear11 clear12
  sl_kernel_rfl

/-- A full-rectangle store, read back. -/
theorem full_at {φ : EltTy} (M : Memref sig .tc .vmem S2048x256 φ) (f : BufTy.Contents (Elt Ideal) M.view.ty) (x : Vec Ideal S2048x256 φ) (s : Fin 2048) (l : Fin 256) :
    M.view.read (Elt Ideal) (M.view.writes (Elt Ideal) f [⟨Rect.unit (s := S2048x256) ![0, 0] S2048x256.size inb_S2048x256_S2048x256_0_0, x⟩]) (ix2 s l) = x (ix2 s l) :=
  View.read_writes_cons_unit_of_mem _ _ _ _ _ _ _ (off' := ![0, 0]) rfl (by intro a; match a with | ⟨0, _⟩ => exact (Nat.zero_add _).symm | ⟨1, _⟩ => exact (Nat.zero_add _).symm)

theorem clear11_at (s : Fin 2048) (l : Fin 256) : (sc0 : Memref sig .tc .vmem S2048x256 .f32).view.read (Elt Ideal) clear11 (ix2 s l) = 0 :=
  (full_at sc0 _ _ s l).trans (by pointwise [k0_pay4])

theorem clear12_at (s : Fin 2048) (l : Fin 256) : (sc1 : Memref sig .tc .vmem S2048x256 .f32).view.read (Elt Ideal) clear12 (ix2 s l) = 0 :=
  (full_at sc1 _ _ s l).trans (by pointwise [k0_pay5])

variable {m c t} {P : Pt}

theorem all (R : Outer.Reads (outer m c t) P) (f8) : Outer.At (outer m c t) P f8 clear11 clear12 k0_t1_loop.trips :=
  Outer.at_all R clear11_at clear12_at _ (le_of_eq trips1)

theorem out5_at (R : Outer.Reads (outer m c t) P) (s : Fin 2048) (l : Fin 256) : out5 m c t (ix2 s l) = ((P.gq s.val l.val : ℝ) : EReal) := by
  unfold out5
  rw [run5]
  exact (all R _).aq s l (by rw [trips1]; exact s.isLt)

/-- A full-rectangle read. -/
theorem whole_at (M : Memref sig .tc .vmem S2048x256 .f32) (f : BufTy.Contents (Elt Ideal) M.view.ty) (s : Fin 2048) (l : Fin 256) :
    View.readAt (Elt Ideal) M.view (Rect.unit (s := S2048x256) ![0, 0] S2048x256.size inb_S2048x256_S2048x256_0_0).toLoadRect f (ix2 s l) = M.view.read (Elt Ideal) f (ix2 s l) :=
  (congrFun (View.readAt_eq_ld _ _ _) _).trans (View.ld_unit_apply_of _ _ _ _ _ _ (by intro a; match a with | ⟨0, _⟩ => exact (Nat.zero_add _).symm | ⟨1, _⟩ => exact (Nat.zero_add _).symm))

theorem pay7_at (x : Vec Ideal S2048x256 .f32) (s : Fin 2048) (l : Fin 256) : k0_pay7 x (ix2 s l) = x (ix2 s l) := by pointwise [k0_pay7]
theorem pay8_at (x : Vec Ideal S2048x256 .f32) (s : Fin 2048) (l : Fin 256) : k0_pay8 x (ix2 s l) = x (ix2 s l) := by pointwise [k0_pay8]

theorem out6_at (R : Outer.Reads (outer m c t) P) (s : Fin 2048) (l : Fin 256) : out6 m c t (ix2 s l) = ((P.gk s.val l.val : ℝ) : EReal) := by
  unfold out6
  rw [run6]
  refine (full_at (ms6 t) _ _ s l).trans ((pay7_at _ s l).trans ((whole_at sc0 _ s l).trans ?_))
  have h := (all R (ms5 t).view.junk).ak s l
  rw [trips1] at h ⊢
  exact h

theorem out7_at (R : Outer.Reads (outer m c t) P) (s : Fin 2048) (l : Fin 256) : out7 m c t (ix2 s l) = ((P.gv s.val l.val : ℝ) : EReal) := by
  unfold out7
  rw [run7]
  refine (full_at (ms7 t) _ _ s l).trans ((pay8_at _ s l).trans ((whole_at sc1 _ s l).trans ?_))
  have h := (all R (ms5 t).view.junk).av s l
  rw [trips1] at h ⊢
  exact h

end Cert.Kernel4Ideal.Sb

end
-- ==== Proof.SbValue.lean ====
/-
  The attention's backward call: its three result arrays after the run.
-/
module

public import proofs.«01_k».proof.Proof.SbHost
public import proofs.«01_k».proof.Proof.SbOut
public import Idealize.ShloMosaic.Lib.Claim

@[expose] public section

set_option maxRecDepth 16384
set_option maxHeartbeats 4000000

noncomputable section

open Idealize.ShloMosaic Idealize.ShloMosaic.TcCoe Idealize.ShloMosaic.Tactic Idealize.SL Idealize.SL.Sem
open Idealize.ShloMosaic.Pipeline (Dat)
open Cert.Lift Cert.SbM
open scoped BigOperators

namespace Cert.Kernel4Ideal.Sb

open Cert.Kernel4Ideal Cert.Kernel4Ideal.Gen

variable (m : (ℓ : Loc nD τ sig) → Buf (Elt Ideal) ℓ)

/-- The argument arrays. -/
structure Whole (c : Dev nD) (A : In) : Prop where
  x : ∀ (r : Fin 8192) (j : Fin 1536), (m ((c : Thread nD τ).loc main_arg0) : FVec Ideal S8192x1536 .f32) (ix2 r j) = ((A.X r.val j.val : ℝ) : EReal)
  y : ∀ (r : Fin 8192) (j : Fin 512), (m ((c : Thread nD τ).loc main_arg1) : FVec Ideal S8192x512 .bf16) (ix2 r j) = ((A.Y r.val j.val : ℝ) : EReal)

/-- The windows' block indices. -/
theorem idx : ∀ t : Fin (cfgM (F := Ideal)).N, ((cfgM (F := Ideal)).win 0).index t = ![t.val / 2, t.val % 2]
    ∧ ((cfgM (F := Ideal)).win 1).index t = ![t.val / 2, 2 + t.val % 2]
    ∧ ((cfgM (F := Ideal)).win 2).index t = ![t.val / 2, 4 + t.val % 2]
    ∧ ((cfgM (F := Ideal)).win 3).index t = ![t.val / 2, t.val % 2]
    ∧ ((cfgM (F := Ideal)).win 4).index t = ![t.val / 2, t.val % 2, 0, 0]
    ∧ ((cfgM (F := Ideal)).win 5).index t = ![t.val / 2, t.val % 2]
    ∧ ((cfgM (F := Ideal)).win 6).index t = ![t.val / 2, t.val % 2]
    ∧ ((cfgM (F := Ideal)).win 7).index t = ![t.val / 2, t.val % 2] :=
  (by decide +kernel : ∀ t : Fin grid0.N, _)

variable {m} {c : Dev nD} {A : In} (W : Whole m c A)
include W

theorem reads (t : Fin (cfgM (F := Ideal)).N) : Outer.Reads (outer m c t) (A.pt (t.val / 2) (t.val % 2)) where
  r3 s l := by
    refine (congrFun ((hs0 t).read_unread _) _).trans ?_
    have hN : t.val < 8 := t.isLt
    refine Eq.trans ?_ ((W.x ⟨2048 * (t.val / 2) + s.val, by omega⟩ ⟨256 * (t.val % 2) + l.val, by omega⟩).trans rfl)
    blk_point [iblk, V_rows, idx t]
  r4 s l := by
    refine (congrFun ((hs1 t).read_unread _) _).trans ?_
    have hN : t.val < 8 := t.isLt
    refine Eq.trans ?_ ((W.x ⟨2048 * (t.val / 2) + s.val, by omega⟩ ⟨512 + (256 * (t.val % 2) + l.val), by omega⟩).trans rfl)
    blk_point [iblk, V_rows, idx t]
  r5 s l := by
    refine (congrFun ((hs2 t).read_unread _) _).trans ?_
    have hN : t.val < 8 := t.isLt
    refine Eq.trans ?_ ((W.x ⟨2048 * (t.val / 2) + s.val, by omega⟩ ⟨1024 + (256 * (t.val % 2) + l.val), by omega⟩).trans rfl)
    blk_point [iblk, V_rows, idx t]
  r6 s l := by
    refine (congrFun ((hs3 t).read_unread _) _).trans ?_
    have hN : t.val < 8 := t.isLt
    refine Eq.trans ?_ ((W.y ⟨2048 * (t.val / 2) + s.val, by omega⟩ ⟨256 * (t.val % 2) + l.val, by omega⟩).trans rfl)
    blk_point [iblk, V_main_arg1, idx t]
  r7 h s := by
    refine (congrFun ((hs4 t).read_unread _) _).trans ?_
    have hN : t.val < 8 := t.isLt
    have hl := hL_at W.x ⟨t.val / 2, by omega⟩ ⟨4 * (t.val % 2) + h.val, by omega⟩ s
    have hV := V_totals m c
    generalize hL (m ((c : Thread nD τ).loc main_arg0)) = T at hV hl
    refine Eq.trans ?_ (hl.trans rfl)
    refine (congrFun hV _).trans (congrArg T (funext fun a => Fin.ext ?_))
    match a with
    | ⟨0, _⟩ => blk_simp [idx t]; exact Nat.add_zero _
    | ⟨1, _⟩ => blk_simp [idx t]; exact congrArg (· + h.val) (Nat.mul_comm _ _)
    | ⟨2, _⟩ => blk_simp [idx t]
    | ⟨3, _⟩ => blk_simp [idx t]

theorem final5 : (dats m 0 c).arrAt 5 (cfgM (F := Ideal)).N = (fun i : S8192x512.Idx => ((A.oq (i 0).val (i 1).val : ℝ) : EReal)) := by
  refine (dats m 0 c).arrAt_eq_of_covers 5 _ (by decide +kernel) fun t hf y => ?_
  blk_simp
  rw [after_5]
  have hN : t.val < 8 := t.isLt
  have e0 : ((cfgM (F := Ideal)).win 5).index t 0 * 2048 + (y 0 : Fin 2048).val = 2048 * (t.val / 2) + (y 0 : Fin 2048).val := by simp only [idx t]; exact congrArg (· + (y 0 : Fin 2048).val) (Nat.mul_comm _ _)
  have e1 : ((cfgM (F := Ideal)).win 5).index t 1 * 256 + (y 1 : Fin 256).val = 256 * (t.val % 2) + (y 1 : Fin 256).val := by simp only [idx t]; exact congrArg (· + (y 1 : Fin 256).val) (Nat.mul_comm _ _)
  exact (congrArg _ (eq_ix2 y)).trans ((out5_at (reads W t) (y 0) (y 1)).trans (congrArg _ (A.oq_eq _ (y 1) e0 (y 0).isLt e1)))

theorem final6 : (dats m 0 c).arrAt 6 (cfgM (F := Ideal)).N = (fun i : S8192x512.Idx => ((A.ok (i 0).val (i 1).val : ℝ) : EReal)) := by
  refine (dats m 0 c).arrAt_eq_of_covers 6 _ (by decide +kernel) fun t hf y => ?_
  blk_simp
  rw [after_6]
  have hN : t.val < 8 := t.isLt
  have e0 : ((cfgM (F := Ideal)).win 6).index t 0 * 2048 + (y 0 : Fin 2048).val = 2048 * (t.val / 2) + (y 0 : Fin 2048).val := by simp only [idx t]; exact congrArg (· + (y 0 : Fin 2048).val) (Nat.mul_comm _ _)
  have e1 : ((cfgM (F := Ideal)).win 6).index t 1 * 256 + (y 1 : Fin 256).val = 256 * (t.val % 2) + (y 1 : Fin 256).val := by simp only [idx t]; exact congrArg (· + (y 1 : Fin 256).val) (Nat.mul_comm _ _)
  exact (congrArg _ (eq_ix2 y)).trans ((out6_at (reads W t) (y 0) (y 1)).trans (congrArg _ (A.ok_eq _ (y 1) e0 (y 0).isLt e1)))

theorem final7 : (dats m 0 c).arrAt 7 (cfgM (F := Ideal)).N = (fun i : S8192x512.Idx => ((A.ov (i 0).val (i 1).val : ℝ) : EReal)) := by
  refine (dats m 0 c).arrAt_eq_of_covers 7 _ (by decide +kernel) fun t hf y => ?_
  blk_simp
  rw [after_7]
  have hN : t.val < 8 := t.isLt
  have e0 : ((cfgM (F := Ideal)).win 7).index t 0 * 2048 + (y 0 : Fin 2048).val = 2048 * (t.val / 2) + (y 0 : Fin 2048).val := by simp only [idx t]; exact congrArg (· + (y 0 : Fin 2048).val) (Nat.mul_comm _ _)
  have e1 : ((cfgM (F := Ideal)).win 7).index t 1 * 256 + (y 1 : Fin 256).val = 256 * (t.val % 2) + (y 1 : Fin 256).val := by simp only [idx t]; exact congrArg (· + (y 1 : Fin 256).val) (Nat.mul_comm _ _)
  exact (congrArg _ (eq_ix2 y)).trans ((out7_at (reads W t) (y 0) (y 1)).trans (congrArg _ (A.ov_eq _ (y 1) e0 (y 0).isLt e1)))

end Cert.Kernel4Ideal.Sb

end
-- ==== Proof.SbCum.lean ====
/-
  Running sums along the last axis of a rank-four array of reals, forwards and backwards.
-/
module

public import Idealize.ShloMosaic.Lib.Pointwise
public import proofs.«01_k».proof.Proof.Lift

@[expose] public section

noncomputable section

open Idealize.ShloMosaic
open Cert.Lift
open scoped BigOperators

namespace Cert.SbM

theorem foldl_real {ι : Type} (G : ι → EReal) (g : ι → ℝ) (h : ∀ i, G i = ((g i : ℝ) : EReal)) (l : List ι) :
    ∀ a : ℝ, l.foldl (fun r i => r + G i) (a : EReal) = ((a + (l.map g).sum : ℝ) : EReal) := by
  induction l with
  | nil => intro a; simp
  | cons i l ih => intro a; rw [List.foldl_cons, h, ← EReal.coe_add, ih, List.map_cons, List.sum_cons, add_assoc]

variable {N : ℕ}

theorem last_coord (n : Fin (⟨4, ![1, 1, 1, N]⟩ : Shape).numel) :
    ((⟨4, ![1, 1, 1, N]⟩ : Shape).rowMajor.symm n 0).val = 0 ∧ ((⟨4, ![1, 1, 1, N]⟩ : Shape).rowMajor.symm n 1).val = 0
      ∧ ((⟨4, ![1, 1, 1, N]⟩ : Shape).rowMajor.symm n 2).val = 0 ∧ ((⟨4, ![1, 1, 1, N]⟩ : Shape).rowMajor.symm n 3).val = n.val := by
  have h := Shape.rowMajor_val_four ((⟨4, ![1, 1, 1, N]⟩ : Shape).rowMajor.symm n)
  rw [Equiv.apply_symm_apply] at h
  have h0 : ((⟨4, ![1, 1, 1, N]⟩ : Shape).rowMajor.symm n 0).val < 1 := ((⟨4, ![1, 1, 1, N]⟩ : Shape).rowMajor.symm n 0).isLt
  have h1 : ((⟨4, ![1, 1, 1, N]⟩ : Shape).rowMajor.symm n 1).val < 1 := ((⟨4, ![1, 1, 1, N]⟩ : Shape).rowMajor.symm n 1).isLt
  have h2 : ((⟨4, ![1, 1, 1, N]⟩ : Shape).rowMajor.symm n 2).val < 1 := ((⟨4, ![1, 1, 1, N]⟩ : Shape).rowMajor.symm n 2).isLt
  have e0 : ((⟨4, ![1, 1, 1, N]⟩ : Shape).rowMajor.symm n 0).val = 0 := by omega
  have e1 : ((⟨4, ![1, 1, 1, N]⟩ : Shape).rowMajor.symm n 1).val = 0 := by omega
  have e2 : ((⟨4, ![1, 1, 1, N]⟩ : Shape).rowMajor.symm n 2).val = 0 := by omega
  refine ⟨e0, e1, e2, ?_⟩
  rw [e0, e1, e2] at h
  simpa using h.symm

theorem numel_last : (⟨4, ![1, 1, 1, N]⟩ : Shape).numel = N :=
  (Fin.prod_univ_four (![1, 1, 1, N] : Fin 4 → ℕ)).trans (by simp)

variable {A B C Nm1 : ℕ} (lo hi : ℕ) (x : FVec Ideal ⟨4, ![A, B, C, N]⟩ .f32) (f : ℕ → ℝ) (a : Fin A) (b : Fin B) (c : Fin C)
  (hx : ∀ s : Fin N, x (ix4 a b c s) = ((f s.val : ℝ) : EReal)) {u : Shape} (init : u.Idx → Ideal .f32) (hu : 0 < u.numel) (hi0 : ∀ i, init i = 0)
include hx hi0

/-- A window over the last axis, padded by `lo`: its sum of what lies inside. -/
theorem window_at (h : (⟨4, ![A, B, C, N]⟩ : Shape).ReduceWindows (![1, 1, 1, N] : Fin 4 → ℕ) ![1, 1, 1, 1] ![0, 0, 0, lo] ![0, 0, 0, hi] ⟨4, ![A, B, C, N]⟩) (s : Fin N) :
    Host.reduceWindowAdd (F := Ideal) (φ := .f32) ![1, 1, 1, N] ![1, 1, 1, 1] ![0, 0, 0, lo] ![0, 0, 0, hi] x init h hu (ix4 a b c s)
      = ((∑ n ∈ Finset.range N, if lo ≤ s.val + n ∧ s.val + n - lo < N then f (s.val + n - lo) else 0 : ℝ) : EReal) := by
  show Host.reduceWindow (· + ·) ![1, 1, 1, N] ![1, 1, 1, 1] ![0, 0, 0, lo] ![0, 0, 0, hi] x (fun _ : (⟨0, ![]⟩ : Shape).Idx => init (Shape.Idx.first hu)) h (by decide) (ix4 a b c s) = _
  unfold Host.reduceWindow
  dsimp only
  rw [hi0]
  refine (foldl_real _ (fun n : Fin (⟨4, ![1, 1, 1, N]⟩ : Shape).numel => if lo ≤ s.val + n.val ∧ s.val + n.val - lo < N then f (s.val + n.val - lo) else 0) (fun n => ?_) _ 0).trans ?_
  · obtain ⟨w0, w1, w2, w3⟩ := last_coord n
    split
    · next hin =>
      have h3 := hin 3
      change lo ≤ s.val * 1 + ((⟨4, ![1, 1, 1, N]⟩ : Shape).rowMajor.symm n 3).val ∧ s.val * 1 + ((⟨4, ![1, 1, 1, N]⟩ : Shape).rowMajor.symm n 3).val - lo < N at h3
      rw [w3, Nat.mul_one] at h3
      rw [if_pos h3]
      refine (congrArg x (funext fun k => Fin.ext ?_)).trans (hx ⟨s.val + n.val - lo, h3.2⟩)
      match k with
      | ⟨0, _⟩ => show a.val * 1 + ((⟨4, ![1, 1, 1, N]⟩ : Shape).rowMajor.symm n 0).val - 0 = a.val; omega
      | ⟨1, _⟩ => show b.val * 1 + ((⟨4, ![1, 1, 1, N]⟩ : Shape).rowMajor.symm n 1).val - 0 = b.val; omega
      | ⟨2, _⟩ => show c.val * 1 + ((⟨4, ![1, 1, 1, N]⟩ : Shape).rowMajor.symm n 2).val - 0 = c.val; omega
      | ⟨3, _⟩ => show s.val * 1 + ((⟨4, ![1, 1, 1, N]⟩ : Shape).rowMajor.symm n 3).val - lo = s.val + n.val - lo; omega
    · next hin =>
      rw [if_neg fun hle => hin fun k => by
        match k with
        | ⟨0, _⟩ => exact ⟨Nat.zero_le _, (by have := a.isLt; omega : a.val * 1 + ((⟨4, ![1, 1, 1, N]⟩ : Shape).rowMajor.symm n 0).val - 0 < A)⟩
        | ⟨1, _⟩ => exact ⟨Nat.zero_le _, (by have := b.isLt; omega : b.val * 1 + ((⟨4, ![1, 1, 1, N]⟩ : Shape).rowMajor.symm n 1).val - 0 < B)⟩
        | ⟨2, _⟩ => exact ⟨Nat.zero_le _, (by have := c.isLt; omega : c.val * 1 + ((⟨4, ![1, 1, 1, N]⟩ : Shape).rowMajor.symm n 2).val - 0 < C)⟩
        | ⟨3, _⟩ => exact (by omega : lo ≤ s.val * 1 + ((⟨4, ![1, 1, 1, N]⟩ : Shape).rowMajor.symm n 3).val ∧ s.val * 1 + ((⟨4, ![1, 1, 1, N]⟩ : Shape).rowMajor.symm n 3).val - lo < N)]
      rfl
  · rw [zero_add, ← Fin.sum_univ_def, Fin.sum_univ_eq_sum_range (fun n => if lo ≤ s.val + n ∧ s.val + n - lo < N then f (s.val + n - lo) else 0), numel_last]

/-- The running sum from the front. -/
theorem cum_at (hN : Nm1 + 1 = N) (h : (⟨4, ![A, B, C, N]⟩ : Shape).ReduceWindows (![1, 1, 1, N] : Fin 4 → ℕ) ![1, 1, 1, 1] ![0, 0, 0, Nm1] ![0, 0, 0, 0] ⟨4, ![A, B, C, N]⟩) (s : Fin N) :
    Host.reduceWindowAdd (F := Ideal) (φ := .f32) ![1, 1, 1, N] ![1, 1, 1, 1] ![0, 0, 0, Nm1] ![0, 0, 0, 0] x init h hu (ix4 a b c s)
      = ((∑ v ∈ Finset.range (s.val + 1), f v : ℝ) : EReal) := by
  refine (window_at Nm1 0 x f a b c hx init hu hi0 h s).trans (congrArg _ ?_)
  have hs := s.isLt
  have e' : ∑ n ∈ Finset.range ((Nm1 - s.val) + (s.val + 1)), (if Nm1 ≤ s.val + n ∧ s.val + n - Nm1 < N then f (s.val + n - Nm1) else 0) = ∑ v ∈ Finset.range (s.val + 1), f v := by
    rw [Finset.sum_range_add, Finset.sum_eq_zero fun n hn => if_neg fun hh => by have := Finset.mem_range.1 hn; omega, zero_add]
    refine Finset.sum_congr rfl fun n hn => ?_
    have := Finset.mem_range.1 hn
    rw [if_pos (by omega)]
    congr 1; omega
  rwa [show (Nm1 - s.val) + (s.val + 1) = N by omega] at e'

/-- The running sum from the back. -/
theorem cum_rev_at (h : (⟨4, ![A, B, C, N]⟩ : Shape).ReduceWindows (![1, 1, 1, N] : Fin 4 → ℕ) ![1, 1, 1, 1] ![0, 0, 0, 0] ![0, 0, 0, Nm1] ⟨4, ![A, B, C, N]⟩) (s : Fin N) :
    Host.reduceWindowAdd (F := Ideal) (φ := .f32) ![1, 1, 1, N] ![1, 1, 1, 1] ![0, 0, 0, 0] ![0, 0, 0, Nm1] x init h hu (ix4 a b c s)
      = ((∑ v ∈ Finset.range N, f v - ∑ v ∈ Finset.range s.val, f v : ℝ) : EReal) := by
  refine (window_at 0 Nm1 x f a b c hx init hu hi0 h s).trans (congrArg _ ?_)
  have hs := s.isLt
  rw [eq_sub_iff_add_eq, add_comm]
  have e : (∑ n ∈ Finset.range N, if 0 ≤ s.val + n ∧ s.val + n - 0 < N then f (s.val + n - 0) else 0) = ∑ n ∈ Finset.range (N - s.val), f (s.val + n) := by
    have e' : ∑ n ∈ Finset.range ((N - s.val) + s.val), (if 0 ≤ s.val + n ∧ s.val + n - 0 < N then f (s.val + n - 0) else 0) = ∑ n ∈ Finset.range (N - s.val), f (s.val + n) := by
      rw [Finset.sum_range_add, Finset.sum_eq_zero (s := Finset.range s.val) fun n hn => if_neg fun hh => by omega, add_zero]
      refine Finset.sum_congr rfl fun n hn => ?_
      have := Finset.mem_range.1 hn
      rw [if_pos (by omega)]; rfl
    rwa [Nat.sub_add_cancel hs.le] at e'
  rw [e, ← Finset.sum_range_add, Nat.add_sub_cancel' hs.le]

end Cert.SbM

end
-- ==== Proof.SbRef.lean ====
/-
  The attention reference's intermediate arrays on real arguments: each, read at an index, is the model of `SbWhole`.
-/
module

public import proofs.«01_k».proof.Proof.Gen.Reference4Ideal.Run
public import Idealize.ShloMosaic.Lib.Pointwise
public import proofs.«01_k».proof.Proof.SbHost
public import proofs.«01_k».proof.Proof.SbCum

@[expose] public section

set_option maxRecDepth 16384
set_option maxHeartbeats 4000000

noncomputable section

open Idealize.ShloMosaic Idealize.ShloMosaic.TcCoe Idealize.SL.Sem
open Cert.Lift Cert.SbM
open Cert.Kernel4Ideal.Sb (sp bits_eighth sp_host sel_at cmp_slt)
open scoped BigOperators

namespace Cert.Reference4Ideal.Value

open Cert.Reference4Ideal Cert.Reference4Ideal.Gen Idealize.ShloMosaic.StableHlo

/-- The argument arrays. -/
structure In where
  a0 : FVec Ideal S8192x1536 .f32
  a1 : FVec Ideal S8192x512 .bf16

/-! The reference's arrays that are read more than once, each over the ones before it. -/

abbrev Sc := FVec Ideal S4x8x2048x2048 .f32

def cst (b : BitVec 32) : Sc := broadcastInDim S4x8x2048x2048 ![] bcast_S_S4x8x2048x2048 (constant (F := Ideal) S_ .f32 b)

def r3 (A : In) : FVec Ideal S4x2048x8x64 .f32 := shapeCast _ (extractStridedSlice S8192x512 ![0, 0] A.a0 slices_S8192x1536_S8192x512_0_0) shapeCasts_S8192x512_S4x2048x8x64
def r4 (A : In) : FVec Ideal S4x2048x8x64 .f32 := shapeCast _ (extractStridedSlice S8192x512 ![0, 512] A.a0 slices_S8192x1536_S8192x512_0_512) shapeCasts_S8192x512_S4x2048x8x64
def r5 (A : In) : FVec Ideal S4x2048x8x64 .f32 := shapeCast _ (extractStridedSlice S8192x512 ![0, 1024] A.a0 slices_S8192x1536_S8192x512_0_1024) shapeCasts_S8192x512_S4x2048x8x64

def r8 (A : In) : Sc := mulf (Host.dotGeneral (F := Ideal) dot_S4x2048x8x64_S4x2048x8x64_S4x8x2048x2048_3_3_1_1_02_02 none (r3 A) (r4 A)) (cst 0x3E000000#32)

def r17 : IVec S2048x2048 1 :=
  cmpi .slt (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (addi (broadcastInDim S2048x1 ![] bcast_S_S2048x1 (constantI S_ 32 0#32)) (broadcastInDim S2048x1 ![0] bcast_S2048_S2048x1_0 (iotaInDim S2048 32 0))))

def mask : IVec S4x8x2048x2048 1 := broadcastInDim S4x8x2048x2048 ![2, 3] bcast_S2048x2048_S4x8x2048x2048_2_3 r17

/-- The softplus, and the logistic function by it. -/
def soft (x : Sc) : Sc :=
  select (cmpf .une (subf x (cst 0x00000000#32)) (subf x (cst 0x00000000#32))) (addf x (cst 0x00000000#32))
    (addf (maximumf x (cst 0x00000000#32)) (Host.log1p (Host.exp (Host.negf (Host.absf (subf x (cst 0x00000000#32)))))))
def logis (x : Sc) : Sc :=
  Host.exp (subf (select (cmpf .oeq x (cst 0x7F800000#32)) (cst 0x00000000#32) x) (select (cmpf .oeq (soft x) (cst 0x7F800000#32)) (cst 0x00000000#32) (soft x)))

def zero : FVec Ideal S_ .f32 := broadcastInDim S_ ![] bcast_S_S_ (constant (F := Ideal) S_ .f32 0x00000000#32)

def r20 (A : In) : Sc := select mask (Host.negf (soft (Host.negf (Host.negf (r8 A))))) (cst 0x00000000#32)
def r22 (A : In) : Sc := subf (Host.reduceWindowAdd ![1, 1, 1, 2048] ![1, 1, 1, 1] ![0, 0, 0, 0] ![0, 0, 0, 2047] (r20 A) zero reduceWindows_S4x8x2048x2048_S4x8x2048x2048_w1s1p0_0_w1s1p0_0_w1s1p0_0_w2048s1p0_2047 h_S_) (r20 A)
def r25 (A : In) : Sc := Host.exp (addf (Host.negf (soft (Host.negf (r8 A)))) (r22 A))
def r26 (A : In) : Sc := select mask (r25 A) (cst 0x00000000#32)
def r32 (A : In) : FVec Ideal S4x8x64x2048 .f32 := transpose S4x8x64x2048 [0, 2, 3, 1] (shapeCast _ (extf .f32 A.a1 bitsLt_bf16_f32) shapeCasts_S8192x512_S4x2048x8x64) transposes_S4x2048x8x64_S4x8x64x2048_0_2_3_1
def r33 (A : In) : Sc := Host.dotGeneral (F := Ideal) dot_S4x8x64x2048_S4x2048x8x64_S4x8x2048x2048_2_3_3_1_01_02 none (r32 A) (r5 A)
def r37 (A : In) : Sc := mulf (select mask (r33 A) (cst 0x00000000#32)) (r25 A)
def r41 (A : In) : Sc := addf (Host.negf (r37 A)) (Host.reduceWindowAdd ![1, 1, 1, 2048] ![1, 1, 1, 1] ![0, 0, 0, 2047] ![0, 0, 0, 0] (r37 A) zero reduceWindows_S4x8x2048x2048_S4x8x2048x2048_w1s1p0_0_w1s1p0_0_w1s1p0_0_w2048s1p2047_0 h_S_)
def r38 (A : In) : Sc := Host.negf (mulf (Host.negf (r37 A)) (logis (Host.negf (r8 A))))
def r43 (A : In) : Sc := Host.negf (mulf (Host.negf (select mask (r41 A) (cst 0x00000000#32))) (logis (Host.negf (Host.negf (r8 A)))))
def r47 (A : In) : Sc := mulf (addf (r38 A) (Host.negf (r43 A))) (cst 0x3E000000#32)

def r55 (A : In) : FVec Ideal S8192x512 .bf16 :=
  truncf .bf16 (shapeCast S8192x512 (transpose S4x2048x8x64 [0, 2, 1, 3] (Host.dotGeneral (F := Ideal) dot_S4x8x2048x2048_S4x2048x8x64_S4x8x2048x64_3_1_2_3_01_02 none (r47 A) (r4 A)) transposes_S4x8x2048x64_S4x2048x8x64_0_2_1_3) shapeCasts_S4x2048x8x64_S8192x512) bitsLt_bf16_f32
def r56 (A : In) : FVec Ideal S8192x512 .bf16 :=
  truncf .bf16 (shapeCast S8192x512 (transpose S4x2048x8x64 [0, 2, 1, 3] (Host.dotGeneral (F := Ideal) dot_S4x8x2048x2048_S4x2048x8x64_S4x8x2048x64_2_1_3_3_01_02 none (r47 A) (r3 A)) transposes_S4x8x2048x64_S4x2048x8x64_0_2_1_3) shapeCasts_S4x2048x8x64_S8192x512) bitsLt_bf16_f32
def r57 (A : In) : FVec Ideal S8192x512 .bf16 :=
  truncf .bf16 (shapeCast S8192x512 (transpose S4x2048x8x64 [0, 3, 1, 2] (Host.dotGeneral (F := Ideal) dot_S4x8x64x2048_S4x8x2048x2048_S4x8x64x2048_3_2_2_3_01_01 none (r32 A) (r26 A)) transposes_S4x8x64x2048_S4x2048x8x64_0_3_1_2) shapeCasts_S4x2048x8x64_S8192x512) bitsLt_bf16_f32

/-- The reference's argument arrays. -/
abbrev inp (m : (ℓ : Loc nD τ sig) → Buf (Elt Ideal) ℓ) (c : Dev nD) : In :=
  ⟨m ((c.tc : Thread nD τ).loc main_arg0), m ((c.tc : Thread nD τ).loc main_arg1)⟩

/-- The reference's run, its results named by the cuts above. -/
theorem run_cut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = r55 (inp m c)
      ∧ r.2.mem ((c.tc : Thread nD τ).loc main_v56) = r56 (inp m c)
      ∧ r.2.mem ((c.tc : Thread nD τ).loc main_v57) = r57 (inp m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨h0, h1, h2, h3, h4⟩ := h c
    exact ⟨h0.trans rfl, h1.trans rfl, h2.trans rfl, h3, h4⟩) (run (F := Ideal) m ρ)

/-! The softplus over the reals. -/

theorem sp_neg (a : ℝ) : sp (-a) = sp a - a := by
  unfold sp
  rw [abs_neg]
  have : max (-a) 0 = max a 0 - a := by
    rcases le_total 0 a with h | h
    · rw [max_eq_left h, max_eq_right (by linarith)]; ring
    · rw [max_eq_right h, max_eq_left (by linarith)]; ring
  rw [this]; ring

theorem exp_sp (a : ℝ) : Real.exp (sp a) = 1 + Real.exp a := by
  unfold sp
  have hp := Real.exp_pos (-|a|)
  rw [Real.exp_add, Real.exp_log (by linarith)]
  rcases le_total 0 a with h | h
  · rw [max_eq_left h, abs_of_nonneg h, mul_add, ← Real.exp_add]; simp [add_comm]
  · rw [max_eq_right h, abs_of_nonpos h]; simp

theorem logis_neg (a : ℝ) : Real.exp (-a - sp (-a)) = 1 - Real.exp (a - sp a) := by
  rw [sp_neg, show -a - (sp a - a) = -sp a by ring, Real.exp_sub, Real.exp_neg, exp_sp]
  have hp := Real.exp_pos a
  field_simp; ring

/-! Elementwise pieces. -/

theorem soft_at {x : Sc} {i : S4x8x2048x2048.Idx} {a : ℝ} (hx : x i = ((a : ℝ) : EReal)) : soft x i = ((sp a : ℝ) : EReal) := by
  pointwise [soft, cst]
  rw [hx, if_neg (fun h => h rfl), sp_host]

theorem logis_at {x : Sc} {i : S4x8x2048x2048.Idx} {a : ℝ} (hx : x i = ((a : ℝ) : EReal)) : logis x i = ((Real.exp (a - sp a) : ℝ) : EReal) := by
  pointwise [logis, cst, bits_inf]
  rw [soft_at hx, hx, if_neg (EReal.coe_ne_top _), if_neg (EReal.coe_ne_top _), ← EReal.coe_sub, Ideal.exp_coe]

theorem neg_at {x : Sc} {i : S4x8x2048x2048.Idx} {a : ℝ} (hx : x i = ((a : ℝ) : EReal)) : Host.negf x i = ((-a : ℝ) : EReal) := by
  pointwise
  rw [hx, EReal.coe_neg]

theorem mask_at (b : Fin 4) (h : Fin 8) (t s : Fin 2048) : mask (ix4 b h t s) = BitVec.ofBool (decide (s.val < t.val)) := by
  pointwise [mask, r17]
  rw [show IntOp.addi (0#32) (BitVec.ofNat 32 t.val) = BitVec.ofNat 32 t.val from BitVec.zero_add _]
  exact cmp_slt _ _ (by omega) (by omega)

theorem sel_mask {x : Sc} {b : Fin 4} {h : Fin 8} {t s : Fin 2048} {a : ℝ} (hx : x (ix4 b h t s) = ((a : ℝ) : EReal)) :
    select mask x (cst 0x00000000#32) (ix4 b h t s) = ((if s.val < t.val then a else 0 : ℝ) : EReal) := by
  pointwise [cst]
  rw [mask_at]
  exact sel_at (s.val < t.val) hx EReal.coe_zero.symm

theorem zero_at (i : S_.Idx) : zero i = 0 := by
  pointwise [zero]

variable {A : In} {M : Cert.SbM.In} (hx : ∀ (r : Fin 8192) (j : Fin 1536), A.a0 (ix2 r j) = ((M.X r.val j.val : ℝ) : EReal))
  (hy : ∀ (r : Fin 8192) (j : Fin 512), A.a1 (ix2 r j) = ((M.Y r.val j.val : ℝ) : EReal)) (b : Fin 4) (h : Fin 8) (t s : Fin 2048)

include hx in
theorem r8_at : r8 A (ix4 b h t s) = ((M.z b.val h.val t.val s.val : ℝ) : EReal) := by
  pointwise [r8, r3, r4, cst, bits_eighth]
  simp only [hx, ← EReal.coe_mul, sum_coe]
  refine congrArg _ (congrArg (· * (1 / 8 : ℝ)) (Finset.sum_congr rfl fun d _ => ?_))
  rw [Nat.mul_comm b.val 2048, Nat.mul_comm h.val 64]

include hx in
theorem r20_at : r20 A (ix4 b h t s) = ((-M.spm b.val h.val t.val s.val : ℝ) : EReal) := by
  unfold r20
  refine (sel_mask (neg_at (soft_at (neg_at (neg_at (r8_at hx b h t s)))))).trans (congrArg _ ?_)
  unfold Cert.SbM.In.spm
  rw [neg_neg]; split <;> simp

include hx in
theorem r22_at : r22 A (ix4 b h t s) = ((-(M.L b.val h.val t.val - ∑ u ∈ Finset.range (s.val + 1), M.spm b.val h.val t.val u) : ℝ) : EReal) := by
  unfold r22
  refine (show _ = _ - _ from rfl).trans ?_
  rw [r20_at hx, cum_rev_at (A := 4) (B := 8) (C := 2048) (N := 2048) (r20 A) (fun v => -M.spm b.val h.val t.val v) b h t (fun s => r20_at hx b h t s) zero _ zero_at, ← EReal.coe_sub]
  refine congrArg _ ?_
  unfold Cert.SbM.In.L
  rw [Finset.sum_range_succ (n := s.val), Finset.sum_neg_distrib, Finset.sum_neg_distrib]; ring

include hx in
theorem r25_at : r25 A (ix4 b h t s) = ((Real.exp (M.z b.val h.val t.val s.val - sp (M.z b.val h.val t.val s.val) - (M.L b.val h.val t.val - ∑ u ∈ Finset.range (s.val + 1), M.spm b.val h.val t.val u)) : ℝ) : EReal) := by
  have e := neg_at (soft_at (neg_at (r8_at hx b h t s)))
  unfold r25
  refine (show _ = Ideal.exp (_ + _) from rfl).trans ?_
  rw [e, r22_at hx, ← EReal.coe_add, Ideal.exp_coe, sp_neg]
  congr 2; ring

include hx in
theorem r26_at : r26 A (ix4 b h t s) = ((M.w b.val h.val t.val s.val : ℝ) : EReal) :=
  sel_mask (r25_at hx b h t s)

include hx hy in
theorem r33_at : r33 A (ix4 b h t s) = ((M.dv b.val h.val t.val s.val : ℝ) : EReal) := by
  pointwise [r33, r32, r5]
  simp only [hx, hy, ← EReal.coe_mul, sum_coe]
  refine congrArg _ (Finset.sum_congr rfl fun d _ => ?_)
  rw [Nat.mul_comm b.val 2048, Nat.mul_comm h.val 64]

include hx hy in
theorem r37_at : r37 A (ix4 b h t s) = ((M.e b.val h.val t.val s.val : ℝ) : EReal) := by
  unfold r37
  refine (show _ = _ * _ from rfl).trans ?_
  rw [sel_mask (r33_at hx hy b h t s), r25_at hx, ← EReal.coe_mul]
  refine congrArg _ ?_
  unfold Cert.SbM.In.e Cert.SbM.In.w
  split <;> simp

include hx hy in
theorem r41_at : r41 A (ix4 b h t s) = ((∑ u ∈ Finset.range s.val, M.e b.val h.val t.val u : ℝ) : EReal) := by
  have e := neg_at (r37_at hx hy b h t s)
  unfold r41
  refine (show _ = _ + _ from rfl).trans ?_
  rw [e, cum_at (A := 4) (B := 8) (C := 2048) (N := 2048) (r37 A) (fun v => M.e b.val h.val t.val v) b h t (fun s => r37_at hx hy b h t s) zero _ zero_at rfl, ← EReal.coe_add]
  refine congrArg _ ?_
  rw [Finset.sum_range_succ]; ring

include hx hy in
theorem r38_at : r38 A (ix4 b h t s) = ((M.e b.val h.val t.val s.val * (1 - M.sg b.val h.val t.val s.val) : ℝ) : EReal) := by
  unfold r38
  refine Eq.trans (neg_at (a := -M.e b.val h.val t.val s.val * (1 - M.sg b.val h.val t.val s.val)) (Eq.trans (show _ = _ * _ from rfl) ?_)) (congrArg Real.toEReal ?_)
  · rw [neg_at (r37_at hx hy b h t s), logis_at (neg_at (r8_at hx b h t s)), ← EReal.coe_mul, logis_neg]; rfl
  · ring

include hx hy in
theorem r43_at : r43 A (ix4 b h t s) = (((if s.val < t.val then ∑ u ∈ Finset.range s.val, M.e b.val h.val t.val u else 0) * M.sg b.val h.val t.val s.val : ℝ) : EReal) := by
  unfold r43
  refine Eq.trans (neg_at (a := -(if s.val < t.val then ∑ u ∈ Finset.range s.val, M.e b.val h.val t.val u else 0) * M.sg b.val h.val t.val s.val) (Eq.trans (show _ = _ * _ from rfl) ?_)) (congrArg Real.toEReal ?_)
  · rw [neg_at (sel_mask (r41_at hx hy b h t s)), logis_at (neg_at (neg_at (r8_at hx b h t s))), ← EReal.coe_mul, neg_neg]; rfl
  · ring

include hx hy in
theorem r47_at : r47 A (ix4 b h t s) = ((M.dz b.val h.val t.val s.val : ℝ) : EReal) := by
  have e := neg_at (r43_at hx hy b h t s)
  have e8 : cst 0x3E000000#32 (ix4 b h t s) = ((1 / 8 : ℝ) : EReal) := by pointwise [cst, bits_eighth]
  unfold r47
  refine (show _ = (_ + _) * _ from rfl).trans ?_
  rw [r38_at hx hy, e, e8, ← EReal.coe_add, ← EReal.coe_mul]
  refine congrArg _ ?_
  unfold Cert.SbM.In.dz
  by_cases H : s.val < t.val
  · rw [if_pos H, if_pos H]; ring
  · have : M.e b.val h.val t.val s.val = 0 := by unfold Cert.SbM.In.e Cert.SbM.In.w; rw [if_neg H, mul_zero]
    rw [if_neg H, if_neg H, this]; ring

include hx hy in
theorem r55_at (r : Fin 8192) (j : Fin 512) : r55 A (ix2 r j) = ((M.oq r.val j.val : ℝ) : EReal) := by
  pointwise [r55, r4]
  simp only [r47_at hx hy, hx, ← EReal.coe_mul, sum_coe, Nat.mul_comm (r.val / 2048) 2048]
  exact congrArg _ (Fin.sum_univ_eq_sum_range (fun s => M.dz (r.val / 2048) (j.val / 64) (r.val % 2048) s * M.X (2048 * (r.val / 2048) + s) (512 + j.val)) 2048)

include hx hy in
theorem r56_at (r : Fin 8192) (j : Fin 512) : r56 A (ix2 r j) = ((M.ok r.val j.val : ℝ) : EReal) := by
  pointwise [r56, r3]
  simp only [r47_at hx hy, hx, ← EReal.coe_mul, sum_coe, Nat.mul_comm (r.val / 2048) 2048]
  exact congrArg _ (Fin.sum_univ_eq_sum_range (fun t => M.dz (r.val / 2048) (j.val / 64) t (r.val % 2048) * M.X (2048 * (r.val / 2048) + t) j.val) 2048)

include hx hy in
theorem r57_at (r : Fin 8192) (j : Fin 512) : r57 A (ix2 r j) = ((M.ov r.val j.val : ℝ) : EReal) := by
  pointwise [r57, r32]
  simp only [r26_at hx, hy, ← EReal.coe_mul, sum_coe, Nat.mul_comm (r.val / 2048) 2048]
  refine congrArg _ ((Finset.sum_congr rfl fun t _ => mul_comm _ _).trans (Fin.sum_univ_eq_sum_range (fun t => M.w (r.val / 2048) (j.val / 64) t (r.val % 2048) * M.Y (2048 * (r.val / 2048) + t) j.val) 2048))

end Cert.Reference4Ideal.Value

end
-- ==== Proof.SbPre.lean ====
/-
  What the attention's precondition says: every argument is a real.
-/
module

public import proofs.«01_k».proof.Proof.Gen.Pre_finite_sb
public import proofs.«01_k».proof.Proof.Lift

@[expose] public section

set_option maxRecDepth 16384

noncomputable section

open Idealize.ShloMosaic
open Cert.Lift (real_of_all)

namespace Cert.Pre_finite_sb

open Cert.Pre_finite_sb Cert.Pre_finite_sb.Gen

theorem reals [Facts] {a0 : FVec Ideal S8192x1536 .f32} {a1 : FVec Ideal S8192x512 .bf16}
    (h : fn (F := Ideal) a0 a1 = fun _ => 1#1) : (∀ i, (((a0 i).toReal : ℝ) : EReal) = a0 i) ∧ (∀ i, (((a1 i).toReal : ℝ) : EReal) = a1 i) := by
  have h0 := congrFun h default
  dsimp only [fn, andi] at h0
  simp only [IntOp.andi_eq_one] at h0
  obtain ⟨h0, h1⟩ := h0
  exact ⟨real_of_all _ _ _ _ _ _ h0, real_of_all _ _ _ _ _ _ h1⟩

end Cert.Pre_finite_sb

end
-- ==== Proof.SbClaim.lean ====
/-
  The attention's backward call: its three results are the reference's gradients, on real arguments.
-/
module

public import proofs.«01_k».proof.Defs
public import proofs.«01_k».proof.Proof.SbValue
public import proofs.«01_k».proof.Proof.SbRef
public import proofs.«01_k».proof.Proof.SbPre

@[expose] public section

set_option maxRecDepth 16384

noncomputable section

open Idealize.ShloMosaic Idealize.ShloMosaic.TcCoe Idealize.SL Idealize.SL.Sem Idealize.ShloMosaic.StableHlo
open Cert.Lift

namespace Cert.Kernel4Ideal.Sb

open Cert.Kernel4Ideal Cert.Kernel4Ideal.Gen

/-- The kernel's run, its results named by what the blocks make of them. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v22_0) = (dats m 0 c).arrAt 5 (cfgM (F := Ideal)).N
      ∧ r.2.mem ((c : Thread nD τ).loc main_v22_1) = (dats m 0 c).arrAt 6 (cfgM (F := Ideal)).N
      ∧ r.2.mem ((c : Thread nD τ).loc main_v22_2) = (dats m 0 c).arrAt 7 (cfgM (F := Ideal)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨(h.1 c).1 5, (h.1 c).1 6, (h.1 c).1 7,
     ((h.1 c).2 main_arg0 (Pipeline.mem_restRefs_of (win := spec0) main_arg0 (by decide) (by decide))).trans (V_main_arg0 m c),
     ((h.1 c).1 3).trans (((dats m 0 c).arrAt_in 3 rfl _).trans ((A_eq m c 3).trans (V_main_arg1 m c)))⟩) (run_main m ρ)

end Cert.Kernel4Ideal.Sb

namespace Cert.SbClaim

/-- The real arrays of the arguments. -/
def arrays (a0 : FVec Ideal ⟨2, ![8192, 1536]⟩ .f32) (a1 : FVec Ideal ⟨2, ![8192, 512]⟩ .bf16) : SbM.In where
  X r j := if h : r < 8192 ∧ j < 1536 then (a0 (ix2 ⟨r, h.1⟩ ⟨j, h.2⟩)).toReal else 0
  Y r j := if h : r < 8192 ∧ j < 512 then (a1 (ix2 ⟨r, h.1⟩ ⟨j, h.2⟩)).toReal else 0

attribute [local instance] Cert.Kernel4Ideal.Gen.facts Cert.Reference4Ideal.Gen.facts Cert.Pre_finite_sb.Gen.facts

section
open Cert.Kernel4Ideal

variable (m : (ℓ : Loc nD τ sig) → Buf (Elt Ideal) ℓ)

abbrev arraysOf (c : Dev nD) : SbM.In := arrays (m ((c : Thread nD τ).loc main_arg0)) (m ((c : Thread nD τ).loc main_arg1))

variable {m}

theorem kernel_args (hpre : Cert.Pre_Kernel4Ideal_finite_sb m) (c : Dev nD) : Cert.Kernel4Ideal.Sb.Whole m c (arraysOf m c) := by
  obtain ⟨h0, h1⟩ := Cert.Pre_finite_sb.reals (hpre c)
  refine ⟨fun r j => (h0 _).symm.trans (congrArg Real.toEReal ?_), fun r j => (h1 _).symm.trans (congrArg Real.toEReal ?_)⟩
  · dsimp only [arraysOf, arrays]
    rw [dif_pos (⟨r.isLt, j.isLt⟩ : r.val < 8192 ∧ j.val < 1536)]
  · dsimp only [arraysOf, arrays]
    rw [dif_pos (⟨r.isLt, j.isLt⟩ : r.val < 8192 ∧ j.val < 512)]

end

section
variable {m : (ℓ : Loc Cert.Kernel4Ideal.nD Cert.Kernel4Ideal.τ Cert.Kernel4Ideal.sig) → Buf (Elt Ideal) ℓ} {c : Dev Cert.Kernel4Ideal.nD}
  {M : SbM.In} {A : Cert.Reference4Ideal.Value.In} (W : Cert.Kernel4Ideal.Sb.Whole m c M)
  (hx : ∀ (r : Fin 8192) (j : Fin 1536), A.a0 (ix2 r j) = ((M.X r.val j.val : ℝ) : EReal))
  (hy : ∀ (r : Fin 8192) (j : Fin 512), A.a1 (ix2 r j) = ((M.Y r.val j.val : ℝ) : EReal))
include W hx hy

theorem res5 : Cert.Reference4Ideal.Value.r55 A = (Cert.Kernel4Ideal.Sb.dats m 0 c).arrAt 5 (Cert.Kernel4Ideal.Sb.cfgM (F := Ideal)).N :=
  Eq.trans (funext fun i => (congrArg _ (eq_ix2 i)).trans (Cert.Reference4Ideal.Value.r55_at hx hy (i 0) (i 1))) (Cert.Kernel4Ideal.Sb.final5 W).symm

theorem res6 : Cert.Reference4Ideal.Value.r56 A = (Cert.Kernel4Ideal.Sb.dats m 0 c).arrAt 6 (Cert.Kernel4Ideal.Sb.cfgM (F := Ideal)).N :=
  Eq.trans (funext fun i => (congrArg _ (eq_ix2 i)).trans (Cert.Reference4Ideal.Value.r56_at hx hy (i 0) (i 1))) (Cert.Kernel4Ideal.Sb.final6 W).symm

theorem res7 : Cert.Reference4Ideal.Value.r57 A = (Cert.Kernel4Ideal.Sb.dats m 0 c).arrAt 7 (Cert.Kernel4Ideal.Sb.cfgM (F := Ideal)).N :=
  Eq.trans (funext fun i => (congrArg _ (eq_ix2 i)).trans (Cert.Reference4Ideal.Value.r57_at hx hy (i 0) (i 1))) (Cert.Kernel4Ideal.Sb.final7 W).symm

end

/-- The reference's arguments are the real arrays. -/
def Agree (M : SbM.In) (A : Cert.Reference4Ideal.Value.In) : Prop :=
  (∀ (r : Fin 8192) (j : Fin 1536), A.a0 (ix2 r j) = ((M.X r.val j.val : ℝ) : EReal))
    ∧ ∀ (r : Fin 8192) (j : Fin 512), A.a1 (ix2 r j) = ((M.Y r.val j.val : ℝ) : EReal)

theorem agree {m : (ℓ : Loc Cert.Kernel4Ideal.nD Cert.Kernel4Ideal.τ Cert.Kernel4Ideal.sig) → Buf (Elt Ideal) ℓ} {c : Dev Cert.Kernel4Ideal.nD}
    {M : SbM.In} (W : Cert.Kernel4Ideal.Sb.Whole m c M) {A : Cert.Reference4Ideal.Value.In}
    (h0 : A.a0 = m ((c : Thread Cert.Kernel4Ideal.nD Cert.Kernel4Ideal.τ).loc Cert.Kernel4Ideal.main_arg0))
    (h1 : A.a1 = m ((c : Thread Cert.Kernel4Ideal.nD Cert.Kernel4Ideal.τ).loc Cert.Kernel4Ideal.main_arg1)) : Agree M A :=
  ⟨fun r j => (congrFun h0 _).trans (W.x r j), fun r j => (congrFun h1 _).trans (W.y r j)⟩

theorem algebraic : Cert.algebraic_Kernel4Ideal_Reference4Ideal_pre_finite_sb := by
  pair_intro
  · run_from Cert.Kernel4Ideal.Sb.run_blocks m g
  · have K := kernel_args hpre
    have R : ∀ c, Agree (arraysOf m c) (Cert.Reference4Ideal.Value.inp m' c) := by
      intro c
      obtain ⟨h0, h1⟩ := hagree c
      exact agree (K c) h0 h1
    run_from Cert.Reference4Ideal.Value.run_cut m' g'
    · exact res5 (K c) (R c).1 (R c).2
    · exact res6 (K c) (R c).1 (R c).2
    · exact res7 (K c) (R c).1 (R c).2

theorem frame : Cert.quiescent_Reference4Ideal := by
  intro m ρ _
  run_from Cert.Reference4Ideal.Value.run_cut m ρ
  · simp only [and_self, implies_true]
  · exact sem_eq_zero_of_no_sems rfl _

theorem frame_finite : Cert.quiescent_Reference4Ideal_pre_finite_sb := fun m ρ _ => frame m ρ trivial

end Cert.SbClaim

end
-- ==== Proof.lean ====
/-
  The proof of `Cert.Claim`: the frames come from the generated runs and the claim modules, the value claims from the claim
  modules.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Loops
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Loops
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_finite_ffn
public import proofs.«01_k».proof.Proof.Gen.Pre_finite_merge
public import proofs.«01_k».proof.Proof.Gen.Pre_finite_in_proj
public import proofs.«01_k».proof.Proof.Gen.Pre_finite_sb
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Reference4Ideal.Run
public import proofs.«01_k».proof.Proof.Gen.Reference5Ideal.Run
public import proofs.«01_k».proof.Proof.SbFrames
public import proofs.«01_k».proof.Proof.PrepFrames
public import proofs.«01_k».proof.Proof.FfnClaim
public import proofs.«01_k».proof.Proof.MergeClaim
public import proofs.«01_k».proof.Proof.InProjClaim
public import proofs.«01_k».proof.Proof.SbClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_ffn.Gen.facts,
  Cert.Pre_finite_merge.Gen.facts, Cert.Pre_finite_in_proj.Gen.facts, Cert.Pre_finite_sb.Gen.facts,
  ⟨fun m ρ _ => Cert.Kernel.Gen.frame m ρ, fun m ρ _ => Cert.KernelIdeal.Gen.frame m ρ, fun m ρ _ => Cert.KernelIdeal.Gen.frame m ρ,
    Cert.FfnClaim.frame, Cert.FfnClaim.frame_finite, fun m ρ _ => Cert.Kernel2.Gen.frame m ρ,
    fun m ρ _ => Cert.Kernel2Ideal.Gen.frame m ρ, fun m ρ _ => Cert.Kernel2Ideal.Gen.frame m ρ, Cert.MergeClaim.frame,
    Cert.MergeClaim.frame_finite, fun m ρ _ => Cert.Kernel3.Gen.frame m ρ, fun m ρ _ => Cert.Kernel3Ideal.Gen.frame m ρ,
    fun m ρ _ => Cert.Kernel3Ideal.Gen.frame m ρ, Cert.InProjClaim.frame, Cert.InProjClaim.frame_finite,
    Cert.SbFrames.quiescent, fun m ρ _ => Cert.Kernel4Ideal.Sb.frame m ρ, fun m ρ _ => Cert.Kernel4Ideal.Sb.frame m ρ,
    Cert.SbClaim.frame, Cert.SbClaim.frame_finite, Cert.PrepFrames.quiescent,
    fun m ρ _ => Cert.Kernel5Ideal.Prep.frame m ρ, Cert.PrepFrames.frame, trivial,
    Cert.FfnClaim.algebraic, trivial, Cert.MergeClaim.algebraic,
    trivial, Cert.InProjClaim.algebraic, trivial,
    Cert.SbClaim.algebraic, trivial⟩⟩

end Cert.Proof

end
